-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_codes_and_scales [hPre_codes_and_scales : Cert.Pre_codes_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_scales [hPre_codes_and_scales : Cert.Pre_codes_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_codes_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_codes_and_scales [hKernelIdeal : Cert.KernelIdeal.Facts] [hPre_codes_and_scales : Cert.Pre_codes_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_codes_and_scales [hReferenceIdeal : Cert.ReferenceIdeal.Facts] [hPre_codes_and_scales : Cert.Pre_codes_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "masked" .f32 0xFF61B1E6#32 ⊥
  ∧ IdealRules.named_const.Statement Cert.KernelIdeal.κ "log2e_inv_sqrt_d" .f32 0x3E0293EE#32 (((Real.log 2)⁻¹ * (11863283 / 134217728) : ℝ) : EReal)

def algebraic_KernelIdeal_ReferenceIdeal_pre_codes_and_scales [hKernelIdeal : Cert.KernelIdeal.Facts] [hReferenceIdeal : Cert.ReferenceIdeal.Facts] [hPre_codes_and_scales : Cert.Pre_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_codes_in_range : Cert.Pre_codes_in_range.Facts) (hPre_codes_and_scales : Cert.Pre_codes_and_scales.Facts),
    quiescent_Kernel (hKernel := hKernel) (hPre_codes_in_range := hPre_codes_in_range)
    ∧ quiescent_KernelIdeal (hKernelIdeal := hKernelIdeal) (hPre_codes_in_range := hPre_codes_in_range)
    ∧ quiescent_KernelIdeal_pre_codes_and_scales (hKernelIdeal := hKernelIdeal) (hPre_codes_and_scales := hPre_codes_and_scales)
    ∧ quiescent_ReferenceIdeal (hReferenceIdeal := hReferenceIdeal)
    ∧ quiescent_ReferenceIdeal_pre_codes_and_scales (hReferenceIdeal := hReferenceIdeal) (hPre_codes_and_scales := hPre_codes_and_scales)
    ∧ preserves_Kernel_KernelIdeal
    ∧ algebraic_KernelIdeal_ReferenceIdeal_pre_codes_and_scales (hKernelIdeal := hKernelIdeal) (hReferenceIdeal := hReferenceIdeal) (hPre_codes_and_scales := hPre_codes_and_scales)
-- ==== Pre_codes_and_scales.lean ====
abbrev S3x16384x20x128 : Shape := ⟨4, ![3, 16384, 20, 128]⟩
abbrev S3x32x20 : Shape := ⟨3, ![3, 32, 20]⟩
abbrev S3x16384x20 : Shape := ⟨3, ![3, 16384, 20]⟩
abbrev S20x1024x128 : Shape := ⟨3, ![20, 1024, 128]⟩
abbrev S3x20x1024x128 : Shape := ⟨4, ![3, 20, 1024, 128]⟩
abbrev S3x20x1024 : Shape := ⟨3, ![3, 20, 1024]⟩
abbrev S_ : Shape := ⟨0, ![]⟩

class Facts : Prop where
  bcast_S_S3x16384x20 : S_.BroadcastsInDim S3x16384x20 (![] : Fin 0 → Fin S3x16384x20.rank)
  bcast_S_S3x32x20 : S_.BroadcastsInDim S3x32x20 (![] : Fin 0 → Fin S3x32x20.rank)

variable [Facts]

def fn {F : FTy → Type} [FloatOps F] (main_arg0 : FVec F S3x16384x20x128 .fp8e4m3) (main_arg1 : FVec F S3x32x20 .f32) (main_arg2 : IVec S3x16384x20 32) (main_arg3 : FVec F S20x1024x128 .bf16) (main_arg4 : FVec F S3x16384x20x128 .fp8e4m3) (main_arg5 : FVec F S3x16384x20 .f32) (main_arg6 : FVec F S3x20x1024x128 .f32) (main_arg7 : FVec F S3x20x1024 .f32) : IVec S3x16384x20 1 × IVec S3x32x20 1 :=
  let main_c : IVec S_ 32 := constantI S_ 32 0#32
  let main_v0 : IVec S3x16384x20 32 := broadcastInDim S3x16384x20 ![] bcast_S_S3x16384x20 main_c
  let main_v1 : IVec S3x16384x20 1 := cmpi .sge main_arg2 main_v0
  let main_c_0 : IVec S_ 32 := constantI S_ 32 1024#32
  let main_v2 : IVec S3x16384x20 32 := broadcastInDim S3x16384x20 ![] bcast_S_S3x16384x20 main_c_0
  let main_v3 : IVec S3x16384x20 1 := cmpi .slt main_arg2 main_v2
  let main_v4 : IVec S3x16384x20 1 := andi main_v1 main_v3
  let main_cst : FVec F S_ .f32 := constant S_ .f32 0x00000000#32
  let main_v5 : FVec F S3x32x20 .f32 := broadcastInDim S3x32x20 ![] bcast_S_S3x32x20 main_cst
  let main_v6 : IVec S3x32x20 1 := cmpf .ogt main_arg1 main_v5
  let main_cst_1 : FVec F S_ .f32 := constant S_ .f32 0x7F800000#32
  let main_v7 : FVec F S3x32x20 .f32 := broadcastInDim S3x32x20 ![] bcast_S_S3x32x20 main_cst_1
  let main_v8 : IVec S3x32x20 1 := cmpf .olt main_arg1 main_v7
  let main_v9 : IVec S3x32x20 1 := andi main_v6 main_v8
  (main_v4, main_v9)
-- ==== Pre_codes_in_range.lean ====
abbrev S3x16384x20x128 : Shape := ⟨4, ![3, 16384, 20, 128]⟩
abbrev S3x32x20 : Shape := ⟨3, ![3, 32, 20]⟩
abbrev S3x16384x20 : Shape := ⟨3, ![3, 16384, 20]⟩
abbrev S20x1024x128 : Shape := ⟨3, ![20, 1024, 128]⟩
abbrev S3x20x1024x128 : Shape := ⟨4, ![3, 20, 1024, 128]⟩
abbrev S3x20x1024 : Shape := ⟨3, ![3, 20, 1024]⟩
abbrev S_ : Shape := ⟨0, ![]⟩

class Facts : Prop where
  bcast_S_S3x16384x20 : S_.BroadcastsInDim S3x16384x20 (![] : Fin 0 → Fin S3x16384x20.rank)

variable [Facts]

def fn {F : FTy → Type} [FloatOps F] (main_arg0 : FVec F S3x16384x20x128 .fp8e4m3) (main_arg1 : FVec F S3x32x20 .f32) (main_arg2 : IVec S3x16384x20 32) (main_arg3 : FVec F S20x1024x128 .bf16) (main_arg4 : FVec F S3x16384x20x128 .fp8e4m3) (main_arg5 : FVec F S3x16384x20 .f32) (main_arg6 : FVec F S3x20x1024x128 .f32) (main_arg7 : FVec F S3x20x1024 .f32) : IVec S3x16384x20 1 :=
  let main_c : IVec S_ 32 := constantI S_ 32 0#32
  let main_v0 : IVec S3x16384x20 32 := broadcastInDim S3x16384x20 ![] bcast_S_S3x16384x20 main_c
  let main_v1 : IVec S3x16384x20 1 := cmpi .sge main_arg2 main_v0
  let main_c_0 : IVec S_ 32 := constantI S_ 32 1024#32
  let main_v2 : IVec S3x16384x20 32 := broadcastInDim S3x16384x20 ![] bcast_S_S3x16384x20 main_c_0
  let main_v3 : IVec S3x16384x20 1 := cmpi .slt main_arg2 main_v2
  let main_v4 : IVec S3x16384x20 1 := andi main_v1 main_v3
  main_v4
-- ==== Kernel.lean ====
abbrev S3x16384x20x128 : Shape := ⟨4, ![3, 16384, 20, 128]⟩
abbrev S3x32x20 : Shape := ⟨3, ![3, 32, 20]⟩
abbrev S3x16384x20 : Shape := ⟨3, ![3, 16384, 20]⟩
abbrev S20x1024x128 : Shape := ⟨3, ![20, 1024, 128]⟩
abbrev S3x20x1024x128 : Shape := ⟨4, ![3, 20, 1024, 128]⟩
abbrev S3x20x1024 : Shape := ⟨3, ![3, 20, 1024]⟩
abbrev S3x20x128x16384 : Shape := ⟨4, ![3, 20, 128, 16384]⟩
abbrev S60x128x16384 : Shape := ⟨3, ![60, 128, 16384]⟩
abbrev S3x20x16384 : Shape := ⟨3, ![3, 20, 16384]⟩
abbrev S60x1x16384 : Shape := ⟨3, ![60, 1, 16384]⟩
abbrev S3x20x32 : Shape := ⟨3, ![3, 20, 32]⟩
abbrev S60x32 : Shape := ⟨2, ![60, 32]⟩
abbrev S60x1024x128 : Shape := ⟨3, ![60, 1024, 128]⟩
abbrev S60x1x1024 : Shape := ⟨3, ![60, 1, 1024]⟩
abbrev S3x16384x2560 : Shape := ⟨3, ![3, 16384, 2560]⟩
abbrev S1x1x512 : Shape := ⟨3, ![1, 1, 512]⟩
abbrev S1x128x512 : Shape := ⟨3, ![1, 128, 512]⟩
abbrev S1x1024x128 : Shape := ⟨3, ![1, 1024, 128]⟩
abbrev S1x1x1024 : Shape := ⟨3, ![1, 1, 1024]⟩
abbrev S1x512x128 : Shape := ⟨3, ![1, 512, 128]⟩
abbrev S1536x256 : Shape := ⟨2, ![1536, 256]⟩
abbrev S512x128 : Shape := ⟨2, ![512, 128]⟩
abbrev S128x1024 : Shape := ⟨2, ![128, 1024]⟩
abbrev S8x1024 : Shape := ⟨2, ![8, 1024]⟩
abbrev S1024x128 : Shape := ⟨2, ![1024, 128]⟩
abbrev S1x1024 : Shape := ⟨2, ![1, 1024]⟩
abbrev S1x128 : Shape := ⟨2, ![1, 128]⟩
abbrev S128x128 : Shape := ⟨2, ![128, 128]⟩
abbrev S1x1x1 : Shape := ⟨3, ![1, 1, 1]⟩
abbrev S1x1x128 : Shape := ⟨3, ![1, 1, 128]⟩
abbrev S1x1 : Shape := ⟨2, ![1, 1]⟩
abbrev S128x512 : Shape := ⟨2, ![128, 512]⟩
abbrev S1x512 : Shape := ⟨2, ![1, 512]⟩
abbrev S128x256 : Shape := ⟨2, ![128, 256]⟩
abbrev S1x128x256 : Shape := ⟨3, ![1, 128, 256]⟩
abbrev S256x256 : Shape := ⟨2, ![256, 256]⟩
abbrev S1280x256 : Shape := ⟨2, ![1280, 256]⟩
abbrev S1024x256 : Shape := ⟨2, ![1024, 256]⟩
abbrev S256 : Shape := ⟨1, ![256]⟩
abbrev S1x256 : Shape := ⟨2, ![1, 256]⟩
abbrev S8x256 : Shape := ⟨2, ![8, 256]⟩
abbrev S16x8x256 : Shape := ⟨3, ![16, 8, 256]⟩
abbrev S256x128 : Shape := ⟨2, ![256, 128]⟩
abbrev S1x256x128 : Shape := ⟨3, ![1, 256, 128]⟩
abbrev S512x256 : Shape := ⟨2, ![512, 256]⟩
abbrev S16x512 : Shape := ⟨2, ![16, 512]⟩
abbrev S144x512 : Shape := ⟨2, ![144, 512]⟩
abbrev S144x256 : Shape := ⟨2, ![144, 256]⟩

abbrev nBuf : Space → Nat
  | .hbm => 26
  | .vmem => 30
  | .smem => 3
  | _ => 0

abbrev bufTy : (tb : Table) → Fin (tcTables nBuf tb) → BufTy
  | .hbm, ⟨0, _⟩ => ⟨S3x16384x20x128, .fp8e4m3⟩
  | .hbm, ⟨1, _⟩ => ⟨S3x32x20, .f32⟩
  | .hbm, ⟨2, _⟩ => ⟨S3x16384x20, .i32⟩
  | .hbm, ⟨3, _⟩ => ⟨S20x1024x128, .bf16⟩
  | .hbm, ⟨4, _⟩ => ⟨S3x16384x20x128, .fp8e4m3⟩
  | .hbm, ⟨5, _⟩ => ⟨S3x16384x20, .f32⟩
  | .hbm, ⟨6, _⟩ => ⟨S3x20x1024x128, .f32⟩
  | .hbm, ⟨7, _⟩ => ⟨S3x20x1024, .f32⟩
  | .hbm, ⟨8, _⟩ => ⟨S3x20x128x16384, .fp8e4m3⟩
  | .hbm, ⟨9, _⟩ => ⟨S60x128x16384, .fp8e4m3⟩
  | .hbm, ⟨10, _⟩ => ⟨S3x20x128x16384, .fp8e4m3⟩
  | .hbm, ⟨11, _⟩ => ⟨S60x128x16384, .fp8e4m3⟩
  | .hbm, ⟨12, _⟩ => ⟨S3x20x16384, .i32⟩
  | .hbm, ⟨13, _⟩ => ⟨S60x1x16384, .i32⟩
  | .hbm, ⟨14, _⟩ => ⟨S3x20x16384, .f32⟩
  | .hbm, ⟨15, _⟩ => ⟨S60x1x16384, .f32⟩
  | .hbm, ⟨16, _⟩ => ⟨S3x20x32, .f32⟩
  | .hbm, ⟨17, _⟩ => ⟨S60x32, .f32⟩
  | .hbm, ⟨18, _⟩ => ⟨S20x1024x128, .f32⟩
  | .hbm, ⟨19, _⟩ => ⟨S60x1024x128, .f32⟩
  | .hbm, ⟨20, _⟩ => ⟨S60x1x1024, .f32⟩
  | .hbm, ⟨21, _⟩ => ⟨S3x16384x2560, .bf16⟩
  | .hbm, ⟨22, _⟩ => ⟨S60x1024x128, .f32⟩
  | .hbm, ⟨23, _⟩ => ⟨S60x1x1024, .f32⟩
  | .hbm, ⟨24, _⟩ => ⟨S3x20x1024x128, .f32⟩
  | .hbm, ⟨25, _⟩ => ⟨S3x20x1024, .f32⟩
  | .local _ .vmem, ⟨0, _⟩ => ⟨S1x128x512, .fp8e4m3⟩
  | .local _ .vmem, ⟨1, _⟩ => ⟨S1x128x512, .fp8e4m3⟩
  | .local _ .vmem, ⟨2, _⟩ => ⟨S1x128x512, .fp8e4m3⟩
  | .local _ .vmem, ⟨3, _⟩ => ⟨S1x128x512, .fp8e4m3⟩
  | .local _ .vmem, ⟨4, _⟩ => ⟨S1x1x512, .i32⟩
  | .local _ .vmem, ⟨5, _⟩ => ⟨S1x1x512, .i32⟩
  | .local _ .vmem, ⟨6, _⟩ => ⟨S1x1x512, .f32⟩
  | .local _ .vmem, ⟨7, _⟩ => ⟨S1x1x512, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1x1024, .f32⟩
  | .local _ .vmem, ⟨15, _⟩ => ⟨S1x1x1024, .f32⟩
  | .local _ .vmem, ⟨16, _⟩ => ⟨S1x512x128, .bf16⟩
  | .local _ .vmem, ⟨17, _⟩ => ⟨S1x512x128, .bf16⟩
  | .local _ .vmem, ⟨18, _⟩ => ⟨S1x1024x128, .f32⟩
  | .local _ .vmem, ⟨19, _⟩ => ⟨S1x1024x128, .f32⟩
  | .local _ .vmem, ⟨20, _⟩ => ⟨S1x1x1024, .f32⟩
  | .local _ .vmem, ⟨21, _⟩ => ⟨S1x1x1024, .f32⟩
  | .local _ .vmem, ⟨22, _⟩ => ⟨S1536x256, .bf16⟩
  | .local _ .vmem, ⟨23, _⟩ => ⟨S512x128, .f32⟩
  | .local _ .vmem, ⟨24, _⟩ => ⟨S1536x256, .f32⟩
  | .local _ .vmem, ⟨25, _⟩ => ⟨S1536x256, .bf16⟩
  | .local _ .vmem, ⟨26, _⟩ => ⟨S128x1024, .f32⟩
  | .local _ .vmem, ⟨27, _⟩ => ⟨S128x1024, .bf16⟩
  | .local _ .vmem, ⟨28, _⟩ => ⟨S8x1024, .f32⟩
  | .local _ .vmem, ⟨29, _⟩ => ⟨S1024x128, .f32⟩
  | .local _ .smem, ⟨0, _⟩ => ⟨S1x1x512, .i32⟩
  | .local _ .smem, ⟨1, _⟩ => ⟨S1x1x512, .i32⟩
  | .local _ .smem, ⟨2, _⟩ => ⟨S60x32, .f32⟩
  | _, _ => ⟨S3x16384x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v14 : Ref sig .tc := ⟨.hbm, 24, rfl⟩
abbrev main_v15 : Ref sig .tc := ⟨.hbm, 25, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![60, 32], ![false, false]⟩

def k0_off1 (v3 : BitVec 32) : Fin 3 → Nat :=
  let c0_3 : Index := 0#32
  let v4 : Index := Scalar.indexCast v3
  let c0_4 : Index := 0#32
  ![0, v4.toNat, 0]

def k0_chk1 (v3 : BitVec 32) : Prop :=
  (∀ a, (k0_off1 v3) a + S1x1x128.size a ≤ S1x1024x128.size a)
theorem k0_off1_inb : ∀ (v3 : BitVec 32) (k0_hw1 : k0_chk1 v3), ∀ a, (k0_off1 v3) a + S1x1x128.size a ≤ S1x1024x128.size a := fun v3 k0_hw1 => k0_hw1

def k0_off2 (v10 : BitVec 32) : Fin 3 → Nat :=
  let c0_9 : Index := 0#32
  let v11 : Index := Scalar.indexCast v10
  let c0_10 : Index := 0#32
  ![0, v11.toNat, 0]

def k0_chk2 (v10 : BitVec 32) : Prop :=
  (∀ a, (k0_off2 v10) a + S1x1x128.size a ≤ S1x1024x128.size a)
theorem k0_off2_inb : ∀ (v10 : BitVec 32) (k0_hw2 : k0_chk2 v10), ∀ a, (k0_off2 v10) a + S1x1x128.size a ≤ S1x1024x128.size a := fun v10 k0_hw2 => k0_hw2

def k0_off3 (v17 : BitVec 32) : Fin 3 → Nat :=
  let c0_15 : Index := 0#32
  let v18 : Index := Scalar.indexCast v17
  let c0_16 : Index := 0#32
  ![0, v18.toNat, 0]

def k0_chk3 (v17 : BitVec 32) : Prop :=
  (∀ a, (k0_off3 v17) a + S1x1x128.size a ≤ S1x1024x128.size a)
theorem k0_off3_inb : ∀ (v17 : BitVec 32) (k0_hw3 : k0_chk3 v17), ∀ a, (k0_off3 v17) a + S1x1x128.size a ≤ S1x1024x128.size a := fun v17 k0_hw3 => k0_hw3

def k0_off4 (v24 : BitVec 32) : Fin 3 → Nat :=
  let c0_21 : Index := 0#32
  let v25 : Index := Scalar.indexCast v24
  let c0_22 : Index := 0#32
  ![0, v25.toNat, 0]

def k0_chk4 (v24 : BitVec 32) : Prop :=
  (∀ a, (k0_off4 v24) a + S1x1x128.size a ≤ S1x1024x128.size a)
theorem k0_off4_inb : ∀ (v24 : BitVec 32) (k0_hw4 : k0_chk4 v24), ∀ a, (k0_off4 v24) a + S1x1x128.size a ≤ S1x1024x128.size a := fun v24 k0_hw4 => k0_hw4

def k0_off5 (v31 : BitVec 32) : Fin 3 → Nat :=
  let c0_27 : Index := 0#32
  let v32 : Index := Scalar.indexCast v31
  let c0_28 : Index := 0#32
  ![0, v32.toNat, 0]

def k0_chk5 (v31 : BitVec 32) : Prop :=
  (∀ a, (k0_off5 v31) a + S1x1x128.size a ≤ S1x1024x128.size a)
theorem k0_off5_inb : ∀ (v31 : BitVec 32) (k0_hw5 : k0_chk5 v31), ∀ a, (k0_off5 v31) a + S1x1x128.size a ≤ S1x1024x128.size a := fun v31 k0_hw5 => k0_hw5

def k0_off6 (v38 : BitVec 32) : Fin 3 → Nat :=
  let c0_33 : Index := 0#32
  let v39 : Index := Scalar.indexCast v38
  let c0_34 : Index := 0#32
  ![0, v39.toNat, 0]

def k0_chk6 (v38 : BitVec 32) : Prop :=
  (∀ a, (k0_off6 v38) a + S1x1x128.size a ≤ S1x1024x128.size a)
theorem k0_off6_inb : ∀ (v38 : BitVec 32) (k0_hw6 : k0_chk6 v38), ∀ a, (k0_off6 v38) a + S1x1x128.size a ≤ S1x1024x128.size a := fun v38 k0_hw6 => k0_hw6

def k0_off7 (v45 : BitVec 32) : Fin 3 → Nat :=
  let c0_39 : Index := 0#32
  let v46 : Index := Scalar.indexCast v45
  let c0_40 : Index := 0#32
  ![0, v46.toNat, 0]

def k0_chk7 (v45 : BitVec 32) : Prop :=
  (∀ a, (k0_off7 v45) a + S1x1x128.size a ≤ S1x1024x128.size a)
theorem k0_off7_inb : ∀ (v45 : BitVec 32) (k0_hw7 : k0_chk7 v45), ∀ a, (k0_off7 v45) a + S1x1x128.size a ≤ S1x1024x128.size a := fun v45 k0_hw7 => k0_hw7

def k0_off8 (v52 : BitVec 32) : Fin 3 → Nat :=
  let c0_45 : Index := 0#32
  let v53 : Index := Scalar.indexCast v52
  let c0_46 : Index := 0#32
  ![0, v53.toNat, 0]

def k0_chk8 (v52 : BitVec 32) : Prop :=
  (∀ a, (k0_off8 v52) a + S1x1x128.size a ≤ S1x1024x128.size a)
theorem k0_off8_inb : ∀ (v52 : BitVec 32) (k0_hw8 : k0_chk8 v52), ∀ a, (k0_off8 v52) a + S1x1x128.size a ≤ S1x1024x128.size a := fun v52 k0_hw8 => k0_hw8

def k0_off9 (v59 : BitVec 32) : Fin 3 → Nat :=
  let c0_51 : Index := 0#32
  let v60 : Index := Scalar.indexCast v59
  let c0_52 : Index := 0#32
  ![0, v60.toNat, 0]

def k0_chk9 (v59 : BitVec 32) : Prop :=
  (∀ a, (k0_off9 v59) a + S1x1x128.size a ≤ S1x1024x128.size a)
theorem k0_off9_inb : ∀ (v59 : BitVec 32) (k0_hw9 : k0_chk9 v59), ∀ a, (k0_off9 v59) a + S1x1x128.size a ≤ S1x1024x128.size a := fun v59 k0_hw9 => k0_hw9

def k0_off10 (v66 : BitVec 32) : Fin 3 → Nat :=
  let c0_57 : Index := 0#32
  let v67 : Index := Scalar.indexCast v66
  let c0_58 : Index := 0#32
  ![0, v67.toNat, 0]

def k0_chk10 (v66 : BitVec 32) : Prop :=
  (∀ a, (k0_off10 v66) a + S1x1x128.size a ≤ S1x1024x128.size a)
theorem k0_off10_inb : ∀ (v66 : BitVec 32) (k0_hw10 : k0_chk10 v66), ∀ a, (k0_off10 v66) a + S1x1x128.size a ≤ S1x1024x128.size a := fun v66 k0_hw10 => k0_hw10

def k0_off11 (v73 : BitVec 32) : Fin 3 → Nat :=
  let c0_63 : Index := 0#32
  let v74 : Index := Scalar.indexCast v73
  let c0_64 : Index := 0#32
  ![0, v74.toNat, 0]

def k0_chk11 (v73 : BitVec 32) : Prop :=
  (∀ a, (k0_off11 v73) a + S1x1x128.size a ≤ S1x1024x128.size a)
theorem k0_off11_inb : ∀ (v73 : BitVec 32) (k0_hw11 : k0_chk11 v73), ∀ a, (k0_off11 v73) a + S1x1x128.size a ≤ S1x1024x128.size a := fun v73 k0_hw11 => k0_hw11

def k0_off12 (v80 : BitVec 32) : Fin 3 → Nat :=
  let c0_69 : Index := 0#32
  let v81 : Index := Scalar.indexCast v80
  let c0_70 : Index := 0#32
  ![0, v81.toNat, 0]

def k0_chk12 (v80 : BitVec 32) : Prop :=
  (∀ a, (k0_off12 v80) a + S1x1x128.size a ≤ S1x1024x128.size a)
theorem k0_off12_inb : ∀ (v80 : BitVec 32) (k0_hw12 : k0_chk12 v80), ∀ a, (k0_off12 v80) a + S1x1x128.size a ≤ S1x1024x128.size a := fun v80 k0_hw12 => k0_hw12

def k0_off13 (v87 : BitVec 32) : Fin 3 → Nat :=
  let c0_75 : Index := 0#32
  let v88 : Index := Scalar.indexCast v87
  let c0_76 : Index := 0#32
  ![0, v88.toNat, 0]

def k0_chk13 (v87 : BitVec 32) : Prop :=
  (∀ a, (k0_off13 v87) a + S1x1x128.size a ≤ S1x1024x128.size a)
theorem k0_off13_inb : ∀ (v87 : BitVec 32) (k0_hw13 : k0_chk13 v87), ∀ a, (k0_off13 v87) a + S1x1x128.size a ≤ S1x1024x128.size a := fun v87 k0_hw13 => k0_hw13

def k0_off14 (v94 : BitVec 32) : Fin 3 → Nat :=
  let c0_81 : Index := 0#32
  let v95 : Index := Scalar.indexCast v94
  let c0_82 : Index := 0#32
  ![0, v95.toNat, 0]

def k0_chk14 (v94 : BitVec 32) : Prop :=
  (∀ a, (k0_off14 v94) a + S1x1x128.size a ≤ S1x1024x128.size a)
theorem k0_off14_inb : ∀ (v94 : BitVec 32) (k0_hw14 : k0_chk14 v94), ∀ a, (k0_off14 v94) a + S1x1x128.size a ≤ S1x1024x128.size a := fun v94 k0_hw14 => k0_hw14

def k0_off15 (v101 : BitVec 32) : Fin 3 → Nat :=
  let c0_87 : Index := 0#32
  let v102 : Index := Scalar.indexCast v101
  let c0_88 : Index := 0#32
  ![0, v102.toNat, 0]

def k0_chk15 (v101 : BitVec 32) : Prop :=
  (∀ a, (k0_off15 v101) a + S1x1x128.size a ≤ S1x1024x128.size a)
theorem k0_off15_inb : ∀ (v101 : BitVec 32) (k0_hw15 : k0_chk15 v101), ∀ a, (k0_off15 v101) a + S1x1x128.size a ≤ S1x1024x128.size a := fun v101 k0_hw15 => k0_hw15

def k0_off16 (v108 : BitVec 32) : Fin 3 → Nat :=
  let c0_93 : Index := 0#32
  let v109 : Index := Scalar.indexCast v108
  let c0_94 : Index := 0#32
  ![0, v109.toNat, 0]

def k0_chk16 (v108 : BitVec 32) : Prop :=
  (∀ a, (k0_off16 v108) a + S1x1x128.size a ≤ S1x1024x128.size a)
theorem k0_off16_inb : ∀ (v108 : BitVec 32) (k0_hw16 : k0_chk16 v108), ∀ a, (k0_off16 v108) a + S1x1x128.size a ≤ S1x1024x128.size a := fun v108 k0_hw16 => k0_hw16

def k0_off17 (v115 : BitVec 32) : Fin 3 → Nat :=
  let c0_99 : Index := 0#32
  let v116 : Index := Scalar.indexCast v115
  let c0_100 : Index := 0#32
  ![0, v116.toNat, 0]

def k0_chk17 (v115 : BitVec 32) : Prop :=
  (∀ a, (k0_off17 v115) a + S1x1x128.size a ≤ S1x1024x128.size a)
theorem k0_off17_inb : ∀ (v115 : BitVec 32) (k0_hw17 : k0_chk17 v115), ∀ a, (k0_off17 v115) a + S1x1x128.size a ≤ S1x1024x128.size a := fun v115 k0_hw17 => k0_hw17

def k0_off18 (v122 : BitVec 32) : Fin 3 → Nat :=
  let c0_105 : Index := 0#32
  let v123 : Index := Scalar.indexCast v122
  let c0_106 : Index := 0#32
  ![0, v123.toNat, 0]

def k0_chk18 (v122 : BitVec 32) : Prop :=
  (∀ a, (k0_off18 v122) a + S1x1x128.size a ≤ S1x1024x128.size a)
theorem k0_off18_inb : ∀ (v122 : BitVec 32) (k0_hw18 : k0_chk18 v122), ∀ a, (k0_off18 v122) a + S1x1x128.size a ≤ S1x1024x128.size a := fun v122 k0_hw18 => k0_hw18

def k0_off19 (v129 : BitVec 32) : Fin 3 → Nat :=
  let c0_111 : Index := 0#32
  let v130 : Index := Scalar.indexCast v129
  let c0_112 : Index := 0#32
  ![0, v130.toNat, 0]

def k0_chk19 (v129 : BitVec 32) : Prop :=
  (∀ a, (k0_off19 v129) a + S1x1x128.size a ≤ S1x1024x128.size a)
theorem k0_off19_inb : ∀ (v129 : BitVec 32) (k0_hw19 : k0_chk19 v129), ∀ a, (k0_off19 v129) a + S1x1x128.size a ≤ S1x1024x128.size a := fun v129 k0_hw19 => k0_hw19

def k0_off20 (v136 : BitVec 32) : Fin 3 → Nat :=
  let c0_117 : Index := 0#32
  let v137 : Index := Scalar.indexCast v136
  let c0_118 : Index := 0#32
  ![0, v137.toNat, 0]

def k0_chk20 (v136 : BitVec 32) : Prop :=
  (∀ a, (k0_off20 v136) a + S1x1x128.size a ≤ S1x1024x128.size a)
theorem k0_off20_inb : ∀ (v136 : BitVec 32) (k0_hw20 : k0_chk20 v136), ∀ a, (k0_off20 v136) a + S1x1x128.size a ≤ S1x1024x128.size a := fun v136 k0_hw20 => k0_hw20

def k0_off21 (v143 : BitVec 32) : Fin 3 → Nat :=
  let c0_123 : Index := 0#32
  let v144 : Index := Scalar.indexCast v143
  let c0_124 : Index := 0#32
  ![0, v144.toNat, 0]

def k0_chk21 (v143 : BitVec 32) : Prop :=
  (∀ a, (k0_off21 v143) a + S1x1x128.size a ≤ S1x1024x128.size a)
theorem k0_off21_inb : ∀ (v143 : BitVec 32) (k0_hw21 : k0_chk21 v143), ∀ a, (k0_off21 v143) a + S1x1x128.size a ≤ S1x1024x128.size a := fun v143 k0_hw21 => k0_hw21

def k0_off22 (v150 : BitVec 32) : Fin 3 → Nat :=
  let c0_129 : Index := 0#32
  let v151 : Index := Scalar.indexCast v150
  let c0_130 : Index := 0#32
  ![0, v151.toNat, 0]

def k0_chk22 (v150 : BitVec 32) : Prop :=
  (∀ a, (k0_off22 v150) a + S1x1x128.size a ≤ S1x1024x128.size a)
theorem k0_off22_inb : ∀ (v150 : BitVec 32) (k0_hw22 : k0_chk22 v150), ∀ a, (k0_off22 v150) a + S1x1x128.size a ≤ S1x1024x128.size a := fun v150 k0_hw22 => k0_hw22

def k0_off23 (v157 : BitVec 32) : Fin 3 → Nat :=
  let c0_135 : Index := 0#32
  let v158 : Index := Scalar.indexCast v157
  let c0_136 : Index := 0#32
  ![0, v158.toNat, 0]

def k0_chk23 (v157 : BitVec 32) : Prop :=
  (∀ a, (k0_off23 v157) a + S1x1x128.size a ≤ S1x1024x128.size a)
theorem k0_off23_inb : ∀ (v157 : BitVec 32) (k0_hw23 : k0_chk23 v157), ∀ a, (k0_off23 v157) a + S1x1x128.size a ≤ S1x1024x128.size a := fun v157 k0_hw23 => k0_hw23

def k0_off24 (v164 : BitVec 32) : Fin 3 → Nat :=
  let c0_141 : Index := 0#32
  let v165 : Index := Scalar.indexCast v164
  let c0_142 : Index := 0#32
  ![0, v165.toNat, 0]

def k0_chk24 (v164 : BitVec 32) : Prop :=
  (∀ a, (k0_off24 v164) a + S1x1x128.size a ≤ S1x1024x128.size a)
theorem k0_off24_inb : ∀ (v164 : BitVec 32) (k0_hw24 : k0_chk24 v164), ∀ a, (k0_off24 v164) a + S1x1x128.size a ≤ S1x1024x128.size a := fun v164 k0_hw24 => k0_hw24

def k0_off25 (v171 : BitVec 32) : Fin 3 → Nat :=
  let c0_147 : Index := 0#32
  let v172 : Index := Scalar.indexCast v171
  let c0_148 : Index := 0#32
  ![0, v172.toNat, 0]

def k0_chk25 (v171 : BitVec 32) : Prop :=
  (∀ a, (k0_off25 v171) a + S1x1x128.size a ≤ S1x1024x128.size a)
theorem k0_off25_inb : ∀ (v171 : BitVec 32) (k0_hw25 : k0_chk25 v171), ∀ a, (k0_off25 v171) a + S1x1x128.size a ≤ S1x1024x128.size a := fun v171 k0_hw25 => k0_hw25

def k0_off26 (v178 : BitVec 32) : Fin 3 → Nat :=
  let c0_153 : Index := 0#32
  let v179 : Index := Scalar.indexCast v178
  let c0_154 : Index := 0#32
  ![0, v179.toNat, 0]

def k0_chk26 (v178 : BitVec 32) : Prop :=
  (∀ a, (k0_off26 v178) a + S1x1x128.size a ≤ S1x1024x128.size a)
theorem k0_off26_inb : ∀ (v178 : BitVec 32) (k0_hw26 : k0_chk26 v178), ∀ a, (k0_off26 v178) a + S1x1x128.size a ≤ S1x1024x128.size a := fun v178 k0_hw26 => k0_hw26

def k0_off27 (v185 : BitVec 32) : Fin 3 → Nat :=
  let c0_159 : Index := 0#32
  let v186 : Index := Scalar.indexCast v185
  let c0_160 : Index := 0#32
  ![0, v186.toNat, 0]

def k0_chk27 (v185 : BitVec 32) : Prop :=
  (∀ a, (k0_off27 v185) a + S1x1x128.size a ≤ S1x1024x128.size a)
theorem k0_off27_inb : ∀ (v185 : BitVec 32) (k0_hw27 : k0_chk27 v185), ∀ a, (k0_off27 v185) a + S1x1x128.size a ≤ S1x1024x128.size a := fun v185 k0_hw27 => k0_hw27

def k0_off28 (v192 : BitVec 32) : Fin 3 → Nat :=
  let c0_165 : Index := 0#32
  let v193 : Index := Scalar.indexCast v192
  let c0_166 : Index := 0#32
  ![0, v193.toNat, 0]

def k0_chk28 (v192 : BitVec 32) : Prop :=
  (∀ a, (k0_off28 v192) a + S1x1x128.size a ≤ S1x1024x128.size a)
theorem k0_off28_inb : ∀ (v192 : BitVec 32) (k0_hw28 : k0_chk28 v192), ∀ a, (k0_off28 v192) a + S1x1x128.size a ≤ S1x1024x128.size a := fun v192 k0_hw28 => k0_hw28

def k0_off29 (v199 : BitVec 32) : Fin 3 → Nat :=
  let c0_171 : Index := 0#32
  let v200 : Index := Scalar.indexCast v199
  let c0_172 : Index := 0#32
  ![0, v200.toNat, 0]

def k0_chk29 (v199 : BitVec 32) : Prop :=
  (∀ a, (k0_off29 v199) a + S1x1x128.size a ≤ S1x1024x128.size a)
theorem k0_off29_inb : ∀ (v199 : BitVec 32) (k0_hw29 : k0_chk29 v199), ∀ a, (k0_off29 v199) a + S1x1x128.size a ≤ S1x1024x128.size a := fun v199 k0_hw29 => k0_hw29

def k0_off30 (v206 : BitVec 32) : Fin 3 → Nat :=
  let c0_177 : Index := 0#32
  let v207 : Index := Scalar.indexCast v206
  let c0_178 : Index := 0#32
  ![0, v207.toNat, 0]

def k0_chk30 (v206 : BitVec 32) : Prop :=
  (∀ a, (k0_off30 v206) a + S1x1x128.size a ≤ S1x1024x128.size a)
theorem k0_off30_inb : ∀ (v206 : BitVec 32) (k0_hw30 : k0_chk30 v206), ∀ a, (k0_off30 v206) a + S1x1x128.size a ≤ S1x1024x128.size a := fun v206 k0_hw30 => k0_hw30

def k0_off31 (v213 : BitVec 32) : Fin 3 → Nat :=
  let c0_183 : Index := 0#32
  let v214 : Index := Scalar.indexCast v213
  let c0_184 : Index := 0#32
  ![0, v214.toNat, 0]

def k0_chk31 (v213 : BitVec 32) : Prop :=
  (∀ a, (k0_off31 v213) a + S1x1x128.size a ≤ S1x1024x128.size a)
theorem k0_off31_inb : ∀ (v213 : BitVec 32) (k0_hw31 : k0_chk31 v213), ∀ a, (k0_off31 v213) a + S1x1x128.size a ≤ S1x1024x128.size a := fun v213 k0_hw31 => k0_hw31

def k0_off32 (v220 : BitVec 32) : Fin 3 → Nat :=
  let c0_189 : Index := 0#32
  let v221 : Index := Scalar.indexCast v220
  let c0_190 : Index := 0#32
  ![0, v221.toNat, 0]

def k0_chk32 (v220 : BitVec 32) : Prop :=
  (∀ a, (k0_off32 v220) a + S1x1x128.size a ≤ S1x1024x128.size a)
theorem k0_off32_inb : ∀ (v220 : BitVec 32) (k0_hw32 : k0_chk32 v220), ∀ a, (k0_off32 v220) a + S1x1x128.size a ≤ S1x1024x128.size a := fun v220 k0_hw32 => k0_hw32

def k0_off33 (v227 : BitVec 32) : Fin 3 → Nat :=
  let c0_195 : Index := 0#32
  let v228 : Index := Scalar.indexCast v227
  let c0_196 : Index := 0#32
  ![0, v228.toNat, 0]

def k0_chk33 (v227 : BitVec 32) : Prop :=
  (∀ a, (k0_off33 v227) a + S1x1x128.size a ≤ S1x1024x128.size a)
theorem k0_off33_inb : ∀ (v227 : BitVec 32) (k0_hw33 : k0_chk33 v227), ∀ a, (k0_off33 v227) a + S1x1x128.size a ≤ S1x1024x128.size a := fun v227 k0_hw33 => k0_hw33

def k0_off34 (v234 : BitVec 32) : Fin 3 → Nat :=
  let c0_201 : Index := 0#32
  let v235 : Index := Scalar.indexCast v234
  let c0_202 : Index := 0#32
  ![0, v235.toNat, 0]

def k0_chk34 (v234 : BitVec 32) : Prop :=
  (∀ a, (k0_off34 v234) a + S1x1x128.size a ≤ S1x1024x128.size a)
theorem k0_off34_inb : ∀ (v234 : BitVec 32) (k0_hw34 : k0_chk34 v234), ∀ a, (k0_off34 v234) a + S1x1x128.size a ≤ S1x1024x128.size a := fun v234 k0_hw34 => k0_hw34

def k0_off35 (v241 : BitVec 32) : Fin 3 → Nat :=
  let c0_207 : Index := 0#32
  let v242 : Index := Scalar.indexCast v241
  let c0_208 : Index := 0#32
  ![0, v242.toNat, 0]

def k0_chk35 (v241 : BitVec 32) : Prop :=
  (∀ a, (k0_off35 v241) a + S1x1x128.size a ≤ S1x1024x128.size a)
theorem k0_off35_inb : ∀ (v241 : BitVec 32) (k0_hw35 : k0_chk35 v241), ∀ a, (k0_off35 v241) a + S1x1x128.size a ≤ S1x1024x128.size a := fun v241 k0_hw35 => k0_hw35

def k0_off36 (v248 : BitVec 32) : Fin 3 → Nat :=
  let c0_213 : Index := 0#32
  let v249 : Index := Scalar.indexCast v248
  let c0_214 : Index := 0#32
  ![0, v249.toNat, 0]

def k0_chk36 (v248 : BitVec 32) : Prop :=
  (∀ a, (k0_off36 v248) a + S1x1x128.size a ≤ S1x1024x128.size a)
theorem k0_off36_inb : ∀ (v248 : BitVec 32) (k0_hw36 : k0_chk36 v248), ∀ a, (k0_off36 v248) a + S1x1x128.size a ≤ S1x1024x128.size a := fun v248 k0_hw36 => k0_hw36

def k0_off37 (v255 : BitVec 32) : Fin 3 → Nat :=
  let c0_219 : Index := 0#32
  let v256 : Index := Scalar.indexCast v255
  let c0_220 : Index := 0#32
  ![0, v256.toNat, 0]

def k0_chk37 (v255 : BitVec 32) : Prop :=
  (∀ a, (k0_off37 v255) a + S1x1x128.size a ≤ S1x1024x128.size a)
theorem k0_off37_inb : ∀ (v255 : BitVec 32) (k0_hw37 : k0_chk37 v255), ∀ a, (k0_off37 v255) a + S1x1x128.size a ≤ S1x1024x128.size a := fun v255 k0_hw37 => k0_hw37

def k0_off38 (v262 : BitVec 32) : Fin 3 → Nat :=
  let c0_225 : Index := 0#32
  let v263 : Index := Scalar.indexCast v262
  let c0_226 : Index := 0#32
  ![0, v263.toNat, 0]

def k0_chk38 (v262 : BitVec 32) : Prop :=
  (∀ a, (k0_off38 v262) a + S1x1x128.size a ≤ S1x1024x128.size a)
theorem k0_off38_inb : ∀ (v262 : BitVec 32) (k0_hw38 : k0_chk38 v262), ∀ a, (k0_off38 v262) a + S1x1x128.size a ≤ S1x1024x128.size a := fun v262 k0_hw38 => k0_hw38

def k0_off39 (v269 : BitVec 32) : Fin 3 → Nat :=
  let c0_231 : Index := 0#32
  let v270 : Index := Scalar.indexCast v269
  let c0_232 : Index := 0#32
  ![0, v270.toNat, 0]

def k0_chk39 (v269 : BitVec 32) : Prop :=
  (∀ a, (k0_off39 v269) a + S1x1x128.size a ≤ S1x1024x128.size a)
theorem k0_off39_inb : ∀ (v269 : BitVec 32) (k0_hw39 : k0_chk39 v269), ∀ a, (k0_off39 v269) a + S1x1x128.size a ≤ S1x1024x128.size a := fun v269 k0_hw39 => k0_hw39

def k0_off40 (v276 : BitVec 32) : Fin 3 → Nat :=
  let c0_237 : Index := 0#32
  let v277 : Index := Scalar.indexCast v276
  let c0_238 : Index := 0#32
  ![0, v277.toNat, 0]

def k0_chk40 (v276 : BitVec 32) : Prop :=
  (∀ a, (k0_off40 v276) a + S1x1x128.size a ≤ S1x1024x128.size a)
theorem k0_off40_inb : ∀ (v276 : BitVec 32) (k0_hw40 : k0_chk40 v276), ∀ a, (k0_off40 v276) a + S1x1x128.size a ≤ S1x1024x128.size a := fun v276 k0_hw40 => k0_hw40

def k0_off41 (v283 : BitVec 32) : Fin 3 → Nat :=
  let c0_243 : Index := 0#32
  let v284 : Index := Scalar.indexCast v283
  let c0_244 : Index := 0#32
  ![0, v284.toNat, 0]

def k0_chk41 (v283 : BitVec 32) : Prop :=
  (∀ a, (k0_off41 v283) a + S1x1x128.size a ≤ S1x1024x128.size a)
theorem k0_off41_inb : ∀ (v283 : BitVec 32) (k0_hw41 : k0_chk41 v283), ∀ a, (k0_off41 v283) a + S1x1x128.size a ≤ S1x1024x128.size a := fun v283 k0_hw41 => k0_hw41

def k0_off42 (v290 : BitVec 32) : Fin 3 → Nat :=
  let c0_249 : Index := 0#32
  let v291 : Index := Scalar.indexCast v290
  let c0_250 : Index := 0#32
  ![0, v291.toNat, 0]

def k0_chk42 (v290 : BitVec 32) : Prop :=
  (∀ a, (k0_off42 v290) a + S1x1x128.size a ≤ S1x1024x128.size a)
theorem k0_off42_inb : ∀ (v290 : BitVec 32) (k0_hw42 : k0_chk42 v290), ∀ a, (k0_off42 v290) a + S1x1x128.size a ≤ S1x1024x128.size a := fun v290 k0_hw42 => k0_hw42

def k0_off43 (v297 : BitVec 32) : Fin 3 → Nat :=
  let c0_255 : Index := 0#32
  let v298 : Index := Scalar.indexCast v297
  let c0_256 : Index := 0#32
  ![0, v298.toNat, 0]

def k0_chk43 (v297 : BitVec 32) : Prop :=
  (∀ a, (k0_off43 v297) a + S1x1x128.size a ≤ S1x1024x128.size a)
theorem k0_off43_inb : ∀ (v297 : BitVec 32) (k0_hw43 : k0_chk43 v297), ∀ a, (k0_off43 v297) a + S1x1x128.size a ≤ S1x1024x128.size a := fun v297 k0_hw43 => k0_hw43

def k0_off44 (v304 : BitVec 32) : Fin 3 → Nat :=
  let c0_261 : Index := 0#32
  let v305 : Index := Scalar.indexCast v304
  let c0_262 : Index := 0#32
  ![0, v305.toNat, 0]

def k0_chk44 (v304 : BitVec 32) : Prop :=
  (∀ a, (k0_off44 v304) a + S1x1x128.size a ≤ S1x1024x128.size a)
theorem k0_off44_inb : ∀ (v304 : BitVec 32) (k0_hw44 : k0_chk44 v304), ∀ a, (k0_off44 v304) a + S1x1x128.size a ≤ S1x1024x128.size a := fun v304 k0_hw44 => k0_hw44

def k0_off45 (v311 : BitVec 32) : Fin 3 → Nat :=
  let c0_267 : Index := 0#32
  let v312 : Index := Scalar.indexCast v311
  let c0_268 : Index := 0#32
  ![0, v312.toNat, 0]

def k0_chk45 (v311 : BitVec 32) : Prop :=
  (∀ a, (k0_off45 v311) a + S1x1x128.size a ≤ S1x1024x128.size a)
theorem k0_off45_inb : ∀ (v311 : BitVec 32) (k0_hw45 : k0_chk45 v311), ∀ a, (k0_off45 v311) a + S1x1x128.size a ≤ S1x1024x128.size a := fun v311 k0_hw45 => k0_hw45

def k0_off46 (v318 : BitVec 32) : Fin 3 → Nat :=
  let c0_273 : Index := 0#32
  let v319 : Index := Scalar.indexCast v318
  let c0_274 : Index := 0#32
  ![0, v319.toNat, 0]

def k0_chk46 (v318 : BitVec 32) : Prop :=
  (∀ a, (k0_off46 v318) a + S1x1x128.size a ≤ S1x1024x128.size a)
theorem k0_off46_inb : ∀ (v318 : BitVec 32) (k0_hw46 : k0_chk46 v318), ∀ a, (k0_off46 v318) a + S1x1x128.size a ≤ S1x1024x128.size a := fun v318 k0_hw46 => k0_hw46

def k0_off47 (v325 : BitVec 32) : Fin 3 → Nat :=
  let c0_279 : Index := 0#32
  let v326 : Index := Scalar.indexCast v325
  let c0_280 : Index := 0#32
  ![0, v326.toNat, 0]

def k0_chk47 (v325 : BitVec 32) : Prop :=
  (∀ a, (k0_off47 v325) a + S1x1x128.size a ≤ S1x1024x128.size a)
theorem k0_off47_inb : ∀ (v325 : BitVec 32) (k0_hw47 : k0_chk47 v325), ∀ a, (k0_off47 v325) a + S1x1x128.size a ≤ S1x1024x128.size a := fun v325 k0_hw47 => k0_hw47

def k0_off48 (v332 : BitVec 32) : Fin 3 → Nat :=
  let c0_285 : Index := 0#32
  let v333 : Index := Scalar.indexCast v332
  let c0_286 : Index := 0#32
  ![0, v333.toNat, 0]

def k0_chk48 (v332 : BitVec 32) : Prop :=
  (∀ a, (k0_off48 v332) a + S1x1x128.size a ≤ S1x1024x128.size a)
theorem k0_off48_inb : ∀ (v332 : BitVec 32) (k0_hw48 : k0_chk48 v332), ∀ a, (k0_off48 v332) a + S1x1x128.size a ≤ S1x1024x128.size a := fun v332 k0_hw48 => k0_hw48

def k0_off49 (v339 : BitVec 32) : Fin 3 → Nat :=
  let c0_291 : Index := 0#32
  let v340 : Index := Scalar.indexCast v339
  let c0_292 : Index := 0#32
  ![0, v340.toNat, 0]

def k0_chk49 (v339 : BitVec 32) : Prop :=
  (∀ a, (k0_off49 v339) a + S1x1x128.size a ≤ S1x1024x128.size a)
theorem k0_off49_inb : ∀ (v339 : BitVec 32) (k0_hw49 : k0_chk49 v339), ∀ a, (k0_off49 v339) a + S1x1x128.size a ≤ S1x1024x128.size a := fun v339 k0_hw49 => k0_hw49

def k0_off50 (v346 : BitVec 32) : Fin 3 → Nat :=
  let c0_297 : Index := 0#32
  let v347 : Index := Scalar.indexCast v346
  let c0_298 : Index := 0#32
  ![0, v347.toNat, 0]

def k0_chk50 (v346 : BitVec 32) : Prop :=
  (∀ a, (k0_off50 v346) a + S1x1x128.size a ≤ S1x1024x128.size a)
theorem k0_off50_inb : ∀ (v346 : BitVec 32) (k0_hw50 : k0_chk50 v346), ∀ a, (k0_off50 v346) a + S1x1x128.size a ≤ S1x1024x128.size a := fun v346 k0_hw50 => k0_hw50

def k0_off51 (v353 : BitVec 32) : Fin 3 → Nat :=
  let c0_303 : Index := 0#32
  let v354 : Index := Scalar.indexCast v353
  let c0_304 : Index := 0#32
  ![0, v354.toNat, 0]

def k0_chk51 (v353 : BitVec 32) : Prop :=
  (∀ a, (k0_off51 v353) a + S1x1x128.size a ≤ S1x1024x128.size a)
theorem k0_off51_inb : ∀ (v353 : BitVec 32) (k0_hw51 : k0_chk51 v353), ∀ a, (k0_off51 v353) a + S1x1x128.size a ≤ S1x1024x128.size a := fun v353 k0_hw51 => k0_hw51

def k0_off52 (v360 : BitVec 32) : Fin 3 → Nat :=
  let c0_309 : Index := 0#32
  let v361 : Index := Scalar.indexCast v360
  let c0_310 : Index := 0#32
  ![0, v361.toNat, 0]

def k0_chk52 (v360 : BitVec 32) : Prop :=
  (∀ a, (k0_off52 v360) a + S1x1x128.size a ≤ S1x1024x128.size a)
theorem k0_off52_inb : ∀ (v360 : BitVec 32) (k0_hw52 : k0_chk52 v360), ∀ a, (k0_off52 v360) a + S1x1x128.size a ≤ S1x1024x128.size a := fun v360 k0_hw52 => k0_hw52

def k0_off53 (v367 : BitVec 32) : Fin 3 → Nat :=
  let c0_315 : Index := 0#32
  let v368 : Index := Scalar.indexCast v367
  let c0_316 : Index := 0#32
  ![0, v368.toNat, 0]

def k0_chk53 (v367 : BitVec 32) : Prop :=
  (∀ a, (k0_off53 v367) a + S1x1x128.size a ≤ S1x1024x128.size a)
theorem k0_off53_inb : ∀ (v367 : BitVec 32) (k0_hw53 : k0_chk53 v367), ∀ a, (k0_off53 v367) a + S1x1x128.size a ≤ S1x1024x128.size a := fun v367 k0_hw53 => k0_hw53

def k0_off54 (v374 : BitVec 32) : Fin 3 → Nat :=
  let c0_321 : Index := 0#32
  let v375 : Index := Scalar.indexCast v374
  let c0_322 : Index := 0#32
  ![0, v375.toNat, 0]

def k0_chk54 (v374 : BitVec 32) : Prop :=
  (∀ a, (k0_off54 v374) a + S1x1x128.size a ≤ S1x1024x128.size a)
theorem k0_off54_inb : ∀ (v374 : BitVec 32) (k0_hw54 : k0_chk54 v374), ∀ a, (k0_off54 v374) a + S1x1x128.size a ≤ S1x1024x128.size a := fun v374 k0_hw54 => k0_hw54

def k0_off55 (v381 : BitVec 32) : Fin 3 → Nat :=
  let c0_327 : Index := 0#32
  let v382 : Index := Scalar.indexCast v381
  let c0_328 : Index := 0#32
  ![0, v382.toNat, 0]

def k0_chk55 (v381 : BitVec 32) : Prop :=
  (∀ a, (k0_off55 v381) a + S1x1x128.size a ≤ S1x1024x128.size a)
theorem k0_off55_inb : ∀ (v381 : BitVec 32) (k0_hw55 : k0_chk55 v381), ∀ a, (k0_off55 v381) a + S1x1x128.size a ≤ S1x1024x128.size a := fun v381 k0_hw55 => k0_hw55

def k0_off56 (v388 : BitVec 32) : Fin 3 → Nat :=
  let c0_333 : Index := 0#32
  let v389 : Index := Scalar.indexCast v388
  let c0_334 : Index := 0#32
  ![0, v389.toNat, 0]

def k0_chk56 (v388 : BitVec 32) : Prop :=
  (∀ a, (k0_off56 v388) a + S1x1x128.size a ≤ S1x1024x128.size a)
theorem k0_off56_inb : ∀ (v388 : BitVec 32) (k0_hw56 : k0_chk56 v388), ∀ a, (k0_off56 v388) a + S1x1x128.size a ≤ S1x1024x128.size a := fun v388 k0_hw56 => k0_hw56

def k0_off57 (v395 : BitVec 32) : Fin 3 → Nat :=
  let c0_339 : Index := 0#32
  let v396 : Index := Scalar.indexCast v395
  let c0_340 : Index := 0#32
  ![0, v396.toNat, 0]

def k0_chk57 (v395 : BitVec 32) : Prop :=
  (∀ a, (k0_off57 v395) a + S1x1x128.size a ≤ S1x1024x128.size a)
theorem k0_off57_inb : ∀ (v395 : BitVec 32) (k0_hw57 : k0_chk57 v395), ∀ a, (k0_off57 v395) a + S1x1x128.size a ≤ S1x1024x128.size a := fun v395 k0_hw57 => k0_hw57

def k0_off58 (v402 : BitVec 32) : Fin 3 → Nat :=
  let c0_345 : Index := 0#32
  let v403 : Index := Scalar.indexCast v402
  let c0_346 : Index := 0#32
  ![0, v403.toNat, 0]

def k0_chk58 (v402 : BitVec 32) : Prop :=
  (∀ a, (k0_off58 v402) a + S1x1x128.size a ≤ S1x1024x128.size a)
theorem k0_off58_inb : ∀ (v402 : BitVec 32) (k0_hw58 : k0_chk58 v402), ∀ a, (k0_off58 v402) a + S1x1x128.size a ≤ S1x1024x128.size a := fun v402 k0_hw58 => k0_hw58

def k0_off59 (v409 : BitVec 32) : Fin 3 → Nat :=
  let c0_351 : Index := 0#32
  let v410 : Index := Scalar.indexCast v409
  let c0_352 : Index := 0#32
  ![0, v410.toNat, 0]

def k0_chk59 (v409 : BitVec 32) : Prop :=
  (∀ a, (k0_off59 v409) a + S1x1x128.size a ≤ S1x1024x128.size a)
theorem k0_off59_inb : ∀ (v409 : BitVec 32) (k0_hw59 : k0_chk59 v409), ∀ a, (k0_off59 v409) a + S1x1x128.size a ≤ S1x1024x128.size a := fun v409 k0_hw59 => k0_hw59

def k0_off60 (v416 : BitVec 32) : Fin 3 → Nat :=
  let c0_357 : Index := 0#32
  let v417 : Index := Scalar.indexCast v416
  let c0_358 : Index := 0#32
  ![0, v417.toNat, 0]

def k0_chk60 (v416 : BitVec 32) : Prop :=
  (∀ a, (k0_off60 v416) a + S1x1x128.size a ≤ S1x1024x128.size a)
theorem k0_off60_inb : ∀ (v416 : BitVec 32) (k0_hw60 : k0_chk60 v416), ∀ a, (k0_off60 v416) a + S1x1x128.size a ≤ S1x1024x128.size a := fun v416 k0_hw60 => k0_hw60

def k0_off61 (v423 : BitVec 32) : Fin 3 → Nat :=
  let c0_363 : Index := 0#32
  let v424 : Index := Scalar.indexCast v423
  let c0_364 : Index := 0#32
  ![0, v424.toNat, 0]

def k0_chk61 (v423 : BitVec 32) : Prop :=
  (∀ a, (k0_off61 v423) a + S1x1x128.size a ≤ S1x1024x128.size a)
theorem k0_off61_inb : ∀ (v423 : BitVec 32) (k0_hw61 : k0_chk61 v423), ∀ a, (k0_off61 v423) a + S1x1x128.size a ≤ S1x1024x128.size a := fun v423 k0_hw61 => k0_hw61

def k0_off62 (v430 : BitVec 32) : Fin 3 → Nat :=
  let c0_369 : Index := 0#32
  let v431 : Index := Scalar.indexCast v430
  let c0_370 : Index := 0#32
  ![0, v431.toNat, 0]

def k0_chk62 (v430 : BitVec 32) : Prop :=
  (∀ a, (k0_off62 v430) a + S1x1x128.size a ≤ S1x1024x128.size a)
theorem k0_off62_inb : ∀ (v430 : BitVec 32) (k0_hw62 : k0_chk62 v430), ∀ a, (k0_off62 v430) a + S1x1x128.size a ≤ S1x1024x128.size a := fun v430 k0_hw62 => k0_hw62

def k0_off63 (v437 : BitVec 32) : Fin 3 → Nat :=
  let c0_375 : Index := 0#32
  let v438 : Index := Scalar.indexCast v437
  let c0_376 : Index := 0#32
  ![0, v438.toNat, 0]

def k0_chk63 (v437 : BitVec 32) : Prop :=
  (∀ a, (k0_off63 v437) a + S1x1x128.size a ≤ S1x1024x128.size a)
theorem k0_off63_inb : ∀ (v437 : BitVec 32) (k0_hw63 : k0_chk63 v437), ∀ a, (k0_off63 v437) a + S1x1x128.size a ≤ S1x1024x128.size a := fun v437 k0_hw63 => k0_hw63

def k0_off64 (v444 : BitVec 32) : Fin 3 → Nat :=
  let c0_381 : Index := 0#32
  let v445 : Index := Scalar.indexCast v444
  let c0_382 : Index := 0#32
  ![0, v445.toNat, 0]

def k0_chk64 (v444 : BitVec 32) : Prop :=
  (∀ a, (k0_off64 v444) a + S1x1x128.size a ≤ S1x1024x128.size a)
theorem k0_off64_inb : ∀ (v444 : BitVec 32) (k0_hw64 : k0_chk64 v444), ∀ a, (k0_off64 v444) a + S1x1x128.size a ≤ S1x1024x128.size a := fun v444 k0_hw64 => k0_hw64

def k0_off65 (v451 : BitVec 32) : Fin 3 → Nat :=
  let c0_387 : Index := 0#32
  let v452 : Index := Scalar.indexCast v451
  let c0_388 : Index := 0#32
  ![0, v452.toNat, 0]

def k0_chk65 (v451 : BitVec 32) : Prop :=
  (∀ a, (k0_off65 v451) a + S1x1x128.size a ≤ S1x1024x128.size a)
theorem k0_off65_inb : ∀ (v451 : BitVec 32) (k0_hw65 : k0_chk65 v451), ∀ a, (k0_off65 v451) a + S1x1x128.size a ≤ S1x1024x128.size a := fun v451 k0_hw65 => k0_hw65

def k0_off66 (v458 : BitVec 32) : Fin 3 → Nat :=
  let c0_393 : Index := 0#32
  let v459 : Index := Scalar.indexCast v458
  let c0_394 : Index := 0#32
  ![0, v459.toNat, 0]

def k0_chk66 (v458 : BitVec 32) : Prop :=
  (∀ a, (k0_off66 v458) a + S1x1x128.size a ≤ S1x1024x128.size a)
theorem k0_off66_inb : ∀ (v458 : BitVec 32) (k0_hw66 : k0_chk66 v458), ∀ a, (k0_off66 v458) a + S1x1x128.size a ≤ S1x1024x128.size a := fun v458 k0_hw66 => k0_hw66

def k0_off67 (v465 : BitVec 32) : Fin 3 → Nat :=
  let c0_399 : Index := 0#32
  let v466 : Index := Scalar.indexCast v465
  let c0_400 : Index := 0#32
  ![0, v466.toNat, 0]

def k0_chk67 (v465 : BitVec 32) : Prop :=
  (∀ a, (k0_off67 v465) a + S1x1x128.size a ≤ S1x1024x128.size a)
theorem k0_off67_inb : ∀ (v465 : BitVec 32) (k0_hw67 : k0_chk67 v465), ∀ a, (k0_off67 v465) a + S1x1x128.size a ≤ S1x1024x128.size a := fun v465 k0_hw67 => k0_hw67

def k0_off68 (v472 : BitVec 32) : Fin 3 → Nat :=
  let c0_405 : Index := 0#32
  let v473 : Index := Scalar.indexCast v472
  let c0_406 : Index := 0#32
  ![0, v473.toNat, 0]

def k0_chk68 (v472 : BitVec 32) : Prop :=
  (∀ a, (k0_off68 v472) a + S1x1x128.size a ≤ S1x1024x128.size a)
theorem k0_off68_inb : ∀ (v472 : BitVec 32) (k0_hw68 : k0_chk68 v472), ∀ a, (k0_off68 v472) a + S1x1x128.size a ≤ S1x1024x128.size a := fun v472 k0_hw68 => k0_hw68

def k0_off69 (v479 : BitVec 32) : Fin 3 → Nat :=
  let c0_411 : Index := 0#32
  let v480 : Index := Scalar.indexCast v479
  let c0_412 : Index := 0#32
  ![0, v480.toNat, 0]

def k0_chk69 (v479 : BitVec 32) : Prop :=
  (∀ a, (k0_off69 v479) a + S1x1x128.size a ≤ S1x1024x128.size a)
theorem k0_off69_inb : ∀ (v479 : BitVec 32) (k0_hw69 : k0_chk69 v479), ∀ a, (k0_off69 v479) a + S1x1x128.size a ≤ S1x1024x128.size a := fun v479 k0_hw69 => k0_hw69

def k0_off70 (v486 : BitVec 32) : Fin 3 → Nat :=
  let c0_417 : Index := 0#32
  let v487 : Index := Scalar.indexCast v486
  let c0_418 : Index := 0#32
  ![0, v487.toNat, 0]

def k0_chk70 (v486 : BitVec 32) : Prop :=
  (∀ a, (k0_off70 v486) a + S1x1x128.size a ≤ S1x1024x128.size a)
theorem k0_off70_inb : ∀ (v486 : BitVec 32) (k0_hw70 : k0_chk70 v486), ∀ a, (k0_off70 v486) a + S1x1x128.size a ≤ S1x1024x128.size a := fun v486 k0_hw70 => k0_hw70

def k0_off71 (v493 : BitVec 32) : Fin 3 → Nat :=
  let c0_423 : Index := 0#32
  let v494 : Index := Scalar.indexCast v493
  let c0_424 : Index := 0#32
  ![0, v494.toNat, 0]

def k0_chk71 (v493 : BitVec 32) : Prop :=
  (∀ a, (k0_off71 v493) a + S1x1x128.size a ≤ S1x1024x128.size a)
theorem k0_off71_inb : ∀ (v493 : BitVec 32) (k0_hw71 : k0_chk71 v493), ∀ a, (k0_off71 v493) a + S1x1x128.size a ≤ S1x1024x128.size a := fun v493 k0_hw71 => k0_hw71

def k0_off72 (v500 : BitVec 32) : Fin 3 → Nat :=
  let c0_429 : Index := 0#32
  let v501 : Index := Scalar.indexCast v500
  let c0_430 : Index := 0#32
  ![0, v501.toNat, 0]

def k0_chk72 (v500 : BitVec 32) : Prop :=
  (∀ a, (k0_off72 v500) a + S1x1x128.size a ≤ S1x1024x128.size a)
theorem k0_off72_inb : ∀ (v500 : BitVec 32) (k0_hw72 : k0_chk72 v500), ∀ a, (k0_off72 v500) a + S1x1x128.size a ≤ S1x1024x128.size a := fun v500 k0_hw72 => k0_hw72

def k0_off73 (v507 : BitVec 32) : Fin 3 → Nat :=
  let c0_435 : Index := 0#32
  let v508 : Index := Scalar.indexCast v507
  let c0_436 : Index := 0#32
  ![0, v508.toNat, 0]

def k0_chk73 (v507 : BitVec 32) : Prop :=
  (∀ a, (k0_off73 v507) a + S1x1x128.size a ≤ S1x1024x128.size a)
theorem k0_off73_inb : ∀ (v507 : BitVec 32) (k0_hw73 : k0_chk73 v507), ∀ a, (k0_off73 v507) a + S1x1x128.size a ≤ S1x1024x128.size a := fun v507 k0_hw73 => k0_hw73

def k0_off74 (v514 : BitVec 32) : Fin 3 → Nat :=
  let c0_441 : Index := 0#32
  let v515 : Index := Scalar.indexCast v514
  let c0_442 : Index := 0#32
  ![0, v515.toNat, 0]

def k0_chk74 (v514 : BitVec 32) : Prop :=
  (∀ a, (k0_off74 v514) a + S1x1x128.size a ≤ S1x1024x128.size a)
theorem k0_off74_inb : ∀ (v514 : BitVec 32) (k0_hw74 : k0_chk74 v514), ∀ a, (k0_off74 v514) a + S1x1x128.size a ≤ S1x1024x128.size a := fun v514 k0_hw74 => k0_hw74

def k0_off75 (v521 : BitVec 32) : Fin 3 → Nat :=
  let c0_447 : Index := 0#32
  let v522 : Index := Scalar.indexCast v521
  let c0_448 : Index := 0#32
  ![0, v522.toNat, 0]

def k0_chk75 (v521 : BitVec 32) : Prop :=
  (∀ a, (k0_off75 v521) a + S1x1x128.size a ≤ S1x1024x128.size a)
theorem k0_off75_inb : ∀ (v521 : BitVec 32) (k0_hw75 : k0_chk75 v521), ∀ a, (k0_off75 v521) a + S1x1x128.size a ≤ S1x1024x128.size a := fun v521 k0_hw75 => k0_hw75

def k0_off76 (v528 : BitVec 32) : Fin 3 → Nat :=
  let c0_453 : Index := 0#32
  let v529 : Index := Scalar.indexCast v528
  let c0_454 : Index := 0#32
  ![0, v529.toNat, 0]

def k0_chk76 (v528 : BitVec 32) : Prop :=
  (∀ a, (k0_off76 v528) a + S1x1x128.size a ≤ S1x1024x128.size a)
theorem k0_off76_inb : ∀ (v528 : BitVec 32) (k0_hw76 : k0_chk76 v528), ∀ a, (k0_off76 v528) a + S1x1x128.size a ≤ S1x1024x128.size a := fun v528 k0_hw76 => k0_hw76

def k0_off77 (v535 : BitVec 32) : Fin 3 → Nat :=
  let c0_459 : Index := 0#32
  let v536 : Index := Scalar.indexCast v535
  let c0_460 : Index := 0#32
  ![0, v536.toNat, 0]

def k0_chk77 (v535 : BitVec 32) : Prop :=
  (∀ a, (k0_off77 v535) a + S1x1x128.size a ≤ S1x1024x128.size a)
theorem k0_off77_inb : ∀ (v535 : BitVec 32) (k0_hw77 : k0_chk77 v535), ∀ a, (k0_off77 v535) a + S1x1x128.size a ≤ S1x1024x128.size a := fun v535 k0_hw77 => k0_hw77

def k0_off78 (v542 : BitVec 32) : Fin 3 → Nat :=
  let c0_465 : Index := 0#32
  let v543 : Index := Scalar.indexCast v542
  let c0_466 : Index := 0#32
  ![0, v543.toNat, 0]

def k0_chk78 (v542 : BitVec 32) : Prop :=
  (∀ a, (k0_off78 v542) a + S1x1x128.size a ≤ S1x1024x128.size a)
theorem k0_off78_inb : ∀ (v542 : BitVec 32) (k0_hw78 : k0_chk78 v542), ∀ a, (k0_off78 v542) a + S1x1x128.size a ≤ S1x1024x128.size a := fun v542 k0_hw78 => k0_hw78

def k0_off79 (v549 : BitVec 32) : Fin 3 → Nat :=
  let c0_471 : Index := 0#32
  let v550 : Index := Scalar.indexCast v549
  let c0_472 : Index := 0#32
  ![0, v550.toNat, 0]

def k0_chk79 (v549 : BitVec 32) : Prop :=
  (∀ a, (k0_off79 v549) a + S1x1x128.size a ≤ S1x1024x128.size a)
theorem k0_off79_inb : ∀ (v549 : BitVec 32) (k0_hw79 : k0_chk79 v549), ∀ a, (k0_off79 v549) a + S1x1x128.size a ≤ S1x1024x128.size a := fun v549 k0_hw79 => k0_hw79

def k0_off80 (v556 : BitVec 32) : Fin 3 → Nat :=
  let c0_477 : Index := 0#32
  let v557 : Index := Scalar.indexCast v556
  let c0_478 : Index := 0#32
  ![0, v557.toNat, 0]

def k0_chk80 (v556 : BitVec 32) : Prop :=
  (∀ a, (k0_off80 v556) a + S1x1x128.size a ≤ S1x1024x128.size a)
theorem k0_off80_inb : ∀ (v556 : BitVec 32) (k0_hw80 : k0_chk80 v556), ∀ a, (k0_off80 v556) a + S1x1x128.size a ≤ S1x1024x128.size a := fun v556 k0_hw80 => k0_hw80

def k0_off81 (v563 : BitVec 32) : Fin 3 → Nat :=
  let c0_483 : Index := 0#32
  let v564 : Index := Scalar.indexCast v563
  let c0_484 : Index := 0#32
  ![0, v564.toNat, 0]

def k0_chk81 (v563 : BitVec 32) : Prop :=
  (∀ a, (k0_off81 v563) a + S1x1x128.size a ≤ S1x1024x128.size a)
theorem k0_off81_inb : ∀ (v563 : BitVec 32) (k0_hw81 : k0_chk81 v563), ∀ a, (k0_off81 v563) a + S1x1x128.size a ≤ S1x1024x128.size a := fun v563 k0_hw81 => k0_hw81

def k0_off82 (v570 : BitVec 32) : Fin 3 → Nat :=
  let c0_489 : Index := 0#32
  let v571 : Index := Scalar.indexCast v570
  let c0_490 : Index := 0#32
  ![0, v571.toNat, 0]

def k0_chk82 (v570 : BitVec 32) : Prop :=
  (∀ a, (k0_off82 v570) a + S1x1x128.size a ≤ S1x1024x128.size a)
theorem k0_off82_inb : ∀ (v570 : BitVec 32) (k0_hw82 : k0_chk82 v570), ∀ a, (k0_off82 v570) a + S1x1x128.size a ≤ S1x1024x128.size a := fun v570 k0_hw82 => k0_hw82

def k0_off83 (v577 : BitVec 32) : Fin 3 → Nat :=
  let c0_495 : Index := 0#32
  let v578 : Index := Scalar.indexCast v577
  let c0_496 : Index := 0#32
  ![0, v578.toNat, 0]

def k0_chk83 (v577 : BitVec 32) : Prop :=
  (∀ a, (k0_off83 v577) a + S1x1x128.size a ≤ S1x1024x128.size a)
theorem k0_off83_inb : ∀ (v577 : BitVec 32) (k0_hw83 : k0_chk83 v577), ∀ a, (k0_off83 v577) a + S1x1x128.size a ≤ S1x1024x128.size a := fun v577 k0_hw83 => k0_hw83

def k0_off84 (v584 : BitVec 32) : Fin 3 → Nat :=
  let c0_501 : Index := 0#32
  let v585 : Index := Scalar.indexCast v584
  let c0_502 : Index := 0#32
  ![0, v585.toNat, 0]

def k0_chk84 (v584 : BitVec 32) : Prop :=
  (∀ a, (k0_off84 v584) a + S1x1x128.size a ≤ S1x1024x128.size a)
theorem k0_off84_inb : ∀ (v584 : BitVec 32) (k0_hw84 : k0_chk84 v584), ∀ a, (k0_off84 v584) a + S1x1x128.size a ≤ S1x1024x128.size a := fun v584 k0_hw84 => k0_hw84

def k0_off85 (v591 : BitVec 32) : Fin 3 → Nat :=
  let c0_507 : Index := 0#32
  let v592 : Index := Scalar.indexCast v591
  let c0_508 : Index := 0#32
  ![0, v592.toNat, 0]

def k0_chk85 (v591 : BitVec 32) : Prop :=
  (∀ a, (k0_off85 v591) a + S1x1x128.size a ≤ S1x1024x128.size a)
theorem k0_off85_inb : ∀ (v591 : BitVec 32) (k0_hw85 : k0_chk85 v591), ∀ a, (k0_off85 v591) a + S1x1x128.size a ≤ S1x1024x128.size a := fun v591 k0_hw85 => k0_hw85

def k0_off86 (v598 : BitVec 32) : Fin 3 → Nat :=
  let c0_513 : Index := 0#32
  let v599 : Index := Scalar.indexCast v598
  let c0_514 : Index := 0#32
  ![0, v599.toNat, 0]

def k0_chk86 (v598 : BitVec 32) : Prop :=
  (∀ a, (k0_off86 v598) a + S1x1x128.size a ≤ S1x1024x128.size a)
theorem k0_off86_inb : ∀ (v598 : BitVec 32) (k0_hw86 : k0_chk86 v598), ∀ a, (k0_off86 v598) a + S1x1x128.size a ≤ S1x1024x128.size a := fun v598 k0_hw86 => k0_hw86

def k0_off87 (v605 : BitVec 32) : Fin 3 → Nat :=
  let c0_519 : Index := 0#32
  let v606 : Index := Scalar.indexCast v605
  let c0_520 : Index := 0#32
  ![0, v606.toNat, 0]

def k0_chk87 (v605 : BitVec 32) : Prop :=
  (∀ a, (k0_off87 v605) a + S1x1x128.size a ≤ S1x1024x128.size a)
theorem k0_off87_inb : ∀ (v605 : BitVec 32) (k0_hw87 : k0_chk87 v605), ∀ a, (k0_off87 v605) a + S1x1x128.size a ≤ S1x1024x128.size a := fun v605 k0_hw87 => k0_hw87

def k0_off88 (v612 : BitVec 32) : Fin 3 → Nat :=
  let c0_525 : Index := 0#32
  let v613 : Index := Scalar.indexCast v612
  let c0_526 : Index := 0#32
  ![0, v613.toNat, 0]

def k0_chk88 (v612 : BitVec 32) : Prop :=
  (∀ a, (k0_off88 v612) a + S1x1x128.size a ≤ S1x1024x128.size a)
theorem k0_off88_inb : ∀ (v612 : BitVec 32) (k0_hw88 : k0_chk88 v612), ∀ a, (k0_off88 v612) a + S1x1x128.size a ≤ S1x1024x128.size a := fun v612 k0_hw88 => k0_hw88

def k0_off89 (v619 : BitVec 32) : Fin 3 → Nat :=
  let c0_531 : Index := 0#32
  let v620 : Index := Scalar.indexCast v619
  let c0_532 : Index := 0#32
  ![0, v620.toNat, 0]

def k0_chk89 (v619 : BitVec 32) : Prop :=
  (∀ a, (k0_off89 v619) a + S1x1x128.size a ≤ S1x1024x128.size a)
theorem k0_off89_inb : ∀ (v619 : BitVec 32) (k0_hw89 : k0_chk89 v619), ∀ a, (k0_off89 v619) a + S1x1x128.size a ≤ S1x1024x128.size a := fun v619 k0_hw89 => k0_hw89

def k0_off90 (v626 : BitVec 32) : Fin 3 → Nat :=
  let c0_537 : Index := 0#32
  let v627 : Index := Scalar.indexCast v626
  let c0_538 : Index := 0#32
  ![0, v627.toNat, 0]

def k0_chk90 (v626 : BitVec 32) : Prop :=
  (∀ a, (k0_off90 v626) a + S1x1x128.size a ≤ S1x1024x128.size a)
theorem k0_off90_inb : ∀ (v626 : BitVec 32) (k0_hw90 : k0_chk90 v626), ∀ a, (k0_off90 v626) a + S1x1x128.size a ≤ S1x1024x128.size a := fun v626 k0_hw90 => k0_hw90

def k0_off91 (v633 : BitVec 32) : Fin 3 → Nat :=
  let c0_543 : Index := 0#32
  let v634 : Index := Scalar.indexCast v633
  let c0_544 : Index := 0#32
  ![0, v634.toNat, 0]

def k0_chk91 (v633 : BitVec 32) : Prop :=
  (∀ a, (k0_off91 v633) a + S1x1x128.size a ≤ S1x1024x128.size a)
theorem k0_off91_inb : ∀ (v633 : BitVec 32) (k0_hw91 : k0_chk91 v633), ∀ a, (k0_off91 v633) a + S1x1x128.size a ≤ S1x1024x128.size a := fun v633 k0_hw91 => k0_hw91

def k0_off92 (v640 : BitVec 32) : Fin 3 → Nat :=
  let c0_549 : Index := 0#32
  let v641 : Index := Scalar.indexCast v640
  let c0_550 : Index := 0#32
  ![0, v641.toNat, 0]

def k0_chk92 (v640 : BitVec 32) : Prop :=
  (∀ a, (k0_off92 v640) a + S1x1x128.size a ≤ S1x1024x128.size a)
theorem k0_off92_inb : ∀ (v640 : BitVec 32) (k0_hw92 : k0_chk92 v640), ∀ a, (k0_off92 v640) a + S1x1x128.size a ≤ S1x1024x128.size a := fun v640 k0_hw92 => k0_hw92

def k0_off93 (v647 : BitVec 32) : Fin 3 → Nat :=
  let c0_555 : Index := 0#32
  let v648 : Index := Scalar.indexCast v647
  let c0_556 : Index := 0#32
  ![0, v648.toNat, 0]

def k0_chk93 (v647 : BitVec 32) : Prop :=
  (∀ a, (k0_off93 v647) a + S1x1x128.size a ≤ S1x1024x128.size a)
theorem k0_off93_inb : ∀ (v647 : BitVec 32) (k0_hw93 : k0_chk93 v647), ∀ a, (k0_off93 v647) a + S1x1x128.size a ≤ S1x1024x128.size a := fun v647 k0_hw93 => k0_hw93

def k0_off94 (v654 : BitVec 32) : Fin 3 → Nat :=
  let c0_561 : Index := 0#32
  let v655 : Index := Scalar.indexCast v654
  let c0_562 : Index := 0#32
  ![0, v655.toNat, 0]

def k0_chk94 (v654 : BitVec 32) : Prop :=
  (∀ a, (k0_off94 v654) a + S1x1x128.size a ≤ S1x1024x128.size a)
theorem k0_off94_inb : ∀ (v654 : BitVec 32) (k0_hw94 : k0_chk94 v654), ∀ a, (k0_off94 v654) a + S1x1x128.size a ≤ S1x1024x128.size a := fun v654 k0_hw94 => k0_hw94

def k0_off95 (v661 : BitVec 32) : Fin 3 → Nat :=
  let c0_567 : Index := 0#32
  let v662 : Index := Scalar.indexCast v661
  let c0_568 : Index := 0#32
  ![0, v662.toNat, 0]

def k0_chk95 (v661 : BitVec 32) : Prop :=
  (∀ a, (k0_off95 v661) a + S1x1x128.size a ≤ S1x1024x128.size a)
theorem k0_off95_inb : ∀ (v661 : BitVec 32) (k0_hw95 : k0_chk95 v661), ∀ a, (k0_off95 v661) a + S1x1x128.size a ≤ S1x1024x128.size a := fun v661 k0_hw95 => k0_hw95

def k0_off96 (v668 : BitVec 32) : Fin 3 → Nat :=
  let c0_573 : Index := 0#32
  let v669 : Index := Scalar.indexCast v668
  let c0_574 : Index := 0#32
  ![0, v669.toNat, 0]

def k0_chk96 (v668 : BitVec 32) : Prop :=
  (∀ a, (k0_off96 v668) a + S1x1x128.size a ≤ S1x1024x128.size a)
theorem k0_off96_inb : ∀ (v668 : BitVec 32) (k0_hw96 : k0_chk96 v668), ∀ a, (k0_off96 v668) a + S1x1x128.size a ≤ S1x1024x128.size a := fun v668 k0_hw96 => k0_hw96

def k0_off97 (v675 : BitVec 32) : Fin 3 → Nat :=
  let c0_579 : Index := 0#32
  let v676 : Index := Scalar.indexCast v675
  let c0_580 : Index := 0#32
  ![0, v676.toNat, 0]

def k0_chk97 (v675 : BitVec 32) : Prop :=
  (∀ a, (k0_off97 v675) a + S1x1x128.size a ≤ S1x1024x128.size a)
theorem k0_off97_inb : ∀ (v675 : BitVec 32) (k0_hw97 : k0_chk97 v675), ∀ a, (k0_off97 v675) a + S1x1x128.size a ≤ S1x1024x128.size a := fun v675 k0_hw97 => k0_hw97

def k0_off98 (v682 : BitVec 32) : Fin 3 → Nat :=
  let c0_585 : Index := 0#32
  let v683 : Index := Scalar.indexCast v682
  let c0_586 : Index := 0#32
  ![0, v683.toNat, 0]

def k0_chk98 (v682 : BitVec 32) : Prop :=
  (∀ a, (k0_off98 v682) a + S1x1x128.size a ≤ S1x1024x128.size a)
theorem k0_off98_inb : ∀ (v682 : BitVec 32) (k0_hw98 : k0_chk98 v682), ∀ a, (k0_off98 v682) a + S1x1x128.size a ≤ S1x1024x128.size a := fun v682 k0_hw98 => k0_hw98

def k0_off99 (v689 : BitVec 32) : Fin 3 → Nat :=
  let c0_591 : Index := 0#32
  let v690 : Index := Scalar.indexCast v689
  let c0_592 : Index := 0#32
  ![0, v690.toNat, 0]

def k0_chk99 (v689 : BitVec 32) : Prop :=
  (∀ a, (k0_off99 v689) a + S1x1x128.size a ≤ S1x1024x128.size a)
theorem k0_off99_inb : ∀ (v689 : BitVec 32) (k0_hw99 : k0_chk99 v689), ∀ a, (k0_off99 v689) a + S1x1x128.size a ≤ S1x1024x128.size a := fun v689 k0_hw99 => k0_hw99

def k0_off100 (v696 : BitVec 32) : Fin 3 → Nat :=
  let c0_597 : Index := 0#32
  let v697 : Index := Scalar.indexCast v696
  let c0_598 : Index := 0#32
  ![0, v697.toNat, 0]

def k0_chk100 (v696 : BitVec 32) : Prop :=
  (∀ a, (k0_off100 v696) a + S1x1x128.size a ≤ S1x1024x128.size a)
theorem k0_off100_inb : ∀ (v696 : BitVec 32) (k0_hw100 : k0_chk100 v696), ∀ a, (k0_off100 v696) a + S1x1x128.size a ≤ S1x1024x128.size a := fun v696 k0_hw100 => k0_hw100

def k0_off101 (v703 : BitVec 32) : Fin 3 → Nat :=
  let c0_603 : Index := 0#32
  let v704 : Index := Scalar.indexCast v703
  let c0_604 : Index := 0#32
  ![0, v704.toNat, 0]

def k0_chk101 (v703 : BitVec 32) : Prop :=
  (∀ a, (k0_off101 v703) a + S1x1x128.size a ≤ S1x1024x128.size a)
theorem k0_off101_inb : ∀ (v703 : BitVec 32) (k0_hw101 : k0_chk101 v703), ∀ a, (k0_off101 v703) a + S1x1x128.size a ≤ S1x1024x128.size a := fun v703 k0_hw101 => k0_hw101

def k0_off102 (v710 : BitVec 32) : Fin 3 → Nat :=
  let c0_609 : Index := 0#32
  let v711 : Index := Scalar.indexCast v710
  let c0_610 : Index := 0#32
  ![0, v711.toNat, 0]

def k0_chk102 (v710 : BitVec 32) : Prop :=
  (∀ a, (k0_off102 v710) a + S1x1x128.size a ≤ S1x1024x128.size a)
theorem k0_off102_inb : ∀ (v710 : BitVec 32) (k0_hw102 : k0_chk102 v710), ∀ a, (k0_off102 v710) a + S1x1x128.size a ≤ S1x1024x128.size a := fun v710 k0_hw102 => k0_hw102

def k0_off103 (v717 : BitVec 32) : Fin 3 → Nat :=
  let c0_615 : Index := 0#32
  let v718 : Index := Scalar.indexCast v717
  let c0_616 : Index := 0#32
  ![0, v718.toNat, 0]

def k0_chk103 (v717 : BitVec 32) : Prop :=
  (∀ a, (k0_off103 v717) a + S1x1x128.size a ≤ S1x1024x128.size a)
theorem k0_off103_inb : ∀ (v717 : BitVec 32) (k0_hw103 : k0_chk103 v717), ∀ a, (k0_off103 v717) a + S1x1x128.size a ≤ S1x1024x128.size a := fun v717 k0_hw103 => k0_hw103

def k0_off104 (v724 : BitVec 32) : Fin 3 → Nat :=
  let c0_621 : Index := 0#32
  let v725 : Index := Scalar.indexCast v724
  let c0_622 : Index := 0#32
  ![0, v725.toNat, 0]

def k0_chk104 (v724 : BitVec 32) : Prop :=
  (∀ a, (k0_off104 v724) a + S1x1x128.size a ≤ S1x1024x128.size a)
theorem k0_off104_inb : ∀ (v724 : BitVec 32) (k0_hw104 : k0_chk104 v724), ∀ a, (k0_off104 v724) a + S1x1x128.size a ≤ S1x1024x128.size a := fun v724 k0_hw104 => k0_hw104

def k0_off105 (v731 : BitVec 32) : Fin 3 → Nat :=
  let c0_627 : Index := 0#32
  let v732 : Index := Scalar.indexCast v731
  let c0_628 : Index := 0#32
  ![0, v732.toNat, 0]

def k0_chk105 (v731 : BitVec 32) : Prop :=
  (∀ a, (k0_off105 v731) a + S1x1x128.size a ≤ S1x1024x128.size a)
theorem k0_off105_inb : ∀ (v731 : BitVec 32) (k0_hw105 : k0_chk105 v731), ∀ a, (k0_off105 v731) a + S1x1x128.size a ≤ S1x1024x128.size a := fun v731 k0_hw105 => k0_hw105

def k0_off106 (v738 : BitVec 32) : Fin 3 → Nat :=
  let c0_633 : Index := 0#32
  let v739 : Index := Scalar.indexCast v738
  let c0_634 : Index := 0#32
  ![0, v739.toNat, 0]

def k0_chk106 (v738 : BitVec 32) : Prop :=
  (∀ a, (k0_off106 v738) a + S1x1x128.size a ≤ S1x1024x128.size a)
theorem k0_off106_inb : ∀ (v738 : BitVec 32) (k0_hw106 : k0_chk106 v738), ∀ a, (k0_off106 v738) a + S1x1x128.size a ≤ S1x1024x128.size a := fun v738 k0_hw106 => k0_hw106

def k0_off107 (v745 : BitVec 32) : Fin 3 → Nat :=
  let c0_639 : Index := 0#32
  let v746 : Index := Scalar.indexCast v745
  let c0_640 : Index := 0#32
  ![0, v746.toNat, 0]

def k0_chk107 (v745 : BitVec 32) : Prop :=
  (∀ a, (k0_off107 v745) a + S1x1x128.size a ≤ S1x1024x128.size a)
theorem k0_off107_inb : ∀ (v745 : BitVec 32) (k0_hw107 : k0_chk107 v745), ∀ a, (k0_off107 v745) a + S1x1x128.size a ≤ S1x1024x128.size a := fun v745 k0_hw107 => k0_hw107

def k0_off108 (v752 : BitVec 32) : Fin 3 → Nat :=
  let c0_645 : Index := 0#32
  let v753 : Index := Scalar.indexCast v752
  let c0_646 : Index := 0#32
  ![0, v753.toNat, 0]

def k0_chk108 (v752 : BitVec 32) : Prop :=
  (∀ a, (k0_off108 v752) a + S1x1x128.size a ≤ S1x1024x128.size a)
theorem k0_off108_inb : ∀ (v752 : BitVec 32) (k0_hw108 : k0_chk108 v752), ∀ a, (k0_off108 v752) a + S1x1x128.size a ≤ S1x1024x128.size a := fun v752 k0_hw108 => k0_hw108

def k0_off109 (v759 : BitVec 32) : Fin 3 → Nat :=
  let c0_651 : Index := 0#32
  let v760 : Index := Scalar.indexCast v759
  let c0_652 : Index := 0#32
  ![0, v760.toNat, 0]

def k0_chk109 (v759 : BitVec 32) : Prop :=
  (∀ a, (k0_off109 v759) a + S1x1x128.size a ≤ S1x1024x128.size a)
theorem k0_off109_inb : ∀ (v759 : BitVec 32) (k0_hw109 : k0_chk109 v759), ∀ a, (k0_off109 v759) a + S1x1x128.size a ≤ S1x1024x128.size a := fun v759 k0_hw109 => k0_hw109

def k0_off110 (v766 : BitVec 32) : Fin 3 → Nat :=
  let c0_657 : Index := 0#32
  let v767 : Index := Scalar.indexCast v766
  let c0_658 : Index := 0#32
  ![0, v767.toNat, 0]

def k0_chk110 (v766 : BitVec 32) : Prop :=
  (∀ a, (k0_off110 v766) a + S1x1x128.size a ≤ S1x1024x128.size a)
theorem k0_off110_inb : ∀ (v766 : BitVec 32) (k0_hw110 : k0_chk110 v766), ∀ a, (k0_off110 v766) a + S1x1x128.size a ≤ S1x1024x128.size a := fun v766 k0_hw110 => k0_hw110

def k0_off111 (v773 : BitVec 32) : Fin 3 → Nat :=
  let c0_663 : Index := 0#32
  let v774 : Index := Scalar.indexCast v773
  let c0_664 : Index := 0#32
  ![0, v774.toNat, 0]

def k0_chk111 (v773 : BitVec 32) : Prop :=
  (∀ a, (k0_off111 v773) a + S1x1x128.size a ≤ S1x1024x128.size a)
theorem k0_off111_inb : ∀ (v773 : BitVec 32) (k0_hw111 : k0_chk111 v773), ∀ a, (k0_off111 v773) a + S1x1x128.size a ≤ S1x1024x128.size a := fun v773 k0_hw111 => k0_hw111

def k0_off112 (v780 : BitVec 32) : Fin 3 → Nat :=
  let c0_669 : Index := 0#32
  let v781 : Index := Scalar.indexCast v780
  let c0_670 : Index := 0#32
  ![0, v781.toNat, 0]

def k0_chk112 (v780 : BitVec 32) : Prop :=
  (∀ a, (k0_off112 v780) a + S1x1x128.size a ≤ S1x1024x128.size a)
theorem k0_off112_inb : ∀ (v780 : BitVec 32) (k0_hw112 : k0_chk112 v780), ∀ a, (k0_off112 v780) a + S1x1x128.size a ≤ S1x1024x128.size a := fun v780 k0_hw112 => k0_hw112

def k0_off113 (v787 : BitVec 32) : Fin 3 → Nat :=
  let c0_675 : Index := 0#32
  let v788 : Index := Scalar.indexCast v787
  let c0_676 : Index := 0#32
  ![0, v788.toNat, 0]

def k0_chk113 (v787 : BitVec 32) : Prop :=
  (∀ a, (k0_off113 v787) a + S1x1x128.size a ≤ S1x1024x128.size a)
theorem k0_off113_inb : ∀ (v787 : BitVec 32) (k0_hw113 : k0_chk113 v787), ∀ a, (k0_off113 v787) a + S1x1x128.size a ≤ S1x1024x128.size a := fun v787 k0_hw113 => k0_hw113

def k0_off114 (v794 : BitVec 32) : Fin 3 → Nat :=
  let c0_681 : Index := 0#32
  let v795 : Index := Scalar.indexCast v794
  let c0_682 : Index := 0#32
  ![0, v795.toNat, 0]

def k0_chk114 (v794 : BitVec 32) : Prop :=
  (∀ a, (k0_off114 v794) a + S1x1x128.size a ≤ S1x1024x128.size a)
theorem k0_off114_inb : ∀ (v794 : BitVec 32) (k0_hw114 : k0_chk114 v794), ∀ a, (k0_off114 v794) a + S1x1x128.size a ≤ S1x1024x128.size a := fun v794 k0_hw114 => k0_hw114

def k0_off115 (v801 : BitVec 32) : Fin 3 → Nat :=
  let c0_687 : Index := 0#32
  let v802 : Index := Scalar.indexCast v801
  let c0_688 : Index := 0#32
  ![0, v802.toNat, 0]

def k0_chk115 (v801 : BitVec 32) : Prop :=
  (∀ a, (k0_off115 v801) a + S1x1x128.size a ≤ S1x1024x128.size a)
theorem k0_off115_inb : ∀ (v801 : BitVec 32) (k0_hw115 : k0_chk115 v801), ∀ a, (k0_off115 v801) a + S1x1x128.size a ≤ S1x1024x128.size a := fun v801 k0_hw115 => k0_hw115

def k0_off116 (v808 : BitVec 32) : Fin 3 → Nat :=
  let c0_693 : Index := 0#32
  let v809 : Index := Scalar.indexCast v808
  let c0_694 : Index := 0#32
  ![0, v809.toNat, 0]

def k0_chk116 (v808 : BitVec 32) : Prop :=
  (∀ a, (k0_off116 v808) a + S1x1x128.size a ≤ S1x1024x128.size a)
theorem k0_off116_inb : ∀ (v808 : BitVec 32) (k0_hw116 : k0_chk116 v808), ∀ a, (k0_off116 v808) a + S1x1x128.size a ≤ S1x1024x128.size a := fun v808 k0_hw116 => k0_hw116

def k0_off117 (v815 : BitVec 32) : Fin 3 → Nat :=
  let c0_699 : Index := 0#32
  let v816 : Index := Scalar.indexCast v815
  let c0_700 : Index := 0#32
  ![0, v816.toNat, 0]

def k0_chk117 (v815 : BitVec 32) : Prop :=
  (∀ a, (k0_off117 v815) a + S1x1x128.size a ≤ S1x1024x128.size a)
theorem k0_off117_inb : ∀ (v815 : BitVec 32) (k0_hw117 : k0_chk117 v815), ∀ a, (k0_off117 v815) a + S1x1x128.size a ≤ S1x1024x128.size a := fun v815 k0_hw117 => k0_hw117

def k0_off118 (v822 : BitVec 32) : Fin 3 → Nat :=
  let c0_705 : Index := 0#32
  let v823 : Index := Scalar.indexCast v822
  let c0_706 : Index := 0#32
  ![0, v823.toNat, 0]

def k0_chk118 (v822 : BitVec 32) : Prop :=
  (∀ a, (k0_off118 v822) a + S1x1x128.size a ≤ S1x1024x128.size a)
theorem k0_off118_inb : ∀ (v822 : BitVec 32) (k0_hw118 : k0_chk118 v822), ∀ a, (k0_off118 v822) a + S1x1x128.size a ≤ S1x1024x128.size a := fun v822 k0_hw118 => k0_hw118

def k0_off119 (v829 : BitVec 32) : Fin 3 → Nat :=
  let c0_711 : Index := 0#32
  let v830 : Index := Scalar.indexCast v829
  let c0_712 : Index := 0#32
  ![0, v830.toNat, 0]

def k0_chk119 (v829 : BitVec 32) : Prop :=
  (∀ a, (k0_off119 v829) a + S1x1x128.size a ≤ S1x1024x128.size a)
theorem k0_off119_inb : ∀ (v829 : BitVec 32) (k0_hw119 : k0_chk119 v829), ∀ a, (k0_off119 v829) a + S1x1x128.size a ≤ S1x1024x128.size a := fun v829 k0_hw119 => k0_hw119

def k0_off120 (v836 : BitVec 32) : Fin 3 → Nat :=
  let c0_717 : Index := 0#32
  let v837 : Index := Scalar.indexCast v836
  let c0_718 : Index := 0#32
  ![0, v837.toNat, 0]

def k0_chk120 (v836 : BitVec 32) : Prop :=
  (∀ a, (k0_off120 v836) a + S1x1x128.size a ≤ S1x1024x128.size a)
theorem k0_off120_inb : ∀ (v836 : BitVec 32) (k0_hw120 : k0_chk120 v836), ∀ a, (k0_off120 v836) a + S1x1x128.size a ≤ S1x1024x128.size a := fun v836 k0_hw120 => k0_hw120

def k0_off121 (v843 : BitVec 32) : Fin 3 → Nat :=
  let c0_723 : Index := 0#32
  let v844 : Index := Scalar.indexCast v843
  let c0_724 : Index := 0#32
  ![0, v844.toNat, 0]

def k0_chk121 (v843 : BitVec 32) : Prop :=
  (∀ a, (k0_off121 v843) a + S1x1x128.size a ≤ S1x1024x128.size a)
theorem k0_off121_inb : ∀ (v843 : BitVec 32) (k0_hw121 : k0_chk121 v843), ∀ a, (k0_off121 v843) a + S1x1x128.size a ≤ S1x1024x128.size a := fun v843 k0_hw121 => k0_hw121

def k0_off122 (v850 : BitVec 32) : Fin 3 → Nat :=
  let c0_729 : Index := 0#32
  let v851 : Index := Scalar.indexCast v850
  let c0_730 : Index := 0#32
  ![0, v851.toNat, 0]

def k0_chk122 (v850 : BitVec 32) : Prop :=
  (∀ a, (k0_off122 v850) a + S1x1x128.size a ≤ S1x1024x128.size a)
theorem k0_off122_inb : ∀ (v850 : BitVec 32) (k0_hw122 : k0_chk122 v850), ∀ a, (k0_off122 v850) a + S1x1x128.size a ≤ S1x1024x128.size a := fun v850 k0_hw122 => k0_hw122

def k0_off123 (v857 : BitVec 32) : Fin 3 → Nat :=
  let c0_735 : Index := 0#32
  let v858 : Index := Scalar.indexCast v857
  let c0_736 : Index := 0#32
  ![0, v858.toNat, 0]

def k0_chk123 (v857 : BitVec 32) : Prop :=
  (∀ a, (k0_off123 v857) a + S1x1x128.size a ≤ S1x1024x128.size a)
theorem k0_off123_inb : ∀ (v857 : BitVec 32) (k0_hw123 : k0_chk123 v857), ∀ a, (k0_off123 v857) a + S1x1x128.size a ≤ S1x1024x128.size a := fun v857 k0_hw123 => k0_hw123

def k0_off124 (v864 : BitVec 32) : Fin 3 → Nat :=
  let c0_741 : Index := 0#32
  let v865 : Index := Scalar.indexCast v864
  let c0_742 : Index := 0#32
  ![0, v865.toNat, 0]

def k0_chk124 (v864 : BitVec 32) : Prop :=
  (∀ a, (k0_off124 v864) a + S1x1x128.size a ≤ S1x1024x128.size a)
theorem k0_off124_inb : ∀ (v864 : BitVec 32) (k0_hw124 : k0_chk124 v864), ∀ a, (k0_off124 v864) a + S1x1x128.size a ≤ S1x1024x128.size a := fun v864 k0_hw124 => k0_hw124

def k0_off125 (v871 : BitVec 32) : Fin 3 → Nat :=
  let c0_747 : Index := 0#32
  let v872 : Index := Scalar.indexCast v871
  let c0_748 : Index := 0#32
  ![0, v872.toNat, 0]

def k0_chk125 (v871 : BitVec 32) : Prop :=
  (∀ a, (k0_off125 v871) a + S1x1x128.size a ≤ S1x1024x128.size a)
theorem k0_off125_inb : ∀ (v871 : BitVec 32) (k0_hw125 : k0_chk125 v871), ∀ a, (k0_off125 v871) a + S1x1x128.size a ≤ S1x1024x128.size a := fun v871 k0_hw125 => k0_hw125

def k0_off126 (v878 : BitVec 32) : Fin 3 → Nat :=
  let c0_753 : Index := 0#32
  let v879 : Index := Scalar.indexCast v878
  let c0_754 : Index := 0#32
  ![0, v879.toNat, 0]

def k0_chk126 (v878 : BitVec 32) : Prop :=
  (∀ a, (k0_off126 v878) a + S1x1x128.size a ≤ S1x1024x128.size a)
theorem k0_off126_inb : ∀ (v878 : BitVec 32) (k0_hw126 : k0_chk126 v878), ∀ a, (k0_off126 v878) a + S1x1x128.size a ≤ S1x1024x128.size a := fun v878 k0_hw126 => k0_hw126

def k0_off127 (v885 : BitVec 32) : Fin 3 → Nat :=
  let c0_759 : Index := 0#32
  let v886 : Index := Scalar.indexCast v885
  let c0_760 : Index := 0#32
  ![0, v886.toNat, 0]

def k0_chk127 (v885 : BitVec 32) : Prop :=
  (∀ a, (k0_off127 v885) a + S1x1x128.size a ≤ S1x1024x128.size a)
theorem k0_off127_inb : ∀ (v885 : BitVec 32) (k0_hw127 : k0_chk127 v885), ∀ a, (k0_off127 v885) a + S1x1x128.size a ≤ S1x1024x128.size a := fun v885 k0_hw127 => k0_hw127

def k0_off128 (v892 : BitVec 32) : Fin 3 → Nat :=
  let c0_765 : Index := 0#32
  let v893 : Index := Scalar.indexCast v892
  let c0_766 : Index := 0#32
  ![0, v893.toNat, 0]

def k0_chk128 (v892 : BitVec 32) : Prop :=
  (∀ a, (k0_off128 v892) a + S1x1x128.size a ≤ S1x1024x128.size a)
theorem k0_off128_inb : ∀ (v892 : BitVec 32) (k0_hw128 : k0_chk128 v892), ∀ a, (k0_off128 v892) a + S1x1x128.size a ≤ S1x1024x128.size a := fun v892 k0_hw128 => k0_hw128

def k0_off129 (v899 : BitVec 32) : Fin 3 → Nat :=
  let c0_771 : Index := 0#32
  let v900 : Index := Scalar.indexCast v899
  let c0_772 : Index := 0#32
  ![0, v900.toNat, 0]

def k0_chk129 (v899 : BitVec 32) : Prop :=
  (∀ a, (k0_off129 v899) a + S1x1x128.size a ≤ S1x1024x128.size a)
theorem k0_off129_inb : ∀ (v899 : BitVec 32) (k0_hw129 : k0_chk129 v899), ∀ a, (k0_off129 v899) a + S1x1x128.size a ≤ S1x1024x128.size a := fun v899 k0_hw129 => k0_hw129

def k0_off130 (v906 : BitVec 32) : Fin 3 → Nat :=
  let c0_777 : Index := 0#32
  let v907 : Index := Scalar.indexCast v906
  let c0_778 : Index := 0#32
  ![0, v907.toNat, 0]

def k0_chk130 (v906 : BitVec 32) : Prop :=
  (∀ a, (k0_off130 v906) a + S1x1x128.size a ≤ S1x1024x128.size a)
theorem k0_off130_inb : ∀ (v906 : BitVec 32) (k0_hw130 : k0_chk130 v906), ∀ a, (k0_off130 v906) a + S1x1x128.size a ≤ S1x1024x128.size a := fun v906 k0_hw130 => k0_hw130

def k0_off131 (v913 : BitVec 32) : Fin 3 → Nat :=
  let c0_783 : Index := 0#32
  let v914 : Index := Scalar.indexCast v913
  let c0_784 : Index := 0#32
  ![0, v914.toNat, 0]

def k0_chk131 (v913 : BitVec 32) : Prop :=
  (∀ a, (k0_off131 v913) a + S1x1x128.size a ≤ S1x1024x128.size a)
theorem k0_off131_inb : ∀ (v913 : BitVec 32) (k0_hw131 : k0_chk131 v913), ∀ a, (k0_off131 v913) a + S1x1x128.size a ≤ S1x1024x128.size a := fun v913 k0_hw131 => k0_hw131

def k0_off132 (v920 : BitVec 32) : Fin 3 → Nat :=
  let c0_789 : Index := 0#32
  let v921 : Index := Scalar.indexCast v920
  let c0_790 : Index := 0#32
  ![0, v921.toNat, 0]

def k0_chk132 (v920 : BitVec 32) : Prop :=
  (∀ a, (k0_off132 v920) a + S1x1x128.size a ≤ S1x1024x128.size a)
theorem k0_off132_inb : ∀ (v920 : BitVec 32) (k0_hw132 : k0_chk132 v920), ∀ a, (k0_off132 v920) a + S1x1x128.size a ≤ S1x1024x128.size a := fun v920 k0_hw132 => k0_hw132

def k0_off133 (v927 : BitVec 32) : Fin 3 → Nat :=
  let c0_795 : Index := 0#32
  let v928 : Index := Scalar.indexCast v927
  let c0_796 : Index := 0#32
  ![0, v928.toNat, 0]

def k0_chk133 (v927 : BitVec 32) : Prop :=
  (∀ a, (k0_off133 v927) a + S1x1x128.size a ≤ S1x1024x128.size a)
theorem k0_off133_inb : ∀ (v927 : BitVec 32) (k0_hw133 : k0_chk133 v927), ∀ a, (k0_off133 v927) a + S1x1x128.size a ≤ S1x1024x128.size a := fun v927 k0_hw133 => k0_hw133

def k0_off134 (v934 : BitVec 32) : Fin 3 → Nat :=
  let c0_801 : Index := 0#32
  let v935 : Index := Scalar.indexCast v934
  let c0_802 : Index := 0#32
  ![0, v935.toNat, 0]

def k0_chk134 (v934 : BitVec 32) : Prop :=
  (∀ a, (k0_off134 v934) a + S1x1x128.size a ≤ S1x1024x128.size a)
theorem k0_off134_inb : ∀ (v934 : BitVec 32) (k0_hw134 : k0_chk134 v934), ∀ a, (k0_off134 v934) a + S1x1x128.size a ≤ S1x1024x128.size a := fun v934 k0_hw134 => k0_hw134

def k0_off135 (v941 : BitVec 32) : Fin 3 → Nat :=
  let c0_807 : Index := 0#32
  let v942 : Index := Scalar.indexCast v941
  let c0_808 : Index := 0#32
  ![0, v942.toNat, 0]

def k0_chk135 (v941 : BitVec 32) : Prop :=
  (∀ a, (k0_off135 v941) a + S1x1x128.size a ≤ S1x1024x128.size a)
theorem k0_off135_inb : ∀ (v941 : BitVec 32) (k0_hw135 : k0_chk135 v941), ∀ a, (k0_off135 v941) a + S1x1x128.size a ≤ S1x1024x128.size a := fun v941 k0_hw135 => k0_hw135

def k0_off136 (v948 : BitVec 32) : Fin 3 → Nat :=
  let c0_813 : Index := 0#32
  let v949 : Index := Scalar.indexCast v948
  let c0_814 : Index := 0#32
  ![0, v949.toNat, 0]

def k0_chk136 (v948 : BitVec 32) : Prop :=
  (∀ a, (k0_off136 v948) a + S1x1x128.size a ≤ S1x1024x128.size a)
theorem k0_off136_inb : ∀ (v948 : BitVec 32) (k0_hw136 : k0_chk136 v948), ∀ a, (k0_off136 v948) a + S1x1x128.size a ≤ S1x1024x128.size a := fun v948 k0_hw136 => k0_hw136

def k0_off137 (v955 : BitVec 32) : Fin 3 → Nat :=
  let c0_819 : Index := 0#32
  let v956 : Index := Scalar.indexCast v955
  let c0_820 : Index := 0#32
  ![0, v956.toNat, 0]

def k0_chk137 (v955 : BitVec 32) : Prop :=
  (∀ a, (k0_off137 v955) a + S1x1x128.size a ≤ S1x1024x128.size a)
theorem k0_off137_inb : ∀ (v955 : BitVec 32) (k0_hw137 : k0_chk137 v955), ∀ a, (k0_off137 v955) a + S1x1x128.size a ≤ S1x1024x128.size a := fun v955 k0_hw137 => k0_hw137

def k0_off138 (v962 : BitVec 32) : Fin 3 → Nat :=
  let c0_825 : Index := 0#32
  let v963 : Index := Scalar.indexCast v962
  let c0_826 : Index := 0#32
  ![0, v963.toNat, 0]

def k0_chk138 (v962 : BitVec 32) : Prop :=
  (∀ a, (k0_off138 v962) a + S1x1x128.size a ≤ S1x1024x128.size a)
theorem k0_off138_inb : ∀ (v962 : BitVec 32) (k0_hw138 : k0_chk138 v962), ∀ a, (k0_off138 v962) a + S1x1x128.size a ≤ S1x1024x128.size a := fun v962 k0_hw138 => k0_hw138

def k0_off139 (v969 : BitVec 32) : Fin 3 → Nat :=
  let c0_831 : Index := 0#32
  let v970 : Index := Scalar.indexCast v969
  let c0_832 : Index := 0#32
  ![0, v970.toNat, 0]

def k0_chk139 (v969 : BitVec 32) : Prop :=
  (∀ a, (k0_off139 v969) a + S1x1x128.size a ≤ S1x1024x128.size a)
theorem k0_off139_inb : ∀ (v969 : BitVec 32) (k0_hw139 : k0_chk139 v969), ∀ a, (k0_off139 v969) a + S1x1x128.size a ≤ S1x1024x128.size a := fun v969 k0_hw139 => k0_hw139

def k0_off140 (v976 : BitVec 32) : Fin 3 → Nat :=
  let c0_837 : Index := 0#32
  let v977 : Index := Scalar.indexCast v976
  let c0_838 : Index := 0#32
  ![0, v977.toNat, 0]

def k0_chk140 (v976 : BitVec 32) : Prop :=
  (∀ a, (k0_off140 v976) a + S1x1x128.size a ≤ S1x1024x128.size a)
theorem k0_off140_inb : ∀ (v976 : BitVec 32) (k0_hw140 : k0_chk140 v976), ∀ a, (k0_off140 v976) a + S1x1x128.size a ≤ S1x1024x128.size a := fun v976 k0_hw140 => k0_hw140

def k0_off141 (v983 : BitVec 32) : Fin 3 → Nat :=
  let c0_843 : Index := 0#32
  let v984 : Index := Scalar.indexCast v983
  let c0_844 : Index := 0#32
  ![0, v984.toNat, 0]

def k0_chk141 (v983 : BitVec 32) : Prop :=
  (∀ a, (k0_off141 v983) a + S1x1x128.size a ≤ S1x1024x128.size a)
theorem k0_off141_inb : ∀ (v983 : BitVec 32) (k0_hw141 : k0_chk141 v983), ∀ a, (k0_off141 v983) a + S1x1x128.size a ≤ S1x1024x128.size a := fun v983 k0_hw141 => k0_hw141

def k0_off142 (v990 : BitVec 32) : Fin 3 → Nat :=
  let c0_849 : Index := 0#32
  let v991 : Index := Scalar.indexCast v990
  let c0_850 : Index := 0#32
  ![0, v991.toNat, 0]

def k0_chk142 (v990 : BitVec 32) : Prop :=
  (∀ a, (k0_off142 v990) a + S1x1x128.size a ≤ S1x1024x128.size a)
theorem k0_off142_inb : ∀ (v990 : BitVec 32) (k0_hw142 : k0_chk142 v990), ∀ a, (k0_off142 v990) a + S1x1x128.size a ≤ S1x1024x128.size a := fun v990 k0_hw142 => k0_hw142

def k0_off143 (v997 : BitVec 32) : Fin 3 → Nat :=
  let c0_855 : Index := 0#32
  let v998 : Index := Scalar.indexCast v997
  let c0_856 : Index := 0#32
  ![0, v998.toNat, 0]

def k0_chk143 (v997 : BitVec 32) : Prop :=
  (∀ a, (k0_off143 v997) a + S1x1x128.size a ≤ S1x1024x128.size a)
theorem k0_off143_inb : ∀ (v997 : BitVec 32) (k0_hw143 : k0_chk143 v997), ∀ a, (k0_off143 v997) a + S1x1x128.size a ≤ S1x1024x128.size a := fun v997 k0_hw143 => k0_hw143

def k0_off144 (v1004 : BitVec 32) : Fin 3 → Nat :=
  let c0_861 : Index := 0#32
  let v1005 : Index := Scalar.indexCast v1004
  let c0_862 : Index := 0#32
  ![0, v1005.toNat, 0]

def k0_chk144 (v1004 : BitVec 32) : Prop :=
  (∀ a, (k0_off144 v1004) a + S1x1x128.size a ≤ S1x1024x128.size a)
theorem k0_off144_inb : ∀ (v1004 : BitVec 32) (k0_hw144 : k0_chk144 v1004), ∀ a, (k0_off144 v1004) a + S1x1x128.size a ≤ S1x1024x128.size a := fun v1004 k0_hw144 => k0_hw144

def k0_off145 (v1011 : BitVec 32) : Fin 3 → Nat :=
  let c0_867 : Index := 0#32
  let v1012 : Index := Scalar.indexCast v1011
  let c0_868 : Index := 0#32
  ![0, v1012.toNat, 0]

def k0_chk145 (v1011 : BitVec 32) : Prop :=
  (∀ a, (k0_off145 v1011) a + S1x1x128.size a ≤ S1x1024x128.size a)
theorem k0_off145_inb : ∀ (v1011 : BitVec 32) (k0_hw145 : k0_chk145 v1011), ∀ a, (k0_off145 v1011) a + S1x1x128.size a ≤ S1x1024x128.size a := fun v1011 k0_hw145 => k0_hw145

def k0_off146 (v1018 : BitVec 32) : Fin 3 → Nat :=
  let c0_873 : Index := 0#32
  let v1019 : Index := Scalar.indexCast v1018
  let c0_874 : Index := 0#32
  ![0, v1019.toNat, 0]

def k0_chk146 (v1018 : BitVec 32) : Prop :=
  (∀ a, (k0_off146 v1018) a + S1x1x128.size a ≤ S1x1024x128.size a)
theorem k0_off146_inb : ∀ (v1018 : BitVec 32) (k0_hw146 : k0_chk146 v1018), ∀ a, (k0_off146 v1018) a + S1x1x128.size a ≤ S1x1024x128.size a := fun v1018 k0_hw146 => k0_hw146

def k0_off147 (v1025 : BitVec 32) : Fin 3 → Nat :=
  let c0_879 : Index := 0#32
  let v1026 : Index := Scalar.indexCast v1025
  let c0_880 : Index := 0#32
  ![0, v1026.toNat, 0]

def k0_chk147 (v1025 : BitVec 32) : Prop :=
  (∀ a, (k0_off147 v1025) a + S1x1x128.size a ≤ S1x1024x128.size a)
theorem k0_off147_inb : ∀ (v1025 : BitVec 32) (k0_hw147 : k0_chk147 v1025), ∀ a, (k0_off147 v1025) a + S1x1x128.size a ≤ S1x1024x128.size a := fun v1025 k0_hw147 => k0_hw147

def k0_off148 (v1032 : BitVec 32) : Fin 3 → Nat :=
  let c0_885 : Index := 0#32
  let v1033 : Index := Scalar.indexCast v1032
  let c0_886 : Index := 0#32
  ![0, v1033.toNat, 0]

def k0_chk148 (v1032 : BitVec 32) : Prop :=
  (∀ a, (k0_off148 v1032) a + S1x1x128.size a ≤ S1x1024x128.size a)
theorem k0_off148_inb : ∀ (v1032 : BitVec 32) (k0_hw148 : k0_chk148 v1032), ∀ a, (k0_off148 v1032) a + S1x1x128.size a ≤ S1x1024x128.size a := fun v1032 k0_hw148 => k0_hw148

def k0_off149 (v1039 : BitVec 32) : Fin 3 → Nat :=
  let c0_891 : Index := 0#32
  let v1040 : Index := Scalar.indexCast v1039
  let c0_892 : Index := 0#32
  ![0, v1040.toNat, 0]

def k0_chk149 (v1039 : BitVec 32) : Prop :=
  (∀ a, (k0_off149 v1039) a + S1x1x128.size a ≤ S1x1024x128.size a)
theorem k0_off149_inb : ∀ (v1039 : BitVec 32) (k0_hw149 : k0_chk149 v1039), ∀ a, (k0_off149 v1039) a + S1x1x128.size a ≤ S1x1024x128.size a := fun v1039 k0_hw149 => k0_hw149

def k0_off150 (v1046 : BitVec 32) : Fin 3 → Nat :=
  let c0_897 : Index := 0#32
  let v1047 : Index := Scalar.indexCast v1046
  let c0_898 : Index := 0#32
  ![0, v1047.toNat, 0]

def k0_chk150 (v1046 : BitVec 32) : Prop :=
  (∀ a, (k0_off150 v1046) a + S1x1x128.size a ≤ S1x1024x128.size a)
theorem k0_off150_inb : ∀ (v1046 : BitVec 32) (k0_hw150 : k0_chk150 v1046), ∀ a, (k0_off150 v1046) a + S1x1x128.size a ≤ S1x1024x128.size a := fun v1046 k0_hw150 => k0_hw150

def k0_off151 (v1053 : BitVec 32) : Fin 3 → Nat :=
  let c0_903 : Index := 0#32
  let v1054 : Index := Scalar.indexCast v1053
  let c0_904 : Index := 0#32
  ![0, v1054.toNat, 0]

def k0_chk151 (v1053 : BitVec 32) : Prop :=
  (∀ a, (k0_off151 v1053) a + S1x1x128.size a ≤ S1x1024x128.size a)
theorem k0_off151_inb : ∀ (v1053 : BitVec 32) (k0_hw151 : k0_chk151 v1053), ∀ a, (k0_off151 v1053) a + S1x1x128.size a ≤ S1x1024x128.size a := fun v1053 k0_hw151 => k0_hw151

def k0_off152 (v1060 : BitVec 32) : Fin 3 → Nat :=
  let c0_909 : Index := 0#32
  let v1061 : Index := Scalar.indexCast v1060
  let c0_910 : Index := 0#32
  ![0, v1061.toNat, 0]

def k0_chk152 (v1060 : BitVec 32) : Prop :=
  (∀ a, (k0_off152 v1060) a + S1x1x128.size a ≤ S1x1024x128.size a)
theorem k0_off152_inb : ∀ (v1060 : BitVec 32) (k0_hw152 : k0_chk152 v1060), ∀ a, (k0_off152 v1060) a + S1x1x128.size a ≤ S1x1024x128.size a := fun v1060 k0_hw152 => k0_hw152

def k0_off153 (v1067 : BitVec 32) : Fin 3 → Nat :=
  let c0_915 : Index := 0#32
  let v1068 : Index := Scalar.indexCast v1067
  let c0_916 : Index := 0#32
  ![0, v1068.toNat, 0]

def k0_chk153 (v1067 : BitVec 32) : Prop :=
  (∀ a, (k0_off153 v1067) a + S1x1x128.size a ≤ S1x1024x128.size a)
theorem k0_off153_inb : ∀ (v1067 : BitVec 32) (k0_hw153 : k0_chk153 v1067), ∀ a, (k0_off153 v1067) a + S1x1x128.size a ≤ S1x1024x128.size a := fun v1067 k0_hw153 => k0_hw153

def k0_off154 (v1074 : BitVec 32) : Fin 3 → Nat :=
  let c0_921 : Index := 0#32
  let v1075 : Index := Scalar.indexCast v1074
  let c0_922 : Index := 0#32
  ![0, v1075.toNat, 0]

def k0_chk154 (v1074 : BitVec 32) : Prop :=
  (∀ a, (k0_off154 v1074) a + S1x1x128.size a ≤ S1x1024x128.size a)
theorem k0_off154_inb : ∀ (v1074 : BitVec 32) (k0_hw154 : k0_chk154 v1074), ∀ a, (k0_off154 v1074) a + S1x1x128.size a ≤ S1x1024x128.size a := fun v1074 k0_hw154 => k0_hw154

def k0_off155 (v1081 : BitVec 32) : Fin 3 → Nat :=
  let c0_927 : Index := 0#32
  let v1082 : Index := Scalar.indexCast v1081
  let c0_928 : Index := 0#32
  ![0, v1082.toNat, 0]

def k0_chk155 (v1081 : BitVec 32) : Prop :=
  (∀ a, (k0_off155 v1081) a + S1x1x128.size a ≤ S1x1024x128.size a)
theorem k0_off155_inb : ∀ (v1081 : BitVec 32) (k0_hw155 : k0_chk155 v1081), ∀ a, (k0_off155 v1081) a + S1x1x128.size a ≤ S1x1024x128.size a := fun v1081 k0_hw155 => k0_hw155

def k0_off156 (v1088 : BitVec 32) : Fin 3 → Nat :=
  let c0_933 : Index := 0#32
  let v1089 : Index := Scalar.indexCast v1088
  let c0_934 : Index := 0#32
  ![0, v1089.toNat, 0]

def k0_chk156 (v1088 : BitVec 32) : Prop :=
  (∀ a, (k0_off156 v1088) a + S1x1x128.size a ≤ S1x1024x128.size a)
theorem k0_off156_inb : ∀ (v1088 : BitVec 32) (k0_hw156 : k0_chk156 v1088), ∀ a, (k0_off156 v1088) a + S1x1x128.size a ≤ S1x1024x128.size a := fun v1088 k0_hw156 => k0_hw156

def k0_off157 (v1095 : BitVec 32) : Fin 3 → Nat :=
  let c0_939 : Index := 0#32
  let v1096 : Index := Scalar.indexCast v1095
  let c0_940 : Index := 0#32
  ![0, v1096.toNat, 0]

def k0_chk157 (v1095 : BitVec 32) : Prop :=
  (∀ a, (k0_off157 v1095) a + S1x1x128.size a ≤ S1x1024x128.size a)
theorem k0_off157_inb : ∀ (v1095 : BitVec 32) (k0_hw157 : k0_chk157 v1095), ∀ a, (k0_off157 v1095) a + S1x1x128.size a ≤ S1x1024x128.size a := fun v1095 k0_hw157 => k0_hw157

def k0_off158 (v1102 : BitVec 32) : Fin 3 → Nat :=
  let c0_945 : Index := 0#32
  let v1103 : Index := Scalar.indexCast v1102
  let c0_946 : Index := 0#32
  ![0, v1103.toNat, 0]

def k0_chk158 (v1102 : BitVec 32) : Prop :=
  (∀ a, (k0_off158 v1102) a + S1x1x128.size a ≤ S1x1024x128.size a)
theorem k0_off158_inb : ∀ (v1102 : BitVec 32) (k0_hw158 : k0_chk158 v1102), ∀ a, (k0_off158 v1102) a + S1x1x128.size a ≤ S1x1024x128.size a := fun v1102 k0_hw158 => k0_hw158

def k0_off159 (v1109 : BitVec 32) : Fin 3 → Nat :=
  let c0_951 : Index := 0#32
  let v1110 : Index := Scalar.indexCast v1109
  let c0_952 : Index := 0#32
  ![0, v1110.toNat, 0]

def k0_chk159 (v1109 : BitVec 32) : Prop :=
  (∀ a, (k0_off159 v1109) a + S1x1x128.size a ≤ S1x1024x128.size a)
theorem k0_off159_inb : ∀ (v1109 : BitVec 32) (k0_hw159 : k0_chk159 v1109), ∀ a, (k0_off159 v1109) a + S1x1x128.size a ≤ S1x1024x128.size a := fun v1109 k0_hw159 => k0_hw159

def k0_off160 (v1116 : BitVec 32) : Fin 3 → Nat :=
  let c0_957 : Index := 0#32
  let v1117 : Index := Scalar.indexCast v1116
  let c0_958 : Index := 0#32
  ![0, v1117.toNat, 0]

def k0_chk160 (v1116 : BitVec 32) : Prop :=
  (∀ a, (k0_off160 v1116) a + S1x1x128.size a ≤ S1x1024x128.size a)
theorem k0_off160_inb : ∀ (v1116 : BitVec 32) (k0_hw160 : k0_chk160 v1116), ∀ a, (k0_off160 v1116) a + S1x1x128.size a ≤ S1x1024x128.size a := fun v1116 k0_hw160 => k0_hw160

def k0_off161 (v1123 : BitVec 32) : Fin 3 → Nat :=
  let c0_963 : Index := 0#32
  let v1124 : Index := Scalar.indexCast v1123
  let c0_964 : Index := 0#32
  ![0, v1124.toNat, 0]

def k0_chk161 (v1123 : BitVec 32) : Prop :=
  (∀ a, (k0_off161 v1123) a + S1x1x128.size a ≤ S1x1024x128.size a)
theorem k0_off161_inb : ∀ (v1123 : BitVec 32) (k0_hw161 : k0_chk161 v1123), ∀ a, (k0_off161 v1123) a + S1x1x128.size a ≤ S1x1024x128.size a := fun v1123 k0_hw161 => k0_hw161

def k0_off162 (v1130 : BitVec 32) : Fin 3 → Nat :=
  let c0_969 : Index := 0#32
  let v1131 : Index := Scalar.indexCast v1130
  let c0_970 : Index := 0#32
  ![0, v1131.toNat, 0]

def k0_chk162 (v1130 : BitVec 32) : Prop :=
  (∀ a, (k0_off162 v1130) a + S1x1x128.size a ≤ S1x1024x128.size a)
theorem k0_off162_inb : ∀ (v1130 : BitVec 32) (k0_hw162 : k0_chk162 v1130), ∀ a, (k0_off162 v1130) a + S1x1x128.size a ≤ S1x1024x128.size a := fun v1130 k0_hw162 => k0_hw162

def k0_off163 (v1137 : BitVec 32) : Fin 3 → Nat :=
  let c0_975 : Index := 0#32
  let v1138 : Index := Scalar.indexCast v1137
  let c0_976 : Index := 0#32
  ![0, v1138.toNat, 0]

def k0_chk163 (v1137 : BitVec 32) : Prop :=
  (∀ a, (k0_off163 v1137) a + S1x1x128.size a ≤ S1x1024x128.size a)
theorem k0_off163_inb : ∀ (v1137 : BitVec 32) (k0_hw163 : k0_chk163 v1137), ∀ a, (k0_off163 v1137) a + S1x1x128.size a ≤ S1x1024x128.size a := fun v1137 k0_hw163 => k0_hw163

def k0_off164 (v1144 : BitVec 32) : Fin 3 → Nat :=
  let c0_981 : Index := 0#32
  let v1145 : Index := Scalar.indexCast v1144
  let c0_982 : Index := 0#32
  ![0, v1145.toNat, 0]

def k0_chk164 (v1144 : BitVec 32) : Prop :=
  (∀ a, (k0_off164 v1144) a + S1x1x128.size a ≤ S1x1024x128.size a)
theorem k0_off164_inb : ∀ (v1144 : BitVec 32) (k0_hw164 : k0_chk164 v1144), ∀ a, (k0_off164 v1144) a + S1x1x128.size a ≤ S1x1024x128.size a := fun v1144 k0_hw164 => k0_hw164

def k0_off165 (v1151 : BitVec 32) : Fin 3 → Nat :=
  let c0_987 : Index := 0#32
  let v1152 : Index := Scalar.indexCast v1151
  let c0_988 : Index := 0#32
  ![0, v1152.toNat, 0]

def k0_chk165 (v1151 : BitVec 32) : Prop :=
  (∀ a, (k0_off165 v1151) a + S1x1x128.size a ≤ S1x1024x128.size a)
theorem k0_off165_inb : ∀ (v1151 : BitVec 32) (k0_hw165 : k0_chk165 v1151), ∀ a, (k0_off165 v1151) a + S1x1x128.size a ≤ S1x1024x128.size a := fun v1151 k0_hw165 => k0_hw165

def k0_off166 (v1158 : BitVec 32) : Fin 3 → Nat :=
  let c0_993 : Index := 0#32
  let v1159 : Index := Scalar.indexCast v1158
  let c0_994 : Index := 0#32
  ![0, v1159.toNat, 0]

def k0_chk166 (v1158 : BitVec 32) : Prop :=
  (∀ a, (k0_off166 v1158) a + S1x1x128.size a ≤ S1x1024x128.size a)
theorem k0_off166_inb : ∀ (v1158 : BitVec 32) (k0_hw166 : k0_chk166 v1158), ∀ a, (k0_off166 v1158) a + S1x1x128.size a ≤ S1x1024x128.size a := fun v1158 k0_hw166 => k0_hw166

def k0_off167 (v1165 : BitVec 32) : Fin 3 → Nat :=
  let c0_999 : Index := 0#32
  let v1166 : Index := Scalar.indexCast v1165
  let c0_1000 : Index := 0#32
  ![0, v1166.toNat, 0]

def k0_chk167 (v1165 : BitVec 32) : Prop :=
  (∀ a, (k0_off167 v1165) a + S1x1x128.size a ≤ S1x1024x128.size a)
theorem k0_off167_inb : ∀ (v1165 : BitVec 32) (k0_hw167 : k0_chk167 v1165), ∀ a, (k0_off167 v1165) a + S1x1x128.size a ≤ S1x1024x128.size a := fun v1165 k0_hw167 => k0_hw167

def k0_off168 (v1172 : BitVec 32) : Fin 3 → Nat :=
  let c0_1005 : Index := 0#32
  let v1173 : Index := Scalar.indexCast v1172
  let c0_1006 : Index := 0#32
  ![0, v1173.toNat, 0]

def k0_chk168 (v1172 : BitVec 32) : Prop :=
  (∀ a, (k0_off168 v1172) a + S1x1x128.size a ≤ S1x1024x128.size a)
theorem k0_off168_inb : ∀ (v1172 : BitVec 32) (k0_hw168 : k0_chk168 v1172), ∀ a, (k0_off168 v1172) a + S1x1x128.size a ≤ S1x1024x128.size a := fun v1172 k0_hw168 => k0_hw168

def k0_off169 (v1179 : BitVec 32) : Fin 3 → Nat :=
  let c0_1011 : Index := 0#32
  let v1180 : Index := Scalar.indexCast v1179
  let c0_1012 : Index := 0#32
  ![0, v1180.toNat, 0]

def k0_chk169 (v1179 : BitVec 32) : Prop :=
  (∀ a, (k0_off169 v1179) a + S1x1x128.size a ≤ S1x1024x128.size a)
theorem k0_off169_inb : ∀ (v1179 : BitVec 32) (k0_hw169 : k0_chk169 v1179), ∀ a, (k0_off169 v1179) a + S1x1x128.size a ≤ S1x1024x128.size a := fun v1179 k0_hw169 => k0_hw169

def k0_off170 (v1186 : BitVec 32) : Fin 3 → Nat :=
  let c0_1017 : Index := 0#32
  let v1187 : Index := Scalar.indexCast v1186
  let c0_1018 : Index := 0#32
  ![0, v1187.toNat, 0]

def k0_chk170 (v1186 : BitVec 32) : Prop :=
  (∀ a, (k0_off170 v1186) a + S1x1x128.size a ≤ S1x1024x128.size a)
theorem k0_off170_inb : ∀ (v1186 : BitVec 32) (k0_hw170 : k0_chk170 v1186), ∀ a, (k0_off170 v1186) a + S1x1x128.size a ≤ S1x1024x128.size a := fun v1186 k0_hw170 => k0_hw170

def k0_off171 (v1193 : BitVec 32) : Fin 3 → Nat :=
  let c0_1023 : Index := 0#32
  let v1194 : Index := Scalar.indexCast v1193
  let c0_1024 : Index := 0#32
  ![0, v1194.toNat, 0]

def k0_chk171 (v1193 : BitVec 32) : Prop :=
  (∀ a, (k0_off171 v1193) a + S1x1x128.size a ≤ S1x1024x128.size a)
theorem k0_off171_inb : ∀ (v1193 : BitVec 32) (k0_hw171 : k0_chk171 v1193), ∀ a, (k0_off171 v1193) a + S1x1x128.size a ≤ S1x1024x128.size a := fun v1193 k0_hw171 => k0_hw171

def k0_off172 (v1200 : BitVec 32) : Fin 3 → Nat :=
  let c0_1029 : Index := 0#32
  let v1201 : Index := Scalar.indexCast v1200
  let c0_1030 : Index := 0#32
  ![0, v1201.toNat, 0]

def k0_chk172 (v1200 : BitVec 32) : Prop :=
  (∀ a, (k0_off172 v1200) a + S1x1x128.size a ≤ S1x1024x128.size a)
theorem k0_off172_inb : ∀ (v1200 : BitVec 32) (k0_hw172 : k0_chk172 v1200), ∀ a, (k0_off172 v1200) a + S1x1x128.size a ≤ S1x1024x128.size a := fun v1200 k0_hw172 => k0_hw172

def k0_off173 (v1207 : BitVec 32) : Fin 3 → Nat :=
  let c0_1035 : Index := 0#32
  let v1208 : Index := Scalar.indexCast v1207
  let c0_1036 : Index := 0#32
  ![0, v1208.toNat, 0]

def k0_chk173 (v1207 : BitVec 32) : Prop :=
  (∀ a, (k0_off173 v1207) a + S1x1x128.size a ≤ S1x1024x128.size a)
theorem k0_off173_inb : ∀ (v1207 : BitVec 32) (k0_hw173 : k0_chk173 v1207), ∀ a, (k0_off173 v1207) a + S1x1x128.size a ≤ S1x1024x128.size a := fun v1207 k0_hw173 => k0_hw173

def k0_off174 (v1214 : BitVec 32) : Fin 3 → Nat :=
  let c0_1041 : Index := 0#32
  let v1215 : Index := Scalar.indexCast v1214
  let c0_1042 : Index := 0#32
  ![0, v1215.toNat, 0]

def k0_chk174 (v1214 : BitVec 32) : Prop :=
  (∀ a, (k0_off174 v1214) a + S1x1x128.size a ≤ S1x1024x128.size a)
theorem k0_off174_inb : ∀ (v1214 : BitVec 32) (k0_hw174 : k0_chk174 v1214), ∀ a, (k0_off174 v1214) a + S1x1x128.size a ≤ S1x1024x128.size a := fun v1214 k0_hw174 => k0_hw174

def k0_off175 (v1221 : BitVec 32) : Fin 3 → Nat :=
  let c0_1047 : Index := 0#32
  let v1222 : Index := Scalar.indexCast v1221
  let c0_1048 : Index := 0#32
  ![0, v1222.toNat, 0]

def k0_chk175 (v1221 : BitVec 32) : Prop :=
  (∀ a, (k0_off175 v1221) a + S1x1x128.size a ≤ S1x1024x128.size a)
theorem k0_off175_inb : ∀ (v1221 : BitVec 32) (k0_hw175 : k0_chk175 v1221), ∀ a, (k0_off175 v1221) a + S1x1x128.size a ≤ S1x1024x128.size a := fun v1221 k0_hw175 => k0_hw175

def k0_off176 (v1228 : BitVec 32) : Fin 3 → Nat :=
  let c0_1053 : Index := 0#32
  let v1229 : Index := Scalar.indexCast v1228
  let c0_1054 : Index := 0#32
  ![0, v1229.toNat, 0]

def k0_chk176 (v1228 : BitVec 32) : Prop :=
  (∀ a, (k0_off176 v1228) a + S1x1x128.size a ≤ S1x1024x128.size a)
theorem k0_off176_inb : ∀ (v1228 : BitVec 32) (k0_hw176 : k0_chk176 v1228), ∀ a, (k0_off176 v1228) a + S1x1x128.size a ≤ S1x1024x128.size a := fun v1228 k0_hw176 => k0_hw176

def k0_off177 (v1235 : BitVec 32) : Fin 3 → Nat :=
  let c0_1059 : Index := 0#32
  let v1236 : Index := Scalar.indexCast v1235
  let c0_1060 : Index := 0#32
  ![0, v1236.toNat, 0]

def k0_chk177 (v1235 : BitVec 32) : Prop :=
  (∀ a, (k0_off177 v1235) a + S1x1x128.size a ≤ S1x1024x128.size a)
theorem k0_off177_inb : ∀ (v1235 : BitVec 32) (k0_hw177 : k0_chk177 v1235), ∀ a, (k0_off177 v1235) a + S1x1x128.size a ≤ S1x1024x128.size a := fun v1235 k0_hw177 => k0_hw177

def k0_off178 (v1242 : BitVec 32) : Fin 3 → Nat :=
  let c0_1065 : Index := 0#32
  let v1243 : Index := Scalar.indexCast v1242
  let c0_1066 : Index := 0#32
  ![0, v1243.toNat, 0]

def k0_chk178 (v1242 : BitVec 32) : Prop :=
  (∀ a, (k0_off178 v1242) a + S1x1x128.size a ≤ S1x1024x128.size a)
theorem k0_off178_inb : ∀ (v1242 : BitVec 32) (k0_hw178 : k0_chk178 v1242), ∀ a, (k0_off178 v1242) a + S1x1x128.size a ≤ S1x1024x128.size a := fun v1242 k0_hw178 => k0_hw178

def k0_off179 (v1249 : BitVec 32) : Fin 3 → Nat :=
  let c0_1071 : Index := 0#32
  let v1250 : Index := Scalar.indexCast v1249
  let c0_1072 : Index := 0#32
  ![0, v1250.toNat, 0]

def k0_chk179 (v1249 : BitVec 32) : Prop :=
  (∀ a, (k0_off179 v1249) a + S1x1x128.size a ≤ S1x1024x128.size a)
theorem k0_off179_inb : ∀ (v1249 : BitVec 32) (k0_hw179 : k0_chk179 v1249), ∀ a, (k0_off179 v1249) a + S1x1x128.size a ≤ S1x1024x128.size a := fun v1249 k0_hw179 => k0_hw179

def k0_off180 (v1256 : BitVec 32) : Fin 3 → Nat :=
  let c0_1077 : Index := 0#32
  let v1257 : Index := Scalar.indexCast v1256
  let c0_1078 : Index := 0#32
  ![0, v1257.toNat, 0]

def k0_chk180 (v1256 : BitVec 32) : Prop :=
  (∀ a, (k0_off180 v1256) a + S1x1x128.size a ≤ S1x1024x128.size a)
theorem k0_off180_inb : ∀ (v1256 : BitVec 32) (k0_hw180 : k0_chk180 v1256), ∀ a, (k0_off180 v1256) a + S1x1x128.size a ≤ S1x1024x128.size a := fun v1256 k0_hw180 => k0_hw180

def k0_off181 (v1263 : BitVec 32) : Fin 3 → Nat :=
  let c0_1083 : Index := 0#32
  let v1264 : Index := Scalar.indexCast v1263
  let c0_1084 : Index := 0#32
  ![0, v1264.toNat, 0]

def k0_chk181 (v1263 : BitVec 32) : Prop :=
  (∀ a, (k0_off181 v1263) a + S1x1x128.size a ≤ S1x1024x128.size a)
theorem k0_off181_inb : ∀ (v1263 : BitVec 32) (k0_hw181 : k0_chk181 v1263), ∀ a, (k0_off181 v1263) a + S1x1x128.size a ≤ S1x1024x128.size a := fun v1263 k0_hw181 => k0_hw181

def k0_off182 (v1270 : BitVec 32) : Fin 3 → Nat :=
  let c0_1089 : Index := 0#32
  let v1271 : Index := Scalar.indexCast v1270
  let c0_1090 : Index := 0#32
  ![0, v1271.toNat, 0]

def k0_chk182 (v1270 : BitVec 32) : Prop :=
  (∀ a, (k0_off182 v1270) a + S1x1x128.size a ≤ S1x1024x128.size a)
theorem k0_off182_inb : ∀ (v1270 : BitVec 32) (k0_hw182 : k0_chk182 v1270), ∀ a, (k0_off182 v1270) a + S1x1x128.size a ≤ S1x1024x128.size a := fun v1270 k0_hw182 => k0_hw182

def k0_off183 (v1277 : BitVec 32) : Fin 3 → Nat :=
  let c0_1095 : Index := 0#32
  let v1278 : Index := Scalar.indexCast v1277
  let c0_1096 : Index := 0#32
  ![0, v1278.toNat, 0]

def k0_chk183 (v1277 : BitVec 32) : Prop :=
  (∀ a, (k0_off183 v1277) a + S1x1x128.size a ≤ S1x1024x128.size a)
theorem k0_off183_inb : ∀ (v1277 : BitVec 32) (k0_hw183 : k0_chk183 v1277), ∀ a, (k0_off183 v1277) a + S1x1x128.size a ≤ S1x1024x128.size a := fun v1277 k0_hw183 => k0_hw183

def k0_off184 (v1284 : BitVec 32) : Fin 3 → Nat :=
  let c0_1101 : Index := 0#32
  let v1285 : Index := Scalar.indexCast v1284
  let c0_1102 : Index := 0#32
  ![0, v1285.toNat, 0]

def k0_chk184 (v1284 : BitVec 32) : Prop :=
  (∀ a, (k0_off184 v1284) a + S1x1x128.size a ≤ S1x1024x128.size a)
theorem k0_off184_inb : ∀ (v1284 : BitVec 32) (k0_hw184 : k0_chk184 v1284), ∀ a, (k0_off184 v1284) a + S1x1x128.size a ≤ S1x1024x128.size a := fun v1284 k0_hw184 => k0_hw184

def k0_off185 (v1291 : BitVec 32) : Fin 3 → Nat :=
  let c0_1107 : Index := 0#32
  let v1292 : Index := Scalar.indexCast v1291
  let c0_1108 : Index := 0#32
  ![0, v1292.toNat, 0]

def k0_chk185 (v1291 : BitVec 32) : Prop :=
  (∀ a, (k0_off185 v1291) a + S1x1x128.size a ≤ S1x1024x128.size a)
theorem k0_off185_inb : ∀ (v1291 : BitVec 32) (k0_hw185 : k0_chk185 v1291), ∀ a, (k0_off185 v1291) a + S1x1x128.size a ≤ S1x1024x128.size a := fun v1291 k0_hw185 => k0_hw185

def k0_off186 (v1298 : BitVec 32) : Fin 3 → Nat :=
  let c0_1113 : Index := 0#32
  let v1299 : Index := Scalar.indexCast v1298
  let c0_1114 : Index := 0#32
  ![0, v1299.toNat, 0]

def k0_chk186 (v1298 : BitVec 32) : Prop :=
  (∀ a, (k0_off186 v1298) a + S1x1x128.size a ≤ S1x1024x128.size a)
theorem k0_off186_inb : ∀ (v1298 : BitVec 32) (k0_hw186 : k0_chk186 v1298), ∀ a, (k0_off186 v1298) a + S1x1x128.size a ≤ S1x1024x128.size a := fun v1298 k0_hw186 => k0_hw186

def k0_off187 (v1305 : BitVec 32) : Fin 3 → Nat :=
  let c0_1119 : Index := 0#32
  let v1306 : Index := Scalar.indexCast v1305
  let c0_1120 : Index := 0#32
  ![0, v1306.toNat, 0]

def k0_chk187 (v1305 : BitVec 32) : Prop :=
  (∀ a, (k0_off187 v1305) a + S1x1x128.size a ≤ S1x1024x128.size a)
theorem k0_off187_inb : ∀ (v1305 : BitVec 32) (k0_hw187 : k0_chk187 v1305), ∀ a, (k0_off187 v1305) a + S1x1x128.size a ≤ S1x1024x128.size a := fun v1305 k0_hw187 => k0_hw187

def k0_off188 (v1312 : BitVec 32) : Fin 3 → Nat :=
  let c0_1125 : Index := 0#32
  let v1313 : Index := Scalar.indexCast v1312
  let c0_1126 : Index := 0#32
  ![0, v1313.toNat, 0]

def k0_chk188 (v1312 : BitVec 32) : Prop :=
  (∀ a, (k0_off188 v1312) a + S1x1x128.size a ≤ S1x1024x128.size a)
theorem k0_off188_inb : ∀ (v1312 : BitVec 32) (k0_hw188 : k0_chk188 v1312), ∀ a, (k0_off188 v1312) a + S1x1x128.size a ≤ S1x1024x128.size a := fun v1312 k0_hw188 => k0_hw188

def k0_off189 (v1319 : BitVec 32) : Fin 3 → Nat :=
  let c0_1131 : Index := 0#32
  let v1320 : Index := Scalar.indexCast v1319
  let c0_1132 : Index := 0#32
  ![0, v1320.toNat, 0]

def k0_chk189 (v1319 : BitVec 32) : Prop :=
  (∀ a, (k0_off189 v1319) a + S1x1x128.size a ≤ S1x1024x128.size a)
theorem k0_off189_inb : ∀ (v1319 : BitVec 32) (k0_hw189 : k0_chk189 v1319), ∀ a, (k0_off189 v1319) a + S1x1x128.size a ≤ S1x1024x128.size a := fun v1319 k0_hw189 => k0_hw189

def k0_off190 (v1326 : BitVec 32) : Fin 3 → Nat :=
  let c0_1137 : Index := 0#32
  let v1327 : Index := Scalar.indexCast v1326
  let c0_1138 : Index := 0#32
  ![0, v1327.toNat, 0]

def k0_chk190 (v1326 : BitVec 32) : Prop :=
  (∀ a, (k0_off190 v1326) a + S1x1x128.size a ≤ S1x1024x128.size a)
theorem k0_off190_inb : ∀ (v1326 : BitVec 32) (k0_hw190 : k0_chk190 v1326), ∀ a, (k0_off190 v1326) a + S1x1x128.size a ≤ S1x1024x128.size a := fun v1326 k0_hw190 => k0_hw190

def k0_off191 (v1333 : BitVec 32) : Fin 3 → Nat :=
  let c0_1143 : Index := 0#32
  let v1334 : Index := Scalar.indexCast v1333
  let c0_1144 : Index := 0#32
  ![0, v1334.toNat, 0]

def k0_chk191 (v1333 : BitVec 32) : Prop :=
  (∀ a, (k0_off191 v1333) a + S1x1x128.size a ≤ S1x1024x128.size a)
theorem k0_off191_inb : ∀ (v1333 : BitVec 32) (k0_hw191 : k0_chk191 v1333), ∀ a, (k0_off191 v1333) a + S1x1x128.size a ≤ S1x1024x128.size a := fun v1333 k0_hw191 => k0_hw191

def k0_off192 (v1340 : BitVec 32) : Fin 3 → Nat :=
  let c0_1149 : Index := 0#32
  let v1341 : Index := Scalar.indexCast v1340
  let c0_1150 : Index := 0#32
  ![0, v1341.toNat, 0]

def k0_chk192 (v1340 : BitVec 32) : Prop :=
  (∀ a, (k0_off192 v1340) a + S1x1x128.size a ≤ S1x1024x128.size a)
theorem k0_off192_inb : ∀ (v1340 : BitVec 32) (k0_hw192 : k0_chk192 v1340), ∀ a, (k0_off192 v1340) a + S1x1x128.size a ≤ S1x1024x128.size a := fun v1340 k0_hw192 => k0_hw192

def k0_off193 (v1347 : BitVec 32) : Fin 3 → Nat :=
  let c0_1155 : Index := 0#32
  let v1348 : Index := Scalar.indexCast v1347
  let c0_1156 : Index := 0#32
  ![0, v1348.toNat, 0]

def k0_chk193 (v1347 : BitVec 32) : Prop :=
  (∀ a, (k0_off193 v1347) a + S1x1x128.size a ≤ S1x1024x128.size a)
theorem k0_off193_inb : ∀ (v1347 : BitVec 32) (k0_hw193 : k0_chk193 v1347), ∀ a, (k0_off193 v1347) a + S1x1x128.size a ≤ S1x1024x128.size a := fun v1347 k0_hw193 => k0_hw193

def k0_off194 (v1354 : BitVec 32) : Fin 3 → Nat :=
  let c0_1161 : Index := 0#32
  let v1355 : Index := Scalar.indexCast v1354
  let c0_1162 : Index := 0#32
  ![0, v1355.toNat, 0]

def k0_chk194 (v1354 : BitVec 32) : Prop :=
  (∀ a, (k0_off194 v1354) a + S1x1x128.size a ≤ S1x1024x128.size a)
theorem k0_off194_inb : ∀ (v1354 : BitVec 32) (k0_hw194 : k0_chk194 v1354), ∀ a, (k0_off194 v1354) a + S1x1x128.size a ≤ S1x1024x128.size a := fun v1354 k0_hw194 => k0_hw194

def k0_off195 (v1361 : BitVec 32) : Fin 3 → Nat :=
  let c0_1167 : Index := 0#32
  let v1362 : Index := Scalar.indexCast v1361
  let c0_1168 : Index := 0#32
  ![0, v1362.toNat, 0]

def k0_chk195 (v1361 : BitVec 32) : Prop :=
  (∀ a, (k0_off195 v1361) a + S1x1x128.size a ≤ S1x1024x128.size a)
theorem k0_off195_inb : ∀ (v1361 : BitVec 32) (k0_hw195 : k0_chk195 v1361), ∀ a, (k0_off195 v1361) a + S1x1x128.size a ≤ S1x1024x128.size a := fun v1361 k0_hw195 => k0_hw195

def k0_off196 (v1368 : BitVec 32) : Fin 3 → Nat :=
  let c0_1173 : Index := 0#32
  let v1369 : Index := Scalar.indexCast v1368
  let c0_1174 : Index := 0#32
  ![0, v1369.toNat, 0]

def k0_chk196 (v1368 : BitVec 32) : Prop :=
  (∀ a, (k0_off196 v1368) a + S1x1x128.size a ≤ S1x1024x128.size a)
theorem k0_off196_inb : ∀ (v1368 : BitVec 32) (k0_hw196 : k0_chk196 v1368), ∀ a, (k0_off196 v1368) a + S1x1x128.size a ≤ S1x1024x128.size a := fun v1368 k0_hw196 => k0_hw196

def k0_off197 (v1375 : BitVec 32) : Fin 3 → Nat :=
  let c0_1179 : Index := 0#32
  let v1376 : Index := Scalar.indexCast v1375
  let c0_1180 : Index := 0#32
  ![0, v1376.toNat, 0]

def k0_chk197 (v1375 : BitVec 32) : Prop :=
  (∀ a, (k0_off197 v1375) a + S1x1x128.size a ≤ S1x1024x128.size a)
theorem k0_off197_inb : ∀ (v1375 : BitVec 32) (k0_hw197 : k0_chk197 v1375), ∀ a, (k0_off197 v1375) a + S1x1x128.size a ≤ S1x1024x128.size a := fun v1375 k0_hw197 => k0_hw197

def k0_off198 (v1382 : BitVec 32) : Fin 3 → Nat :=
  let c0_1185 : Index := 0#32
  let v1383 : Index := Scalar.indexCast v1382
  let c0_1186 : Index := 0#32
  ![0, v1383.toNat, 0]

def k0_chk198 (v1382 : BitVec 32) : Prop :=
  (∀ a, (k0_off198 v1382) a + S1x1x128.size a ≤ S1x1024x128.size a)
theorem k0_off198_inb : ∀ (v1382 : BitVec 32) (k0_hw198 : k0_chk198 v1382), ∀ a, (k0_off198 v1382) a + S1x1x128.size a ≤ S1x1024x128.size a := fun v1382 k0_hw198 => k0_hw198

def k0_off199 (v1389 : BitVec 32) : Fin 3 → Nat :=
  let c0_1191 : Index := 0#32
  let v1390 : Index := Scalar.indexCast v1389
  let c0_1192 : Index := 0#32
  ![0, v1390.toNat, 0]

def k0_chk199 (v1389 : BitVec 32) : Prop :=
  (∀ a, (k0_off199 v1389) a + S1x1x128.size a ≤ S1x1024x128.size a)
theorem k0_off199_inb : ∀ (v1389 : BitVec 32) (k0_hw199 : k0_chk199 v1389), ∀ a, (k0_off199 v1389) a + S1x1x128.size a ≤ S1x1024x128.size a := fun v1389 k0_hw199 => k0_hw199

def k0_off200 (v1396 : BitVec 32) : Fin 3 → Nat :=
  let c0_1197 : Index := 0#32
  let v1397 : Index := Scalar.indexCast v1396
  let c0_1198 : Index := 0#32
  ![0, v1397.toNat, 0]

def k0_chk200 (v1396 : BitVec 32) : Prop :=
  (∀ a, (k0_off200 v1396) a + S1x1x128.size a ≤ S1x1024x128.size a)
theorem k0_off200_inb : ∀ (v1396 : BitVec 32) (k0_hw200 : k0_chk200 v1396), ∀ a, (k0_off200 v1396) a + S1x1x128.size a ≤ S1x1024x128.size a := fun v1396 k0_hw200 => k0_hw200

def k0_off201 (v1403 : BitVec 32) : Fin 3 → Nat :=
  let c0_1203 : Index := 0#32
  let v1404 : Index := Scalar.indexCast v1403
  let c0_1204 : Index := 0#32
  ![0, v1404.toNat, 0]

def k0_chk201 (v1403 : BitVec 32) : Prop :=
  (∀ a, (k0_off201 v1403) a + S1x1x128.size a ≤ S1x1024x128.size a)
theorem k0_off201_inb : ∀ (v1403 : BitVec 32) (k0_hw201 : k0_chk201 v1403), ∀ a, (k0_off201 v1403) a + S1x1x128.size a ≤ S1x1024x128.size a := fun v1403 k0_hw201 => k0_hw201

def k0_off202 (v1410 : BitVec 32) : Fin 3 → Nat :=
  let c0_1209 : Index := 0#32
  let v1411 : Index := Scalar.indexCast v1410
  let c0_1210 : Index := 0#32
  ![0, v1411.toNat, 0]

def k0_chk202 (v1410 : BitVec 32) : Prop :=
  (∀ a, (k0_off202 v1410) a + S1x1x128.size a ≤ S1x1024x128.size a)
theorem k0_off202_inb : ∀ (v1410 : BitVec 32) (k0_hw202 : k0_chk202 v1410), ∀ a, (k0_off202 v1410) a + S1x1x128.size a ≤ S1x1024x128.size a := fun v1410 k0_hw202 => k0_hw202

def k0_off203 (v1417 : BitVec 32) : Fin 3 → Nat :=
  let c0_1215 : Index := 0#32
  let v1418 : Index := Scalar.indexCast v1417
  let c0_1216 : Index := 0#32
  ![0, v1418.toNat, 0]

def k0_chk203 (v1417 : BitVec 32) : Prop :=
  (∀ a, (k0_off203 v1417) a + S1x1x128.size a ≤ S1x1024x128.size a)
theorem k0_off203_inb : ∀ (v1417 : BitVec 32) (k0_hw203 : k0_chk203 v1417), ∀ a, (k0_off203 v1417) a + S1x1x128.size a ≤ S1x1024x128.size a := fun v1417 k0_hw203 => k0_hw203

def k0_off204 (v1424 : BitVec 32) : Fin 3 → Nat :=
  let c0_1221 : Index := 0#32
  let v1425 : Index := Scalar.indexCast v1424
  let c0_1222 : Index := 0#32
  ![0, v1425.toNat, 0]

def k0_chk204 (v1424 : BitVec 32) : Prop :=
  (∀ a, (k0_off204 v1424) a + S1x1x128.size a ≤ S1x1024x128.size a)
theorem k0_off204_inb : ∀ (v1424 : BitVec 32) (k0_hw204 : k0_chk204 v1424), ∀ a, (k0_off204 v1424) a + S1x1x128.size a ≤ S1x1024x128.size a := fun v1424 k0_hw204 => k0_hw204

def k0_off205 (v1431 : BitVec 32) : Fin 3 → Nat :=
  let c0_1227 : Index := 0#32
  let v1432 : Index := Scalar.indexCast v1431
  let c0_1228 : Index := 0#32
  ![0, v1432.toNat, 0]

def k0_chk205 (v1431 : BitVec 32) : Prop :=
  (∀ a, (k0_off205 v1431) a + S1x1x128.size a ≤ S1x1024x128.size a)
theorem k0_off205_inb : ∀ (v1431 : BitVec 32) (k0_hw205 : k0_chk205 v1431), ∀ a, (k0_off205 v1431) a + S1x1x128.size a ≤ S1x1024x128.size a := fun v1431 k0_hw205 => k0_hw205

def k0_off206 (v1438 : BitVec 32) : Fin 3 → Nat :=
  let c0_1233 : Index := 0#32
  let v1439 : Index := Scalar.indexCast v1438
  let c0_1234 : Index := 0#32
  ![0, v1439.toNat, 0]

def k0_chk206 (v1438 : BitVec 32) : Prop :=
  (∀ a, (k0_off206 v1438) a + S1x1x128.size a ≤ S1x1024x128.size a)
theorem k0_off206_inb : ∀ (v1438 : BitVec 32) (k0_hw206 : k0_chk206 v1438), ∀ a, (k0_off206 v1438) a + S1x1x128.size a ≤ S1x1024x128.size a := fun v1438 k0_hw206 => k0_hw206

def k0_off207 (v1445 : BitVec 32) : Fin 3 → Nat :=
  let c0_1239 : Index := 0#32
  let v1446 : Index := Scalar.indexCast v1445
  let c0_1240 : Index := 0#32
  ![0, v1446.toNat, 0]

def k0_chk207 (v1445 : BitVec 32) : Prop :=
  (∀ a, (k0_off207 v1445) a + S1x1x128.size a ≤ S1x1024x128.size a)
theorem k0_off207_inb : ∀ (v1445 : BitVec 32) (k0_hw207 : k0_chk207 v1445), ∀ a, (k0_off207 v1445) a + S1x1x128.size a ≤ S1x1024x128.size a := fun v1445 k0_hw207 => k0_hw207

def k0_off208 (v1452 : BitVec 32) : Fin 3 → Nat :=
  let c0_1245 : Index := 0#32
  let v1453 : Index := Scalar.indexCast v1452
  let c0_1246 : Index := 0#32
  ![0, v1453.toNat, 0]

def k0_chk208 (v1452 : BitVec 32) : Prop :=
  (∀ a, (k0_off208 v1452) a + S1x1x128.size a ≤ S1x1024x128.size a)
theorem k0_off208_inb : ∀ (v1452 : BitVec 32) (k0_hw208 : k0_chk208 v1452), ∀ a, (k0_off208 v1452) a + S1x1x128.size a ≤ S1x1024x128.size a := fun v1452 k0_hw208 => k0_hw208

def k0_off209 (v1459 : BitVec 32) : Fin 3 → Nat :=
  let c0_1251 : Index := 0#32
  let v1460 : Index := Scalar.indexCast v1459
  let c0_1252 : Index := 0#32
  ![0, v1460.toNat, 0]

def k0_chk209 (v1459 : BitVec 32) : Prop :=
  (∀ a, (k0_off209 v1459) a + S1x1x128.size a ≤ S1x1024x128.size a)
theorem k0_off209_inb : ∀ (v1459 : BitVec 32) (k0_hw209 : k0_chk209 v1459), ∀ a, (k0_off209 v1459) a + S1x1x128.size a ≤ S1x1024x128.size a := fun v1459 k0_hw209 => k0_hw209

def k0_off210 (v1466 : BitVec 32) : Fin 3 → Nat :=
  let c0_1257 : Index := 0#32
  let v1467 : Index := Scalar.indexCast v1466
  let c0_1258 : Index := 0#32
  ![0, v1467.toNat, 0]

def k0_chk210 (v1466 : BitVec 32) : Prop :=
  (∀ a, (k0_off210 v1466) a + S1x1x128.size a ≤ S1x1024x128.size a)
theorem k0_off210_inb : ∀ (v1466 : BitVec 32) (k0_hw210 : k0_chk210 v1466), ∀ a, (k0_off210 v1466) a + S1x1x128.size a ≤ S1x1024x128.size a := fun v1466 k0_hw210 => k0_hw210

def k0_off211 (v1473 : BitVec 32) : Fin 3 → Nat :=
  let c0_1263 : Index := 0#32
  let v1474 : Index := Scalar.indexCast v1473
  let c0_1264 : Index := 0#32
  ![0, v1474.toNat, 0]

def k0_chk211 (v1473 : BitVec 32) : Prop :=
  (∀ a, (k0_off211 v1473) a + S1x1x128.size a ≤ S1x1024x128.size a)
theorem k0_off211_inb : ∀ (v1473 : BitVec 32) (k0_hw211 : k0_chk211 v1473), ∀ a, (k0_off211 v1473) a + S1x1x128.size a ≤ S1x1024x128.size a := fun v1473 k0_hw211 => k0_hw211

def k0_off212 (v1480 : BitVec 32) : Fin 3 → Nat :=
  let c0_1269 : Index := 0#32
  let v1481 : Index := Scalar.indexCast v1480
  let c0_1270 : Index := 0#32
  ![0, v1481.toNat, 0]

def k0_chk212 (v1480 : BitVec 32) : Prop :=
  (∀ a, (k0_off212 v1480) a + S1x1x128.size a ≤ S1x1024x128.size a)
theorem k0_off212_inb : ∀ (v1480 : BitVec 32) (k0_hw212 : k0_chk212 v1480), ∀ a, (k0_off212 v1480) a + S1x1x128.size a ≤ S1x1024x128.size a := fun v1480 k0_hw212 => k0_hw212

def k0_off213 (v1487 : BitVec 32) : Fin 3 → Nat :=
  let c0_1275 : Index := 0#32
  let v1488 : Index := Scalar.indexCast v1487
  let c0_1276 : Index := 0#32
  ![0, v1488.toNat, 0]

def k0_chk213 (v1487 : BitVec 32) : Prop :=
  (∀ a, (k0_off213 v1487) a + S1x1x128.size a ≤ S1x1024x128.size a)
theorem k0_off213_inb : ∀ (v1487 : BitVec 32) (k0_hw213 : k0_chk213 v1487), ∀ a, (k0_off213 v1487) a + S1x1x128.size a ≤ S1x1024x128.size a := fun v1487 k0_hw213 => k0_hw213

def k0_off214 (v1494 : BitVec 32) : Fin 3 → Nat :=
  let c0_1281 : Index := 0#32
  let v1495 : Index := Scalar.indexCast v1494
  let c0_1282 : Index := 0#32
  ![0, v1495.toNat, 0]

def k0_chk214 (v1494 : BitVec 32) : Prop :=
  (∀ a, (k0_off214 v1494) a + S1x1x128.size a ≤ S1x1024x128.size a)
theorem k0_off214_inb : ∀ (v1494 : BitVec 32) (k0_hw214 : k0_chk214 v1494), ∀ a, (k0_off214 v1494) a + S1x1x128.size a ≤ S1x1024x128.size a := fun v1494 k0_hw214 => k0_hw214

def k0_off215 (v1501 : BitVec 32) : Fin 3 → Nat :=
  let c0_1287 : Index := 0#32
  let v1502 : Index := Scalar.indexCast v1501
  let c0_1288 : Index := 0#32
  ![0, v1502.toNat, 0]

def k0_chk215 (v1501 : BitVec 32) : Prop :=
  (∀ a, (k0_off215 v1501) a + S1x1x128.size a ≤ S1x1024x128.size a)
theorem k0_off215_inb : ∀ (v1501 : BitVec 32) (k0_hw215 : k0_chk215 v1501), ∀ a, (k0_off215 v1501) a + S1x1x128.size a ≤ S1x1024x128.size a := fun v1501 k0_hw215 => k0_hw215

def k0_off216 (v1508 : BitVec 32) : Fin 3 → Nat :=
  let c0_1293 : Index := 0#32
  let v1509 : Index := Scalar.indexCast v1508
  let c0_1294 : Index := 0#32
  ![0, v1509.toNat, 0]

def k0_chk216 (v1508 : BitVec 32) : Prop :=
  (∀ a, (k0_off216 v1508) a + S1x1x128.size a ≤ S1x1024x128.size a)
theorem k0_off216_inb : ∀ (v1508 : BitVec 32) (k0_hw216 : k0_chk216 v1508), ∀ a, (k0_off216 v1508) a + S1x1x128.size a ≤ S1x1024x128.size a := fun v1508 k0_hw216 => k0_hw216

def k0_off217 (v1515 : BitVec 32) : Fin 3 → Nat :=
  let c0_1299 : Index := 0#32
  let v1516 : Index := Scalar.indexCast v1515
  let c0_1300 : Index := 0#32
  ![0, v1516.toNat, 0]

def k0_chk217 (v1515 : BitVec 32) : Prop :=
  (∀ a, (k0_off217 v1515) a + S1x1x128.size a ≤ S1x1024x128.size a)
theorem k0_off217_inb : ∀ (v1515 : BitVec 32) (k0_hw217 : k0_chk217 v1515), ∀ a, (k0_off217 v1515) a + S1x1x128.size a ≤ S1x1024x128.size a := fun v1515 k0_hw217 => k0_hw217

def k0_off218 (v1522 : BitVec 32) : Fin 3 → Nat :=
  let c0_1305 : Index := 0#32
  let v1523 : Index := Scalar.indexCast v1522
  let c0_1306 : Index := 0#32
  ![0, v1523.toNat, 0]

def k0_chk218 (v1522 : BitVec 32) : Prop :=
  (∀ a, (k0_off218 v1522) a + S1x1x128.size a ≤ S1x1024x128.size a)
theorem k0_off218_inb : ∀ (v1522 : BitVec 32) (k0_hw218 : k0_chk218 v1522), ∀ a, (k0_off218 v1522) a + S1x1x128.size a ≤ S1x1024x128.size a := fun v1522 k0_hw218 => k0_hw218

def k0_off219 (v1529 : BitVec 32) : Fin 3 → Nat :=
  let c0_1311 : Index := 0#32
  let v1530 : Index := Scalar.indexCast v1529
  let c0_1312 : Index := 0#32
  ![0, v1530.toNat, 0]

def k0_chk219 (v1529 : BitVec 32) : Prop :=
  (∀ a, (k0_off219 v1529) a + S1x1x128.size a ≤ S1x1024x128.size a)
theorem k0_off219_inb : ∀ (v1529 : BitVec 32) (k0_hw219 : k0_chk219 v1529), ∀ a, (k0_off219 v1529) a + S1x1x128.size a ≤ S1x1024x128.size a := fun v1529 k0_hw219 => k0_hw219

def k0_off220 (v1536 : BitVec 32) : Fin 3 → Nat :=
  let c0_1317 : Index := 0#32
  let v1537 : Index := Scalar.indexCast v1536
  let c0_1318 : Index := 0#32
  ![0, v1537.toNat, 0]

def k0_chk220 (v1536 : BitVec 32) : Prop :=
  (∀ a, (k0_off220 v1536) a + S1x1x128.size a ≤ S1x1024x128.size a)
theorem k0_off220_inb : ∀ (v1536 : BitVec 32) (k0_hw220 : k0_chk220 v1536), ∀ a, (k0_off220 v1536) a + S1x1x128.size a ≤ S1x1024x128.size a := fun v1536 k0_hw220 => k0_hw220

def k0_off221 (v1543 : BitVec 32) : Fin 3 → Nat :=
  let c0_1323 : Index := 0#32
  let v1544 : Index := Scalar.indexCast v1543
  let c0_1324 : Index := 0#32
  ![0, v1544.toNat, 0]

def k0_chk221 (v1543 : BitVec 32) : Prop :=
  (∀ a, (k0_off221 v1543) a + S1x1x128.size a ≤ S1x1024x128.size a)
theorem k0_off221_inb : ∀ (v1543 : BitVec 32) (k0_hw221 : k0_chk221 v1543), ∀ a, (k0_off221 v1543) a + S1x1x128.size a ≤ S1x1024x128.size a := fun v1543 k0_hw221 => k0_hw221

def k0_off222 (v1550 : BitVec 32) : Fin 3 → Nat :=
  let c0_1329 : Index := 0#32
  let v1551 : Index := Scalar.indexCast v1550
  let c0_1330 : Index := 0#32
  ![0, v1551.toNat, 0]

def k0_chk222 (v1550 : BitVec 32) : Prop :=
  (∀ a, (k0_off222 v1550) a + S1x1x128.size a ≤ S1x1024x128.size a)
theorem k0_off222_inb : ∀ (v1550 : BitVec 32) (k0_hw222 : k0_chk222 v1550), ∀ a, (k0_off222 v1550) a + S1x1x128.size a ≤ S1x1024x128.size a := fun v1550 k0_hw222 => k0_hw222

def k0_off223 (v1557 : BitVec 32) : Fin 3 → Nat :=
  let c0_1335 : Index := 0#32
  let v1558 : Index := Scalar.indexCast v1557
  let c0_1336 : Index := 0#32
  ![0, v1558.toNat, 0]

def k0_chk223 (v1557 : BitVec 32) : Prop :=
  (∀ a, (k0_off223 v1557) a + S1x1x128.size a ≤ S1x1024x128.size a)
theorem k0_off223_inb : ∀ (v1557 : BitVec 32) (k0_hw223 : k0_chk223 v1557), ∀ a, (k0_off223 v1557) a + S1x1x128.size a ≤ S1x1024x128.size a := fun v1557 k0_hw223 => k0_hw223

def k0_off224 (v1564 : BitVec 32) : Fin 3 → Nat :=
  let c0_1341 : Index := 0#32
  let v1565 : Index := Scalar.indexCast v1564
  let c0_1342 : Index := 0#32
  ![0, v1565.toNat, 0]

def k0_chk224 (v1564 : BitVec 32) : Prop :=
  (∀ a, (k0_off224 v1564) a + S1x1x128.size a ≤ S1x1024x128.size a)
theorem k0_off224_inb : ∀ (v1564 : BitVec 32) (k0_hw224 : k0_chk224 v1564), ∀ a, (k0_off224 v1564) a + S1x1x128.size a ≤ S1x1024x128.size a := fun v1564 k0_hw224 => k0_hw224

def k0_off225 (v1571 : BitVec 32) : Fin 3 → Nat :=
  let c0_1347 : Index := 0#32
  let v1572 : Index := Scalar.indexCast v1571
  let c0_1348 : Index := 0#32
  ![0, v1572.toNat, 0]

def k0_chk225 (v1571 : BitVec 32) : Prop :=
  (∀ a, (k0_off225 v1571) a + S1x1x128.size a ≤ S1x1024x128.size a)
theorem k0_off225_inb : ∀ (v1571 : BitVec 32) (k0_hw225 : k0_chk225 v1571), ∀ a, (k0_off225 v1571) a + S1x1x128.size a ≤ S1x1024x128.size a := fun v1571 k0_hw225 => k0_hw225

def k0_off226 (v1578 : BitVec 32) : Fin 3 → Nat :=
  let c0_1353 : Index := 0#32
  let v1579 : Index := Scalar.indexCast v1578
  let c0_1354 : Index := 0#32
  ![0, v1579.toNat, 0]

def k0_chk226 (v1578 : BitVec 32) : Prop :=
  (∀ a, (k0_off226 v1578) a + S1x1x128.size a ≤ S1x1024x128.size a)
theorem k0_off226_inb : ∀ (v1578 : BitVec 32) (k0_hw226 : k0_chk226 v1578), ∀ a, (k0_off226 v1578) a + S1x1x128.size a ≤ S1x1024x128.size a := fun v1578 k0_hw226 => k0_hw226

def k0_off227 (v1585 : BitVec 32) : Fin 3 → Nat :=
  let c0_1359 : Index := 0#32
  let v1586 : Index := Scalar.indexCast v1585
  let c0_1360 : Index := 0#32
  ![0, v1586.toNat, 0]

def k0_chk227 (v1585 : BitVec 32) : Prop :=
  (∀ a, (k0_off227 v1585) a + S1x1x128.size a ≤ S1x1024x128.size a)
theorem k0_off227_inb : ∀ (v1585 : BitVec 32) (k0_hw227 : k0_chk227 v1585), ∀ a, (k0_off227 v1585) a + S1x1x128.size a ≤ S1x1024x128.size a := fun v1585 k0_hw227 => k0_hw227

def k0_off228 (v1592 : BitVec 32) : Fin 3 → Nat :=
  let c0_1365 : Index := 0#32
  let v1593 : Index := Scalar.indexCast v1592
  let c0_1366 : Index := 0#32
  ![0, v1593.toNat, 0]

def k0_chk228 (v1592 : BitVec 32) : Prop :=
  (∀ a, (k0_off228 v1592) a + S1x1x128.size a ≤ S1x1024x128.size a)
theorem k0_off228_inb : ∀ (v1592 : BitVec 32) (k0_hw228 : k0_chk228 v1592), ∀ a, (k0_off228 v1592) a + S1x1x128.size a ≤ S1x1024x128.size a := fun v1592 k0_hw228 => k0_hw228

def k0_off229 (v1599 : BitVec 32) : Fin 3 → Nat :=
  let c0_1371 : Index := 0#32
  let v1600 : Index := Scalar.indexCast v1599
  let c0_1372 : Index := 0#32
  ![0, v1600.toNat, 0]

def k0_chk229 (v1599 : BitVec 32) : Prop :=
  (∀ a, (k0_off229 v1599) a + S1x1x128.size a ≤ S1x1024x128.size a)
theorem k0_off229_inb : ∀ (v1599 : BitVec 32) (k0_hw229 : k0_chk229 v1599), ∀ a, (k0_off229 v1599) a + S1x1x128.size a ≤ S1x1024x128.size a := fun v1599 k0_hw229 => k0_hw229

def k0_off230 (v1606 : BitVec 32) : Fin 3 → Nat :=
  let c0_1377 : Index := 0#32
  let v1607 : Index := Scalar.indexCast v1606
  let c0_1378 : Index := 0#32
  ![0, v1607.toNat, 0]

def k0_chk230 (v1606 : BitVec 32) : Prop :=
  (∀ a, (k0_off230 v1606) a + S1x1x128.size a ≤ S1x1024x128.size a)
theorem k0_off230_inb : ∀ (v1606 : BitVec 32) (k0_hw230 : k0_chk230 v1606), ∀ a, (k0_off230 v1606) a + S1x1x128.size a ≤ S1x1024x128.size a := fun v1606 k0_hw230 => k0_hw230

def k0_off231 (v1613 : BitVec 32) : Fin 3 → Nat :=
  let c0_1383 : Index := 0#32
  let v1614 : Index := Scalar.indexCast v1613
  let c0_1384 : Index := 0#32
  ![0, v1614.toNat, 0]

def k0_chk231 (v1613 : BitVec 32) : Prop :=
  (∀ a, (k0_off231 v1613) a + S1x1x128.size a ≤ S1x1024x128.size a)
theorem k0_off231_inb : ∀ (v1613 : BitVec 32) (k0_hw231 : k0_chk231 v1613), ∀ a, (k0_off231 v1613) a + S1x1x128.size a ≤ S1x1024x128.size a := fun v1613 k0_hw231 => k0_hw231

def k0_off232 (v1620 : BitVec 32) : Fin 3 → Nat :=
  let c0_1389 : Index := 0#32
  let v1621 : Index := Scalar.indexCast v1620
  let c0_1390 : Index := 0#32
  ![0, v1621.toNat, 0]

def k0_chk232 (v1620 : BitVec 32) : Prop :=
  (∀ a, (k0_off232 v1620) a + S1x1x128.size a ≤ S1x1024x128.size a)
theorem k0_off232_inb : ∀ (v1620 : BitVec 32) (k0_hw232 : k0_chk232 v1620), ∀ a, (k0_off232 v1620) a + S1x1x128.size a ≤ S1x1024x128.size a := fun v1620 k0_hw232 => k0_hw232

def k0_off233 (v1627 : BitVec 32) : Fin 3 → Nat :=
  let c0_1395 : Index := 0#32
  let v1628 : Index := Scalar.indexCast v1627
  let c0_1396 : Index := 0#32
  ![0, v1628.toNat, 0]

def k0_chk233 (v1627 : BitVec 32) : Prop :=
  (∀ a, (k0_off233 v1627) a + S1x1x128.size a ≤ S1x1024x128.size a)
theorem k0_off233_inb : ∀ (v1627 : BitVec 32) (k0_hw233 : k0_chk233 v1627), ∀ a, (k0_off233 v1627) a + S1x1x128.size a ≤ S1x1024x128.size a := fun v1627 k0_hw233 => k0_hw233

def k0_off234 (v1634 : BitVec 32) : Fin 3 → Nat :=
  let c0_1401 : Index := 0#32
  let v1635 : Index := Scalar.indexCast v1634
  let c0_1402 : Index := 0#32
  ![0, v1635.toNat, 0]

def k0_chk234 (v1634 : BitVec 32) : Prop :=
  (∀ a, (k0_off234 v1634) a + S1x1x128.size a ≤ S1x1024x128.size a)
theorem k0_off234_inb : ∀ (v1634 : BitVec 32) (k0_hw234 : k0_chk234 v1634), ∀ a, (k0_off234 v1634) a + S1x1x128.size a ≤ S1x1024x128.size a := fun v1634 k0_hw234 => k0_hw234

def k0_off235 (v1641 : BitVec 32) : Fin 3 → Nat :=
  let c0_1407 : Index := 0#32
  let v1642 : Index := Scalar.indexCast v1641
  let c0_1408 : Index := 0#32
  ![0, v1642.toNat, 0]

def k0_chk235 (v1641 : BitVec 32) : Prop :=
  (∀ a, (k0_off235 v1641) a + S1x1x128.size a ≤ S1x1024x128.size a)
theorem k0_off235_inb : ∀ (v1641 : BitVec 32) (k0_hw235 : k0_chk235 v1641), ∀ a, (k0_off235 v1641) a + S1x1x128.size a ≤ S1x1024x128.size a := fun v1641 k0_hw235 => k0_hw235

def k0_off236 (v1648 : BitVec 32) : Fin 3 → Nat :=
  let c0_1413 : Index := 0#32
  let v1649 : Index := Scalar.indexCast v1648
  let c0_1414 : Index := 0#32
  ![0, v1649.toNat, 0]

def k0_chk236 (v1648 : BitVec 32) : Prop :=
  (∀ a, (k0_off236 v1648) a + S1x1x128.size a ≤ S1x1024x128.size a)
theorem k0_off236_inb : ∀ (v1648 : BitVec 32) (k0_hw236 : k0_chk236 v1648), ∀ a, (k0_off236 v1648) a + S1x1x128.size a ≤ S1x1024x128.size a := fun v1648 k0_hw236 => k0_hw236

def k0_off237 (v1655 : BitVec 32) : Fin 3 → Nat :=
  let c0_1419 : Index := 0#32
  let v1656 : Index := Scalar.indexCast v1655
  let c0_1420 : Index := 0#32
  ![0, v1656.toNat, 0]

def k0_chk237 (v1655 : BitVec 32) : Prop :=
  (∀ a, (k0_off237 v1655) a + S1x1x128.size a ≤ S1x1024x128.size a)
theorem k0_off237_inb : ∀ (v1655 : BitVec 32) (k0_hw237 : k0_chk237 v1655), ∀ a, (k0_off237 v1655) a + S1x1x128.size a ≤ S1x1024x128.size a := fun v1655 k0_hw237 => k0_hw237

def k0_off238 (v1662 : BitVec 32) : Fin 3 → Nat :=
  let c0_1425 : Index := 0#32
  let v1663 : Index := Scalar.indexCast v1662
  let c0_1426 : Index := 0#32
  ![0, v1663.toNat, 0]

def k0_chk238 (v1662 : BitVec 32) : Prop :=
  (∀ a, (k0_off238 v1662) a + S1x1x128.size a ≤ S1x1024x128.size a)
theorem k0_off238_inb : ∀ (v1662 : BitVec 32) (k0_hw238 : k0_chk238 v1662), ∀ a, (k0_off238 v1662) a + S1x1x128.size a ≤ S1x1024x128.size a := fun v1662 k0_hw238 => k0_hw238

def k0_off239 (v1669 : BitVec 32) : Fin 3 → Nat :=
  let c0_1431 : Index := 0#32
  let v1670 : Index := Scalar.indexCast v1669
  let c0_1432 : Index := 0#32
  ![0, v1670.toNat, 0]

def k0_chk239 (v1669 : BitVec 32) : Prop :=
  (∀ a, (k0_off239 v1669) a + S1x1x128.size a ≤ S1x1024x128.size a)
theorem k0_off239_inb : ∀ (v1669 : BitVec 32) (k0_hw239 : k0_chk239 v1669), ∀ a, (k0_off239 v1669) a + S1x1x128.size a ≤ S1x1024x128.size a := fun v1669 k0_hw239 => k0_hw239

def k0_off240 (v1676 : BitVec 32) : Fin 3 → Nat :=
  let c0_1437 : Index := 0#32
  let v1677 : Index := Scalar.indexCast v1676
  let c0_1438 : Index := 0#32
  ![0, v1677.toNat, 0]

def k0_chk240 (v1676 : BitVec 32) : Prop :=
  (∀ a, (k0_off240 v1676) a + S1x1x128.size a ≤ S1x1024x128.size a)
theorem k0_off240_inb : ∀ (v1676 : BitVec 32) (k0_hw240 : k0_chk240 v1676), ∀ a, (k0_off240 v1676) a + S1x1x128.size a ≤ S1x1024x128.size a := fun v1676 k0_hw240 => k0_hw240

def k0_off241 (v1683 : BitVec 32) : Fin 3 → Nat :=
  let c0_1443 : Index := 0#32
  let v1684 : Index := Scalar.indexCast v1683
  let c0_1444 : Index := 0#32
  ![0, v1684.toNat, 0]

def k0_chk241 (v1683 : BitVec 32) : Prop :=
  (∀ a, (k0_off241 v1683) a + S1x1x128.size a ≤ S1x1024x128.size a)
theorem k0_off241_inb : ∀ (v1683 : BitVec 32) (k0_hw241 : k0_chk241 v1683), ∀ a, (k0_off241 v1683) a + S1x1x128.size a ≤ S1x1024x128.size a := fun v1683 k0_hw241 => k0_hw241

def k0_off242 (v1690 : BitVec 32) : Fin 3 → Nat :=
  let c0_1449 : Index := 0#32
  let v1691 : Index := Scalar.indexCast v1690
  let c0_1450 : Index := 0#32
  ![0, v1691.toNat, 0]

def k0_chk242 (v1690 : BitVec 32) : Prop :=
  (∀ a, (k0_off242 v1690) a + S1x1x128.size a ≤ S1x1024x128.size a)
theorem k0_off242_inb : ∀ (v1690 : BitVec 32) (k0_hw242 : k0_chk242 v1690), ∀ a, (k0_off242 v1690) a + S1x1x128.size a ≤ S1x1024x128.size a := fun v1690 k0_hw242 => k0_hw242

def k0_off243 (v1697 : BitVec 32) : Fin 3 → Nat :=
  let c0_1455 : Index := 0#32
  let v1698 : Index := Scalar.indexCast v1697
  let c0_1456 : Index := 0#32
  ![0, v1698.toNat, 0]

def k0_chk243 (v1697 : BitVec 32) : Prop :=
  (∀ a, (k0_off243 v1697) a + S1x1x128.size a ≤ S1x1024x128.size a)
theorem k0_off243_inb : ∀ (v1697 : BitVec 32) (k0_hw243 : k0_chk243 v1697), ∀ a, (k0_off243 v1697) a + S1x1x128.size a ≤ S1x1024x128.size a := fun v1697 k0_hw243 => k0_hw243

def k0_off244 (v1704 : BitVec 32) : Fin 3 → Nat :=
  let c0_1461 : Index := 0#32
  let v1705 : Index := Scalar.indexCast v1704
  let c0_1462 : Index := 0#32
  ![0, v1705.toNat, 0]

def k0_chk244 (v1704 : BitVec 32) : Prop :=
  (∀ a, (k0_off244 v1704) a + S1x1x128.size a ≤ S1x1024x128.size a)
theorem k0_off244_inb : ∀ (v1704 : BitVec 32) (k0_hw244 : k0_chk244 v1704), ∀ a, (k0_off244 v1704) a + S1x1x128.size a ≤ S1x1024x128.size a := fun v1704 k0_hw244 => k0_hw244

def k0_off245 (v1711 : BitVec 32) : Fin 3 → Nat :=
  let c0_1467 : Index := 0#32
  let v1712 : Index := Scalar.indexCast v1711
  let c0_1468 : Index := 0#32
  ![0, v1712.toNat, 0]

def k0_chk245 (v1711 : BitVec 32) : Prop :=
  (∀ a, (k0_off245 v1711) a + S1x1x128.size a ≤ S1x1024x128.size a)
theorem k0_off245_inb : ∀ (v1711 : BitVec 32) (k0_hw245 : k0_chk245 v1711), ∀ a, (k0_off245 v1711) a + S1x1x128.size a ≤ S1x1024x128.size a := fun v1711 k0_hw245 => k0_hw245

def k0_off246 (v1718 : BitVec 32) : Fin 3 → Nat :=
  let c0_1473 : Index := 0#32
  let v1719 : Index := Scalar.indexCast v1718
  let c0_1474 : Index := 0#32
  ![0, v1719.toNat, 0]

def k0_chk246 (v1718 : BitVec 32) : Prop :=
  (∀ a, (k0_off246 v1718) a + S1x1x128.size a ≤ S1x1024x128.size a)
theorem k0_off246_inb : ∀ (v1718 : BitVec 32) (k0_hw246 : k0_chk246 v1718), ∀ a, (k0_off246 v1718) a + S1x1x128.size a ≤ S1x1024x128.size a := fun v1718 k0_hw246 => k0_hw246

def k0_off247 (v1725 : BitVec 32) : Fin 3 → Nat :=
  let c0_1479 : Index := 0#32
  let v1726 : Index := Scalar.indexCast v1725
  let c0_1480 : Index := 0#32
  ![0, v1726.toNat, 0]

def k0_chk247 (v1725 : BitVec 32) : Prop :=
  (∀ a, (k0_off247 v1725) a + S1x1x128.size a ≤ S1x1024x128.size a)
theorem k0_off247_inb : ∀ (v1725 : BitVec 32) (k0_hw247 : k0_chk247 v1725), ∀ a, (k0_off247 v1725) a + S1x1x128.size a ≤ S1x1024x128.size a := fun v1725 k0_hw247 => k0_hw247

def k0_off248 (v1732 : BitVec 32) : Fin 3 → Nat :=
  let c0_1485 : Index := 0#32
  let v1733 : Index := Scalar.indexCast v1732
  let c0_1486 : Index := 0#32
  ![0, v1733.toNat, 0]

def k0_chk248 (v1732 : BitVec 32) : Prop :=
  (∀ a, (k0_off248 v1732) a + S1x1x128.size a ≤ S1x1024x128.size a)
theorem k0_off248_inb : ∀ (v1732 : BitVec 32) (k0_hw248 : k0_chk248 v1732), ∀ a, (k0_off248 v1732) a + S1x1x128.size a ≤ S1x1024x128.size a := fun v1732 k0_hw248 => k0_hw248

def k0_off249 (v1739 : BitVec 32) : Fin 3 → Nat :=
  let c0_1491 : Index := 0#32
  let v1740 : Index := Scalar.indexCast v1739
  let c0_1492 : Index := 0#32
  ![0, v1740.toNat, 0]

def k0_chk249 (v1739 : BitVec 32) : Prop :=
  (∀ a, (k0_off249 v1739) a + S1x1x128.size a ≤ S1x1024x128.size a)
theorem k0_off249_inb : ∀ (v1739 : BitVec 32) (k0_hw249 : k0_chk249 v1739), ∀ a, (k0_off249 v1739) a + S1x1x128.size a ≤ S1x1024x128.size a := fun v1739 k0_hw249 => k0_hw249

def k0_off250 (v1746 : BitVec 32) : Fin 3 → Nat :=
  let c0_1497 : Index := 0#32
  let v1747 : Index := Scalar.indexCast v1746
  let c0_1498 : Index := 0#32
  ![0, v1747.toNat, 0]

def k0_chk250 (v1746 : BitVec 32) : Prop :=
  (∀ a, (k0_off250 v1746) a + S1x1x128.size a ≤ S1x1024x128.size a)
theorem k0_off250_inb : ∀ (v1746 : BitVec 32) (k0_hw250 : k0_chk250 v1746), ∀ a, (k0_off250 v1746) a + S1x1x128.size a ≤ S1x1024x128.size a := fun v1746 k0_hw250 => k0_hw250

def k0_off251 (v1753 : BitVec 32) : Fin 3 → Nat :=
  let c0_1503 : Index := 0#32
  let v1754 : Index := Scalar.indexCast v1753
  let c0_1504 : Index := 0#32
  ![0, v1754.toNat, 0]

def k0_chk251 (v1753 : BitVec 32) : Prop :=
  (∀ a, (k0_off251 v1753) a + S1x1x128.size a ≤ S1x1024x128.size a)
theorem k0_off251_inb : ∀ (v1753 : BitVec 32) (k0_hw251 : k0_chk251 v1753), ∀ a, (k0_off251 v1753) a + S1x1x128.size a ≤ S1x1024x128.size a := fun v1753 k0_hw251 => k0_hw251

def k0_off252 (v1760 : BitVec 32) : Fin 3 → Nat :=
  let c0_1509 : Index := 0#32
  let v1761 : Index := Scalar.indexCast v1760
  let c0_1510 : Index := 0#32
  ![0, v1761.toNat, 0]

def k0_chk252 (v1760 : BitVec 32) : Prop :=
  (∀ a, (k0_off252 v1760) a + S1x1x128.size a ≤ S1x1024x128.size a)
theorem k0_off252_inb : ∀ (v1760 : BitVec 32) (k0_hw252 : k0_chk252 v1760), ∀ a, (k0_off252 v1760) a + S1x1x128.size a ≤ S1x1024x128.size a := fun v1760 k0_hw252 => k0_hw252

def k0_off253 (v1767 : BitVec 32) : Fin 3 → Nat :=
  let c0_1515 : Index := 0#32
  let v1768 : Index := Scalar.indexCast v1767
  let c0_1516 : Index := 0#32
  ![0, v1768.toNat, 0]

def k0_chk253 (v1767 : BitVec 32) : Prop :=
  (∀ a, (k0_off253 v1767) a + S1x1x128.size a ≤ S1x1024x128.size a)
theorem k0_off253_inb : ∀ (v1767 : BitVec 32) (k0_hw253 : k0_chk253 v1767), ∀ a, (k0_off253 v1767) a + S1x1x128.size a ≤ S1x1024x128.size a := fun v1767 k0_hw253 => k0_hw253

def k0_off254 (v1774 : BitVec 32) : Fin 3 → Nat :=
  let c0_1521 : Index := 0#32
  let v1775 : Index := Scalar.indexCast v1774
  let c0_1522 : Index := 0#32
  ![0, v1775.toNat, 0]

def k0_chk254 (v1774 : BitVec 32) : Prop :=
  (∀ a, (k0_off254 v1774) a + S1x1x128.size a ≤ S1x1024x128.size a)
theorem k0_off254_inb : ∀ (v1774 : BitVec 32) (k0_hw254 : k0_chk254 v1774), ∀ a, (k0_off254 v1774) a + S1x1x128.size a ≤ S1x1024x128.size a := fun v1774 k0_hw254 => k0_hw254

def k0_off255 (v1781 : BitVec 32) : Fin 3 → Nat :=
  let c0_1527 : Index := 0#32
  let v1782 : Index := Scalar.indexCast v1781
  let c0_1528 : Index := 0#32
  ![0, v1782.toNat, 0]

def k0_chk255 (v1781 : BitVec 32) : Prop :=
  (∀ a, (k0_off255 v1781) a + S1x1x128.size a ≤ S1x1024x128.size a)
theorem k0_off255_inb : ∀ (v1781 : BitVec 32) (k0_hw255 : k0_chk255 v1781), ∀ a, (k0_off255 v1781) a + S1x1x128.size a ≤ S1x1024x128.size a := fun v1781 k0_hw255 => k0_hw255

def k0_off256 (v1788 : BitVec 32) : Fin 3 → Nat :=
  let c0_1533 : Index := 0#32
  let v1789 : Index := Scalar.indexCast v1788
  let c0_1534 : Index := 0#32
  ![0, v1789.toNat, 0]

def k0_chk256 (v1788 : BitVec 32) : Prop :=
  (∀ a, (k0_off256 v1788) a + S1x1x128.size a ≤ S1x1024x128.size a)
theorem k0_off256_inb : ∀ (v1788 : BitVec 32) (k0_hw256 : k0_chk256 v1788), ∀ a, (k0_off256 v1788) a + S1x1x128.size a ≤ S1x1024x128.size a := fun v1788 k0_hw256 => k0_hw256

def k0_off257 (v1795 : BitVec 32) : Fin 3 → Nat :=
  let c0_1539 : Index := 0#32
  let v1796 : Index := Scalar.indexCast v1795
  let c0_1540 : Index := 0#32
  ![0, v1796.toNat, 0]

def k0_chk257 (v1795 : BitVec 32) : Prop :=
  (∀ a, (k0_off257 v1795) a + S1x1x128.size a ≤ S1x1024x128.size a)
theorem k0_off257_inb : ∀ (v1795 : BitVec 32) (k0_hw257 : k0_chk257 v1795), ∀ a, (k0_off257 v1795) a + S1x1x128.size a ≤ S1x1024x128.size a := fun v1795 k0_hw257 => k0_hw257

def k0_off258 (v1802 : BitVec 32) : Fin 3 → Nat :=
  let c0_1545 : Index := 0#32
  let v1803 : Index := Scalar.indexCast v1802
  let c0_1546 : Index := 0#32
  ![0, v1803.toNat, 0]

def k0_chk258 (v1802 : BitVec 32) : Prop :=
  (∀ a, (k0_off258 v1802) a + S1x1x128.size a ≤ S1x1024x128.size a)
theorem k0_off258_inb : ∀ (v1802 : BitVec 32) (k0_hw258 : k0_chk258 v1802), ∀ a, (k0_off258 v1802) a + S1x1x128.size a ≤ S1x1024x128.size a := fun v1802 k0_hw258 => k0_hw258

def k0_off259 (v1809 : BitVec 32) : Fin 3 → Nat :=
  let c0_1551 : Index := 0#32
  let v1810 : Index := Scalar.indexCast v1809
  let c0_1552 : Index := 0#32
  ![0, v1810.toNat, 0]

def k0_chk259 (v1809 : BitVec 32) : Prop :=
  (∀ a, (k0_off259 v1809) a + S1x1x128.size a ≤ S1x1024x128.size a)
theorem k0_off259_inb : ∀ (v1809 : BitVec 32) (k0_hw259 : k0_chk259 v1809), ∀ a, (k0_off259 v1809) a + S1x1x128.size a ≤ S1x1024x128.size a := fun v1809 k0_hw259 => k0_hw259

def k0_off260 (v1816 : BitVec 32) : Fin 3 → Nat :=
  let c0_1557 : Index := 0#32
  let v1817 : Index := Scalar.indexCast v1816
  let c0_1558 : Index := 0#32
  ![0, v1817.toNat, 0]

def k0_chk260 (v1816 : BitVec 32) : Prop :=
  (∀ a, (k0_off260 v1816) a + S1x1x128.size a ≤ S1x1024x128.size a)
theorem k0_off260_inb : ∀ (v1816 : BitVec 32) (k0_hw260 : k0_chk260 v1816), ∀ a, (k0_off260 v1816) a + S1x1x128.size a ≤ S1x1024x128.size a := fun v1816 k0_hw260 => k0_hw260

def k0_off261 (v1823 : BitVec 32) : Fin 3 → Nat :=
  let c0_1563 : Index := 0#32
  let v1824 : Index := Scalar.indexCast v1823
  let c0_1564 : Index := 0#32
  ![0, v1824.toNat, 0]

def k0_chk261 (v1823 : BitVec 32) : Prop :=
  (∀ a, (k0_off261 v1823) a + S1x1x128.size a ≤ S1x1024x128.size a)
theorem k0_off261_inb : ∀ (v1823 : BitVec 32) (k0_hw261 : k0_chk261 v1823), ∀ a, (k0_off261 v1823) a + S1x1x128.size a ≤ S1x1024x128.size a := fun v1823 k0_hw261 => k0_hw261

def k0_off262 (v1830 : BitVec 32) : Fin 3 → Nat :=
  let c0_1569 : Index := 0#32
  let v1831 : Index := Scalar.indexCast v1830
  let c0_1570 : Index := 0#32
  ![0, v1831.toNat, 0]

def k0_chk262 (v1830 : BitVec 32) : Prop :=
  (∀ a, (k0_off262 v1830) a + S1x1x128.size a ≤ S1x1024x128.size a)
theorem k0_off262_inb : ∀ (v1830 : BitVec 32) (k0_hw262 : k0_chk262 v1830), ∀ a, (k0_off262 v1830) a + S1x1x128.size a ≤ S1x1024x128.size a := fun v1830 k0_hw262 => k0_hw262

def k0_off263 (v1837 : BitVec 32) : Fin 3 → Nat :=
  let c0_1575 : Index := 0#32
  let v1838 : Index := Scalar.indexCast v1837
  let c0_1576 : Index := 0#32
  ![0, v1838.toNat, 0]

def k0_chk263 (v1837 : BitVec 32) : Prop :=
  (∀ a, (k0_off263 v1837) a + S1x1x128.size a ≤ S1x1024x128.size a)
theorem k0_off263_inb : ∀ (v1837 : BitVec 32) (k0_hw263 : k0_chk263 v1837), ∀ a, (k0_off263 v1837) a + S1x1x128.size a ≤ S1x1024x128.size a := fun v1837 k0_hw263 => k0_hw263

def k0_off264 (v1844 : BitVec 32) : Fin 3 → Nat :=
  let c0_1581 : Index := 0#32
  let v1845 : Index := Scalar.indexCast v1844
  let c0_1582 : Index := 0#32
  ![0, v1845.toNat, 0]

def k0_chk264 (v1844 : BitVec 32) : Prop :=
  (∀ a, (k0_off264 v1844) a + S1x1x128.size a ≤ S1x1024x128.size a)
theorem k0_off264_inb : ∀ (v1844 : BitVec 32) (k0_hw264 : k0_chk264 v1844), ∀ a, (k0_off264 v1844) a + S1x1x128.size a ≤ S1x1024x128.size a := fun v1844 k0_hw264 => k0_hw264

def k0_off265 (v1851 : BitVec 32) : Fin 3 → Nat :=
  let c0_1587 : Index := 0#32
  let v1852 : Index := Scalar.indexCast v1851
  let c0_1588 : Index := 0#32
  ![0, v1852.toNat, 0]

def k0_chk265 (v1851 : BitVec 32) : Prop :=
  (∀ a, (k0_off265 v1851) a + S1x1x128.size a ≤ S1x1024x128.size a)
theorem k0_off265_inb : ∀ (v1851 : BitVec 32) (k0_hw265 : k0_chk265 v1851), ∀ a, (k0_off265 v1851) a + S1x1x128.size a ≤ S1x1024x128.size a := fun v1851 k0_hw265 => k0_hw265

def k0_off266 (v1858 : BitVec 32) : Fin 3 → Nat :=
  let c0_1593 : Index := 0#32
  let v1859 : Index := Scalar.indexCast v1858
  let c0_1594 : Index := 0#32
  ![0, v1859.toNat, 0]

def k0_chk266 (v1858 : BitVec 32) : Prop :=
  (∀ a, (k0_off266 v1858) a + S1x1x128.size a ≤ S1x1024x128.size a)
theorem k0_off266_inb : ∀ (v1858 : BitVec 32) (k0_hw266 : k0_chk266 v1858), ∀ a, (k0_off266 v1858) a + S1x1x128.size a ≤ S1x1024x128.size a := fun v1858 k0_hw266 => k0_hw266

def k0_off267 (v1865 : BitVec 32) : Fin 3 → Nat :=
  let c0_1599 : Index := 0#32
  let v1866 : Index := Scalar.indexCast v1865
  let c0_1600 : Index := 0#32
  ![0, v1866.toNat, 0]

def k0_chk267 (v1865 : BitVec 32) : Prop :=
  (∀ a, (k0_off267 v1865) a + S1x1x128.size a ≤ S1x1024x128.size a)
theorem k0_off267_inb : ∀ (v1865 : BitVec 32) (k0_hw267 : k0_chk267 v1865), ∀ a, (k0_off267 v1865) a + S1x1x128.size a ≤ S1x1024x128.size a := fun v1865 k0_hw267 => k0_hw267

def k0_off268 (v1872 : BitVec 32) : Fin 3 → Nat :=
  let c0_1605 : Index := 0#32
  let v1873 : Index := Scalar.indexCast v1872
  let c0_1606 : Index := 0#32
  ![0, v1873.toNat, 0]

def k0_chk268 (v1872 : BitVec 32) : Prop :=
  (∀ a, (k0_off268 v1872) a + S1x1x128.size a ≤ S1x1024x128.size a)
theorem k0_off268_inb : ∀ (v1872 : BitVec 32) (k0_hw268 : k0_chk268 v1872), ∀ a, (k0_off268 v1872) a + S1x1x128.size a ≤ S1x1024x128.size a := fun v1872 k0_hw268 => k0_hw268

def k0_off269 (v1879 : BitVec 32) : Fin 3 → Nat :=
  let c0_1611 : Index := 0#32
  let v1880 : Index := Scalar.indexCast v1879
  let c0_1612 : Index := 0#32
  ![0, v1880.toNat, 0]

def k0_chk269 (v1879 : BitVec 32) : Prop :=
  (∀ a, (k0_off269 v1879) a + S1x1x128.size a ≤ S1x1024x128.size a)
theorem k0_off269_inb : ∀ (v1879 : BitVec 32) (k0_hw269 : k0_chk269 v1879), ∀ a, (k0_off269 v1879) a + S1x1x128.size a ≤ S1x1024x128.size a := fun v1879 k0_hw269 => k0_hw269

def k0_off270 (v1886 : BitVec 32) : Fin 3 → Nat :=
  let c0_1617 : Index := 0#32
  let v1887 : Index := Scalar.indexCast v1886
  let c0_1618 : Index := 0#32
  ![0, v1887.toNat, 0]

def k0_chk270 (v1886 : BitVec 32) : Prop :=
  (∀ a, (k0_off270 v1886) a + S1x1x128.size a ≤ S1x1024x128.size a)
theorem k0_off270_inb : ∀ (v1886 : BitVec 32) (k0_hw270 : k0_chk270 v1886), ∀ a, (k0_off270 v1886) a + S1x1x128.size a ≤ S1x1024x128.size a := fun v1886 k0_hw270 => k0_hw270

def k0_off271 (v1893 : BitVec 32) : Fin 3 → Nat :=
  let c0_1623 : Index := 0#32
  let v1894 : Index := Scalar.indexCast v1893
  let c0_1624 : Index := 0#32
  ![0, v1894.toNat, 0]

def k0_chk271 (v1893 : BitVec 32) : Prop :=
  (∀ a, (k0_off271 v1893) a + S1x1x128.size a ≤ S1x1024x128.size a)
theorem k0_off271_inb : ∀ (v1893 : BitVec 32) (k0_hw271 : k0_chk271 v1893), ∀ a, (k0_off271 v1893) a + S1x1x128.size a ≤ S1x1024x128.size a := fun v1893 k0_hw271 => k0_hw271

def k0_off272 (v1900 : BitVec 32) : Fin 3 → Nat :=
  let c0_1629 : Index := 0#32
  let v1901 : Index := Scalar.indexCast v1900
  let c0_1630 : Index := 0#32
  ![0, v1901.toNat, 0]

def k0_chk272 (v1900 : BitVec 32) : Prop :=
  (∀ a, (k0_off272 v1900) a + S1x1x128.size a ≤ S1x1024x128.size a)
theorem k0_off272_inb : ∀ (v1900 : BitVec 32) (k0_hw272 : k0_chk272 v1900), ∀ a, (k0_off272 v1900) a + S1x1x128.size a ≤ S1x1024x128.size a := fun v1900 k0_hw272 => k0_hw272

def k0_off273 (v1907 : BitVec 32) : Fin 3 → Nat :=
  let c0_1635 : Index := 0#32
  let v1908 : Index := Scalar.indexCast v1907
  let c0_1636 : Index := 0#32
  ![0, v1908.toNat, 0]

def k0_chk273 (v1907 : BitVec 32) : Prop :=
  (∀ a, (k0_off273 v1907) a + S1x1x128.size a ≤ S1x1024x128.size a)
theorem k0_off273_inb : ∀ (v1907 : BitVec 32) (k0_hw273 : k0_chk273 v1907), ∀ a, (k0_off273 v1907) a + S1x1x128.size a ≤ S1x1024x128.size a := fun v1907 k0_hw273 => k0_hw273

def k0_off274 (v1914 : BitVec 32) : Fin 3 → Nat :=
  let c0_1641 : Index := 0#32
  let v1915 : Index := Scalar.indexCast v1914
  let c0_1642 : Index := 0#32
  ![0, v1915.toNat, 0]

def k0_chk274 (v1914 : BitVec 32) : Prop :=
  (∀ a, (k0_off274 v1914) a + S1x1x128.size a ≤ S1x1024x128.size a)
theorem k0_off274_inb : ∀ (v1914 : BitVec 32) (k0_hw274 : k0_chk274 v1914), ∀ a, (k0_off274 v1914) a + S1x1x128.size a ≤ S1x1024x128.size a := fun v1914 k0_hw274 => k0_hw274

def k0_off275 (v1921 : BitVec 32) : Fin 3 → Nat :=
  let c0_1647 : Index := 0#32
  let v1922 : Index := Scalar.indexCast v1921
  let c0_1648 : Index := 0#32
  ![0, v1922.toNat, 0]

def k0_chk275 (v1921 : BitVec 32) : Prop :=
  (∀ a, (k0_off275 v1921) a + S1x1x128.size a ≤ S1x1024x128.size a)
theorem k0_off275_inb : ∀ (v1921 : BitVec 32) (k0_hw275 : k0_chk275 v1921), ∀ a, (k0_off275 v1921) a + S1x1x128.size a ≤ S1x1024x128.size a := fun v1921 k0_hw275 => k0_hw275

def k0_off276 (v1928 : BitVec 32) : Fin 3 → Nat :=
  let c0_1653 : Index := 0#32
  let v1929 : Index := Scalar.indexCast v1928
  let c0_1654 : Index := 0#32
  ![0, v1929.toNat, 0]

def k0_chk276 (v1928 : BitVec 32) : Prop :=
  (∀ a, (k0_off276 v1928) a + S1x1x128.size a ≤ S1x1024x128.size a)
theorem k0_off276_inb : ∀ (v1928 : BitVec 32) (k0_hw276 : k0_chk276 v1928), ∀ a, (k0_off276 v1928) a + S1x1x128.size a ≤ S1x1024x128.size a := fun v1928 k0_hw276 => k0_hw276

def k0_off277 (v1935 : BitVec 32) : Fin 3 → Nat :=
  let c0_1659 : Index := 0#32
  let v1936 : Index := Scalar.indexCast v1935
  let c0_1660 : Index := 0#32
  ![0, v1936.toNat, 0]

def k0_chk277 (v1935 : BitVec 32) : Prop :=
  (∀ a, (k0_off277 v1935) a + S1x1x128.size a ≤ S1x1024x128.size a)
theorem k0_off277_inb : ∀ (v1935 : BitVec 32) (k0_hw277 : k0_chk277 v1935), ∀ a, (k0_off277 v1935) a + S1x1x128.size a ≤ S1x1024x128.size a := fun v1935 k0_hw277 => k0_hw277

def k0_off278 (v1942 : BitVec 32) : Fin 3 → Nat :=
  let c0_1665 : Index := 0#32
  let v1943 : Index := Scalar.indexCast v1942
  let c0_1666 : Index := 0#32
  ![0, v1943.toNat, 0]

def k0_chk278 (v1942 : BitVec 32) : Prop :=
  (∀ a, (k0_off278 v1942) a + S1x1x128.size a ≤ S1x1024x128.size a)
theorem k0_off278_inb : ∀ (v1942 : BitVec 32) (k0_hw278 : k0_chk278 v1942), ∀ a, (k0_off278 v1942) a + S1x1x128.size a ≤ S1x1024x128.size a := fun v1942 k0_hw278 => k0_hw278

def k0_off279 (v1949 : BitVec 32) : Fin 3 → Nat :=
  let c0_1671 : Index := 0#32
  let v1950 : Index := Scalar.indexCast v1949
  let c0_1672 : Index := 0#32
  ![0, v1950.toNat, 0]

def k0_chk279 (v1949 : BitVec 32) : Prop :=
  (∀ a, (k0_off279 v1949) a + S1x1x128.size a ≤ S1x1024x128.size a)
theorem k0_off279_inb : ∀ (v1949 : BitVec 32) (k0_hw279 : k0_chk279 v1949), ∀ a, (k0_off279 v1949) a + S1x1x128.size a ≤ S1x1024x128.size a := fun v1949 k0_hw279 => k0_hw279

def k0_off280 (v1956 : BitVec 32) : Fin 3 → Nat :=
  let c0_1677 : Index := 0#32
  let v1957 : Index := Scalar.indexCast v1956
  let c0_1678 : Index := 0#32
  ![0, v1957.toNat, 0]

def k0_chk280 (v1956 : BitVec 32) : Prop :=
  (∀ a, (k0_off280 v1956) a + S1x1x128.size a ≤ S1x1024x128.size a)
theorem k0_off280_inb : ∀ (v1956 : BitVec 32) (k0_hw280 : k0_chk280 v1956), ∀ a, (k0_off280 v1956) a + S1x1x128.size a ≤ S1x1024x128.size a := fun v1956 k0_hw280 => k0_hw280

def k0_off281 (v1963 : BitVec 32) : Fin 3 → Nat :=
  let c0_1683 : Index := 0#32
  let v1964 : Index := Scalar.indexCast v1963
  let c0_1684 : Index := 0#32
  ![0, v1964.toNat, 0]

def k0_chk281 (v1963 : BitVec 32) : Prop :=
  (∀ a, (k0_off281 v1963) a + S1x1x128.size a ≤ S1x1024x128.size a)
theorem k0_off281_inb : ∀ (v1963 : BitVec 32) (k0_hw281 : k0_chk281 v1963), ∀ a, (k0_off281 v1963) a + S1x1x128.size a ≤ S1x1024x128.size a := fun v1963 k0_hw281 => k0_hw281

def k0_off282 (v1970 : BitVec 32) : Fin 3 → Nat :=
  let c0_1689 : Index := 0#32
  let v1971 : Index := Scalar.indexCast v1970
  let c0_1690 : Index := 0#32
  ![0, v1971.toNat, 0]

def k0_chk282 (v1970 : BitVec 32) : Prop :=
  (∀ a, (k0_off282 v1970) a + S1x1x128.size a ≤ S1x1024x128.size a)
theorem k0_off282_inb : ∀ (v1970 : BitVec 32) (k0_hw282 : k0_chk282 v1970), ∀ a, (k0_off282 v1970) a + S1x1x128.size a ≤ S1x1024x128.size a := fun v1970 k0_hw282 => k0_hw282

def k0_off283 (v1977 : BitVec 32) : Fin 3 → Nat :=
  let c0_1695 : Index := 0#32
  let v1978 : Index := Scalar.indexCast v1977
  let c0_1696 : Index := 0#32
  ![0, v1978.toNat, 0]

def k0_chk283 (v1977 : BitVec 32) : Prop :=
  (∀ a, (k0_off283 v1977) a + S1x1x128.size a ≤ S1x1024x128.size a)
theorem k0_off283_inb : ∀ (v1977 : BitVec 32) (k0_hw283 : k0_chk283 v1977), ∀ a, (k0_off283 v1977) a + S1x1x128.size a ≤ S1x1024x128.size a := fun v1977 k0_hw283 => k0_hw283

def k0_off284 (v1984 : BitVec 32) : Fin 3 → Nat :=
  let c0_1701 : Index := 0#32
  let v1985 : Index := Scalar.indexCast v1984
  let c0_1702 : Index := 0#32
  ![0, v1985.toNat, 0]

def k0_chk284 (v1984 : BitVec 32) : Prop :=
  (∀ a, (k0_off284 v1984) a + S1x1x128.size a ≤ S1x1024x128.size a)
theorem k0_off284_inb : ∀ (v1984 : BitVec 32) (k0_hw284 : k0_chk284 v1984), ∀ a, (k0_off284 v1984) a + S1x1x128.size a ≤ S1x1024x128.size a := fun v1984 k0_hw284 => k0_hw284

def k0_off285 (v1991 : BitVec 32) : Fin 3 → Nat :=
  let c0_1707 : Index := 0#32
  let v1992 : Index := Scalar.indexCast v1991
  let c0_1708 : Index := 0#32
  ![0, v1992.toNat, 0]

def k0_chk285 (v1991 : BitVec 32) : Prop :=
  (∀ a, (k0_off285 v1991) a + S1x1x128.size a ≤ S1x1024x128.size a)
theorem k0_off285_inb : ∀ (v1991 : BitVec 32) (k0_hw285 : k0_chk285 v1991), ∀ a, (k0_off285 v1991) a + S1x1x128.size a ≤ S1x1024x128.size a := fun v1991 k0_hw285 => k0_hw285

def k0_off286 (v1998 : BitVec 32) : Fin 3 → Nat :=
  let c0_1713 : Index := 0#32
  let v1999 : Index := Scalar.indexCast v1998
  let c0_1714 : Index := 0#32
  ![0, v1999.toNat, 0]

def k0_chk286 (v1998 : BitVec 32) : Prop :=
  (∀ a, (k0_off286 v1998) a + S1x1x128.size a ≤ S1x1024x128.size a)
theorem k0_off286_inb : ∀ (v1998 : BitVec 32) (k0_hw286 : k0_chk286 v1998), ∀ a, (k0_off286 v1998) a + S1x1x128.size a ≤ S1x1024x128.size a := fun v1998 k0_hw286 => k0_hw286

def k0_off287 (v2005 : BitVec 32) : Fin 3 → Nat :=
  let c0_1719 : Index := 0#32
  let v2006 : Index := Scalar.indexCast v2005
  let c0_1720 : Index := 0#32
  ![0, v2006.toNat, 0]

def k0_chk287 (v2005 : BitVec 32) : Prop :=
  (∀ a, (k0_off287 v2005) a + S1x1x128.size a ≤ S1x1024x128.size a)
theorem k0_off287_inb : ∀ (v2005 : BitVec 32) (k0_hw287 : k0_chk287 v2005), ∀ a, (k0_off287 v2005) a + S1x1x128.size a ≤ S1x1024x128.size a := fun v2005 k0_hw287 => k0_hw287

def k0_off288 (v2012 : BitVec 32) : Fin 3 → Nat :=
  let c0_1725 : Index := 0#32
  let v2013 : Index := Scalar.indexCast v2012
  let c0_1726 : Index := 0#32
  ![0, v2013.toNat, 0]

def k0_chk288 (v2012 : BitVec 32) : Prop :=
  (∀ a, (k0_off288 v2012) a + S1x1x128.size a ≤ S1x1024x128.size a)
theorem k0_off288_inb : ∀ (v2012 : BitVec 32) (k0_hw288 : k0_chk288 v2012), ∀ a, (k0_off288 v2012) a + S1x1x128.size a ≤ S1x1024x128.size a := fun v2012 k0_hw288 => k0_hw288

def k0_off289 (v2019 : BitVec 32) : Fin 3 → Nat :=
  let c0_1731 : Index := 0#32
  let v2020 : Index := Scalar.indexCast v2019
  let c0_1732 : Index := 0#32
  ![0, v2020.toNat, 0]

def k0_chk289 (v2019 : BitVec 32) : Prop :=
  (∀ a, (k0_off289 v2019) a + S1x1x128.size a ≤ S1x1024x128.size a)
theorem k0_off289_inb : ∀ (v2019 : BitVec 32) (k0_hw289 : k0_chk289 v2019), ∀ a, (k0_off289 v2019) a + S1x1x128.size a ≤ S1x1024x128.size a := fun v2019 k0_hw289 => k0_hw289

def k0_off290 (v2026 : BitVec 32) : Fin 3 → Nat :=
  let c0_1737 : Index := 0#32
  let v2027 : Index := Scalar.indexCast v2026
  let c0_1738 : Index := 0#32
  ![0, v2027.toNat, 0]

def k0_chk290 (v2026 : BitVec 32) : Prop :=
  (∀ a, (k0_off290 v2026) a + S1x1x128.size a ≤ S1x1024x128.size a)
theorem k0_off290_inb : ∀ (v2026 : BitVec 32) (k0_hw290 : k0_chk290 v2026), ∀ a, (k0_off290 v2026) a + S1x1x128.size a ≤ S1x1024x128.size a := fun v2026 k0_hw290 => k0_hw290

def k0_off291 (v2033 : BitVec 32) : Fin 3 → Nat :=
  let c0_1743 : Index := 0#32
  let v2034 : Index := Scalar.indexCast v2033
  let c0_1744 : Index := 0#32
  ![0, v2034.toNat, 0]

def k0_chk291 (v2033 : BitVec 32) : Prop :=
  (∀ a, (k0_off291 v2033) a + S1x1x128.size a ≤ S1x1024x128.size a)
theorem k0_off291_inb : ∀ (v2033 : BitVec 32) (k0_hw291 : k0_chk291 v2033), ∀ a, (k0_off291 v2033) a + S1x1x128.size a ≤ S1x1024x128.size a := fun v2033 k0_hw291 => k0_hw291

def k0_off292 (v2040 : BitVec 32) : Fin 3 → Nat :=
  let c0_1749 : Index := 0#32
  let v2041 : Index := Scalar.indexCast v2040
  let c0_1750 : Index := 0#32
  ![0, v2041.toNat, 0]

def k0_chk292 (v2040 : BitVec 32) : Prop :=
  (∀ a, (k0_off292 v2040) a + S1x1x128.size a ≤ S1x1024x128.size a)
theorem k0_off292_inb : ∀ (v2040 : BitVec 32) (k0_hw292 : k0_chk292 v2040), ∀ a, (k0_off292 v2040) a + S1x1x128.size a ≤ S1x1024x128.size a := fun v2040 k0_hw292 => k0_hw292

def k0_off293 (v2047 : BitVec 32) : Fin 3 → Nat :=
  let c0_1755 : Index := 0#32
  let v2048 : Index := Scalar.indexCast v2047
  let c0_1756 : Index := 0#32
  ![0, v2048.toNat, 0]

def k0_chk293 (v2047 : BitVec 32) : Prop :=
  (∀ a, (k0_off293 v2047) a + S1x1x128.size a ≤ S1x1024x128.size a)
theorem k0_off293_inb : ∀ (v2047 : BitVec 32) (k0_hw293 : k0_chk293 v2047), ∀ a, (k0_off293 v2047) a + S1x1x128.size a ≤ S1x1024x128.size a := fun v2047 k0_hw293 => k0_hw293

def k0_off294 (v2054 : BitVec 32) : Fin 3 → Nat :=
  let c0_1761 : Index := 0#32
  let v2055 : Index := Scalar.indexCast v2054
  let c0_1762 : Index := 0#32
  ![0, v2055.toNat, 0]

def k0_chk294 (v2054 : BitVec 32) : Prop :=
  (∀ a, (k0_off294 v2054) a + S1x1x128.size a ≤ S1x1024x128.size a)
theorem k0_off294_inb : ∀ (v2054 : BitVec 32) (k0_hw294 : k0_chk294 v2054), ∀ a, (k0_off294 v2054) a + S1x1x128.size a ≤ S1x1024x128.size a := fun v2054 k0_hw294 => k0_hw294

def k0_off295 (v2061 : BitVec 32) : Fin 3 → Nat :=
  let c0_1767 : Index := 0#32
  let v2062 : Index := Scalar.indexCast v2061
  let c0_1768 : Index := 0#32
  ![0, v2062.toNat, 0]

def k0_chk295 (v2061 : BitVec 32) : Prop :=
  (∀ a, (k0_off295 v2061) a + S1x1x128.size a ≤ S1x1024x128.size a)
theorem k0_off295_inb : ∀ (v2061 : BitVec 32) (k0_hw295 : k0_chk295 v2061), ∀ a, (k0_off295 v2061) a + S1x1x128.size a ≤ S1x1024x128.size a := fun v2061 k0_hw295 => k0_hw295

def k0_off296 (v2068 : BitVec 32) : Fin 3 → Nat :=
  let c0_1773 : Index := 0#32
  let v2069 : Index := Scalar.indexCast v2068
  let c0_1774 : Index := 0#32
  ![0, v2069.toNat, 0]

def k0_chk296 (v2068 : BitVec 32) : Prop :=
  (∀ a, (k0_off296 v2068) a + S1x1x128.size a ≤ S1x1024x128.size a)
theorem k0_off296_inb : ∀ (v2068 : BitVec 32) (k0_hw296 : k0_chk296 v2068), ∀ a, (k0_off296 v2068) a + S1x1x128.size a ≤ S1x1024x128.size a := fun v2068 k0_hw296 => k0_hw296

def k0_off297 (v2075 : BitVec 32) : Fin 3 → Nat :=
  let c0_1779 : Index := 0#32
  let v2076 : Index := Scalar.indexCast v2075
  let c0_1780 : Index := 0#32
  ![0, v2076.toNat, 0]

def k0_chk297 (v2075 : BitVec 32) : Prop :=
  (∀ a, (k0_off297 v2075) a + S1x1x128.size a ≤ S1x1024x128.size a)
theorem k0_off297_inb : ∀ (v2075 : BitVec 32) (k0_hw297 : k0_chk297 v2075), ∀ a, (k0_off297 v2075) a + S1x1x128.size a ≤ S1x1024x128.size a := fun v2075 k0_hw297 => k0_hw297

def k0_off298 (v2082 : BitVec 32) : Fin 3 → Nat :=
  let c0_1785 : Index := 0#32
  let v2083 : Index := Scalar.indexCast v2082
  let c0_1786 : Index := 0#32
  ![0, v2083.toNat, 0]

def k0_chk298 (v2082 : BitVec 32) : Prop :=
  (∀ a, (k0_off298 v2082) a + S1x1x128.size a ≤ S1x1024x128.size a)
theorem k0_off298_inb : ∀ (v2082 : BitVec 32) (k0_hw298 : k0_chk298 v2082), ∀ a, (k0_off298 v2082) a + S1x1x128.size a ≤ S1x1024x128.size a := fun v2082 k0_hw298 => k0_hw298

def k0_off299 (v2089 : BitVec 32) : Fin 3 → Nat :=
  let c0_1791 : Index := 0#32
  let v2090 : Index := Scalar.indexCast v2089
  let c0_1792 : Index := 0#32
  ![0, v2090.toNat, 0]

def k0_chk299 (v2089 : BitVec 32) : Prop :=
  (∀ a, (k0_off299 v2089) a + S1x1x128.size a ≤ S1x1024x128.size a)
theorem k0_off299_inb : ∀ (v2089 : BitVec 32) (k0_hw299 : k0_chk299 v2089), ∀ a, (k0_off299 v2089) a + S1x1x128.size a ≤ S1x1024x128.size a := fun v2089 k0_hw299 => k0_hw299

def k0_off300 (v2096 : BitVec 32) : Fin 3 → Nat :=
  let c0_1797 : Index := 0#32
  let v2097 : Index := Scalar.indexCast v2096
  let c0_1798 : Index := 0#32
  ![0, v2097.toNat, 0]

def k0_chk300 (v2096 : BitVec 32) : Prop :=
  (∀ a, (k0_off300 v2096) a + S1x1x128.size a ≤ S1x1024x128.size a)
theorem k0_off300_inb : ∀ (v2096 : BitVec 32) (k0_hw300 : k0_chk300 v2096), ∀ a, (k0_off300 v2096) a + S1x1x128.size a ≤ S1x1024x128.size a := fun v2096 k0_hw300 => k0_hw300

def k0_off301 (v2103 : BitVec 32) : Fin 3 → Nat :=
  let c0_1803 : Index := 0#32
  let v2104 : Index := Scalar.indexCast v2103
  let c0_1804 : Index := 0#32
  ![0, v2104.toNat, 0]

def k0_chk301 (v2103 : BitVec 32) : Prop :=
  (∀ a, (k0_off301 v2103) a + S1x1x128.size a ≤ S1x1024x128.size a)
theorem k0_off301_inb : ∀ (v2103 : BitVec 32) (k0_hw301 : k0_chk301 v2103), ∀ a, (k0_off301 v2103) a + S1x1x128.size a ≤ S1x1024x128.size a := fun v2103 k0_hw301 => k0_hw301

def k0_off302 (v2110 : BitVec 32) : Fin 3 → Nat :=
  let c0_1809 : Index := 0#32
  let v2111 : Index := Scalar.indexCast v2110
  let c0_1810 : Index := 0#32
  ![0, v2111.toNat, 0]

def k0_chk302 (v2110 : BitVec 32) : Prop :=
  (∀ a, (k0_off302 v2110) a + S1x1x128.size a ≤ S1x1024x128.size a)
theorem k0_off302_inb : ∀ (v2110 : BitVec 32) (k0_hw302 : k0_chk302 v2110), ∀ a, (k0_off302 v2110) a + S1x1x128.size a ≤ S1x1024x128.size a := fun v2110 k0_hw302 => k0_hw302

def k0_off303 (v2117 : BitVec 32) : Fin 3 → Nat :=
  let c0_1815 : Index := 0#32
  let v2118 : Index := Scalar.indexCast v2117
  let c0_1816 : Index := 0#32
  ![0, v2118.toNat, 0]

def k0_chk303 (v2117 : BitVec 32) : Prop :=
  (∀ a, (k0_off303 v2117) a + S1x1x128.size a ≤ S1x1024x128.size a)
theorem k0_off303_inb : ∀ (v2117 : BitVec 32) (k0_hw303 : k0_chk303 v2117), ∀ a, (k0_off303 v2117) a + S1x1x128.size a ≤ S1x1024x128.size a := fun v2117 k0_hw303 => k0_hw303

def k0_off304 (v2124 : BitVec 32) : Fin 3 → Nat :=
  let c0_1821 : Index := 0#32
  let v2125 : Index := Scalar.indexCast v2124
  let c0_1822 : Index := 0#32
  ![0, v2125.toNat, 0]

def k0_chk304 (v2124 : BitVec 32) : Prop :=
  (∀ a, (k0_off304 v2124) a + S1x1x128.size a ≤ S1x1024x128.size a)
theorem k0_off304_inb : ∀ (v2124 : BitVec 32) (k0_hw304 : k0_chk304 v2124), ∀ a, (k0_off304 v2124) a + S1x1x128.size a ≤ S1x1024x128.size a := fun v2124 k0_hw304 => k0_hw304

def k0_off305 (v2131 : BitVec 32) : Fin 3 → Nat :=
  let c0_1827 : Index := 0#32
  let v2132 : Index := Scalar.indexCast v2131
  let c0_1828 : Index := 0#32
  ![0, v2132.toNat, 0]

def k0_chk305 (v2131 : BitVec 32) : Prop :=
  (∀ a, (k0_off305 v2131) a + S1x1x128.size a ≤ S1x1024x128.size a)
theorem k0_off305_inb : ∀ (v2131 : BitVec 32) (k0_hw305 : k0_chk305 v2131), ∀ a, (k0_off305 v2131) a + S1x1x128.size a ≤ S1x1024x128.size a := fun v2131 k0_hw305 => k0_hw305

def k0_off306 (v2138 : BitVec 32) : Fin 3 → Nat :=
  let c0_1833 : Index := 0#32
  let v2139 : Index := Scalar.indexCast v2138
  let c0_1834 : Index := 0#32
  ![0, v2139.toNat, 0]

def k0_chk306 (v2138 : BitVec 32) : Prop :=
  (∀ a, (k0_off306 v2138) a + S1x1x128.size a ≤ S1x1024x128.size a)
theorem k0_off306_inb : ∀ (v2138 : BitVec 32) (k0_hw306 : k0_chk306 v2138), ∀ a, (k0_off306 v2138) a + S1x1x128.size a ≤ S1x1024x128.size a := fun v2138 k0_hw306 => k0_hw306

def k0_off307 (v2145 : BitVec 32) : Fin 3 → Nat :=
  let c0_1839 : Index := 0#32
  let v2146 : Index := Scalar.indexCast v2145
  let c0_1840 : Index := 0#32
  ![0, v2146.toNat, 0]

def k0_chk307 (v2145 : BitVec 32) : Prop :=
  (∀ a, (k0_off307 v2145) a + S1x1x128.size a ≤ S1x1024x128.size a)
theorem k0_off307_inb : ∀ (v2145 : BitVec 32) (k0_hw307 : k0_chk307 v2145), ∀ a, (k0_off307 v2145) a + S1x1x128.size a ≤ S1x1024x128.size a := fun v2145 k0_hw307 => k0_hw307

def k0_off308 (v2152 : BitVec 32) : Fin 3 → Nat :=
  let c0_1845 : Index := 0#32
  let v2153 : Index := Scalar.indexCast v2152
  let c0_1846 : Index := 0#32
  ![0, v2153.toNat, 0]

def k0_chk308 (v2152 : BitVec 32) : Prop :=
  (∀ a, (k0_off308 v2152) a + S1x1x128.size a ≤ S1x1024x128.size a)
theorem k0_off308_inb : ∀ (v2152 : BitVec 32) (k0_hw308 : k0_chk308 v2152), ∀ a, (k0_off308 v2152) a + S1x1x128.size a ≤ S1x1024x128.size a := fun v2152 k0_hw308 => k0_hw308

def k0_off309 (v2159 : BitVec 32) : Fin 3 → Nat :=
  let c0_1851 : Index := 0#32
  let v2160 : Index := Scalar.indexCast v2159
  let c0_1852 : Index := 0#32
  ![0, v2160.toNat, 0]

def k0_chk309 (v2159 : BitVec 32) : Prop :=
  (∀ a, (k0_off309 v2159) a + S1x1x128.size a ≤ S1x1024x128.size a)
theorem k0_off309_inb : ∀ (v2159 : BitVec 32) (k0_hw309 : k0_chk309 v2159), ∀ a, (k0_off309 v2159) a + S1x1x128.size a ≤ S1x1024x128.size a := fun v2159 k0_hw309 => k0_hw309

def k0_off310 (v2166 : BitVec 32) : Fin 3 → Nat :=
  let c0_1857 : Index := 0#32
  let v2167 : Index := Scalar.indexCast v2166
  let c0_1858 : Index := 0#32
  ![0, v2167.toNat, 0]

def k0_chk310 (v2166 : BitVec 32) : Prop :=
  (∀ a, (k0_off310 v2166) a + S1x1x128.size a ≤ S1x1024x128.size a)
theorem k0_off310_inb : ∀ (v2166 : BitVec 32) (k0_hw310 : k0_chk310 v2166), ∀ a, (k0_off310 v2166) a + S1x1x128.size a ≤ S1x1024x128.size a := fun v2166 k0_hw310 => k0_hw310

def k0_off311 (v2173 : BitVec 32) : Fin 3 → Nat :=
  let c0_1863 : Index := 0#32
  let v2174 : Index := Scalar.indexCast v2173
  let c0_1864 : Index := 0#32
  ![0, v2174.toNat, 0]

def k0_chk311 (v2173 : BitVec 32) : Prop :=
  (∀ a, (k0_off311 v2173) a + S1x1x128.size a ≤ S1x1024x128.size a)
theorem k0_off311_inb : ∀ (v2173 : BitVec 32) (k0_hw311 : k0_chk311 v2173), ∀ a, (k0_off311 v2173) a + S1x1x128.size a ≤ S1x1024x128.size a := fun v2173 k0_hw311 => k0_hw311

def k0_off312 (v2180 : BitVec 32) : Fin 3 → Nat :=
  let c0_1869 : Index := 0#32
  let v2181 : Index := Scalar.indexCast v2180
  let c0_1870 : Index := 0#32
  ![0, v2181.toNat, 0]

def k0_chk312 (v2180 : BitVec 32) : Prop :=
  (∀ a, (k0_off312 v2180) a + S1x1x128.size a ≤ S1x1024x128.size a)
theorem k0_off312_inb : ∀ (v2180 : BitVec 32) (k0_hw312 : k0_chk312 v2180), ∀ a, (k0_off312 v2180) a + S1x1x128.size a ≤ S1x1024x128.size a := fun v2180 k0_hw312 => k0_hw312

def k0_off313 (v2187 : BitVec 32) : Fin 3 → Nat :=
  let c0_1875 : Index := 0#32
  let v2188 : Index := Scalar.indexCast v2187
  let c0_1876 : Index := 0#32
  ![0, v2188.toNat, 0]

def k0_chk313 (v2187 : BitVec 32) : Prop :=
  (∀ a, (k0_off313 v2187) a + S1x1x128.size a ≤ S1x1024x128.size a)
theorem k0_off313_inb : ∀ (v2187 : BitVec 32) (k0_hw313 : k0_chk313 v2187), ∀ a, (k0_off313 v2187) a + S1x1x128.size a ≤ S1x1024x128.size a := fun v2187 k0_hw313 => k0_hw313

def k0_off314 (v2194 : BitVec 32) : Fin 3 → Nat :=
  let c0_1881 : Index := 0#32
  let v2195 : Index := Scalar.indexCast v2194
  let c0_1882 : Index := 0#32
  ![0, v2195.toNat, 0]

def k0_chk314 (v2194 : BitVec 32) : Prop :=
  (∀ a, (k0_off314 v2194) a + S1x1x128.size a ≤ S1x1024x128.size a)
theorem k0_off314_inb : ∀ (v2194 : BitVec 32) (k0_hw314 : k0_chk314 v2194), ∀ a, (k0_off314 v2194) a + S1x1x128.size a ≤ S1x1024x128.size a := fun v2194 k0_hw314 => k0_hw314

def k0_off315 (v2201 : BitVec 32) : Fin 3 → Nat :=
  let c0_1887 : Index := 0#32
  let v2202 : Index := Scalar.indexCast v2201
  let c0_1888 : Index := 0#32
  ![0, v2202.toNat, 0]

def k0_chk315 (v2201 : BitVec 32) : Prop :=
  (∀ a, (k0_off315 v2201) a + S1x1x128.size a ≤ S1x1024x128.size a)
theorem k0_off315_inb : ∀ (v2201 : BitVec 32) (k0_hw315 : k0_chk315 v2201), ∀ a, (k0_off315 v2201) a + S1x1x128.size a ≤ S1x1024x128.size a := fun v2201 k0_hw315 => k0_hw315

def k0_off316 (v2208 : BitVec 32) : Fin 3 → Nat :=
  let c0_1893 : Index := 0#32
  let v2209 : Index := Scalar.indexCast v2208
  let c0_1894 : Index := 0#32
  ![0, v2209.toNat, 0]

def k0_chk316 (v2208 : BitVec 32) : Prop :=
  (∀ a, (k0_off316 v2208) a + S1x1x128.size a ≤ S1x1024x128.size a)
theorem k0_off316_inb : ∀ (v2208 : BitVec 32) (k0_hw316 : k0_chk316 v2208), ∀ a, (k0_off316 v2208) a + S1x1x128.size a ≤ S1x1024x128.size a := fun v2208 k0_hw316 => k0_hw316

def k0_off317 (v2215 : BitVec 32) : Fin 3 → Nat :=
  let c0_1899 : Index := 0#32
  let v2216 : Index := Scalar.indexCast v2215
  let c0_1900 : Index := 0#32
  ![0, v2216.toNat, 0]

def k0_chk317 (v2215 : BitVec 32) : Prop :=
  (∀ a, (k0_off317 v2215) a + S1x1x128.size a ≤ S1x1024x128.size a)
theorem k0_off317_inb : ∀ (v2215 : BitVec 32) (k0_hw317 : k0_chk317 v2215), ∀ a, (k0_off317 v2215) a + S1x1x128.size a ≤ S1x1024x128.size a := fun v2215 k0_hw317 => k0_hw317

def k0_off318 (v2222 : BitVec 32) : Fin 3 → Nat :=
  let c0_1905 : Index := 0#32
  let v2223 : Index := Scalar.indexCast v2222
  let c0_1906 : Index := 0#32
  ![0, v2223.toNat, 0]

def k0_chk318 (v2222 : BitVec 32) : Prop :=
  (∀ a, (k0_off318 v2222) a + S1x1x128.size a ≤ S1x1024x128.size a)
theorem k0_off318_inb : ∀ (v2222 : BitVec 32) (k0_hw318 : k0_chk318 v2222), ∀ a, (k0_off318 v2222) a + S1x1x128.size a ≤ S1x1024x128.size a := fun v2222 k0_hw318 => k0_hw318

def k0_off319 (v2229 : BitVec 32) : Fin 3 → Nat :=
  let c0_1911 : Index := 0#32
  let v2230 : Index := Scalar.indexCast v2229
  let c0_1912 : Index := 0#32
  ![0, v2230.toNat, 0]

def k0_chk319 (v2229 : BitVec 32) : Prop :=
  (∀ a, (k0_off319 v2229) a + S1x1x128.size a ≤ S1x1024x128.size a)
theorem k0_off319_inb : ∀ (v2229 : BitVec 32) (k0_hw319 : k0_chk319 v2229), ∀ a, (k0_off319 v2229) a + S1x1x128.size a ≤ S1x1024x128.size a := fun v2229 k0_hw319 => k0_hw319

def k0_off320 (v2236 : BitVec 32) : Fin 3 → Nat :=
  let c0_1917 : Index := 0#32
  let v2237 : Index := Scalar.indexCast v2236
  let c0_1918 : Index := 0#32
  ![0, v2237.toNat, 0]

def k0_chk320 (v2236 : BitVec 32) : Prop :=
  (∀ a, (k0_off320 v2236) a + S1x1x128.size a ≤ S1x1024x128.size a)
theorem k0_off320_inb : ∀ (v2236 : BitVec 32) (k0_hw320 : k0_chk320 v2236), ∀ a, (k0_off320 v2236) a + S1x1x128.size a ≤ S1x1024x128.size a := fun v2236 k0_hw320 => k0_hw320

def k0_off321 (v2243 : BitVec 32) : Fin 3 → Nat :=
  let c0_1923 : Index := 0#32
  let v2244 : Index := Scalar.indexCast v2243
  let c0_1924 : Index := 0#32
  ![0, v2244.toNat, 0]

def k0_chk321 (v2243 : BitVec 32) : Prop :=
  (∀ a, (k0_off321 v2243) a + S1x1x128.size a ≤ S1x1024x128.size a)
theorem k0_off321_inb : ∀ (v2243 : BitVec 32) (k0_hw321 : k0_chk321 v2243), ∀ a, (k0_off321 v2243) a + S1x1x128.size a ≤ S1x1024x128.size a := fun v2243 k0_hw321 => k0_hw321

def k0_off322 (v2250 : BitVec 32) : Fin 3 → Nat :=
  let c0_1929 : Index := 0#32
  let v2251 : Index := Scalar.indexCast v2250
  let c0_1930 : Index := 0#32
  ![0, v2251.toNat, 0]

def k0_chk322 (v2250 : BitVec 32) : Prop :=
  (∀ a, (k0_off322 v2250) a + S1x1x128.size a ≤ S1x1024x128.size a)
theorem k0_off322_inb : ∀ (v2250 : BitVec 32) (k0_hw322 : k0_chk322 v2250), ∀ a, (k0_off322 v2250) a + S1x1x128.size a ≤ S1x1024x128.size a := fun v2250 k0_hw322 => k0_hw322

def k0_off323 (v2257 : BitVec 32) : Fin 3 → Nat :=
  let c0_1935 : Index := 0#32
  let v2258 : Index := Scalar.indexCast v2257
  let c0_1936 : Index := 0#32
  ![0, v2258.toNat, 0]

def k0_chk323 (v2257 : BitVec 32) : Prop :=
  (∀ a, (k0_off323 v2257) a + S1x1x128.size a ≤ S1x1024x128.size a)
theorem k0_off323_inb : ∀ (v2257 : BitVec 32) (k0_hw323 : k0_chk323 v2257), ∀ a, (k0_off323 v2257) a + S1x1x128.size a ≤ S1x1024x128.size a := fun v2257 k0_hw323 => k0_hw323

def k0_off324 (v2264 : BitVec 32) : Fin 3 → Nat :=
  let c0_1941 : Index := 0#32
  let v2265 : Index := Scalar.indexCast v2264
  let c0_1942 : Index := 0#32
  ![0, v2265.toNat, 0]

def k0_chk324 (v2264 : BitVec 32) : Prop :=
  (∀ a, (k0_off324 v2264) a + S1x1x128.size a ≤ S1x1024x128.size a)
theorem k0_off324_inb : ∀ (v2264 : BitVec 32) (k0_hw324 : k0_chk324 v2264), ∀ a, (k0_off324 v2264) a + S1x1x128.size a ≤ S1x1024x128.size a := fun v2264 k0_hw324 => k0_hw324

def k0_off325 (v2271 : BitVec 32) : Fin 3 → Nat :=
  let c0_1947 : Index := 0#32
  let v2272 : Index := Scalar.indexCast v2271
  let c0_1948 : Index := 0#32
  ![0, v2272.toNat, 0]

def k0_chk325 (v2271 : BitVec 32) : Prop :=
  (∀ a, (k0_off325 v2271) a + S1x1x128.size a ≤ S1x1024x128.size a)
theorem k0_off325_inb : ∀ (v2271 : BitVec 32) (k0_hw325 : k0_chk325 v2271), ∀ a, (k0_off325 v2271) a + S1x1x128.size a ≤ S1x1024x128.size a := fun v2271 k0_hw325 => k0_hw325

def k0_off326 (v2278 : BitVec 32) : Fin 3 → Nat :=
  let c0_1953 : Index := 0#32
  let v2279 : Index := Scalar.indexCast v2278
  let c0_1954 : Index := 0#32
  ![0, v2279.toNat, 0]

def k0_chk326 (v2278 : BitVec 32) : Prop :=
  (∀ a, (k0_off326 v2278) a + S1x1x128.size a ≤ S1x1024x128.size a)
theorem k0_off326_inb : ∀ (v2278 : BitVec 32) (k0_hw326 : k0_chk326 v2278), ∀ a, (k0_off326 v2278) a + S1x1x128.size a ≤ S1x1024x128.size a := fun v2278 k0_hw326 => k0_hw326

def k0_off327 (v2285 : BitVec 32) : Fin 3 → Nat :=
  let c0_1959 : Index := 0#32
  let v2286 : Index := Scalar.indexCast v2285
  let c0_1960 : Index := 0#32
  ![0, v2286.toNat, 0]

def k0_chk327 (v2285 : BitVec 32) : Prop :=
  (∀ a, (k0_off327 v2285) a + S1x1x128.size a ≤ S1x1024x128.size a)
theorem k0_off327_inb : ∀ (v2285 : BitVec 32) (k0_hw327 : k0_chk327 v2285), ∀ a, (k0_off327 v2285) a + S1x1x128.size a ≤ S1x1024x128.size a := fun v2285 k0_hw327 => k0_hw327

def k0_off328 (v2292 : BitVec 32) : Fin 3 → Nat :=
  let c0_1965 : Index := 0#32
  let v2293 : Index := Scalar.indexCast v2292
  let c0_1966 : Index := 0#32
  ![0, v2293.toNat, 0]

def k0_chk328 (v2292 : BitVec 32) : Prop :=
  (∀ a, (k0_off328 v2292) a + S1x1x128.size a ≤ S1x1024x128.size a)
theorem k0_off328_inb : ∀ (v2292 : BitVec 32) (k0_hw328 : k0_chk328 v2292), ∀ a, (k0_off328 v2292) a + S1x1x128.size a ≤ S1x1024x128.size a := fun v2292 k0_hw328 => k0_hw328

def k0_off329 (v2299 : BitVec 32) : Fin 3 → Nat :=
  let c0_1971 : Index := 0#32
  let v2300 : Index := Scalar.indexCast v2299
  let c0_1972 : Index := 0#32
  ![0, v2300.toNat, 0]

def k0_chk329 (v2299 : BitVec 32) : Prop :=
  (∀ a, (k0_off329 v2299) a + S1x1x128.size a ≤ S1x1024x128.size a)
theorem k0_off329_inb : ∀ (v2299 : BitVec 32) (k0_hw329 : k0_chk329 v2299), ∀ a, (k0_off329 v2299) a + S1x1x128.size a ≤ S1x1024x128.size a := fun v2299 k0_hw329 => k0_hw329

def k0_off330 (v2306 : BitVec 32) : Fin 3 → Nat :=
  let c0_1977 : Index := 0#32
  let v2307 : Index := Scalar.indexCast v2306
  let c0_1978 : Index := 0#32
  ![0, v2307.toNat, 0]

def k0_chk330 (v2306 : BitVec 32) : Prop :=
  (∀ a, (k0_off330 v2306) a + S1x1x128.size a ≤ S1x1024x128.size a)
theorem k0_off330_inb : ∀ (v2306 : BitVec 32) (k0_hw330 : k0_chk330 v2306), ∀ a, (k0_off330 v2306) a + S1x1x128.size a ≤ S1x1024x128.size a := fun v2306 k0_hw330 => k0_hw330

def k0_off331 (v2313 : BitVec 32) : Fin 3 → Nat :=
  let c0_1983 : Index := 0#32
  let v2314 : Index := Scalar.indexCast v2313
  let c0_1984 : Index := 0#32
  ![0, v2314.toNat, 0]

def k0_chk331 (v2313 : BitVec 32) : Prop :=
  (∀ a, (k0_off331 v2313) a + S1x1x128.size a ≤ S1x1024x128.size a)
theorem k0_off331_inb : ∀ (v2313 : BitVec 32) (k0_hw331 : k0_chk331 v2313), ∀ a, (k0_off331 v2313) a + S1x1x128.size a ≤ S1x1024x128.size a := fun v2313 k0_hw331 => k0_hw331

def k0_off332 (v2320 : BitVec 32) : Fin 3 → Nat :=
  let c0_1989 : Index := 0#32
  let v2321 : Index := Scalar.indexCast v2320
  let c0_1990 : Index := 0#32
  ![0, v2321.toNat, 0]

def k0_chk332 (v2320 : BitVec 32) : Prop :=
  (∀ a, (k0_off332 v2320) a + S1x1x128.size a ≤ S1x1024x128.size a)
theorem k0_off332_inb : ∀ (v2320 : BitVec 32) (k0_hw332 : k0_chk332 v2320), ∀ a, (k0_off332 v2320) a + S1x1x128.size a ≤ S1x1024x128.size a := fun v2320 k0_hw332 => k0_hw332

def k0_off333 (v2327 : BitVec 32) : Fin 3 → Nat :=
  let c0_1995 : Index := 0#32
  let v2328 : Index := Scalar.indexCast v2327
  let c0_1996 : Index := 0#32
  ![0, v2328.toNat, 0]

def k0_chk333 (v2327 : BitVec 32) : Prop :=
  (∀ a, (k0_off333 v2327) a + S1x1x128.size a ≤ S1x1024x128.size a)
theorem k0_off333_inb : ∀ (v2327 : BitVec 32) (k0_hw333 : k0_chk333 v2327), ∀ a, (k0_off333 v2327) a + S1x1x128.size a ≤ S1x1024x128.size a := fun v2327 k0_hw333 => k0_hw333

def k0_off334 (v2334 : BitVec 32) : Fin 3 → Nat :=
  let c0_2001 : Index := 0#32
  let v2335 : Index := Scalar.indexCast v2334
  let c0_2002 : Index := 0#32
  ![0, v2335.toNat, 0]

def k0_chk334 (v2334 : BitVec 32) : Prop :=
  (∀ a, (k0_off334 v2334) a + S1x1x128.size a ≤ S1x1024x128.size a)
theorem k0_off334_inb : ∀ (v2334 : BitVec 32) (k0_hw334 : k0_chk334 v2334), ∀ a, (k0_off334 v2334) a + S1x1x128.size a ≤ S1x1024x128.size a := fun v2334 k0_hw334 => k0_hw334

def k0_off335 (v2341 : BitVec 32) : Fin 3 → Nat :=
  let c0_2007 : Index := 0#32
  let v2342 : Index := Scalar.indexCast v2341
  let c0_2008 : Index := 0#32
  ![0, v2342.toNat, 0]

def k0_chk335 (v2341 : BitVec 32) : Prop :=
  (∀ a, (k0_off335 v2341) a + S1x1x128.size a ≤ S1x1024x128.size a)
theorem k0_off335_inb : ∀ (v2341 : BitVec 32) (k0_hw335 : k0_chk335 v2341), ∀ a, (k0_off335 v2341) a + S1x1x128.size a ≤ S1x1024x128.size a := fun v2341 k0_hw335 => k0_hw335

def k0_off336 (v2348 : BitVec 32) : Fin 3 → Nat :=
  let c0_2013 : Index := 0#32
  let v2349 : Index := Scalar.indexCast v2348
  let c0_2014 : Index := 0#32
  ![0, v2349.toNat, 0]

def k0_chk336 (v2348 : BitVec 32) : Prop :=
  (∀ a, (k0_off336 v2348) a + S1x1x128.size a ≤ S1x1024x128.size a)
theorem k0_off336_inb : ∀ (v2348 : BitVec 32) (k0_hw336 : k0_chk336 v2348), ∀ a, (k0_off336 v2348) a + S1x1x128.size a ≤ S1x1024x128.size a := fun v2348 k0_hw336 => k0_hw336

def k0_off337 (v2355 : BitVec 32) : Fin 3 → Nat :=
  let c0_2019 : Index := 0#32
  let v2356 : Index := Scalar.indexCast v2355
  let c0_2020 : Index := 0#32
  ![0, v2356.toNat, 0]

def k0_chk337 (v2355 : BitVec 32) : Prop :=
  (∀ a, (k0_off337 v2355) a + S1x1x128.size a ≤ S1x1024x128.size a)
theorem k0_off337_inb : ∀ (v2355 : BitVec 32) (k0_hw337 : k0_chk337 v2355), ∀ a, (k0_off337 v2355) a + S1x1x128.size a ≤ S1x1024x128.size a := fun v2355 k0_hw337 => k0_hw337

def k0_off338 (v2362 : BitVec 32) : Fin 3 → Nat :=
  let c0_2025 : Index := 0#32
  let v2363 : Index := Scalar.indexCast v2362
  let c0_2026 : Index := 0#32
  ![0, v2363.toNat, 0]

def k0_chk338 (v2362 : BitVec 32) : Prop :=
  (∀ a, (k0_off338 v2362) a + S1x1x128.size a ≤ S1x1024x128.size a)
theorem k0_off338_inb : ∀ (v2362 : BitVec 32) (k0_hw338 : k0_chk338 v2362), ∀ a, (k0_off338 v2362) a + S1x1x128.size a ≤ S1x1024x128.size a := fun v2362 k0_hw338 => k0_hw338

def k0_off339 (v2369 : BitVec 32) : Fin 3 → Nat :=
  let c0_2031 : Index := 0#32
  let v2370 : Index := Scalar.indexCast v2369
  let c0_2032 : Index := 0#32
  ![0, v2370.toNat, 0]

def k0_chk339 (v2369 : BitVec 32) : Prop :=
  (∀ a, (k0_off339 v2369) a + S1x1x128.size a ≤ S1x1024x128.size a)
theorem k0_off339_inb : ∀ (v2369 : BitVec 32) (k0_hw339 : k0_chk339 v2369), ∀ a, (k0_off339 v2369) a + S1x1x128.size a ≤ S1x1024x128.size a := fun v2369 k0_hw339 => k0_hw339

def k0_off340 (v2376 : BitVec 32) : Fin 3 → Nat :=
  let c0_2037 : Index := 0#32
  let v2377 : Index := Scalar.indexCast v2376
  let c0_2038 : Index := 0#32
  ![0, v2377.toNat, 0]

def k0_chk340 (v2376 : BitVec 32) : Prop :=
  (∀ a, (k0_off340 v2376) a + S1x1x128.size a ≤ S1x1024x128.size a)
theorem k0_off340_inb : ∀ (v2376 : BitVec 32) (k0_hw340 : k0_chk340 v2376), ∀ a, (k0_off340 v2376) a + S1x1x128.size a ≤ S1x1024x128.size a := fun v2376 k0_hw340 => k0_hw340

def k0_off341 (v2383 : BitVec 32) : Fin 3 → Nat :=
  let c0_2043 : Index := 0#32
  let v2384 : Index := Scalar.indexCast v2383
  let c0_2044 : Index := 0#32
  ![0, v2384.toNat, 0]

def k0_chk341 (v2383 : BitVec 32) : Prop :=
  (∀ a, (k0_off341 v2383) a + S1x1x128.size a ≤ S1x1024x128.size a)
theorem k0_off341_inb : ∀ (v2383 : BitVec 32) (k0_hw341 : k0_chk341 v2383), ∀ a, (k0_off341 v2383) a + S1x1x128.size a ≤ S1x1024x128.size a := fun v2383 k0_hw341 => k0_hw341

def k0_off342 (v2390 : BitVec 32) : Fin 3 → Nat :=
  let c0_2049 : Index := 0#32
  let v2391 : Index := Scalar.indexCast v2390
  let c0_2050 : Index := 0#32
  ![0, v2391.toNat, 0]

def k0_chk342 (v2390 : BitVec 32) : Prop :=
  (∀ a, (k0_off342 v2390) a + S1x1x128.size a ≤ S1x1024x128.size a)
theorem k0_off342_inb : ∀ (v2390 : BitVec 32) (k0_hw342 : k0_chk342 v2390), ∀ a, (k0_off342 v2390) a + S1x1x128.size a ≤ S1x1024x128.size a := fun v2390 k0_hw342 => k0_hw342

def k0_off343 (v2397 : BitVec 32) : Fin 3 → Nat :=
  let c0_2055 : Index := 0#32
  let v2398 : Index := Scalar.indexCast v2397
  let c0_2056 : Index := 0#32
  ![0, v2398.toNat, 0]

def k0_chk343 (v2397 : BitVec 32) : Prop :=
  (∀ a, (k0_off343 v2397) a + S1x1x128.size a ≤ S1x1024x128.size a)
theorem k0_off343_inb : ∀ (v2397 : BitVec 32) (k0_hw343 : k0_chk343 v2397), ∀ a, (k0_off343 v2397) a + S1x1x128.size a ≤ S1x1024x128.size a := fun v2397 k0_hw343 => k0_hw343

def k0_off344 (v2404 : BitVec 32) : Fin 3 → Nat :=
  let c0_2061 : Index := 0#32
  let v2405 : Index := Scalar.indexCast v2404
  let c0_2062 : Index := 0#32
  ![0, v2405.toNat, 0]

def k0_chk344 (v2404 : BitVec 32) : Prop :=
  (∀ a, (k0_off344 v2404) a + S1x1x128.size a ≤ S1x1024x128.size a)
theorem k0_off344_inb : ∀ (v2404 : BitVec 32) (k0_hw344 : k0_chk344 v2404), ∀ a, (k0_off344 v2404) a + S1x1x128.size a ≤ S1x1024x128.size a := fun v2404 k0_hw344 => k0_hw344

def k0_off345 (v2411 : BitVec 32) : Fin 3 → Nat :=
  let c0_2067 : Index := 0#32
  let v2412 : Index := Scalar.indexCast v2411
  let c0_2068 : Index := 0#32
  ![0, v2412.toNat, 0]

def k0_chk345 (v2411 : BitVec 32) : Prop :=
  (∀ a, (k0_off345 v2411) a + S1x1x128.size a ≤ S1x1024x128.size a)
theorem k0_off345_inb : ∀ (v2411 : BitVec 32) (k0_hw345 : k0_chk345 v2411), ∀ a, (k0_off345 v2411) a + S1x1x128.size a ≤ S1x1024x128.size a := fun v2411 k0_hw345 => k0_hw345

def k0_off346 (v2418 : BitVec 32) : Fin 3 → Nat :=
  let c0_2073 : Index := 0#32
  let v2419 : Index := Scalar.indexCast v2418
  let c0_2074 : Index := 0#32
  ![0, v2419.toNat, 0]

def k0_chk346 (v2418 : BitVec 32) : Prop :=
  (∀ a, (k0_off346 v2418) a + S1x1x128.size a ≤ S1x1024x128.size a)
theorem k0_off346_inb : ∀ (v2418 : BitVec 32) (k0_hw346 : k0_chk346 v2418), ∀ a, (k0_off346 v2418) a + S1x1x128.size a ≤ S1x1024x128.size a := fun v2418 k0_hw346 => k0_hw346

def k0_off347 (v2425 : BitVec 32) : Fin 3 → Nat :=
  let c0_2079 : Index := 0#32
  let v2426 : Index := Scalar.indexCast v2425
  let c0_2080 : Index := 0#32
  ![0, v2426.toNat, 0]

def k0_chk347 (v2425 : BitVec 32) : Prop :=
  (∀ a, (k0_off347 v2425) a + S1x1x128.size a ≤ S1x1024x128.size a)
theorem k0_off347_inb : ∀ (v2425 : BitVec 32) (k0_hw347 : k0_chk347 v2425), ∀ a, (k0_off347 v2425) a + S1x1x128.size a ≤ S1x1024x128.size a := fun v2425 k0_hw347 => k0_hw347

def k0_off348 (v2432 : BitVec 32) : Fin 3 → Nat :=
  let c0_2085 : Index := 0#32
  let v2433 : Index := Scalar.indexCast v2432
  let c0_2086 : Index := 0#32
  ![0, v2433.toNat, 0]

def k0_chk348 (v2432 : BitVec 32) : Prop :=
  (∀ a, (k0_off348 v2432) a + S1x1x128.size a ≤ S1x1024x128.size a)
theorem k0_off348_inb : ∀ (v2432 : BitVec 32) (k0_hw348 : k0_chk348 v2432), ∀ a, (k0_off348 v2432) a + S1x1x128.size a ≤ S1x1024x128.size a := fun v2432 k0_hw348 => k0_hw348

def k0_off349 (v2439 : BitVec 32) : Fin 3 → Nat :=
  let c0_2091 : Index := 0#32
  let v2440 : Index := Scalar.indexCast v2439
  let c0_2092 : Index := 0#32
  ![0, v2440.toNat, 0]

def k0_chk349 (v2439 : BitVec 32) : Prop :=
  (∀ a, (k0_off349 v2439) a + S1x1x128.size a ≤ S1x1024x128.size a)
theorem k0_off349_inb : ∀ (v2439 : BitVec 32) (k0_hw349 : k0_chk349 v2439), ∀ a, (k0_off349 v2439) a + S1x1x128.size a ≤ S1x1024x128.size a := fun v2439 k0_hw349 => k0_hw349

def k0_off350 (v2446 : BitVec 32) : Fin 3 → Nat :=
  let c0_2097 : Index := 0#32
  let v2447 : Index := Scalar.indexCast v2446
  let c0_2098 : Index := 0#32
  ![0, v2447.toNat, 0]

def k0_chk350 (v2446 : BitVec 32) : Prop :=
  (∀ a, (k0_off350 v2446) a + S1x1x128.size a ≤ S1x1024x128.size a)
theorem k0_off350_inb : ∀ (v2446 : BitVec 32) (k0_hw350 : k0_chk350 v2446), ∀ a, (k0_off350 v2446) a + S1x1x128.size a ≤ S1x1024x128.size a := fun v2446 k0_hw350 => k0_hw350

def k0_off351 (v2453 : BitVec 32) : Fin 3 → Nat :=
  let c0_2103 : Index := 0#32
  let v2454 : Index := Scalar.indexCast v2453
  let c0_2104 : Index := 0#32
  ![0, v2454.toNat, 0]

def k0_chk351 (v2453 : BitVec 32) : Prop :=
  (∀ a, (k0_off351 v2453) a + S1x1x128.size a ≤ S1x1024x128.size a)
theorem k0_off351_inb : ∀ (v2453 : BitVec 32) (k0_hw351 : k0_chk351 v2453), ∀ a, (k0_off351 v2453) a + S1x1x128.size a ≤ S1x1024x128.size a := fun v2453 k0_hw351 => k0_hw351

def k0_off352 (v2460 : BitVec 32) : Fin 3 → Nat :=
  let c0_2109 : Index := 0#32
  let v2461 : Index := Scalar.indexCast v2460
  let c0_2110 : Index := 0#32
  ![0, v2461.toNat, 0]

def k0_chk352 (v2460 : BitVec 32) : Prop :=
  (∀ a, (k0_off352 v2460) a + S1x1x128.size a ≤ S1x1024x128.size a)
theorem k0_off352_inb : ∀ (v2460 : BitVec 32) (k0_hw352 : k0_chk352 v2460), ∀ a, (k0_off352 v2460) a + S1x1x128.size a ≤ S1x1024x128.size a := fun v2460 k0_hw352 => k0_hw352

def k0_off353 (v2467 : BitVec 32) : Fin 3 → Nat :=
  let c0_2115 : Index := 0#32
  let v2468 : Index := Scalar.indexCast v2467
  let c0_2116 : Index := 0#32
  ![0, v2468.toNat, 0]

def k0_chk353 (v2467 : BitVec 32) : Prop :=
  (∀ a, (k0_off353 v2467) a + S1x1x128.size a ≤ S1x1024x128.size a)
theorem k0_off353_inb : ∀ (v2467 : BitVec 32) (k0_hw353 : k0_chk353 v2467), ∀ a, (k0_off353 v2467) a + S1x1x128.size a ≤ S1x1024x128.size a := fun v2467 k0_hw353 => k0_hw353

def k0_off354 (v2474 : BitVec 32) : Fin 3 → Nat :=
  let c0_2121 : Index := 0#32
  let v2475 : Index := Scalar.indexCast v2474
  let c0_2122 : Index := 0#32
  ![0, v2475.toNat, 0]

def k0_chk354 (v2474 : BitVec 32) : Prop :=
  (∀ a, (k0_off354 v2474) a + S1x1x128.size a ≤ S1x1024x128.size a)
theorem k0_off354_inb : ∀ (v2474 : BitVec 32) (k0_hw354 : k0_chk354 v2474), ∀ a, (k0_off354 v2474) a + S1x1x128.size a ≤ S1x1024x128.size a := fun v2474 k0_hw354 => k0_hw354

def k0_off355 (v2481 : BitVec 32) : Fin 3 → Nat :=
  let c0_2127 : Index := 0#32
  let v2482 : Index := Scalar.indexCast v2481
  let c0_2128 : Index := 0#32
  ![0, v2482.toNat, 0]

def k0_chk355 (v2481 : BitVec 32) : Prop :=
  (∀ a, (k0_off355 v2481) a + S1x1x128.size a ≤ S1x1024x128.size a)
theorem k0_off355_inb : ∀ (v2481 : BitVec 32) (k0_hw355 : k0_chk355 v2481), ∀ a, (k0_off355 v2481) a + S1x1x128.size a ≤ S1x1024x128.size a := fun v2481 k0_hw355 => k0_hw355

def k0_off356 (v2488 : BitVec 32) : Fin 3 → Nat :=
  let c0_2133 : Index := 0#32
  let v2489 : Index := Scalar.indexCast v2488
  let c0_2134 : Index := 0#32
  ![0, v2489.toNat, 0]

def k0_chk356 (v2488 : BitVec 32) : Prop :=
  (∀ a, (k0_off356 v2488) a + S1x1x128.size a ≤ S1x1024x128.size a)
theorem k0_off356_inb : ∀ (v2488 : BitVec 32) (k0_hw356 : k0_chk356 v2488), ∀ a, (k0_off356 v2488) a + S1x1x128.size a ≤ S1x1024x128.size a := fun v2488 k0_hw356 => k0_hw356

def k0_off357 (v2495 : BitVec 32) : Fin 3 → Nat :=
  let c0_2139 : Index := 0#32
  let v2496 : Index := Scalar.indexCast v2495
  let c0_2140 : Index := 0#32
  ![0, v2496.toNat, 0]

def k0_chk357 (v2495 : BitVec 32) : Prop :=
  (∀ a, (k0_off357 v2495) a + S1x1x128.size a ≤ S1x1024x128.size a)
theorem k0_off357_inb : ∀ (v2495 : BitVec 32) (k0_hw357 : k0_chk357 v2495), ∀ a, (k0_off357 v2495) a + S1x1x128.size a ≤ S1x1024x128.size a := fun v2495 k0_hw357 => k0_hw357

def k0_off358 (v2502 : BitVec 32) : Fin 3 → Nat :=
  let c0_2145 : Index := 0#32
  let v2503 : Index := Scalar.indexCast v2502
  let c0_2146 : Index := 0#32
  ![0, v2503.toNat, 0]

def k0_chk358 (v2502 : BitVec 32) : Prop :=
  (∀ a, (k0_off358 v2502) a + S1x1x128.size a ≤ S1x1024x128.size a)
theorem k0_off358_inb : ∀ (v2502 : BitVec 32) (k0_hw358 : k0_chk358 v2502), ∀ a, (k0_off358 v2502) a + S1x1x128.size a ≤ S1x1024x128.size a := fun v2502 k0_hw358 => k0_hw358

def k0_off359 (v2509 : BitVec 32) : Fin 3 → Nat :=
  let c0_2151 : Index := 0#32
  let v2510 : Index := Scalar.indexCast v2509
  let c0_2152 : Index := 0#32
  ![0, v2510.toNat, 0]

def k0_chk359 (v2509 : BitVec 32) : Prop :=
  (∀ a, (k0_off359 v2509) a + S1x1x128.size a ≤ S1x1024x128.size a)
theorem k0_off359_inb : ∀ (v2509 : BitVec 32) (k0_hw359 : k0_chk359 v2509), ∀ a, (k0_off359 v2509) a + S1x1x128.size a ≤ S1x1024x128.size a := fun v2509 k0_hw359 => k0_hw359

def k0_off360 (v2516 : BitVec 32) : Fin 3 → Nat :=
  let c0_2157 : Index := 0#32
  let v2517 : Index := Scalar.indexCast v2516
  let c0_2158 : Index := 0#32
  ![0, v2517.toNat, 0]

def k0_chk360 (v2516 : BitVec 32) : Prop :=
  (∀ a, (k0_off360 v2516) a + S1x1x128.size a ≤ S1x1024x128.size a)
theorem k0_off360_inb : ∀ (v2516 : BitVec 32) (k0_hw360 : k0_chk360 v2516), ∀ a, (k0_off360 v2516) a + S1x1x128.size a ≤ S1x1024x128.size a := fun v2516 k0_hw360 => k0_hw360

def k0_off361 (v2523 : BitVec 32) : Fin 3 → Nat :=
  let c0_2163 : Index := 0#32
  let v2524 : Index := Scalar.indexCast v2523
  let c0_2164 : Index := 0#32
  ![0, v2524.toNat, 0]

def k0_chk361 (v2523 : BitVec 32) : Prop :=
  (∀ a, (k0_off361 v2523) a + S1x1x128.size a ≤ S1x1024x128.size a)
theorem k0_off361_inb : ∀ (v2523 : BitVec 32) (k0_hw361 : k0_chk361 v2523), ∀ a, (k0_off361 v2523) a + S1x1x128.size a ≤ S1x1024x128.size a := fun v2523 k0_hw361 => k0_hw361

def k0_off362 (v2530 : BitVec 32) : Fin 3 → Nat :=
  let c0_2169 : Index := 0#32
  let v2531 : Index := Scalar.indexCast v2530
  let c0_2170 : Index := 0#32
  ![0, v2531.toNat, 0]

def k0_chk362 (v2530 : BitVec 32) : Prop :=
  (∀ a, (k0_off362 v2530) a + S1x1x128.size a ≤ S1x1024x128.size a)
theorem k0_off362_inb : ∀ (v2530 : BitVec 32) (k0_hw362 : k0_chk362 v2530), ∀ a, (k0_off362 v2530) a + S1x1x128.size a ≤ S1x1024x128.size a := fun v2530 k0_hw362 => k0_hw362

def k0_off363 (v2537 : BitVec 32) : Fin 3 → Nat :=
  let c0_2175 : Index := 0#32
  let v2538 : Index := Scalar.indexCast v2537
  let c0_2176 : Index := 0#32
  ![0, v2538.toNat, 0]

def k0_chk363 (v2537 : BitVec 32) : Prop :=
  (∀ a, (k0_off363 v2537) a + S1x1x128.size a ≤ S1x1024x128.size a)
theorem k0_off363_inb : ∀ (v2537 : BitVec 32) (k0_hw363 : k0_chk363 v2537), ∀ a, (k0_off363 v2537) a + S1x1x128.size a ≤ S1x1024x128.size a := fun v2537 k0_hw363 => k0_hw363

def k0_off364 (v2544 : BitVec 32) : Fin 3 → Nat :=
  let c0_2181 : Index := 0#32
  let v2545 : Index := Scalar.indexCast v2544
  let c0_2182 : Index := 0#32
  ![0, v2545.toNat, 0]

def k0_chk364 (v2544 : BitVec 32) : Prop :=
  (∀ a, (k0_off364 v2544) a + S1x1x128.size a ≤ S1x1024x128.size a)
theorem k0_off364_inb : ∀ (v2544 : BitVec 32) (k0_hw364 : k0_chk364 v2544), ∀ a, (k0_off364 v2544) a + S1x1x128.size a ≤ S1x1024x128.size a := fun v2544 k0_hw364 => k0_hw364

def k0_off365 (v2551 : BitVec 32) : Fin 3 → Nat :=
  let c0_2187 : Index := 0#32
  let v2552 : Index := Scalar.indexCast v2551
  let c0_2188 : Index := 0#32
  ![0, v2552.toNat, 0]

def k0_chk365 (v2551 : BitVec 32) : Prop :=
  (∀ a, (k0_off365 v2551) a + S1x1x128.size a ≤ S1x1024x128.size a)
theorem k0_off365_inb : ∀ (v2551 : BitVec 32) (k0_hw365 : k0_chk365 v2551), ∀ a, (k0_off365 v2551) a + S1x1x128.size a ≤ S1x1024x128.size a := fun v2551 k0_hw365 => k0_hw365

def k0_off366 (v2558 : BitVec 32) : Fin 3 → Nat :=
  let c0_2193 : Index := 0#32
  let v2559 : Index := Scalar.indexCast v2558
  let c0_2194 : Index := 0#32
  ![0, v2559.toNat, 0]

def k0_chk366 (v2558 : BitVec 32) : Prop :=
  (∀ a, (k0_off366 v2558) a + S1x1x128.size a ≤ S1x1024x128.size a)
theorem k0_off366_inb : ∀ (v2558 : BitVec 32) (k0_hw366 : k0_chk366 v2558), ∀ a, (k0_off366 v2558) a + S1x1x128.size a ≤ S1x1024x128.size a := fun v2558 k0_hw366 => k0_hw366

def k0_off367 (v2565 : BitVec 32) : Fin 3 → Nat :=
  let c0_2199 : Index := 0#32
  let v2566 : Index := Scalar.indexCast v2565
  let c0_2200 : Index := 0#32
  ![0, v2566.toNat, 0]

def k0_chk367 (v2565 : BitVec 32) : Prop :=
  (∀ a, (k0_off367 v2565) a + S1x1x128.size a ≤ S1x1024x128.size a)
theorem k0_off367_inb : ∀ (v2565 : BitVec 32) (k0_hw367 : k0_chk367 v2565), ∀ a, (k0_off367 v2565) a + S1x1x128.size a ≤ S1x1024x128.size a := fun v2565 k0_hw367 => k0_hw367

def k0_off368 (v2572 : BitVec 32) : Fin 3 → Nat :=
  let c0_2205 : Index := 0#32
  let v2573 : Index := Scalar.indexCast v2572
  let c0_2206 : Index := 0#32
  ![0, v2573.toNat, 0]

def k0_chk368 (v2572 : BitVec 32) : Prop :=
  (∀ a, (k0_off368 v2572) a + S1x1x128.size a ≤ S1x1024x128.size a)
theorem k0_off368_inb : ∀ (v2572 : BitVec 32) (k0_hw368 : k0_chk368 v2572), ∀ a, (k0_off368 v2572) a + S1x1x128.size a ≤ S1x1024x128.size a := fun v2572 k0_hw368 => k0_hw368

def k0_off369 (v2579 : BitVec 32) : Fin 3 → Nat :=
  let c0_2211 : Index := 0#32
  let v2580 : Index := Scalar.indexCast v2579
  let c0_2212 : Index := 0#32
  ![0, v2580.toNat, 0]

def k0_chk369 (v2579 : BitVec 32) : Prop :=
  (∀ a, (k0_off369 v2579) a + S1x1x128.size a ≤ S1x1024x128.size a)
theorem k0_off369_inb : ∀ (v2579 : BitVec 32) (k0_hw369 : k0_chk369 v2579), ∀ a, (k0_off369 v2579) a + S1x1x128.size a ≤ S1x1024x128.size a := fun v2579 k0_hw369 => k0_hw369

def k0_off370 (v2586 : BitVec 32) : Fin 3 → Nat :=
  let c0_2217 : Index := 0#32
  let v2587 : Index := Scalar.indexCast v2586
  let c0_2218 : Index := 0#32
  ![0, v2587.toNat, 0]

def k0_chk370 (v2586 : BitVec 32) : Prop :=
  (∀ a, (k0_off370 v2586) a + S1x1x128.size a ≤ S1x1024x128.size a)
theorem k0_off370_inb : ∀ (v2586 : BitVec 32) (k0_hw370 : k0_chk370 v2586), ∀ a, (k0_off370 v2586) a + S1x1x128.size a ≤ S1x1024x128.size a := fun v2586 k0_hw370 => k0_hw370

def k0_off371 (v2593 : BitVec 32) : Fin 3 → Nat :=
  let c0_2223 : Index := 0#32
  let v2594 : Index := Scalar.indexCast v2593
  let c0_2224 : Index := 0#32
  ![0, v2594.toNat, 0]

def k0_chk371 (v2593 : BitVec 32) : Prop :=
  (∀ a, (k0_off371 v2593) a + S1x1x128.size a ≤ S1x1024x128.size a)
theorem k0_off371_inb : ∀ (v2593 : BitVec 32) (k0_hw371 : k0_chk371 v2593), ∀ a, (k0_off371 v2593) a + S1x1x128.size a ≤ S1x1024x128.size a := fun v2593 k0_hw371 => k0_hw371

def k0_off372 (v2600 : BitVec 32) : Fin 3 → Nat :=
  let c0_2229 : Index := 0#32
  let v2601 : Index := Scalar.indexCast v2600
  let c0_2230 : Index := 0#32
  ![0, v2601.toNat, 0]

def k0_chk372 (v2600 : BitVec 32) : Prop :=
  (∀ a, (k0_off372 v2600) a + S1x1x128.size a ≤ S1x1024x128.size a)
theorem k0_off372_inb : ∀ (v2600 : BitVec 32) (k0_hw372 : k0_chk372 v2600), ∀ a, (k0_off372 v2600) a + S1x1x128.size a ≤ S1x1024x128.size a := fun v2600 k0_hw372 => k0_hw372

def k0_off373 (v2607 : BitVec 32) : Fin 3 → Nat :=
  let c0_2235 : Index := 0#32
  let v2608 : Index := Scalar.indexCast v2607
  let c0_2236 : Index := 0#32
  ![0, v2608.toNat, 0]

def k0_chk373 (v2607 : BitVec 32) : Prop :=
  (∀ a, (k0_off373 v2607) a + S1x1x128.size a ≤ S1x1024x128.size a)
theorem k0_off373_inb : ∀ (v2607 : BitVec 32) (k0_hw373 : k0_chk373 v2607), ∀ a, (k0_off373 v2607) a + S1x1x128.size a ≤ S1x1024x128.size a := fun v2607 k0_hw373 => k0_hw373

def k0_off374 (v2614 : BitVec 32) : Fin 3 → Nat :=
  let c0_2241 : Index := 0#32
  let v2615 : Index := Scalar.indexCast v2614
  let c0_2242 : Index := 0#32
  ![0, v2615.toNat, 0]

def k0_chk374 (v2614 : BitVec 32) : Prop :=
  (∀ a, (k0_off374 v2614) a + S1x1x128.size a ≤ S1x1024x128.size a)
theorem k0_off374_inb : ∀ (v2614 : BitVec 32) (k0_hw374 : k0_chk374 v2614), ∀ a, (k0_off374 v2614) a + S1x1x128.size a ≤ S1x1024x128.size a := fun v2614 k0_hw374 => k0_hw374

def k0_off375 (v2621 : BitVec 32) : Fin 3 → Nat :=
  let c0_2247 : Index := 0#32
  let v2622 : Index := Scalar.indexCast v2621
  let c0_2248 : Index := 0#32
  ![0, v2622.toNat, 0]

def k0_chk375 (v2621 : BitVec 32) : Prop :=
  (∀ a, (k0_off375 v2621) a + S1x1x128.size a ≤ S1x1024x128.size a)
theorem k0_off375_inb : ∀ (v2621 : BitVec 32) (k0_hw375 : k0_chk375 v2621), ∀ a, (k0_off375 v2621) a + S1x1x128.size a ≤ S1x1024x128.size a := fun v2621 k0_hw375 => k0_hw375

def k0_off376 (v2628 : BitVec 32) : Fin 3 → Nat :=
  let c0_2253 : Index := 0#32
  let v2629 : Index := Scalar.indexCast v2628
  let c0_2254 : Index := 0#32
  ![0, v2629.toNat, 0]

def k0_chk376 (v2628 : BitVec 32) : Prop :=
  (∀ a, (k0_off376 v2628) a + S1x1x128.size a ≤ S1x1024x128.size a)
theorem k0_off376_inb : ∀ (v2628 : BitVec 32) (k0_hw376 : k0_chk376 v2628), ∀ a, (k0_off376 v2628) a + S1x1x128.size a ≤ S1x1024x128.size a := fun v2628 k0_hw376 => k0_hw376

def k0_off377 (v2635 : BitVec 32) : Fin 3 → Nat :=
  let c0_2259 : Index := 0#32
  let v2636 : Index := Scalar.indexCast v2635
  let c0_2260 : Index := 0#32
  ![0, v2636.toNat, 0]

def k0_chk377 (v2635 : BitVec 32) : Prop :=
  (∀ a, (k0_off377 v2635) a + S1x1x128.size a ≤ S1x1024x128.size a)
theorem k0_off377_inb : ∀ (v2635 : BitVec 32) (k0_hw377 : k0_chk377 v2635), ∀ a, (k0_off377 v2635) a + S1x1x128.size a ≤ S1x1024x128.size a := fun v2635 k0_hw377 => k0_hw377

def k0_off378 (v2642 : BitVec 32) : Fin 3 → Nat :=
  let c0_2265 : Index := 0#32
  let v2643 : Index := Scalar.indexCast v2642
  let c0_2266 : Index := 0#32
  ![0, v2643.toNat, 0]

def k0_chk378 (v2642 : BitVec 32) : Prop :=
  (∀ a, (k0_off378 v2642) a + S1x1x128.size a ≤ S1x1024x128.size a)
theorem k0_off378_inb : ∀ (v2642 : BitVec 32) (k0_hw378 : k0_chk378 v2642), ∀ a, (k0_off378 v2642) a + S1x1x128.size a ≤ S1x1024x128.size a := fun v2642 k0_hw378 => k0_hw378

def k0_off379 (v2649 : BitVec 32) : Fin 3 → Nat :=
  let c0_2271 : Index := 0#32
  let v2650 : Index := Scalar.indexCast v2649
  let c0_2272 : Index := 0#32
  ![0, v2650.toNat, 0]

def k0_chk379 (v2649 : BitVec 32) : Prop :=
  (∀ a, (k0_off379 v2649) a + S1x1x128.size a ≤ S1x1024x128.size a)
theorem k0_off379_inb : ∀ (v2649 : BitVec 32) (k0_hw379 : k0_chk379 v2649), ∀ a, (k0_off379 v2649) a + S1x1x128.size a ≤ S1x1024x128.size a := fun v2649 k0_hw379 => k0_hw379

def k0_off380 (v2656 : BitVec 32) : Fin 3 → Nat :=
  let c0_2277 : Index := 0#32
  let v2657 : Index := Scalar.indexCast v2656
  let c0_2278 : Index := 0#32
  ![0, v2657.toNat, 0]

def k0_chk380 (v2656 : BitVec 32) : Prop :=
  (∀ a, (k0_off380 v2656) a + S1x1x128.size a ≤ S1x1024x128.size a)
theorem k0_off380_inb : ∀ (v2656 : BitVec 32) (k0_hw380 : k0_chk380 v2656), ∀ a, (k0_off380 v2656) a + S1x1x128.size a ≤ S1x1024x128.size a := fun v2656 k0_hw380 => k0_hw380

def k0_off381 (v2663 : BitVec 32) : Fin 3 → Nat :=
  let c0_2283 : Index := 0#32
  let v2664 : Index := Scalar.indexCast v2663
  let c0_2284 : Index := 0#32
  ![0, v2664.toNat, 0]

def k0_chk381 (v2663 : BitVec 32) : Prop :=
  (∀ a, (k0_off381 v2663) a + S1x1x128.size a ≤ S1x1024x128.size a)
theorem k0_off381_inb : ∀ (v2663 : BitVec 32) (k0_hw381 : k0_chk381 v2663), ∀ a, (k0_off381 v2663) a + S1x1x128.size a ≤ S1x1024x128.size a := fun v2663 k0_hw381 => k0_hw381

def k0_off382 (v2670 : BitVec 32) : Fin 3 → Nat :=
  let c0_2289 : Index := 0#32
  let v2671 : Index := Scalar.indexCast v2670
  let c0_2290 : Index := 0#32
  ![0, v2671.toNat, 0]

def k0_chk382 (v2670 : BitVec 32) : Prop :=
  (∀ a, (k0_off382 v2670) a + S1x1x128.size a ≤ S1x1024x128.size a)
theorem k0_off382_inb : ∀ (v2670 : BitVec 32) (k0_hw382 : k0_chk382 v2670), ∀ a, (k0_off382 v2670) a + S1x1x128.size a ≤ S1x1024x128.size a := fun v2670 k0_hw382 => k0_hw382

def k0_off383 (v2677 : BitVec 32) : Fin 3 → Nat :=
  let c0_2295 : Index := 0#32
  let v2678 : Index := Scalar.indexCast v2677
  let c0_2296 : Index := 0#32
  ![0, v2678.toNat, 0]

def k0_chk383 (v2677 : BitVec 32) : Prop :=
  (∀ a, (k0_off383 v2677) a + S1x1x128.size a ≤ S1x1024x128.size a)
theorem k0_off383_inb : ∀ (v2677 : BitVec 32) (k0_hw383 : k0_chk383 v2677), ∀ a, (k0_off383 v2677) a + S1x1x128.size a ≤ S1x1024x128.size a := fun v2677 k0_hw383 => k0_hw383

def k0_off384 (v2684 : BitVec 32) : Fin 3 → Nat :=
  let c0_2301 : Index := 0#32
  let v2685 : Index := Scalar.indexCast v2684
  let c0_2302 : Index := 0#32
  ![0, v2685.toNat, 0]

def k0_chk384 (v2684 : BitVec 32) : Prop :=
  (∀ a, (k0_off384 v2684) a + S1x1x128.size a ≤ S1x1024x128.size a)
theorem k0_off384_inb : ∀ (v2684 : BitVec 32) (k0_hw384 : k0_chk384 v2684), ∀ a, (k0_off384 v2684) a + S1x1x128.size a ≤ S1x1024x128.size a := fun v2684 k0_hw384 => k0_hw384

def k0_off385 (v2691 : BitVec 32) : Fin 3 → Nat :=
  let c0_2307 : Index := 0#32
  let v2692 : Index := Scalar.indexCast v2691
  let c0_2308 : Index := 0#32
  ![0, v2692.toNat, 0]

def k0_chk385 (v2691 : BitVec 32) : Prop :=
  (∀ a, (k0_off385 v2691) a + S1x1x128.size a ≤ S1x1024x128.size a)
theorem k0_off385_inb : ∀ (v2691 : BitVec 32) (k0_hw385 : k0_chk385 v2691), ∀ a, (k0_off385 v2691) a + S1x1x128.size a ≤ S1x1024x128.size a := fun v2691 k0_hw385 => k0_hw385

def k0_off386 (v2698 : BitVec 32) : Fin 3 → Nat :=
  let c0_2313 : Index := 0#32
  let v2699 : Index := Scalar.indexCast v2698
  let c0_2314 : Index := 0#32
  ![0, v2699.toNat, 0]

def k0_chk386 (v2698 : BitVec 32) : Prop :=
  (∀ a, (k0_off386 v2698) a + S1x1x128.size a ≤ S1x1024x128.size a)
theorem k0_off386_inb : ∀ (v2698 : BitVec 32) (k0_hw386 : k0_chk386 v2698), ∀ a, (k0_off386 v2698) a + S1x1x128.size a ≤ S1x1024x128.size a := fun v2698 k0_hw386 => k0_hw386

def k0_off387 (v2705 : BitVec 32) : Fin 3 → Nat :=
  let c0_2319 : Index := 0#32
  let v2706 : Index := Scalar.indexCast v2705
  let c0_2320 : Index := 0#32
  ![0, v2706.toNat, 0]

def k0_chk387 (v2705 : BitVec 32) : Prop :=
  (∀ a, (k0_off387 v2705) a + S1x1x128.size a ≤ S1x1024x128.size a)
theorem k0_off387_inb : ∀ (v2705 : BitVec 32) (k0_hw387 : k0_chk387 v2705), ∀ a, (k0_off387 v2705) a + S1x1x128.size a ≤ S1x1024x128.size a := fun v2705 k0_hw387 => k0_hw387

def k0_off388 (v2712 : BitVec 32) : Fin 3 → Nat :=
  let c0_2325 : Index := 0#32
  let v2713 : Index := Scalar.indexCast v2712
  let c0_2326 : Index := 0#32
  ![0, v2713.toNat, 0]

def k0_chk388 (v2712 : BitVec 32) : Prop :=
  (∀ a, (k0_off388 v2712) a + S1x1x128.size a ≤ S1x1024x128.size a)
theorem k0_off388_inb : ∀ (v2712 : BitVec 32) (k0_hw388 : k0_chk388 v2712), ∀ a, (k0_off388 v2712) a + S1x1x128.size a ≤ S1x1024x128.size a := fun v2712 k0_hw388 => k0_hw388

def k0_off389 (v2719 : BitVec 32) : Fin 3 → Nat :=
  let c0_2331 : Index := 0#32
  let v2720 : Index := Scalar.indexCast v2719
  let c0_2332 : Index := 0#32
  ![0, v2720.toNat, 0]

def k0_chk389 (v2719 : BitVec 32) : Prop :=
  (∀ a, (k0_off389 v2719) a + S1x1x128.size a ≤ S1x1024x128.size a)
theorem k0_off389_inb : ∀ (v2719 : BitVec 32) (k0_hw389 : k0_chk389 v2719), ∀ a, (k0_off389 v2719) a + S1x1x128.size a ≤ S1x1024x128.size a := fun v2719 k0_hw389 => k0_hw389

def k0_off390 (v2726 : BitVec 32) : Fin 3 → Nat :=
  let c0_2337 : Index := 0#32
  let v2727 : Index := Scalar.indexCast v2726
  let c0_2338 : Index := 0#32
  ![0, v2727.toNat, 0]

def k0_chk390 (v2726 : BitVec 32) : Prop :=
  (∀ a, (k0_off390 v2726) a + S1x1x128.size a ≤ S1x1024x128.size a)
theorem k0_off390_inb : ∀ (v2726 : BitVec 32) (k0_hw390 : k0_chk390 v2726), ∀ a, (k0_off390 v2726) a + S1x1x128.size a ≤ S1x1024x128.size a := fun v2726 k0_hw390 => k0_hw390

def k0_off391 (v2733 : BitVec 32) : Fin 3 → Nat :=
  let c0_2343 : Index := 0#32
  let v2734 : Index := Scalar.indexCast v2733
  let c0_2344 : Index := 0#32
  ![0, v2734.toNat, 0]

def k0_chk391 (v2733 : BitVec 32) : Prop :=
  (∀ a, (k0_off391 v2733) a + S1x1x128.size a ≤ S1x1024x128.size a)
theorem k0_off391_inb : ∀ (v2733 : BitVec 32) (k0_hw391 : k0_chk391 v2733), ∀ a, (k0_off391 v2733) a + S1x1x128.size a ≤ S1x1024x128.size a := fun v2733 k0_hw391 => k0_hw391

def k0_off392 (v2740 : BitVec 32) : Fin 3 → Nat :=
  let c0_2349 : Index := 0#32
  let v2741 : Index := Scalar.indexCast v2740
  let c0_2350 : Index := 0#32
  ![0, v2741.toNat, 0]

def k0_chk392 (v2740 : BitVec 32) : Prop :=
  (∀ a, (k0_off392 v2740) a + S1x1x128.size a ≤ S1x1024x128.size a)
theorem k0_off392_inb : ∀ (v2740 : BitVec 32) (k0_hw392 : k0_chk392 v2740), ∀ a, (k0_off392 v2740) a + S1x1x128.size a ≤ S1x1024x128.size a := fun v2740 k0_hw392 => k0_hw392

def k0_off393 (v2747 : BitVec 32) : Fin 3 → Nat :=
  let c0_2355 : Index := 0#32
  let v2748 : Index := Scalar.indexCast v2747
  let c0_2356 : Index := 0#32
  ![0, v2748.toNat, 0]

def k0_chk393 (v2747 : BitVec 32) : Prop :=
  (∀ a, (k0_off393 v2747) a + S1x1x128.size a ≤ S1x1024x128.size a)
theorem k0_off393_inb : ∀ (v2747 : BitVec 32) (k0_hw393 : k0_chk393 v2747), ∀ a, (k0_off393 v2747) a + S1x1x128.size a ≤ S1x1024x128.size a := fun v2747 k0_hw393 => k0_hw393

def k0_off394 (v2754 : BitVec 32) : Fin 3 → Nat :=
  let c0_2361 : Index := 0#32
  let v2755 : Index := Scalar.indexCast v2754
  let c0_2362 : Index := 0#32
  ![0, v2755.toNat, 0]

def k0_chk394 (v2754 : BitVec 32) : Prop :=
  (∀ a, (k0_off394 v2754) a + S1x1x128.size a ≤ S1x1024x128.size a)
theorem k0_off394_inb : ∀ (v2754 : BitVec 32) (k0_hw394 : k0_chk394 v2754), ∀ a, (k0_off394 v2754) a + S1x1x128.size a ≤ S1x1024x128.size a := fun v2754 k0_hw394 => k0_hw394

def k0_off395 (v2761 : BitVec 32) : Fin 3 → Nat :=
  let c0_2367 : Index := 0#32
  let v2762 : Index := Scalar.indexCast v2761
  let c0_2368 : Index := 0#32
  ![0, v2762.toNat, 0]

def k0_chk395 (v2761 : BitVec 32) : Prop :=
  (∀ a, (k0_off395 v2761) a + S1x1x128.size a ≤ S1x1024x128.size a)
theorem k0_off395_inb : ∀ (v2761 : BitVec 32) (k0_hw395 : k0_chk395 v2761), ∀ a, (k0_off395 v2761) a + S1x1x128.size a ≤ S1x1024x128.size a := fun v2761 k0_hw395 => k0_hw395

def k0_off396 (v2768 : BitVec 32) : Fin 3 → Nat :=
  let c0_2373 : Index := 0#32
  let v2769 : Index := Scalar.indexCast v2768
  let c0_2374 : Index := 0#32
  ![0, v2769.toNat, 0]

def k0_chk396 (v2768 : BitVec 32) : Prop :=
  (∀ a, (k0_off396 v2768) a + S1x1x128.size a ≤ S1x1024x128.size a)
theorem k0_off396_inb : ∀ (v2768 : BitVec 32) (k0_hw396 : k0_chk396 v2768), ∀ a, (k0_off396 v2768) a + S1x1x128.size a ≤ S1x1024x128.size a := fun v2768 k0_hw396 => k0_hw396

def k0_off397 (v2775 : BitVec 32) : Fin 3 → Nat :=
  let c0_2379 : Index := 0#32
  let v2776 : Index := Scalar.indexCast v2775
  let c0_2380 : Index := 0#32
  ![0, v2776.toNat, 0]

def k0_chk397 (v2775 : BitVec 32) : Prop :=
  (∀ a, (k0_off397 v2775) a + S1x1x128.size a ≤ S1x1024x128.size a)
theorem k0_off397_inb : ∀ (v2775 : BitVec 32) (k0_hw397 : k0_chk397 v2775), ∀ a, (k0_off397 v2775) a + S1x1x128.size a ≤ S1x1024x128.size a := fun v2775 k0_hw397 => k0_hw397

def k0_off398 (v2782 : BitVec 32) : Fin 3 → Nat :=
  let c0_2385 : Index := 0#32
  let v2783 : Index := Scalar.indexCast v2782
  let c0_2386 : Index := 0#32
  ![0, v2783.toNat, 0]

def k0_chk398 (v2782 : BitVec 32) : Prop :=
  (∀ a, (k0_off398 v2782) a + S1x1x128.size a ≤ S1x1024x128.size a)
theorem k0_off398_inb : ∀ (v2782 : BitVec 32) (k0_hw398 : k0_chk398 v2782), ∀ a, (k0_off398 v2782) a + S1x1x128.size a ≤ S1x1024x128.size a := fun v2782 k0_hw398 => k0_hw398

def k0_off399 (v2789 : BitVec 32) : Fin 3 → Nat :=
  let c0_2391 : Index := 0#32
  let v2790 : Index := Scalar.indexCast v2789
  let c0_2392 : Index := 0#32
  ![0, v2790.toNat, 0]

def k0_chk399 (v2789 : BitVec 32) : Prop :=
  (∀ a, (k0_off399 v2789) a + S1x1x128.size a ≤ S1x1024x128.size a)
theorem k0_off399_inb : ∀ (v2789 : BitVec 32) (k0_hw399 : k0_chk399 v2789), ∀ a, (k0_off399 v2789) a + S1x1x128.size a ≤ S1x1024x128.size a := fun v2789 k0_hw399 => k0_hw399

def k0_off400 (v2796 : BitVec 32) : Fin 3 → Nat :=
  let c0_2397 : Index := 0#32
  let v2797 : Index := Scalar.indexCast v2796
  let c0_2398 : Index := 0#32
  ![0, v2797.toNat, 0]

def k0_chk400 (v2796 : BitVec 32) : Prop :=
  (∀ a, (k0_off400 v2796) a + S1x1x128.size a ≤ S1x1024x128.size a)
theorem k0_off400_inb : ∀ (v2796 : BitVec 32) (k0_hw400 : k0_chk400 v2796), ∀ a, (k0_off400 v2796) a + S1x1x128.size a ≤ S1x1024x128.size a := fun v2796 k0_hw400 => k0_hw400

def k0_off401 (v2803 : BitVec 32) : Fin 3 → Nat :=
  let c0_2403 : Index := 0#32
  let v2804 : Index := Scalar.indexCast v2803
  let c0_2404 : Index := 0#32
  ![0, v2804.toNat, 0]

def k0_chk401 (v2803 : BitVec 32) : Prop :=
  (∀ a, (k0_off401 v2803) a + S1x1x128.size a ≤ S1x1024x128.size a)
theorem k0_off401_inb : ∀ (v2803 : BitVec 32) (k0_hw401 : k0_chk401 v2803), ∀ a, (k0_off401 v2803) a + S1x1x128.size a ≤ S1x1024x128.size a := fun v2803 k0_hw401 => k0_hw401

def k0_off402 (v2810 : BitVec 32) : Fin 3 → Nat :=
  let c0_2409 : Index := 0#32
  let v2811 : Index := Scalar.indexCast v2810
  let c0_2410 : Index := 0#32
  ![0, v2811.toNat, 0]

def k0_chk402 (v2810 : BitVec 32) : Prop :=
  (∀ a, (k0_off402 v2810) a + S1x1x128.size a ≤ S1x1024x128.size a)
theorem k0_off402_inb : ∀ (v2810 : BitVec 32) (k0_hw402 : k0_chk402 v2810), ∀ a, (k0_off402 v2810) a + S1x1x128.size a ≤ S1x1024x128.size a := fun v2810 k0_hw402 => k0_hw402

def k0_off403 (v2817 : BitVec 32) : Fin 3 → Nat :=
  let c0_2415 : Index := 0#32
  let v2818 : Index := Scalar.indexCast v2817
  let c0_2416 : Index := 0#32
  ![0, v2818.toNat, 0]

def k0_chk403 (v2817 : BitVec 32) : Prop :=
  (∀ a, (k0_off403 v2817) a + S1x1x128.size a ≤ S1x1024x128.size a)
theorem k0_off403_inb : ∀ (v2817 : BitVec 32) (k0_hw403 : k0_chk403 v2817), ∀ a, (k0_off403 v2817) a + S1x1x128.size a ≤ S1x1024x128.size a := fun v2817 k0_hw403 => k0_hw403

def k0_off404 (v2824 : BitVec 32) : Fin 3 → Nat :=
  let c0_2421 : Index := 0#32
  let v2825 : Index := Scalar.indexCast v2824
  let c0_2422 : Index := 0#32
  ![0, v2825.toNat, 0]

def k0_chk404 (v2824 : BitVec 32) : Prop :=
  (∀ a, (k0_off404 v2824) a + S1x1x128.size a ≤ S1x1024x128.size a)
theorem k0_off404_inb : ∀ (v2824 : BitVec 32) (k0_hw404 : k0_chk404 v2824), ∀ a, (k0_off404 v2824) a + S1x1x128.size a ≤ S1x1024x128.size a := fun v2824 k0_hw404 => k0_hw404

def k0_off405 (v2831 : BitVec 32) : Fin 3 → Nat :=
  let c0_2427 : Index := 0#32
  let v2832 : Index := Scalar.indexCast v2831
  let c0_2428 : Index := 0#32
  ![0, v2832.toNat, 0]

def k0_chk405 (v2831 : BitVec 32) : Prop :=
  (∀ a, (k0_off405 v2831) a + S1x1x128.size a ≤ S1x1024x128.size a)
theorem k0_off405_inb : ∀ (v2831 : BitVec 32) (k0_hw405 : k0_chk405 v2831), ∀ a, (k0_off405 v2831) a + S1x1x128.size a ≤ S1x1024x128.size a := fun v2831 k0_hw405 => k0_hw405

def k0_off406 (v2838 : BitVec 32) : Fin 3 → Nat :=
  let c0_2433 : Index := 0#32
  let v2839 : Index := Scalar.indexCast v2838
  let c0_2434 : Index := 0#32
  ![0, v2839.toNat, 0]

def k0_chk406 (v2838 : BitVec 32) : Prop :=
  (∀ a, (k0_off406 v2838) a + S1x1x128.size a ≤ S1x1024x128.size a)
theorem k0_off406_inb : ∀ (v2838 : BitVec 32) (k0_hw406 : k0_chk406 v2838), ∀ a, (k0_off406 v2838) a + S1x1x128.size a ≤ S1x1024x128.size a := fun v2838 k0_hw406 => k0_hw406

def k0_off407 (v2845 : BitVec 32) : Fin 3 → Nat :=
  let c0_2439 : Index := 0#32
  let v2846 : Index := Scalar.indexCast v2845
  let c0_2440 : Index := 0#32
  ![0, v2846.toNat, 0]

def k0_chk407 (v2845 : BitVec 32) : Prop :=
  (∀ a, (k0_off407 v2845) a + S1x1x128.size a ≤ S1x1024x128.size a)
theorem k0_off407_inb : ∀ (v2845 : BitVec 32) (k0_hw407 : k0_chk407 v2845), ∀ a, (k0_off407 v2845) a + S1x1x128.size a ≤ S1x1024x128.size a := fun v2845 k0_hw407 => k0_hw407

def k0_off408 (v2852 : BitVec 32) : Fin 3 → Nat :=
  let c0_2445 : Index := 0#32
  let v2853 : Index := Scalar.indexCast v2852
  let c0_2446 : Index := 0#32
  ![0, v2853.toNat, 0]

def k0_chk408 (v2852 : BitVec 32) : Prop :=
  (∀ a, (k0_off408 v2852) a + S1x1x128.size a ≤ S1x1024x128.size a)
theorem k0_off408_inb : ∀ (v2852 : BitVec 32) (k0_hw408 : k0_chk408 v2852), ∀ a, (k0_off408 v2852) a + S1x1x128.size a ≤ S1x1024x128.size a := fun v2852 k0_hw408 => k0_hw408

def k0_off409 (v2859 : BitVec 32) : Fin 3 → Nat :=
  let c0_2451 : Index := 0#32
  let v2860 : Index := Scalar.indexCast v2859
  let c0_2452 : Index := 0#32
  ![0, v2860.toNat, 0]

def k0_chk409 (v2859 : BitVec 32) : Prop :=
  (∀ a, (k0_off409 v2859) a + S1x1x128.size a ≤ S1x1024x128.size a)
theorem k0_off409_inb : ∀ (v2859 : BitVec 32) (k0_hw409 : k0_chk409 v2859), ∀ a, (k0_off409 v2859) a + S1x1x128.size a ≤ S1x1024x128.size a := fun v2859 k0_hw409 => k0_hw409

def k0_off410 (v2866 : BitVec 32) : Fin 3 → Nat :=
  let c0_2457 : Index := 0#32
  let v2867 : Index := Scalar.indexCast v2866
  let c0_2458 : Index := 0#32
  ![0, v2867.toNat, 0]

def k0_chk410 (v2866 : BitVec 32) : Prop :=
  (∀ a, (k0_off410 v2866) a + S1x1x128.size a ≤ S1x1024x128.size a)
theorem k0_off410_inb : ∀ (v2866 : BitVec 32) (k0_hw410 : k0_chk410 v2866), ∀ a, (k0_off410 v2866) a + S1x1x128.size a ≤ S1x1024x128.size a := fun v2866 k0_hw410 => k0_hw410

def k0_off411 (v2873 : BitVec 32) : Fin 3 → Nat :=
  let c0_2463 : Index := 0#32
  let v2874 : Index := Scalar.indexCast v2873
  let c0_2464 : Index := 0#32
  ![0, v2874.toNat, 0]

def k0_chk411 (v2873 : BitVec 32) : Prop :=
  (∀ a, (k0_off411 v2873) a + S1x1x128.size a ≤ S1x1024x128.size a)
theorem k0_off411_inb : ∀ (v2873 : BitVec 32) (k0_hw411 : k0_chk411 v2873), ∀ a, (k0_off411 v2873) a + S1x1x128.size a ≤ S1x1024x128.size a := fun v2873 k0_hw411 => k0_hw411

def k0_off412 (v2880 : BitVec 32) : Fin 3 → Nat :=
  let c0_2469 : Index := 0#32
  let v2881 : Index := Scalar.indexCast v2880
  let c0_2470 : Index := 0#32
  ![0, v2881.toNat, 0]

def k0_chk412 (v2880 : BitVec 32) : Prop :=
  (∀ a, (k0_off412 v2880) a + S1x1x128.size a ≤ S1x1024x128.size a)
theorem k0_off412_inb : ∀ (v2880 : BitVec 32) (k0_hw412 : k0_chk412 v2880), ∀ a, (k0_off412 v2880) a + S1x1x128.size a ≤ S1x1024x128.size a := fun v2880 k0_hw412 => k0_hw412

def k0_off413 (v2887 : BitVec 32) : Fin 3 → Nat :=
  let c0_2475 : Index := 0#32
  let v2888 : Index := Scalar.indexCast v2887
  let c0_2476 : Index := 0#32
  ![0, v2888.toNat, 0]

def k0_chk413 (v2887 : BitVec 32) : Prop :=
  (∀ a, (k0_off413 v2887) a + S1x1x128.size a ≤ S1x1024x128.size a)
theorem k0_off413_inb : ∀ (v2887 : BitVec 32) (k0_hw413 : k0_chk413 v2887), ∀ a, (k0_off413 v2887) a + S1x1x128.size a ≤ S1x1024x128.size a := fun v2887 k0_hw413 => k0_hw413

def k0_off414 (v2894 : BitVec 32) : Fin 3 → Nat :=
  let c0_2481 : Index := 0#32
  let v2895 : Index := Scalar.indexCast v2894
  let c0_2482 : Index := 0#32
  ![0, v2895.toNat, 0]

def k0_chk414 (v2894 : BitVec 32) : Prop :=
  (∀ a, (k0_off414 v2894) a + S1x1x128.size a ≤ S1x1024x128.size a)
theorem k0_off414_inb : ∀ (v2894 : BitVec 32) (k0_hw414 : k0_chk414 v2894), ∀ a, (k0_off414 v2894) a + S1x1x128.size a ≤ S1x1024x128.size a := fun v2894 k0_hw414 => k0_hw414

def k0_off415 (v2901 : BitVec 32) : Fin 3 → Nat :=
  let c0_2487 : Index := 0#32
  let v2902 : Index := Scalar.indexCast v2901
  let c0_2488 : Index := 0#32
  ![0, v2902.toNat, 0]

def k0_chk415 (v2901 : BitVec 32) : Prop :=
  (∀ a, (k0_off415 v2901) a + S1x1x128.size a ≤ S1x1024x128.size a)
theorem k0_off415_inb : ∀ (v2901 : BitVec 32) (k0_hw415 : k0_chk415 v2901), ∀ a, (k0_off415 v2901) a + S1x1x128.size a ≤ S1x1024x128.size a := fun v2901 k0_hw415 => k0_hw415

def k0_off416 (v2908 : BitVec 32) : Fin 3 → Nat :=
  let c0_2493 : Index := 0#32
  let v2909 : Index := Scalar.indexCast v2908
  let c0_2494 : Index := 0#32
  ![0, v2909.toNat, 0]

def k0_chk416 (v2908 : BitVec 32) : Prop :=
  (∀ a, (k0_off416 v2908) a + S1x1x128.size a ≤ S1x1024x128.size a)
theorem k0_off416_inb : ∀ (v2908 : BitVec 32) (k0_hw416 : k0_chk416 v2908), ∀ a, (k0_off416 v2908) a + S1x1x128.size a ≤ S1x1024x128.size a := fun v2908 k0_hw416 => k0_hw416

def k0_off417 (v2915 : BitVec 32) : Fin 3 → Nat :=
  let c0_2499 : Index := 0#32
  let v2916 : Index := Scalar.indexCast v2915
  let c0_2500 : Index := 0#32
  ![0, v2916.toNat, 0]

def k0_chk417 (v2915 : BitVec 32) : Prop :=
  (∀ a, (k0_off417 v2915) a + S1x1x128.size a ≤ S1x1024x128.size a)
theorem k0_off417_inb : ∀ (v2915 : BitVec 32) (k0_hw417 : k0_chk417 v2915), ∀ a, (k0_off417 v2915) a + S1x1x128.size a ≤ S1x1024x128.size a := fun v2915 k0_hw417 => k0_hw417

def k0_off418 (v2922 : BitVec 32) : Fin 3 → Nat :=
  let c0_2505 : Index := 0#32
  let v2923 : Index := Scalar.indexCast v2922
  let c0_2506 : Index := 0#32
  ![0, v2923.toNat, 0]

def k0_chk418 (v2922 : BitVec 32) : Prop :=
  (∀ a, (k0_off418 v2922) a + S1x1x128.size a ≤ S1x1024x128.size a)
theorem k0_off418_inb : ∀ (v2922 : BitVec 32) (k0_hw418 : k0_chk418 v2922), ∀ a, (k0_off418 v2922) a + S1x1x128.size a ≤ S1x1024x128.size a := fun v2922 k0_hw418 => k0_hw418

def k0_off419 (v2929 : BitVec 32) : Fin 3 → Nat :=
  let c0_2511 : Index := 0#32
  let v2930 : Index := Scalar.indexCast v2929
  let c0_2512 : Index := 0#32
  ![0, v2930.toNat, 0]

def k0_chk419 (v2929 : BitVec 32) : Prop :=
  (∀ a, (k0_off419 v2929) a + S1x1x128.size a ≤ S1x1024x128.size a)
theorem k0_off419_inb : ∀ (v2929 : BitVec 32) (k0_hw419 : k0_chk419 v2929), ∀ a, (k0_off419 v2929) a + S1x1x128.size a ≤ S1x1024x128.size a := fun v2929 k0_hw419 => k0_hw419

def k0_off420 (v2936 : BitVec 32) : Fin 3 → Nat :=
  let c0_2517 : Index := 0#32
  let v2937 : Index := Scalar.indexCast v2936
  let c0_2518 : Index := 0#32
  ![0, v2937.toNat, 0]

def k0_chk420 (v2936 : BitVec 32) : Prop :=
  (∀ a, (k0_off420 v2936) a + S1x1x128.size a ≤ S1x1024x128.size a)
theorem k0_off420_inb : ∀ (v2936 : BitVec 32) (k0_hw420 : k0_chk420 v2936), ∀ a, (k0_off420 v2936) a + S1x1x128.size a ≤ S1x1024x128.size a := fun v2936 k0_hw420 => k0_hw420

def k0_off421 (v2943 : BitVec 32) : Fin 3 → Nat :=
  let c0_2523 : Index := 0#32
  let v2944 : Index := Scalar.indexCast v2943
  let c0_2524 : Index := 0#32
  ![0, v2944.toNat, 0]

def k0_chk421 (v2943 : BitVec 32) : Prop :=
  (∀ a, (k0_off421 v2943) a + S1x1x128.size a ≤ S1x1024x128.size a)
theorem k0_off421_inb : ∀ (v2943 : BitVec 32) (k0_hw421 : k0_chk421 v2943), ∀ a, (k0_off421 v2943) a + S1x1x128.size a ≤ S1x1024x128.size a := fun v2943 k0_hw421 => k0_hw421

def k0_off422 (v2950 : BitVec 32) : Fin 3 → Nat :=
  let c0_2529 : Index := 0#32
  let v2951 : Index := Scalar.indexCast v2950
  let c0_2530 : Index := 0#32
  ![0, v2951.toNat, 0]

def k0_chk422 (v2950 : BitVec 32) : Prop :=
  (∀ a, (k0_off422 v2950) a + S1x1x128.size a ≤ S1x1024x128.size a)
theorem k0_off422_inb : ∀ (v2950 : BitVec 32) (k0_hw422 : k0_chk422 v2950), ∀ a, (k0_off422 v2950) a + S1x1x128.size a ≤ S1x1024x128.size a := fun v2950 k0_hw422 => k0_hw422

def k0_off423 (v2957 : BitVec 32) : Fin 3 → Nat :=
  let c0_2535 : Index := 0#32
  let v2958 : Index := Scalar.indexCast v2957
  let c0_2536 : Index := 0#32
  ![0, v2958.toNat, 0]

def k0_chk423 (v2957 : BitVec 32) : Prop :=
  (∀ a, (k0_off423 v2957) a + S1x1x128.size a ≤ S1x1024x128.size a)
theorem k0_off423_inb : ∀ (v2957 : BitVec 32) (k0_hw423 : k0_chk423 v2957), ∀ a, (k0_off423 v2957) a + S1x1x128.size a ≤ S1x1024x128.size a := fun v2957 k0_hw423 => k0_hw423

def k0_off424 (v2964 : BitVec 32) : Fin 3 → Nat :=
  let c0_2541 : Index := 0#32
  let v2965 : Index := Scalar.indexCast v2964
  let c0_2542 : Index := 0#32
  ![0, v2965.toNat, 0]

def k0_chk424 (v2964 : BitVec 32) : Prop :=
  (∀ a, (k0_off424 v2964) a + S1x1x128.size a ≤ S1x1024x128.size a)
theorem k0_off424_inb : ∀ (v2964 : BitVec 32) (k0_hw424 : k0_chk424 v2964), ∀ a, (k0_off424 v2964) a + S1x1x128.size a ≤ S1x1024x128.size a := fun v2964 k0_hw424 => k0_hw424

def k0_off425 (v2971 : BitVec 32) : Fin 3 → Nat :=
  let c0_2547 : Index := 0#32
  let v2972 : Index := Scalar.indexCast v2971
  let c0_2548 : Index := 0#32
  ![0, v2972.toNat, 0]

def k0_chk425 (v2971 : BitVec 32) : Prop :=
  (∀ a, (k0_off425 v2971) a + S1x1x128.size a ≤ S1x1024x128.size a)
theorem k0_off425_inb : ∀ (v2971 : BitVec 32) (k0_hw425 : k0_chk425 v2971), ∀ a, (k0_off425 v2971) a + S1x1x128.size a ≤ S1x1024x128.size a := fun v2971 k0_hw425 => k0_hw425

def k0_off426 (v2978 : BitVec 32) : Fin 3 → Nat :=
  let c0_2553 : Index := 0#32
  let v2979 : Index := Scalar.indexCast v2978
  let c0_2554 : Index := 0#32
  ![0, v2979.toNat, 0]

def k0_chk426 (v2978 : BitVec 32) : Prop :=
  (∀ a, (k0_off426 v2978) a + S1x1x128.size a ≤ S1x1024x128.size a)
theorem k0_off426_inb : ∀ (v2978 : BitVec 32) (k0_hw426 : k0_chk426 v2978), ∀ a, (k0_off426 v2978) a + S1x1x128.size a ≤ S1x1024x128.size a := fun v2978 k0_hw426 => k0_hw426

def k0_off427 (v2985 : BitVec 32) : Fin 3 → Nat :=
  let c0_2559 : Index := 0#32
  let v2986 : Index := Scalar.indexCast v2985
  let c0_2560 : Index := 0#32
  ![0, v2986.toNat, 0]

def k0_chk427 (v2985 : BitVec 32) : Prop :=
  (∀ a, (k0_off427 v2985) a + S1x1x128.size a ≤ S1x1024x128.size a)
theorem k0_off427_inb : ∀ (v2985 : BitVec 32) (k0_hw427 : k0_chk427 v2985), ∀ a, (k0_off427 v2985) a + S1x1x128.size a ≤ S1x1024x128.size a := fun v2985 k0_hw427 => k0_hw427

def k0_off428 (v2992 : BitVec 32) : Fin 3 → Nat :=
  let c0_2565 : Index := 0#32
  let v2993 : Index := Scalar.indexCast v2992
  let c0_2566 : Index := 0#32
  ![0, v2993.toNat, 0]

def k0_chk428 (v2992 : BitVec 32) : Prop :=
  (∀ a, (k0_off428 v2992) a + S1x1x128.size a ≤ S1x1024x128.size a)
theorem k0_off428_inb : ∀ (v2992 : BitVec 32) (k0_hw428 : k0_chk428 v2992), ∀ a, (k0_off428 v2992) a + S1x1x128.size a ≤ S1x1024x128.size a := fun v2992 k0_hw428 => k0_hw428

def k0_off429 (v2999 : BitVec 32) : Fin 3 → Nat :=
  let c0_2571 : Index := 0#32
  let v3000 : Index := Scalar.indexCast v2999
  let c0_2572 : Index := 0#32
  ![0, v3000.toNat, 0]

def k0_chk429 (v2999 : BitVec 32) : Prop :=
  (∀ a, (k0_off429 v2999) a + S1x1x128.size a ≤ S1x1024x128.size a)
theorem k0_off429_inb : ∀ (v2999 : BitVec 32) (k0_hw429 : k0_chk429 v2999), ∀ a, (k0_off429 v2999) a + S1x1x128.size a ≤ S1x1024x128.size a := fun v2999 k0_hw429 => k0_hw429

def k0_off430 (v3006 : BitVec 32) : Fin 3 → Nat :=
  let c0_2577 : Index := 0#32
  let v3007 : Index := Scalar.indexCast v3006
  let c0_2578 : Index := 0#32
  ![0, v3007.toNat, 0]

def k0_chk430 (v3006 : BitVec 32) : Prop :=
  (∀ a, (k0_off430 v3006) a + S1x1x128.size a ≤ S1x1024x128.size a)
theorem k0_off430_inb : ∀ (v3006 : BitVec 32) (k0_hw430 : k0_chk430 v3006), ∀ a, (k0_off430 v3006) a + S1x1x128.size a ≤ S1x1024x128.size a := fun v3006 k0_hw430 => k0_hw430

def k0_off431 (v3013 : BitVec 32) : Fin 3 → Nat :=
  let c0_2583 : Index := 0#32
  let v3014 : Index := Scalar.indexCast v3013
  let c0_2584 : Index := 0#32
  ![0, v3014.toNat, 0]

def k0_chk431 (v3013 : BitVec 32) : Prop :=
  (∀ a, (k0_off431 v3013) a + S1x1x128.size a ≤ S1x1024x128.size a)
theorem k0_off431_inb : ∀ (v3013 : BitVec 32) (k0_hw431 : k0_chk431 v3013), ∀ a, (k0_off431 v3013) a + S1x1x128.size a ≤ S1x1024x128.size a := fun v3013 k0_hw431 => k0_hw431

def k0_off432 (v3020 : BitVec 32) : Fin 3 → Nat :=
  let c0_2589 : Index := 0#32
  let v3021 : Index := Scalar.indexCast v3020
  let c0_2590 : Index := 0#32
  ![0, v3021.toNat, 0]

def k0_chk432 (v3020 : BitVec 32) : Prop :=
  (∀ a, (k0_off432 v3020) a + S1x1x128.size a ≤ S1x1024x128.size a)
theorem k0_off432_inb : ∀ (v3020 : BitVec 32) (k0_hw432 : k0_chk432 v3020), ∀ a, (k0_off432 v3020) a + S1x1x128.size a ≤ S1x1024x128.size a := fun v3020 k0_hw432 => k0_hw432

def k0_off433 (v3027 : BitVec 32) : Fin 3 → Nat :=
  let c0_2595 : Index := 0#32
  let v3028 : Index := Scalar.indexCast v3027
  let c0_2596 : Index := 0#32
  ![0, v3028.toNat, 0]

def k0_chk433 (v3027 : BitVec 32) : Prop :=
  (∀ a, (k0_off433 v3027) a + S1x1x128.size a ≤ S1x1024x128.size a)
theorem k0_off433_inb : ∀ (v3027 : BitVec 32) (k0_hw433 : k0_chk433 v3027), ∀ a, (k0_off433 v3027) a + S1x1x128.size a ≤ S1x1024x128.size a := fun v3027 k0_hw433 => k0_hw433

def k0_off434 (v3034 : BitVec 32) : Fin 3 → Nat :=
  let c0_2601 : Index := 0#32
  let v3035 : Index := Scalar.indexCast v3034
  let c0_2602 : Index := 0#32
  ![0, v3035.toNat, 0]

def k0_chk434 (v3034 : BitVec 32) : Prop :=
  (∀ a, (k0_off434 v3034) a + S1x1x128.size a ≤ S1x1024x128.size a)
theorem k0_off434_inb : ∀ (v3034 : BitVec 32) (k0_hw434 : k0_chk434 v3034), ∀ a, (k0_off434 v3034) a + S1x1x128.size a ≤ S1x1024x128.size a := fun v3034 k0_hw434 => k0_hw434

def k0_off435 (v3041 : BitVec 32) : Fin 3 → Nat :=
  let c0_2607 : Index := 0#32
  let v3042 : Index := Scalar.indexCast v3041
  let c0_2608 : Index := 0#32
  ![0, v3042.toNat, 0]

def k0_chk435 (v3041 : BitVec 32) : Prop :=
  (∀ a, (k0_off435 v3041) a + S1x1x128.size a ≤ S1x1024x128.size a)
theorem k0_off435_inb : ∀ (v3041 : BitVec 32) (k0_hw435 : k0_chk435 v3041), ∀ a, (k0_off435 v3041) a + S1x1x128.size a ≤ S1x1024x128.size a := fun v3041 k0_hw435 => k0_hw435

def k0_off436 (v3048 : BitVec 32) : Fin 3 → Nat :=
  let c0_2613 : Index := 0#32
  let v3049 : Index := Scalar.indexCast v3048
  let c0_2614 : Index := 0#32
  ![0, v3049.toNat, 0]

def k0_chk436 (v3048 : BitVec 32) : Prop :=
  (∀ a, (k0_off436 v3048) a + S1x1x128.size a ≤ S1x1024x128.size a)
theorem k0_off436_inb : ∀ (v3048 : BitVec 32) (k0_hw436 : k0_chk436 v3048), ∀ a, (k0_off436 v3048) a + S1x1x128.size a ≤ S1x1024x128.size a := fun v3048 k0_hw436 => k0_hw436

def k0_off437 (v3055 : BitVec 32) : Fin 3 → Nat :=
  let c0_2619 : Index := 0#32
  let v3056 : Index := Scalar.indexCast v3055
  let c0_2620 : Index := 0#32
  ![0, v3056.toNat, 0]

def k0_chk437 (v3055 : BitVec 32) : Prop :=
  (∀ a, (k0_off437 v3055) a + S1x1x128.size a ≤ S1x1024x128.size a)
theorem k0_off437_inb : ∀ (v3055 : BitVec 32) (k0_hw437 : k0_chk437 v3055), ∀ a, (k0_off437 v3055) a + S1x1x128.size a ≤ S1x1024x128.size a := fun v3055 k0_hw437 => k0_hw437

def k0_off438 (v3062 : BitVec 32) : Fin 3 → Nat :=
  let c0_2625 : Index := 0#32
  let v3063 : Index := Scalar.indexCast v3062
  let c0_2626 : Index := 0#32
  ![0, v3063.toNat, 0]

def k0_chk438 (v3062 : BitVec 32) : Prop :=
  (∀ a, (k0_off438 v3062) a + S1x1x128.size a ≤ S1x1024x128.size a)
theorem k0_off438_inb : ∀ (v3062 : BitVec 32) (k0_hw438 : k0_chk438 v3062), ∀ a, (k0_off438 v3062) a + S1x1x128.size a ≤ S1x1024x128.size a := fun v3062 k0_hw438 => k0_hw438

def k0_off439 (v3069 : BitVec 32) : Fin 3 → Nat :=
  let c0_2631 : Index := 0#32
  let v3070 : Index := Scalar.indexCast v3069
  let c0_2632 : Index := 0#32
  ![0, v3070.toNat, 0]

def k0_chk439 (v3069 : BitVec 32) : Prop :=
  (∀ a, (k0_off439 v3069) a + S1x1x128.size a ≤ S1x1024x128.size a)
theorem k0_off439_inb : ∀ (v3069 : BitVec 32) (k0_hw439 : k0_chk439 v3069), ∀ a, (k0_off439 v3069) a + S1x1x128.size a ≤ S1x1024x128.size a := fun v3069 k0_hw439 => k0_hw439

def k0_off440 (v3076 : BitVec 32) : Fin 3 → Nat :=
  let c0_2637 : Index := 0#32
  let v3077 : Index := Scalar.indexCast v3076
  let c0_2638 : Index := 0#32
  ![0, v3077.toNat, 0]

def k0_chk440 (v3076 : BitVec 32) : Prop :=
  (∀ a, (k0_off440 v3076) a + S1x1x128.size a ≤ S1x1024x128.size a)
theorem k0_off440_inb : ∀ (v3076 : BitVec 32) (k0_hw440 : k0_chk440 v3076), ∀ a, (k0_off440 v3076) a + S1x1x128.size a ≤ S1x1024x128.size a := fun v3076 k0_hw440 => k0_hw440

def k0_off441 (v3083 : BitVec 32) : Fin 3 → Nat :=
  let c0_2643 : Index := 0#32
  let v3084 : Index := Scalar.indexCast v3083
  let c0_2644 : Index := 0#32
  ![0, v3084.toNat, 0]

def k0_chk441 (v3083 : BitVec 32) : Prop :=
  (∀ a, (k0_off441 v3083) a + S1x1x128.size a ≤ S1x1024x128.size a)
theorem k0_off441_inb : ∀ (v3083 : BitVec 32) (k0_hw441 : k0_chk441 v3083), ∀ a, (k0_off441 v3083) a + S1x1x128.size a ≤ S1x1024x128.size a := fun v3083 k0_hw441 => k0_hw441

def k0_off442 (v3090 : BitVec 32) : Fin 3 → Nat :=
  let c0_2649 : Index := 0#32
  let v3091 : Index := Scalar.indexCast v3090
  let c0_2650 : Index := 0#32
  ![0, v3091.toNat, 0]

def k0_chk442 (v3090 : BitVec 32) : Prop :=
  (∀ a, (k0_off442 v3090) a + S1x1x128.size a ≤ S1x1024x128.size a)
theorem k0_off442_inb : ∀ (v3090 : BitVec 32) (k0_hw442 : k0_chk442 v3090), ∀ a, (k0_off442 v3090) a + S1x1x128.size a ≤ S1x1024x128.size a := fun v3090 k0_hw442 => k0_hw442

def k0_off443 (v3097 : BitVec 32) : Fin 3 → Nat :=
  let c0_2655 : Index := 0#32
  let v3098 : Index := Scalar.indexCast v3097
  let c0_2656 : Index := 0#32
  ![0, v3098.toNat, 0]

def k0_chk443 (v3097 : BitVec 32) : Prop :=
  (∀ a, (k0_off443 v3097) a + S1x1x128.size a ≤ S1x1024x128.size a)
theorem k0_off443_inb : ∀ (v3097 : BitVec 32) (k0_hw443 : k0_chk443 v3097), ∀ a, (k0_off443 v3097) a + S1x1x128.size a ≤ S1x1024x128.size a := fun v3097 k0_hw443 => k0_hw443

def k0_off444 (v3104 : BitVec 32) : Fin 3 → Nat :=
  let c0_2661 : Index := 0#32
  let v3105 : Index := Scalar.indexCast v3104
  let c0_2662 : Index := 0#32
  ![0, v3105.toNat, 0]

def k0_chk444 (v3104 : BitVec 32) : Prop :=
  (∀ a, (k0_off444 v3104) a + S1x1x128.size a ≤ S1x1024x128.size a)
theorem k0_off444_inb : ∀ (v3104 : BitVec 32) (k0_hw444 : k0_chk444 v3104), ∀ a, (k0_off444 v3104) a + S1x1x128.size a ≤ S1x1024x128.size a := fun v3104 k0_hw444 => k0_hw444

def k0_off445 (v3111 : BitVec 32) : Fin 3 → Nat :=
  let c0_2667 : Index := 0#32
  let v3112 : Index := Scalar.indexCast v3111
  let c0_2668 : Index := 0#32
  ![0, v3112.toNat, 0]

def k0_chk445 (v3111 : BitVec 32) : Prop :=
  (∀ a, (k0_off445 v3111) a + S1x1x128.size a ≤ S1x1024x128.size a)
theorem k0_off445_inb : ∀ (v3111 : BitVec 32) (k0_hw445 : k0_chk445 v3111), ∀ a, (k0_off445 v3111) a + S1x1x128.size a ≤ S1x1024x128.size a := fun v3111 k0_hw445 => k0_hw445

def k0_off446 (v3118 : BitVec 32) : Fin 3 → Nat :=
  let c0_2673 : Index := 0#32
  let v3119 : Index := Scalar.indexCast v3118
  let c0_2674 : Index := 0#32
  ![0, v3119.toNat, 0]

def k0_chk446 (v3118 : BitVec 32) : Prop :=
  (∀ a, (k0_off446 v3118) a + S1x1x128.size a ≤ S1x1024x128.size a)
theorem k0_off446_inb : ∀ (v3118 : BitVec 32) (k0_hw446 : k0_chk446 v3118), ∀ a, (k0_off446 v3118) a + S1x1x128.size a ≤ S1x1024x128.size a := fun v3118 k0_hw446 => k0_hw446

def k0_off447 (v3125 : BitVec 32) : Fin 3 → Nat :=
  let c0_2679 : Index := 0#32
  let v3126 : Index := Scalar.indexCast v3125
  let c0_2680 : Index := 0#32
  ![0, v3126.toNat, 0]

def k0_chk447 (v3125 : BitVec 32) : Prop :=
  (∀ a, (k0_off447 v3125) a + S1x1x128.size a ≤ S1x1024x128.size a)
theorem k0_off447_inb : ∀ (v3125 : BitVec 32) (k0_hw447 : k0_chk447 v3125), ∀ a, (k0_off447 v3125) a + S1x1x128.size a ≤ S1x1024x128.size a := fun v3125 k0_hw447 => k0_hw447

def k0_off448 (v3132 : BitVec 32) : Fin 3 → Nat :=
  let c0_2685 : Index := 0#32
  let v3133 : Index := Scalar.indexCast v3132
  let c0_2686 : Index := 0#32
  ![0, v3133.toNat, 0]

def k0_chk448 (v3132 : BitVec 32) : Prop :=
  (∀ a, (k0_off448 v3132) a + S1x1x128.size a ≤ S1x1024x128.size a)
theorem k0_off448_inb : ∀ (v3132 : BitVec 32) (k0_hw448 : k0_chk448 v3132), ∀ a, (k0_off448 v3132) a + S1x1x128.size a ≤ S1x1024x128.size a := fun v3132 k0_hw448 => k0_hw448

def k0_off449 (v3139 : BitVec 32) : Fin 3 → Nat :=
  let c0_2691 : Index := 0#32
  let v3140 : Index := Scalar.indexCast v3139
  let c0_2692 : Index := 0#32
  ![0, v3140.toNat, 0]

def k0_chk449 (v3139 : BitVec 32) : Prop :=
  (∀ a, (k0_off449 v3139) a + S1x1x128.size a ≤ S1x1024x128.size a)
theorem k0_off449_inb : ∀ (v3139 : BitVec 32) (k0_hw449 : k0_chk449 v3139), ∀ a, (k0_off449 v3139) a + S1x1x128.size a ≤ S1x1024x128.size a := fun v3139 k0_hw449 => k0_hw449

def k0_off450 (v3146 : BitVec 32) : Fin 3 → Nat :=
  let c0_2697 : Index := 0#32
  let v3147 : Index := Scalar.indexCast v3146
  let c0_2698 : Index := 0#32
  ![0, v3147.toNat, 0]

def k0_chk450 (v3146 : BitVec 32) : Prop :=
  (∀ a, (k0_off450 v3146) a + S1x1x128.size a ≤ S1x1024x128.size a)
theorem k0_off450_inb : ∀ (v3146 : BitVec 32) (k0_hw450 : k0_chk450 v3146), ∀ a, (k0_off450 v3146) a + S1x1x128.size a ≤ S1x1024x128.size a := fun v3146 k0_hw450 => k0_hw450

def k0_off451 (v3153 : BitVec 32) : Fin 3 → Nat :=
  let c0_2703 : Index := 0#32
  let v3154 : Index := Scalar.indexCast v3153
  let c0_2704 : Index := 0#32
  ![0, v3154.toNat, 0]

def k0_chk451 (v3153 : BitVec 32) : Prop :=
  (∀ a, (k0_off451 v3153) a + S1x1x128.size a ≤ S1x1024x128.size a)
theorem k0_off451_inb : ∀ (v3153 : BitVec 32) (k0_hw451 : k0_chk451 v3153), ∀ a, (k0_off451 v3153) a + S1x1x128.size a ≤ S1x1024x128.size a := fun v3153 k0_hw451 => k0_hw451

def k0_off452 (v3160 : BitVec 32) : Fin 3 → Nat :=
  let c0_2709 : Index := 0#32
  let v3161 : Index := Scalar.indexCast v3160
  let c0_2710 : Index := 0#32
  ![0, v3161.toNat, 0]

def k0_chk452 (v3160 : BitVec 32) : Prop :=
  (∀ a, (k0_off452 v3160) a + S1x1x128.size a ≤ S1x1024x128.size a)
theorem k0_off452_inb : ∀ (v3160 : BitVec 32) (k0_hw452 : k0_chk452 v3160), ∀ a, (k0_off452 v3160) a + S1x1x128.size a ≤ S1x1024x128.size a := fun v3160 k0_hw452 => k0_hw452

def k0_off453 (v3167 : BitVec 32) : Fin 3 → Nat :=
  let c0_2715 : Index := 0#32
  let v3168 : Index := Scalar.indexCast v3167
  let c0_2716 : Index := 0#32
  ![0, v3168.toNat, 0]

def k0_chk453 (v3167 : BitVec 32) : Prop :=
  (∀ a, (k0_off453 v3167) a + S1x1x128.size a ≤ S1x1024x128.size a)
theorem k0_off453_inb : ∀ (v3167 : BitVec 32) (k0_hw453 : k0_chk453 v3167), ∀ a, (k0_off453 v3167) a + S1x1x128.size a ≤ S1x1024x128.size a := fun v3167 k0_hw453 => k0_hw453

def k0_off454 (v3174 : BitVec 32) : Fin 3 → Nat :=
  let c0_2721 : Index := 0#32
  let v3175 : Index := Scalar.indexCast v3174
  let c0_2722 : Index := 0#32
  ![0, v3175.toNat, 0]

def k0_chk454 (v3174 : BitVec 32) : Prop :=
  (∀ a, (k0_off454 v3174) a + S1x1x128.size a ≤ S1x1024x128.size a)
theorem k0_off454_inb : ∀ (v3174 : BitVec 32) (k0_hw454 : k0_chk454 v3174), ∀ a, (k0_off454 v3174) a + S1x1x128.size a ≤ S1x1024x128.size a := fun v3174 k0_hw454 => k0_hw454

def k0_off455 (v3181 : BitVec 32) : Fin 3 → Nat :=
  let c0_2727 : Index := 0#32
  let v3182 : Index := Scalar.indexCast v3181
  let c0_2728 : Index := 0#32
  ![0, v3182.toNat, 0]

def k0_chk455 (v3181 : BitVec 32) : Prop :=
  (∀ a, (k0_off455 v3181) a + S1x1x128.size a ≤ S1x1024x128.size a)
theorem k0_off455_inb : ∀ (v3181 : BitVec 32) (k0_hw455 : k0_chk455 v3181), ∀ a, (k0_off455 v3181) a + S1x1x128.size a ≤ S1x1024x128.size a := fun v3181 k0_hw455 => k0_hw455

def k0_off456 (v3188 : BitVec 32) : Fin 3 → Nat :=
  let c0_2733 : Index := 0#32
  let v3189 : Index := Scalar.indexCast v3188
  let c0_2734 : Index := 0#32
  ![0, v3189.toNat, 0]

def k0_chk456 (v3188 : BitVec 32) : Prop :=
  (∀ a, (k0_off456 v3188) a + S1x1x128.size a ≤ S1x1024x128.size a)
theorem k0_off456_inb : ∀ (v3188 : BitVec 32) (k0_hw456 : k0_chk456 v3188), ∀ a, (k0_off456 v3188) a + S1x1x128.size a ≤ S1x1024x128.size a := fun v3188 k0_hw456 => k0_hw456

def k0_off457 (v3195 : BitVec 32) : Fin 3 → Nat :=
  let c0_2739 : Index := 0#32
  let v3196 : Index := Scalar.indexCast v3195
  let c0_2740 : Index := 0#32
  ![0, v3196.toNat, 0]

def k0_chk457 (v3195 : BitVec 32) : Prop :=
  (∀ a, (k0_off457 v3195) a + S1x1x128.size a ≤ S1x1024x128.size a)
theorem k0_off457_inb : ∀ (v3195 : BitVec 32) (k0_hw457 : k0_chk457 v3195), ∀ a, (k0_off457 v3195) a + S1x1x128.size a ≤ S1x1024x128.size a := fun v3195 k0_hw457 => k0_hw457

def k0_off458 (v3202 : BitVec 32) : Fin 3 → Nat :=
  let c0_2745 : Index := 0#32
  let v3203 : Index := Scalar.indexCast v3202
  let c0_2746 : Index := 0#32
  ![0, v3203.toNat, 0]

def k0_chk458 (v3202 : BitVec 32) : Prop :=
  (∀ a, (k0_off458 v3202) a + S1x1x128.size a ≤ S1x1024x128.size a)
theorem k0_off458_inb : ∀ (v3202 : BitVec 32) (k0_hw458 : k0_chk458 v3202), ∀ a, (k0_off458 v3202) a + S1x1x128.size a ≤ S1x1024x128.size a := fun v3202 k0_hw458 => k0_hw458

def k0_off459 (v3209 : BitVec 32) : Fin 3 → Nat :=
  let c0_2751 : Index := 0#32
  let v3210 : Index := Scalar.indexCast v3209
  let c0_2752 : Index := 0#32
  ![0, v3210.toNat, 0]

def k0_chk459 (v3209 : BitVec 32) : Prop :=
  (∀ a, (k0_off459 v3209) a + S1x1x128.size a ≤ S1x1024x128.size a)
theorem k0_off459_inb : ∀ (v3209 : BitVec 32) (k0_hw459 : k0_chk459 v3209), ∀ a, (k0_off459 v3209) a + S1x1x128.size a ≤ S1x1024x128.size a := fun v3209 k0_hw459 => k0_hw459

def k0_off460 (v3216 : BitVec 32) : Fin 3 → Nat :=
  let c0_2757 : Index := 0#32
  let v3217 : Index := Scalar.indexCast v3216
  let c0_2758 : Index := 0#32
  ![0, v3217.toNat, 0]

def k0_chk460 (v3216 : BitVec 32) : Prop :=
  (∀ a, (k0_off460 v3216) a + S1x1x128.size a ≤ S1x1024x128.size a)
theorem k0_off460_inb : ∀ (v3216 : BitVec 32) (k0_hw460 : k0_chk460 v3216), ∀ a, (k0_off460 v3216) a + S1x1x128.size a ≤ S1x1024x128.size a := fun v3216 k0_hw460 => k0_hw460

def k0_off461 (v3223 : BitVec 32) : Fin 3 → Nat :=
  let c0_2763 : Index := 0#32
  let v3224 : Index := Scalar.indexCast v3223
  let c0_2764 : Index := 0#32
  ![0, v3224.toNat, 0]

def k0_chk461 (v3223 : BitVec 32) : Prop :=
  (∀ a, (k0_off461 v3223) a + S1x1x128.size a ≤ S1x1024x128.size a)
theorem k0_off461_inb : ∀ (v3223 : BitVec 32) (k0_hw461 : k0_chk461 v3223), ∀ a, (k0_off461 v3223) a + S1x1x128.size a ≤ S1x1024x128.size a := fun v3223 k0_hw461 => k0_hw461

def k0_off462 (v3230 : BitVec 32) : Fin 3 → Nat :=
  let c0_2769 : Index := 0#32
  let v3231 : Index := Scalar.indexCast v3230
  let c0_2770 : Index := 0#32
  ![0, v3231.toNat, 0]

def k0_chk462 (v3230 : BitVec 32) : Prop :=
  (∀ a, (k0_off462 v3230) a + S1x1x128.size a ≤ S1x1024x128.size a)
theorem k0_off462_inb : ∀ (v3230 : BitVec 32) (k0_hw462 : k0_chk462 v3230), ∀ a, (k0_off462 v3230) a + S1x1x128.size a ≤ S1x1024x128.size a := fun v3230 k0_hw462 => k0_hw462

def k0_off463 (v3237 : BitVec 32) : Fin 3 → Nat :=
  let c0_2775 : Index := 0#32
  let v3238 : Index := Scalar.indexCast v3237
  let c0_2776 : Index := 0#32
  ![0, v3238.toNat, 0]

def k0_chk463 (v3237 : BitVec 32) : Prop :=
  (∀ a, (k0_off463 v3237) a + S1x1x128.size a ≤ S1x1024x128.size a)
theorem k0_off463_inb : ∀ (v3237 : BitVec 32) (k0_hw463 : k0_chk463 v3237), ∀ a, (k0_off463 v3237) a + S1x1x128.size a ≤ S1x1024x128.size a := fun v3237 k0_hw463 => k0_hw463

def k0_off464 (v3244 : BitVec 32) : Fin 3 → Nat :=
  let c0_2781 : Index := 0#32
  let v3245 : Index := Scalar.indexCast v3244
  let c0_2782 : Index := 0#32
  ![0, v3245.toNat, 0]

def k0_chk464 (v3244 : BitVec 32) : Prop :=
  (∀ a, (k0_off464 v3244) a + S1x1x128.size a ≤ S1x1024x128.size a)
theorem k0_off464_inb : ∀ (v3244 : BitVec 32) (k0_hw464 : k0_chk464 v3244), ∀ a, (k0_off464 v3244) a + S1x1x128.size a ≤ S1x1024x128.size a := fun v3244 k0_hw464 => k0_hw464

def k0_off465 (v3251 : BitVec 32) : Fin 3 → Nat :=
  let c0_2787 : Index := 0#32
  let v3252 : Index := Scalar.indexCast v3251
  let c0_2788 : Index := 0#32
  ![0, v3252.toNat, 0]

def k0_chk465 (v3251 : BitVec 32) : Prop :=
  (∀ a, (k0_off465 v3251) a + S1x1x128.size a ≤ S1x1024x128.size a)
theorem k0_off465_inb : ∀ (v3251 : BitVec 32) (k0_hw465 : k0_chk465 v3251), ∀ a, (k0_off465 v3251) a + S1x1x128.size a ≤ S1x1024x128.size a := fun v3251 k0_hw465 => k0_hw465

def k0_off466 (v3258 : BitVec 32) : Fin 3 → Nat :=
  let c0_2793 : Index := 0#32
  let v3259 : Index := Scalar.indexCast v3258
  let c0_2794 : Index := 0#32
  ![0, v3259.toNat, 0]

def k0_chk466 (v3258 : BitVec 32) : Prop :=
  (∀ a, (k0_off466 v3258) a + S1x1x128.size a ≤ S1x1024x128.size a)
theorem k0_off466_inb : ∀ (v3258 : BitVec 32) (k0_hw466 : k0_chk466 v3258), ∀ a, (k0_off466 v3258) a + S1x1x128.size a ≤ S1x1024x128.size a := fun v3258 k0_hw466 => k0_hw466

def k0_off467 (v3265 : BitVec 32) : Fin 3 → Nat :=
  let c0_2799 : Index := 0#32
  let v3266 : Index := Scalar.indexCast v3265
  let c0_2800 : Index := 0#32
  ![0, v3266.toNat, 0]

def k0_chk467 (v3265 : BitVec 32) : Prop :=
  (∀ a, (k0_off467 v3265) a + S1x1x128.size a ≤ S1x1024x128.size a)
theorem k0_off467_inb : ∀ (v3265 : BitVec 32) (k0_hw467 : k0_chk467 v3265), ∀ a, (k0_off467 v3265) a + S1x1x128.size a ≤ S1x1024x128.size a := fun v3265 k0_hw467 => k0_hw467

def k0_off468 (v3272 : BitVec 32) : Fin 3 → Nat :=
  let c0_2805 : Index := 0#32
  let v3273 : Index := Scalar.indexCast v3272
  let c0_2806 : Index := 0#32
  ![0, v3273.toNat, 0]

def k0_chk468 (v3272 : BitVec 32) : Prop :=
  (∀ a, (k0_off468 v3272) a + S1x1x128.size a ≤ S1x1024x128.size a)
theorem k0_off468_inb : ∀ (v3272 : BitVec 32) (k0_hw468 : k0_chk468 v3272), ∀ a, (k0_off468 v3272) a + S1x1x128.size a ≤ S1x1024x128.size a := fun v3272 k0_hw468 => k0_hw468

def k0_off469 (v3279 : BitVec 32) : Fin 3 → Nat :=
  let c0_2811 : Index := 0#32
  let v3280 : Index := Scalar.indexCast v3279
  let c0_2812 : Index := 0#32
  ![0, v3280.toNat, 0]

def k0_chk469 (v3279 : BitVec 32) : Prop :=
  (∀ a, (k0_off469 v3279) a + S1x1x128.size a ≤ S1x1024x128.size a)
theorem k0_off469_inb : ∀ (v3279 : BitVec 32) (k0_hw469 : k0_chk469 v3279), ∀ a, (k0_off469 v3279) a + S1x1x128.size a ≤ S1x1024x128.size a := fun v3279 k0_hw469 => k0_hw469

def k0_off470 (v3286 : BitVec 32) : Fin 3 → Nat :=
  let c0_2817 : Index := 0#32
  let v3287 : Index := Scalar.indexCast v3286
  let c0_2818 : Index := 0#32
  ![0, v3287.toNat, 0]

def k0_chk470 (v3286 : BitVec 32) : Prop :=
  (∀ a, (k0_off470 v3286) a + S1x1x128.size a ≤ S1x1024x128.size a)
theorem k0_off470_inb : ∀ (v3286 : BitVec 32) (k0_hw470 : k0_chk470 v3286), ∀ a, (k0_off470 v3286) a + S1x1x128.size a ≤ S1x1024x128.size a := fun v3286 k0_hw470 => k0_hw470

def k0_off471 (v3293 : BitVec 32) : Fin 3 → Nat :=
  let c0_2823 : Index := 0#32
  let v3294 : Index := Scalar.indexCast v3293
  let c0_2824 : Index := 0#32
  ![0, v3294.toNat, 0]

def k0_chk471 (v3293 : BitVec 32) : Prop :=
  (∀ a, (k0_off471 v3293) a + S1x1x128.size a ≤ S1x1024x128.size a)
theorem k0_off471_inb : ∀ (v3293 : BitVec 32) (k0_hw471 : k0_chk471 v3293), ∀ a, (k0_off471 v3293) a + S1x1x128.size a ≤ S1x1024x128.size a := fun v3293 k0_hw471 => k0_hw471

def k0_off472 (v3300 : BitVec 32) : Fin 3 → Nat :=
  let c0_2829 : Index := 0#32
  let v3301 : Index := Scalar.indexCast v3300
  let c0_2830 : Index := 0#32
  ![0, v3301.toNat, 0]

def k0_chk472 (v3300 : BitVec 32) : Prop :=
  (∀ a, (k0_off472 v3300) a + S1x1x128.size a ≤ S1x1024x128.size a)
theorem k0_off472_inb : ∀ (v3300 : BitVec 32) (k0_hw472 : k0_chk472 v3300), ∀ a, (k0_off472 v3300) a + S1x1x128.size a ≤ S1x1024x128.size a := fun v3300 k0_hw472 => k0_hw472

def k0_off473 (v3307 : BitVec 32) : Fin 3 → Nat :=
  let c0_2835 : Index := 0#32
  let v3308 : Index := Scalar.indexCast v3307
  let c0_2836 : Index := 0#32
  ![0, v3308.toNat, 0]

def k0_chk473 (v3307 : BitVec 32) : Prop :=
  (∀ a, (k0_off473 v3307) a + S1x1x128.size a ≤ S1x1024x128.size a)
theorem k0_off473_inb : ∀ (v3307 : BitVec 32) (k0_hw473 : k0_chk473 v3307), ∀ a, (k0_off473 v3307) a + S1x1x128.size a ≤ S1x1024x128.size a := fun v3307 k0_hw473 => k0_hw473

def k0_off474 (v3314 : BitVec 32) : Fin 3 → Nat :=
  let c0_2841 : Index := 0#32
  let v3315 : Index := Scalar.indexCast v3314
  let c0_2842 : Index := 0#32
  ![0, v3315.toNat, 0]

def k0_chk474 (v3314 : BitVec 32) : Prop :=
  (∀ a, (k0_off474 v3314) a + S1x1x128.size a ≤ S1x1024x128.size a)
theorem k0_off474_inb : ∀ (v3314 : BitVec 32) (k0_hw474 : k0_chk474 v3314), ∀ a, (k0_off474 v3314) a + S1x1x128.size a ≤ S1x1024x128.size a := fun v3314 k0_hw474 => k0_hw474

def k0_off475 (v3321 : BitVec 32) : Fin 3 → Nat :=
  let c0_2847 : Index := 0#32
  let v3322 : Index := Scalar.indexCast v3321
  let c0_2848 : Index := 0#32
  ![0, v3322.toNat, 0]

def k0_chk475 (v3321 : BitVec 32) : Prop :=
  (∀ a, (k0_off475 v3321) a + S1x1x128.size a ≤ S1x1024x128.size a)
theorem k0_off475_inb : ∀ (v3321 : BitVec 32) (k0_hw475 : k0_chk475 v3321), ∀ a, (k0_off475 v3321) a + S1x1x128.size a ≤ S1x1024x128.size a := fun v3321 k0_hw475 => k0_hw475

def k0_off476 (v3328 : BitVec 32) : Fin 3 → Nat :=
  let c0_2853 : Index := 0#32
  let v3329 : Index := Scalar.indexCast v3328
  let c0_2854 : Index := 0#32
  ![0, v3329.toNat, 0]

def k0_chk476 (v3328 : BitVec 32) : Prop :=
  (∀ a, (k0_off476 v3328) a + S1x1x128.size a ≤ S1x1024x128.size a)
theorem k0_off476_inb : ∀ (v3328 : BitVec 32) (k0_hw476 : k0_chk476 v3328), ∀ a, (k0_off476 v3328) a + S1x1x128.size a ≤ S1x1024x128.size a := fun v3328 k0_hw476 => k0_hw476

def k0_off477 (v3335 : BitVec 32) : Fin 3 → Nat :=
  let c0_2859 : Index := 0#32
  let v3336 : Index := Scalar.indexCast v3335
  let c0_2860 : Index := 0#32
  ![0, v3336.toNat, 0]

def k0_chk477 (v3335 : BitVec 32) : Prop :=
  (∀ a, (k0_off477 v3335) a + S1x1x128.size a ≤ S1x1024x128.size a)
theorem k0_off477_inb : ∀ (v3335 : BitVec 32) (k0_hw477 : k0_chk477 v3335), ∀ a, (k0_off477 v3335) a + S1x1x128.size a ≤ S1x1024x128.size a := fun v3335 k0_hw477 => k0_hw477

def k0_off478 (v3342 : BitVec 32) : Fin 3 → Nat :=
  let c0_2865 : Index := 0#32
  let v3343 : Index := Scalar.indexCast v3342
  let c0_2866 : Index := 0#32
  ![0, v3343.toNat, 0]

def k0_chk478 (v3342 : BitVec 32) : Prop :=
  (∀ a, (k0_off478 v3342) a + S1x1x128.size a ≤ S1x1024x128.size a)
theorem k0_off478_inb : ∀ (v3342 : BitVec 32) (k0_hw478 : k0_chk478 v3342), ∀ a, (k0_off478 v3342) a + S1x1x128.size a ≤ S1x1024x128.size a := fun v3342 k0_hw478 => k0_hw478

def k0_off479 (v3349 : BitVec 32) : Fin 3 → Nat :=
  let c0_2871 : Index := 0#32
  let v3350 : Index := Scalar.indexCast v3349
  let c0_2872 : Index := 0#32
  ![0, v3350.toNat, 0]

def k0_chk479 (v3349 : BitVec 32) : Prop :=
  (∀ a, (k0_off479 v3349) a + S1x1x128.size a ≤ S1x1024x128.size a)
theorem k0_off479_inb : ∀ (v3349 : BitVec 32) (k0_hw479 : k0_chk479 v3349), ∀ a, (k0_off479 v3349) a + S1x1x128.size a ≤ S1x1024x128.size a := fun v3349 k0_hw479 => k0_hw479

def k0_off480 (v3356 : BitVec 32) : Fin 3 → Nat :=
  let c0_2877 : Index := 0#32
  let v3357 : Index := Scalar.indexCast v3356
  let c0_2878 : Index := 0#32
  ![0, v3357.toNat, 0]

def k0_chk480 (v3356 : BitVec 32) : Prop :=
  (∀ a, (k0_off480 v3356) a + S1x1x128.size a ≤ S1x1024x128.size a)
theorem k0_off480_inb : ∀ (v3356 : BitVec 32) (k0_hw480 : k0_chk480 v3356), ∀ a, (k0_off480 v3356) a + S1x1x128.size a ≤ S1x1024x128.size a := fun v3356 k0_hw480 => k0_hw480

def k0_off481 (v3363 : BitVec 32) : Fin 3 → Nat :=
  let c0_2883 : Index := 0#32
  let v3364 : Index := Scalar.indexCast v3363
  let c0_2884 : Index := 0#32
  ![0, v3364.toNat, 0]

def k0_chk481 (v3363 : BitVec 32) : Prop :=
  (∀ a, (k0_off481 v3363) a + S1x1x128.size a ≤ S1x1024x128.size a)
theorem k0_off481_inb : ∀ (v3363 : BitVec 32) (k0_hw481 : k0_chk481 v3363), ∀ a, (k0_off481 v3363) a + S1x1x128.size a ≤ S1x1024x128.size a := fun v3363 k0_hw481 => k0_hw481

def k0_off482 (v3370 : BitVec 32) : Fin 3 → Nat :=
  let c0_2889 : Index := 0#32
  let v3371 : Index := Scalar.indexCast v3370
  let c0_2890 : Index := 0#32
  ![0, v3371.toNat, 0]

def k0_chk482 (v3370 : BitVec 32) : Prop :=
  (∀ a, (k0_off482 v3370) a + S1x1x128.size a ≤ S1x1024x128.size a)
theorem k0_off482_inb : ∀ (v3370 : BitVec 32) (k0_hw482 : k0_chk482 v3370), ∀ a, (k0_off482 v3370) a + S1x1x128.size a ≤ S1x1024x128.size a := fun v3370 k0_hw482 => k0_hw482

def k0_off483 (v3377 : BitVec 32) : Fin 3 → Nat :=
  let c0_2895 : Index := 0#32
  let v3378 : Index := Scalar.indexCast v3377
  let c0_2896 : Index := 0#32
  ![0, v3378.toNat, 0]

def k0_chk483 (v3377 : BitVec 32) : Prop :=
  (∀ a, (k0_off483 v3377) a + S1x1x128.size a ≤ S1x1024x128.size a)
theorem k0_off483_inb : ∀ (v3377 : BitVec 32) (k0_hw483 : k0_chk483 v3377), ∀ a, (k0_off483 v3377) a + S1x1x128.size a ≤ S1x1024x128.size a := fun v3377 k0_hw483 => k0_hw483

def k0_off484 (v3384 : BitVec 32) : Fin 3 → Nat :=
  let c0_2901 : Index := 0#32
  let v3385 : Index := Scalar.indexCast v3384
  let c0_2902 : Index := 0#32
  ![0, v3385.toNat, 0]

def k0_chk484 (v3384 : BitVec 32) : Prop :=
  (∀ a, (k0_off484 v3384) a + S1x1x128.size a ≤ S1x1024x128.size a)
theorem k0_off484_inb : ∀ (v3384 : BitVec 32) (k0_hw484 : k0_chk484 v3384), ∀ a, (k0_off484 v3384) a + S1x1x128.size a ≤ S1x1024x128.size a := fun v3384 k0_hw484 => k0_hw484

def k0_off485 (v3391 : BitVec 32) : Fin 3 → Nat :=
  let c0_2907 : Index := 0#32
  let v3392 : Index := Scalar.indexCast v3391
  let c0_2908 : Index := 0#32
  ![0, v3392.toNat, 0]

def k0_chk485 (v3391 : BitVec 32) : Prop :=
  (∀ a, (k0_off485 v3391) a + S1x1x128.size a ≤ S1x1024x128.size a)
theorem k0_off485_inb : ∀ (v3391 : BitVec 32) (k0_hw485 : k0_chk485 v3391), ∀ a, (k0_off485 v3391) a + S1x1x128.size a ≤ S1x1024x128.size a := fun v3391 k0_hw485 => k0_hw485

def k0_off486 (v3398 : BitVec 32) : Fin 3 → Nat :=
  let c0_2913 : Index := 0#32
  let v3399 : Index := Scalar.indexCast v3398
  let c0_2914 : Index := 0#32
  ![0, v3399.toNat, 0]

def k0_chk486 (v3398 : BitVec 32) : Prop :=
  (∀ a, (k0_off486 v3398) a + S1x1x128.size a ≤ S1x1024x128.size a)
theorem k0_off486_inb : ∀ (v3398 : BitVec 32) (k0_hw486 : k0_chk486 v3398), ∀ a, (k0_off486 v3398) a + S1x1x128.size a ≤ S1x1024x128.size a := fun v3398 k0_hw486 => k0_hw486

def k0_off487 (v3405 : BitVec 32) : Fin 3 → Nat :=
  let c0_2919 : Index := 0#32
  let v3406 : Index := Scalar.indexCast v3405
  let c0_2920 : Index := 0#32
  ![0, v3406.toNat, 0]

def k0_chk487 (v3405 : BitVec 32) : Prop :=
  (∀ a, (k0_off487 v3405) a + S1x1x128.size a ≤ S1x1024x128.size a)
theorem k0_off487_inb : ∀ (v3405 : BitVec 32) (k0_hw487 : k0_chk487 v3405), ∀ a, (k0_off487 v3405) a + S1x1x128.size a ≤ S1x1024x128.size a := fun v3405 k0_hw487 => k0_hw487

def k0_off488 (v3412 : BitVec 32) : Fin 3 → Nat :=
  let c0_2925 : Index := 0#32
  let v3413 : Index := Scalar.indexCast v3412
  let c0_2926 : Index := 0#32
  ![0, v3413.toNat, 0]

def k0_chk488 (v3412 : BitVec 32) : Prop :=
  (∀ a, (k0_off488 v3412) a + S1x1x128.size a ≤ S1x1024x128.size a)
theorem k0_off488_inb : ∀ (v3412 : BitVec 32) (k0_hw488 : k0_chk488 v3412), ∀ a, (k0_off488 v3412) a + S1x1x128.size a ≤ S1x1024x128.size a := fun v3412 k0_hw488 => k0_hw488

def k0_off489 (v3419 : BitVec 32) : Fin 3 → Nat :=
  let c0_2931 : Index := 0#32
  let v3420 : Index := Scalar.indexCast v3419
  let c0_2932 : Index := 0#32
  ![0, v3420.toNat, 0]

def k0_chk489 (v3419 : BitVec 32) : Prop :=
  (∀ a, (k0_off489 v3419) a + S1x1x128.size a ≤ S1x1024x128.size a)
theorem k0_off489_inb : ∀ (v3419 : BitVec 32) (k0_hw489 : k0_chk489 v3419), ∀ a, (k0_off489 v3419) a + S1x1x128.size a ≤ S1x1024x128.size a := fun v3419 k0_hw489 => k0_hw489

def k0_off490 (v3426 : BitVec 32) : Fin 3 → Nat :=
  let c0_2937 : Index := 0#32
  let v3427 : Index := Scalar.indexCast v3426
  let c0_2938 : Index := 0#32
  ![0, v3427.toNat, 0]

def k0_chk490 (v3426 : BitVec 32) : Prop :=
  (∀ a, (k0_off490 v3426) a + S1x1x128.size a ≤ S1x1024x128.size a)
theorem k0_off490_inb : ∀ (v3426 : BitVec 32) (k0_hw490 : k0_chk490 v3426), ∀ a, (k0_off490 v3426) a + S1x1x128.size a ≤ S1x1024x128.size a := fun v3426 k0_hw490 => k0_hw490

def k0_off491 (v3433 : BitVec 32) : Fin 3 → Nat :=
  let c0_2943 : Index := 0#32
  let v3434 : Index := Scalar.indexCast v3433
  let c0_2944 : Index := 0#32
  ![0, v3434.toNat, 0]

def k0_chk491 (v3433 : BitVec 32) : Prop :=
  (∀ a, (k0_off491 v3433) a + S1x1x128.size a ≤ S1x1024x128.size a)
theorem k0_off491_inb : ∀ (v3433 : BitVec 32) (k0_hw491 : k0_chk491 v3433), ∀ a, (k0_off491 v3433) a + S1x1x128.size a ≤ S1x1024x128.size a := fun v3433 k0_hw491 => k0_hw491

def k0_off492 (v3440 : BitVec 32) : Fin 3 → Nat :=
  let c0_2949 : Index := 0#32
  let v3441 : Index := Scalar.indexCast v3440
  let c0_2950 : Index := 0#32
  ![0, v3441.toNat, 0]

def k0_chk492 (v3440 : BitVec 32) : Prop :=
  (∀ a, (k0_off492 v3440) a + S1x1x128.size a ≤ S1x1024x128.size a)
theorem k0_off492_inb : ∀ (v3440 : BitVec 32) (k0_hw492 : k0_chk492 v3440), ∀ a, (k0_off492 v3440) a + S1x1x128.size a ≤ S1x1024x128.size a := fun v3440 k0_hw492 => k0_hw492

def k0_off493 (v3447 : BitVec 32) : Fin 3 → Nat :=
  let c0_2955 : Index := 0#32
  let v3448 : Index := Scalar.indexCast v3447
  let c0_2956 : Index := 0#32
  ![0, v3448.toNat, 0]

def k0_chk493 (v3447 : BitVec 32) : Prop :=
  (∀ a, (k0_off493 v3447) a + S1x1x128.size a ≤ S1x1024x128.size a)
theorem k0_off493_inb : ∀ (v3447 : BitVec 32) (k0_hw493 : k0_chk493 v3447), ∀ a, (k0_off493 v3447) a + S1x1x128.size a ≤ S1x1024x128.size a := fun v3447 k0_hw493 => k0_hw493

def k0_off494 (v3454 : BitVec 32) : Fin 3 → Nat :=
  let c0_2961 : Index := 0#32
  let v3455 : Index := Scalar.indexCast v3454
  let c0_2962 : Index := 0#32
  ![0, v3455.toNat, 0]

def k0_chk494 (v3454 : BitVec 32) : Prop :=
  (∀ a, (k0_off494 v3454) a + S1x1x128.size a ≤ S1x1024x128.size a)
theorem k0_off494_inb : ∀ (v3454 : BitVec 32) (k0_hw494 : k0_chk494 v3454), ∀ a, (k0_off494 v3454) a + S1x1x128.size a ≤ S1x1024x128.size a := fun v3454 k0_hw494 => k0_hw494

def k0_off495 (v3461 : BitVec 32) : Fin 3 → Nat :=
  let c0_2967 : Index := 0#32
  let v3462 : Index := Scalar.indexCast v3461
  let c0_2968 : Index := 0#32
  ![0, v3462.toNat, 0]

def k0_chk495 (v3461 : BitVec 32) : Prop :=
  (∀ a, (k0_off495 v3461) a + S1x1x128.size a ≤ S1x1024x128.size a)
theorem k0_off495_inb : ∀ (v3461 : BitVec 32) (k0_hw495 : k0_chk495 v3461), ∀ a, (k0_off495 v3461) a + S1x1x128.size a ≤ S1x1024x128.size a := fun v3461 k0_hw495 => k0_hw495

def k0_off496 (v3468 : BitVec 32) : Fin 3 → Nat :=
  let c0_2973 : Index := 0#32
  let v3469 : Index := Scalar.indexCast v3468
  let c0_2974 : Index := 0#32
  ![0, v3469.toNat, 0]

def k0_chk496 (v3468 : BitVec 32) : Prop :=
  (∀ a, (k0_off496 v3468) a + S1x1x128.size a ≤ S1x1024x128.size a)
theorem k0_off496_inb : ∀ (v3468 : BitVec 32) (k0_hw496 : k0_chk496 v3468), ∀ a, (k0_off496 v3468) a + S1x1x128.size a ≤ S1x1024x128.size a := fun v3468 k0_hw496 => k0_hw496

def k0_off497 (v3475 : BitVec 32) : Fin 3 → Nat :=
  let c0_2979 : Index := 0#32
  let v3476 : Index := Scalar.indexCast v3475
  let c0_2980 : Index := 0#32
  ![0, v3476.toNat, 0]

def k0_chk497 (v3475 : BitVec 32) : Prop :=
  (∀ a, (k0_off497 v3475) a + S1x1x128.size a ≤ S1x1024x128.size a)
theorem k0_off497_inb : ∀ (v3475 : BitVec 32) (k0_hw497 : k0_chk497 v3475), ∀ a, (k0_off497 v3475) a + S1x1x128.size a ≤ S1x1024x128.size a := fun v3475 k0_hw497 => k0_hw497

def k0_off498 (v3482 : BitVec 32) : Fin 3 → Nat :=
  let c0_2985 : Index := 0#32
  let v3483 : Index := Scalar.indexCast v3482
  let c0_2986 : Index := 0#32
  ![0, v3483.toNat, 0]

def k0_chk498 (v3482 : BitVec 32) : Prop :=
  (∀ a, (k0_off498 v3482) a + S1x1x128.size a ≤ S1x1024x128.size a)
theorem k0_off498_inb : ∀ (v3482 : BitVec 32) (k0_hw498 : k0_chk498 v3482), ∀ a, (k0_off498 v3482) a + S1x1x128.size a ≤ S1x1024x128.size a := fun v3482 k0_hw498 => k0_hw498

def k0_off499 (v3489 : BitVec 32) : Fin 3 → Nat :=
  let c0_2991 : Index := 0#32
  let v3490 : Index := Scalar.indexCast v3489
  let c0_2992 : Index := 0#32
  ![0, v3490.toNat, 0]

def k0_chk499 (v3489 : BitVec 32) : Prop :=
  (∀ a, (k0_off499 v3489) a + S1x1x128.size a ≤ S1x1024x128.size a)
theorem k0_off499_inb : ∀ (v3489 : BitVec 32) (k0_hw499 : k0_chk499 v3489), ∀ a, (k0_off499 v3489) a + S1x1x128.size a ≤ S1x1024x128.size a := fun v3489 k0_hw499 => k0_hw499

def k0_off500 (v3496 : BitVec 32) : Fin 3 → Nat :=
  let c0_2997 : Index := 0#32
  let v3497 : Index := Scalar.indexCast v3496
  let c0_2998 : Index := 0#32
  ![0, v3497.toNat, 0]

def k0_chk500 (v3496 : BitVec 32) : Prop :=
  (∀ a, (k0_off500 v3496) a + S1x1x128.size a ≤ S1x1024x128.size a)
theorem k0_off500_inb : ∀ (v3496 : BitVec 32) (k0_hw500 : k0_chk500 v3496), ∀ a, (k0_off500 v3496) a + S1x1x128.size a ≤ S1x1024x128.size a := fun v3496 k0_hw500 => k0_hw500

def k0_off501 (v3503 : BitVec 32) : Fin 3 → Nat :=
  let c0_3003 : Index := 0#32
  let v3504 : Index := Scalar.indexCast v3503
  let c0_3004 : Index := 0#32
  ![0, v3504.toNat, 0]

def k0_chk501 (v3503 : BitVec 32) : Prop :=
  (∀ a, (k0_off501 v3503) a + S1x1x128.size a ≤ S1x1024x128.size a)
theorem k0_off501_inb : ∀ (v3503 : BitVec 32) (k0_hw501 : k0_chk501 v3503), ∀ a, (k0_off501 v3503) a + S1x1x128.size a ≤ S1x1024x128.size a := fun v3503 k0_hw501 => k0_hw501

def k0_off502 (v3510 : BitVec 32) : Fin 3 → Nat :=
  let c0_3009 : Index := 0#32
  let v3511 : Index := Scalar.indexCast v3510
  let c0_3010 : Index := 0#32
  ![0, v3511.toNat, 0]

def k0_chk502 (v3510 : BitVec 32) : Prop :=
  (∀ a, (k0_off502 v3510) a + S1x1x128.size a ≤ S1x1024x128.size a)
theorem k0_off502_inb : ∀ (v3510 : BitVec 32) (k0_hw502 : k0_chk502 v3510), ∀ a, (k0_off502 v3510) a + S1x1x128.size a ≤ S1x1024x128.size a := fun v3510 k0_hw502 => k0_hw502

def k0_off503 (v3517 : BitVec 32) : Fin 3 → Nat :=
  let c0_3015 : Index := 0#32
  let v3518 : Index := Scalar.indexCast v3517
  let c0_3016 : Index := 0#32
  ![0, v3518.toNat, 0]

def k0_chk503 (v3517 : BitVec 32) : Prop :=
  (∀ a, (k0_off503 v3517) a + S1x1x128.size a ≤ S1x1024x128.size a)
theorem k0_off503_inb : ∀ (v3517 : BitVec 32) (k0_hw503 : k0_chk503 v3517), ∀ a, (k0_off503 v3517) a + S1x1x128.size a ≤ S1x1024x128.size a := fun v3517 k0_hw503 => k0_hw503

def k0_off504 (v3524 : BitVec 32) : Fin 3 → Nat :=
  let c0_3021 : Index := 0#32
  let v3525 : Index := Scalar.indexCast v3524
  let c0_3022 : Index := 0#32
  ![0, v3525.toNat, 0]

def k0_chk504 (v3524 : BitVec 32) : Prop :=
  (∀ a, (k0_off504 v3524) a + S1x1x128.size a ≤ S1x1024x128.size a)
theorem k0_off504_inb : ∀ (v3524 : BitVec 32) (k0_hw504 : k0_chk504 v3524), ∀ a, (k0_off504 v3524) a + S1x1x128.size a ≤ S1x1024x128.size a := fun v3524 k0_hw504 => k0_hw504

def k0_off505 (v3531 : BitVec 32) : Fin 3 → Nat :=
  let c0_3027 : Index := 0#32
  let v3532 : Index := Scalar.indexCast v3531
  let c0_3028 : Index := 0#32
  ![0, v3532.toNat, 0]

def k0_chk505 (v3531 : BitVec 32) : Prop :=
  (∀ a, (k0_off505 v3531) a + S1x1x128.size a ≤ S1x1024x128.size a)
theorem k0_off505_inb : ∀ (v3531 : BitVec 32) (k0_hw505 : k0_chk505 v3531), ∀ a, (k0_off505 v3531) a + S1x1x128.size a ≤ S1x1024x128.size a := fun v3531 k0_hw505 => k0_hw505

def k0_off506 (v3538 : BitVec 32) : Fin 3 → Nat :=
  let c0_3033 : Index := 0#32
  let v3539 : Index := Scalar.indexCast v3538
  let c0_3034 : Index := 0#32
  ![0, v3539.toNat, 0]

def k0_chk506 (v3538 : BitVec 32) : Prop :=
  (∀ a, (k0_off506 v3538) a + S1x1x128.size a ≤ S1x1024x128.size a)
theorem k0_off506_inb : ∀ (v3538 : BitVec 32) (k0_hw506 : k0_chk506 v3538), ∀ a, (k0_off506 v3538) a + S1x1x128.size a ≤ S1x1024x128.size a := fun v3538 k0_hw506 => k0_hw506

def k0_off507 (v3545 : BitVec 32) : Fin 3 → Nat :=
  let c0_3039 : Index := 0#32
  let v3546 : Index := Scalar.indexCast v3545
  let c0_3040 : Index := 0#32
  ![0, v3546.toNat, 0]

def k0_chk507 (v3545 : BitVec 32) : Prop :=
  (∀ a, (k0_off507 v3545) a + S1x1x128.size a ≤ S1x1024x128.size a)
theorem k0_off507_inb : ∀ (v3545 : BitVec 32) (k0_hw507 : k0_chk507 v3545), ∀ a, (k0_off507 v3545) a + S1x1x128.size a ≤ S1x1024x128.size a := fun v3545 k0_hw507 => k0_hw507

def k0_off508 (v3552 : BitVec 32) : Fin 3 → Nat :=
  let c0_3045 : Index := 0#32
  let v3553 : Index := Scalar.indexCast v3552
  let c0_3046 : Index := 0#32
  ![0, v3553.toNat, 0]

def k0_chk508 (v3552 : BitVec 32) : Prop :=
  (∀ a, (k0_off508 v3552) a + S1x1x128.size a ≤ S1x1024x128.size a)
theorem k0_off508_inb : ∀ (v3552 : BitVec 32) (k0_hw508 : k0_chk508 v3552), ∀ a, (k0_off508 v3552) a + S1x1x128.size a ≤ S1x1024x128.size a := fun v3552 k0_hw508 => k0_hw508

def k0_off509 (v3559 : BitVec 32) : Fin 3 → Nat :=
  let c0_3051 : Index := 0#32
  let v3560 : Index := Scalar.indexCast v3559
  let c0_3052 : Index := 0#32
  ![0, v3560.toNat, 0]

def k0_chk509 (v3559 : BitVec 32) : Prop :=
  (∀ a, (k0_off509 v3559) a + S1x1x128.size a ≤ S1x1024x128.size a)
theorem k0_off509_inb : ∀ (v3559 : BitVec 32) (k0_hw509 : k0_chk509 v3559), ∀ a, (k0_off509 v3559) a + S1x1x128.size a ≤ S1x1024x128.size a := fun v3559 k0_hw509 => k0_hw509

def k0_off510 (v3566 : BitVec 32) : Fin 3 → Nat :=
  let c0_3057 : Index := 0#32
  let v3567 : Index := Scalar.indexCast v3566
  let c0_3058 : Index := 0#32
  ![0, v3567.toNat, 0]

def k0_chk510 (v3566 : BitVec 32) : Prop :=
  (∀ a, (k0_off510 v3566) a + S1x1x128.size a ≤ S1x1024x128.size a)
theorem k0_off510_inb : ∀ (v3566 : BitVec 32) (k0_hw510 : k0_chk510 v3566), ∀ a, (k0_off510 v3566) a + S1x1x128.size a ≤ S1x1024x128.size a := fun v3566 k0_hw510 => k0_hw510

def k0_off511 (v3573 : BitVec 32) : Fin 3 → Nat :=
  let c0_3063 : Index := 0#32
  let v3574 : Index := Scalar.indexCast v3573
  let c0_3064 : Index := 0#32
  ![0, v3574.toNat, 0]

def k0_chk511 (v3573 : BitVec 32) : Prop :=
  (∀ a, (k0_off511 v3573) a + S1x1x128.size a ≤ S1x1024x128.size a)
theorem k0_off511_inb : ∀ (v3573 : BitVec 32) (k0_hw511 : k0_chk511 v3573), ∀ a, (k0_off511 v3573) a + S1x1x128.size a ≤ S1x1024x128.size a := fun v3573 k0_hw511 => k0_hw511

def k0_off512 (v3580 : BitVec 32) : Fin 3 → Nat :=
  let c0_3069 : Index := 0#32
  let v3581 : Index := Scalar.indexCast v3580
  let c0_3070 : Index := 0#32
  ![0, v3581.toNat, 0]

def k0_chk512 (v3580 : BitVec 32) : Prop :=
  (∀ a, (k0_off512 v3580) a + S1x1x128.size a ≤ S1x1024x128.size a)
theorem k0_off512_inb : ∀ (v3580 : BitVec 32) (k0_hw512 : k0_chk512 v3580), ∀ a, (k0_off512 v3580) a + S1x1x128.size a ≤ S1x1024x128.size a := fun v3580 k0_hw512 => k0_hw512

def k0_off513 (i : grid0.Coords) : Fin 2 → Nat :=
  let arg0 : BitVec 32 := BitVec.ofNat 32 (i 0).val
  let v3592 : Index := Scalar.indexCast arg0
  let arg1 : BitVec 32 := BitVec.ofNat 32 (i 1).val
  let v3593 : Index := Scalar.indexCast arg1
  ![v3592.toNat, v3593.toNat]
def k0_cond2 (i : grid0.Coords) : BitVec 1 :=
  let arg1 : BitVec 32 := BitVec.ofNat 32 (i 1).val
  let c31_i32 : BitVec 32 := 31#32
  let v4307 : BitVec 1 := Scalar.cmpi .eq arg1 c31_i32
  let v4308 : BitVec 32 := Scalar.extui v4307
  let c0_i32_3419 : BitVec 32 := 0#32
  let v4309 : BitVec 1 := Scalar.cmpi .ne v4308 c0_i32_3419
  v4309

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  let v0 : BitVec 1 := Scalar.cmpi .eq c20_i32 c0_i32
  let c1_i32 : BitVec 32 := 1#32
  let v1 : BitVec 32 := Scalar.select v0 c1_i32 c20_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  let v0 : BitVec 1 := Scalar.cmpi .eq c20_i32 c0_i32
  let c1_i32 : BitVec 32 := 1#32
  let v1 : BitVec 32 := Scalar.select v0 c1_i32 c20_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.divsi arg0 c20_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c20_i32 c0_i32_1
  let v7 : BitVec 32 := Scalar.extui v6
  let c0_i32_2 : BitVec 32 := 0#32
  let v8 : BitVec 1 := Scalar.cmpi .slt c20_i32 c0_i32_2
  let v9 : BitVec 32 := Scalar.extui v8
  let v10 : BitVec 32 := Scalar.subi v7 v9
  let v11 : BitVec 1 := Scalar.cmpi .ne v5 v10
  let v12 : BitVec 32 := Scalar.remsi arg0 c20_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c20_i32_4 : BitVec 32 := 20#32
  let c0_i32_5 : BitVec 32 := 0#32
  let v17 : BitVec 1 := Scalar.cmpi .eq c20_i32_4 c0_i32_5
  let c1_i32_6 : BitVec 32 := 1#32
  let v18 : BitVec 32 := Scalar.select v17 c1_i32_6 c20_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S60x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e_inv_sqrt_d" => some (((Real.log 2)⁻¹ * (11863283 / 134217728) : ℝ) : EReal)
  | "masked" => some ⊥
  | _ => none
-- ==== ReferenceIdeal.lean ====
abbrev S3x16384x20x128 : Shape := ⟨4, ![3, 16384, 20, 128]⟩
abbrev S3x32x20 : Shape := ⟨3, ![3, 32, 20]⟩
abbrev S3x16384x20 : Shape := ⟨3, ![3, 16384, 20]⟩
abbrev S20x1024x128 : Shape := ⟨3, ![20, 1024, 128]⟩
abbrev S3x20x1024x128 : Shape := ⟨4, ![3, 20, 1024, 128]⟩
abbrev S3x20x1024 : Shape := ⟨3, ![3, 20, 1024]⟩
abbrev S3x32x512x20x128 : Shape := ⟨5, ![3, 32, 512, 20, 128]⟩
abbrev S3x32x512x20 : Shape := ⟨4, ![3, 32, 512, 20]⟩
abbrev S_ : Shape := ⟨0, ![]⟩
abbrev S512x512 : Shape := ⟨2, ![512, 512]⟩
abbrev S3x32x512x20x1 : Shape := ⟨5, ![3, 32, 512, 20, 1]⟩
abbrev S1x1x1x1x1024 : Shape := ⟨5, ![1, 1, 1, 1, 1024]⟩
abbrev S3x32x512x20x1024 : Shape := ⟨5, ![3, 32, 512, 20, 1024]⟩
abbrev S3x32x20x1024x128 : Shape := ⟨5, ![3, 32, 20, 1024, 128]⟩
abbrev S3x32x20x1024 : Shape := ⟨4, ![3, 32, 20, 1024]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S3x1x20x1024x128 : Shape := ⟨5, ![3, 1, 20, 1024, 128]⟩
abbrev S3x20x1024x128x32 : Shape := ⟨5, ![3, 20, 1024, 128, 32]⟩
abbrev S3x1x20x1024 : Shape := ⟨4, ![3, 1, 20, 1024]⟩
abbrev S3x20x1024x32 : Shape := ⟨4, ![3, 20, 1024, 32]⟩
abbrev S20x1024x3x32x512 : Shape := ⟨5, ![20, 1024, 3, 32, 512]⟩
abbrev S3x32x20x512x1024 : Shape := ⟨5, ![3, 32, 20, 512, 1024]⟩
abbrev S3x32x20x1x1 : Shape := ⟨5, ![3, 32, 20, 1, 1]⟩
abbrev S3x32x20x512 : Shape := ⟨4, ![3, 32, 20, 512]⟩
abbrev S3x32x20x1x512 : Shape := ⟨5, ![3, 32, 20, 1, 512]⟩
abbrev S3x32x20x512x1 : Shape := ⟨5, ![3, 32, 20, 512, 1]⟩
abbrev S1 : Shape := ⟨1, ![1]⟩
abbrev S1x1x1x1x1 : Shape := ⟨5, ![1, 1, 1, 1, 1]⟩
abbrev S3x32x20x512x512 : Shape := ⟨5, ![3, 32, 20, 512, 512]⟩
abbrev S3x32x20x1x1024 : Shape := ⟨5, ![3, 32, 20, 1, 1024]⟩
abbrev S3x32x20x512x128 : Shape := ⟨5, ![3, 32, 20, 512, 128]⟩
abbrev S3x16384x2560 : Shape := ⟨3, ![3, 16384, 2560]⟩

abbrev nBuf : Space → Nat
  | .hbm => 147
  | .vmem => 4
  | .smem => 0
  | _ => 0

abbrev hbmTy0_0 (i : Nat) : BufTy := match i % 128 with
  | 0 => ⟨S3x16384x20x128, .fp8e4m3⟩
  | 1 => ⟨S3x32x20, .f32⟩
  | 2 => ⟨S3x16384x20, .i32⟩
  | 3 => ⟨S20x1024x128, .bf16⟩
  | 4 => ⟨S3x16384x20x128, .fp8e4m3⟩
  | 5 => ⟨S3x16384x20, .f32⟩
  | 6 => ⟨S3x20x1024x128, .f32⟩
  | 7 => ⟨S3x20x1024, .f32⟩
  | 8 => ⟨S3x16384x20x128, .bf16⟩
  | 9 => ⟨S3x16384x20x128, .bf16⟩
  | 10 => ⟨S3x32x512x20x128, .bf16⟩
  | 11 => ⟨S3x32x512x20x128, .bf16⟩
  | 12 => ⟨S3x32x512x20, .i32⟩
  | 13 => ⟨S3x32x512x20, .f32⟩
  | 14 => ⟨S_, .i1⟩
  | 15 => ⟨S512x512, .i1⟩
  | 16 => ⟨S512x512, .i32⟩
  | 17 => ⟨S_, .i32⟩
  | 18 => ⟨S512x512, .i32⟩
  | 19 => ⟨S512x512, .i32⟩
  | 20 => ⟨S512x512, .i32⟩
  | 21 => ⟨S512x512, .i1⟩
  | 22 => ⟨S_, .i1⟩
  | 23 => ⟨S512x512, .i1⟩
  | 24 => ⟨S512x512, .i1⟩
  | 25 => ⟨S3x32x512x20x1, .i32⟩
  | 26 => ⟨S1x1x1x1x1024, .i32⟩
  | 27 => ⟨S3x32x512x20x1024, .i32⟩
  | 28 => ⟨S3x32x512x20x1024, .i32⟩
  | 29 => ⟨S3x32x512x20x1024, .i1⟩
  | 30 => ⟨S3x32x512x20x1024, .bf16⟩
  | 31 => ⟨S3x32x512x20, .bf16⟩
  | 32 => ⟨S3x32x512x20x1, .bf16⟩
  | 33 => ⟨S3x32x512x20x1024, .bf16⟩
  | 34 => ⟨S3x32x512x20x1024, .bf16⟩
  | 35 => ⟨S3x32x20x1024x128, .f32⟩
  | 36 => ⟨S3x32x512x20x1024, .f32⟩
  | 37 => ⟨S_, .f32⟩
  | 38 => ⟨S3x32x20x1024, .f32⟩
  | 39 => ⟨S32, .i32⟩
  | 40 => ⟨S32x1, .i32⟩
  | 41 => ⟨S32, .i32⟩
  | 42 => ⟨S1x32, .i32⟩
  | 43 => ⟨S32x32, .i32⟩
  | 44 => ⟨S32x32, .i32⟩
  | 45 => ⟨S32x32, .i1⟩
  | 46 => ⟨S_, .f32⟩
  | 47 => ⟨S_, .f32⟩
  | 48 => ⟨S32x32, .f32⟩
  | 49 => ⟨S32x32, .f32⟩
  | 50 => ⟨S32x32, .f32⟩
  | 51 => ⟨S3x1x20x1024x128, .f32⟩
  | 52 => ⟨S3x20x1024x128x32, .f32⟩
  | 53 => ⟨S3x32x20x1024x128, .f32⟩
  | 54 => ⟨S3x32x20x1024x128, .f32⟩
  | 55 => ⟨S3x32x20x1024x128, .f32⟩
  | 56 => ⟨S3x1x20x1024, .f32⟩
  | 57 => ⟨S3x20x1024x32, .f32⟩
  | 58 => ⟨S3x32x20x1024, .f32⟩
  | 59 => ⟨S3x32x20x1024, .f32⟩
  | 60 => ⟨S3x32x20x1024, .f32⟩
  | 61 => ⟨S20x1024x3x32x512, .f32⟩
  | 62 => ⟨S3x32x20x512x1024, .f32⟩
  | 63 => ⟨S_, .f32⟩
  | 64 => ⟨S3x32x20, .f32⟩
  | 65 => ⟨S3x32x20, .f32⟩
  | 66 => ⟨S3x32x20x1x1, .f32⟩
  | 67 => ⟨S3x32x20x512x1024, .f32⟩
  | 68 => ⟨S3x32x20x512x1024, .f32⟩
  | 69 => ⟨S3x32x20x512, .i32⟩
  | 70 => ⟨S3x32x20x1x512, .i32⟩
  | 71 => ⟨S_, .i32⟩
  | 72 => ⟨S3x32x20x1x512, .i32⟩
  | 73 => ⟨S3x32x20x1x512, .i1⟩
  | 74 => ⟨S_, .i32⟩
  | 75 => ⟨S3x32x20x1x512, .i32⟩
  | 76 => ⟨S3x32x20x1x512, .i32⟩
  | 77 => ⟨S3x32x20x1x512, .i32⟩
  | 78 => ⟨S3x32x20x512x1, .i32⟩
  | 79 => ⟨S1, .i32⟩
  | 80 => ⟨S_, .i32⟩
  | 81 => ⟨S3x32x20x512x1, .i32⟩
  | 82 => ⟨S3x32x20x512x1, .i1⟩
  | 83 => ⟨S1x1x1x1x1, .i32⟩
  | 84 => ⟨S3x32x20x512x1, .i32⟩
  | 85 => ⟨S3x32x20x512x1, .i1⟩
  | 86 => ⟨S3x32x20x512x1, .i1⟩
  | 87 => ⟨S_, .i1⟩
  | 88 => ⟨S3x32x20x512, .i1⟩
  | 89 => ⟨S3x32x20x512x512, .f32⟩
  | 90 => ⟨S3x32x20x512x512, .i1⟩
  | 91 => ⟨S_, .f32⟩
  | 92 => ⟨S3x32x20x512x512, .f32⟩
  | 93 => ⟨S3x32x20x512x512, .f32⟩
  | 94 => ⟨S_, .f32⟩
  | 95 => ⟨S_, .f32⟩
  | 96 => ⟨S3x32x20x512x512, .i1⟩
  | 97 => ⟨S3x32x20x512x512, .f32⟩
  | 98 => ⟨S3x32x20x512x512, .f32⟩
  | 99 => ⟨S_, .f32⟩
  | 100 => ⟨S3x32x20x1024, .f32⟩
  | 101 => ⟨S3x32x20x1024, .i1⟩
  | 102 => ⟨S3x32x20x1x1024, .i1⟩
  | 103 => ⟨S_, .f32⟩
  | 104 => ⟨S_, .f32⟩
  | 105 => ⟨S3x32x20x512x1024, .i1⟩
  | 106 => ⟨S3x32x20x512x1024, .f32⟩
  | 107 => ⟨S3x32x20x512x1024, .f32⟩
  | 108 => ⟨S_, .f32⟩
  | 109 => ⟨S3x32x20x512, .f32⟩
  | 110 => ⟨S_, .f32⟩
  | 111 => ⟨S3x32x20x512, .f32⟩
  | 112 => ⟨S3x32x20x512, .f32⟩
  | 113 => ⟨S3x32x20x512x1, .f32⟩
  | 114 => ⟨S3x32x20x512x512, .f32⟩
  | 115 => ⟨S3x32x20x512x512, .f32⟩
  | 116 => ⟨S3x32x20x512x512, .f32⟩
  | 117 => ⟨S3x32x20x512x1024, .f32⟩
  | 118 => ⟨S3x32x20x512x1024, .f32⟩
  | 119 => ⟨S3x32x20x512x1024, .f32⟩
  | 120 => ⟨S_, .f32⟩
  | 121 => ⟨S3x32x20x512, .f32⟩
  | 122 => ⟨S3x32x20x512x1, .f32⟩
  | 123 => ⟨S3x32x20x512, .f32⟩
  | 124 => ⟨S3x32x20x512x1, .f32⟩
  | 125 => ⟨S3x32x20x512x1, .f32⟩
  | 126 => ⟨S3x32x20x512, .f32⟩
  | 127 => ⟨S3x32x20x1x512, .f32⟩
  | _ => ⟨S3x16384x20x128, .fp8e4m3⟩

abbrev hbmTy0_1 (i : Nat) : BufTy := match i % 128 with
  | 0 => ⟨S3x32x20x512x512, .f32⟩
  | 1 => ⟨S3x32x20x512x512, .f32⟩
  | 2 => ⟨S3x32x20x512x512, .bf16⟩
  | 3 => ⟨S3x32x20x512x128, .f32⟩
  | 4 => ⟨S3x32x20x512x1024, .bf16⟩
  | 5 => ⟨S3x32x20x1024x128, .bf16⟩
  | 6 => ⟨S3x32x20x512x128, .f32⟩
  | 7 => ⟨S3x32x20x512x128, .f32⟩
  | 8 => ⟨S3x32x20x512x128, .f32⟩
  | 9 => ⟨S3x32x20x512x128, .f32⟩
  | 10 => ⟨S3x32x20x512x128, .bf16⟩
  | 11 => ⟨S3x32x512x20x128, .bf16⟩
  | 12 => ⟨S3x16384x2560, .bf16⟩
  | 13 => ⟨S_, .f32⟩
  | 14 => ⟨S3x20x1024x128, .f32⟩
  | 15 => ⟨S3x20x1024x128, .f32⟩
  | 16 => ⟨S_, .f32⟩
  | 17 => ⟨S3x20x1024, .f32⟩
  | 18 => ⟨S3x20x1024, .f32⟩
  | _ => ⟨S3x16384x20x128, .fp8e4m3⟩

abbrev hbmTy (i : Nat) : BufTy := match i / 128 with
  | 0 => hbmTy0_0 i
  | 1 => hbmTy0_1 i
  | _ => ⟨S3x16384x20x128, .fp8e4m3⟩

abbrev bufTy : (tb : Table) → Fin (tcTables nBuf tb) → BufTy
  | .hbm, ⟨i, _⟩ => hbmTy i
  | .local _ .vmem, ⟨0, _⟩ => ⟨S3x16384x20x128, .fp8e4m3⟩
  | .local _ .vmem, ⟨1, _⟩ => ⟨S3x16384x20x128, .fp8e4m3⟩
  | .local _ .vmem, ⟨2, _⟩ => ⟨S3x16384x20x128, .bf16⟩
  | .local _ .vmem, ⟨3, _⟩ => ⟨S3x16384x20x128, .bf16⟩
  | _, _ => ⟨S3x16384x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v42 : Ref sig .tc := ⟨.hbm, 93, rfl⟩
abbrev main_cst_3 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_v43 : Ref sig .tc := ⟨.hbm, 98, rfl⟩
abbrev main_cst_4 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_5 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v47 : Ref sig .tc := ⟨.hbm, 107, rfl⟩
abbrev main_cst_6 : Ref sig .tc := ⟨.hbm, 108, rfl⟩
abbrev main_v48 : Ref sig .tc := ⟨.hbm, 109, rfl⟩
abbrev main_cst_7 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_8 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_9 : Ref sig .tc := ⟨.hbm, 141, rfl⟩
abbrev main_v78 : Ref sig .tc := ⟨.hbm, 142, rfl⟩
abbrev main_v79 : Ref sig .tc := ⟨.hbm, 143, rfl⟩
abbrev main_cst_10 : Ref sig .tc := ⟨.hbm, 144, rfl⟩
abbrev main_v80 : Ref sig .tc := ⟨.hbm, 145, rfl⟩
abbrev main_v81 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x16384x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16384x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x20x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16384x20x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Cmd.lean ====
/-
  A program of loads and stores over named buffers, as data, with a meaning on plain contents.

  The kernel's body reads and writes windows of a fixed family of buffers, one per operand and scratch array. `Cmd` is such a
  body as a tree; `Cmd.toProg` is the program it stands for; `Cmd.wp` says, over contents of the buffers only, what holds when
  it is done. `Cmd.sound` is the one proof that goes through the separation logic: a fact of `Cmd.wp` is a triple of the program.
-/
module

public import Idealize.ShloMosaic.Lib.Tactic
public import Idealize.ShloMosaic.Lib.Writes
public import Idealize.ShloMosaic.Lib.VecWindow
public import Idealize.SL.ProofMode.BigOp

@[expose] public section

noncomputable section

namespace Cert.Cmd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A family of buffers indexed by `B`: each one's memory space, shape, element type and memref. -/
structure Bufs (sig : RefSig) (B : Type) where
  cs : B → CoreSpace
  sh : B → Shape
  el : B → EltTy
  mr : (b : B) → Memref sig .tc (.core (cs b)) (sh b) (el b)

variable {nD : Nat} {τ : Topo} {sig : RefSig} {Val : EltTy → Type} {Λ : Labels}
variable {B : Type} {S : Bufs sig B} {α : Type}

/-- The contents of every buffer. -/
abbrev St (Val : EltTy → Type) (S : Bufs sig B) : Type := (b : B) → (S.sh b).Idx → Val (S.el b)

/-- A body of loads, stores, assumptions and branches over the buffers. -/
inductive C (Val : EltTy → Type) (S : Bufs sig B) (α : Type) : Type
  | ret (a : α)
  | load (b : B) (off size : Fin (S.sh b).rank → ℕ) (inb : ∀ a, off a + size a ≤ (S.sh b).size a)
      (hl : (S.mr b).view.LoadsAt (Rect.unit off size inb).toLoadRect)
      (k : ((Rect.unit off size inb).toLoadRect.shape.Idx → Val (S.el b)) → C Val S α)
  | store (b : B) (off size : Fin (S.sh b).rank → ℕ) (inb : ∀ a, off a + size a ≤ (S.sh b).size a)
      (w : (Rect.unit off size inb).shape.Idx → Val (S.el b))
      (hx : ((S.mr b).access (Rect.unit off size inb)).Stores Finset.univ) (k : C Val S α)
  | assume (P : Prop) (d : Decidable P) (k : P → C Val S α)
  | branch (P : Prop) (d : Decidable P) (a b : C Val S α)

/-- The program a body stands for. -/
def C.toProg : C Val S α → Prog (TpuEff nD τ sig Val Λ .tc) α
  | .ret a => .ret a
  | .load b off size inb hl k => .op (.load (S.mr b) (Rect.unit off size inb).toLoadRect hl) fun x => (k x).toProg
  | .store b off size inb w hx k => .op (.store (S.mr b) (Rect.unit off size inb) w Finset.univ hx (.inl rfl)) fun _ => k.toProg
  | .assume P d k => .op (.assume P d) fun h => (k h.down).toProg
  | .branch P d a b => @dite _ P d (fun _ => a.toProg) (fun _ => b.toProg)

variable [DecidableEq B]

/-- What holds of the result and the buffers' contents when the body is done, from contents `X`. -/
def C.wp : C Val S α → St Val S → (α → St Val S → Prop) → Prop
  | .ret a, X, Q => Q a X
  | .load b off size inb _ k, X, Q => (k (VecWindow.window (X b) off size inb)).wp X Q
  | .store b off size _ w _ k, X, Q => k.wp (Function.update X b (VecWindow.put (X b) off size w)) Q
  | .assume P _ k, X, Q => ∃ h : P, (k h).wp X Q
  | .branch P _ a b, X, Q => (P → a.wp X Q) ∧ (¬ P → b.wp X Q)

theorem C.wp_mono (p : C Val S α) {X : St Val S} {Q Q' : α → St Val S → Prop} (h : ∀ a X, Q a X → Q' a X) (hp : p.wp X Q) : p.wp X Q' := by
  induction p generalizing X with
  | ret a => exact h _ _ hp
  | load b off size inb hl k ih => exact ih _ hp
  | store b off size inb w hx k ih => exact ih hp
  | assume P d k ih => obtain ⟨hP, hk⟩ := hp; exact ⟨hP, ih hP hk⟩
  | branch P d a b iha ihb => exact ⟨fun hP => iha (hp.1 hP), fun hP => ihb (hp.2 hP)⟩

section Logic

variable [Fintype B]
variable {Ix : Type} [DecidableEq Ix] {Name : Type} [DecidableEq Name] {U : Type} [URA U] {Lvl : Type} [Preorder Lvl]

local notation "𝕄" => MT nD τ sig Ix Val Name U Lvl

/-- Core `c` owns every buffer, at contents `X`. -/
def ownsAll (c : Dev nD) (X : St Val S) : sProp 𝕄 :=
  bigSep Finset.univ fun b : B => owns (c : Thread nD τ) (S.mr b) fullShare (X b)

/-- The buffers owned at `X`: one of them alone, and all of them back for any new contents of that one. -/
theorem ownsAll_turn (c : Dev nD) (X : St Val S) (b : B) :
    (ownsAll c X : sProp 𝕄) ⊢ iprop(owns (c : Thread nD τ) (S.mr b) fullShare (X b)
      ∗ ∀ x, owns (c : Thread nD τ) (S.mr b) fullShare x -∗ ownsAll c (Function.update X b x)) :=
  bigSep_univ_turn (fun b x => (owns (c : Thread nD τ) (S.mr b) fullShare x : sProp 𝕄)) X b

/-- A fact of the meaning on contents is a triple of the program. -/
theorem C.sound (defs : Defs nD τ sig Val Λ) (𝒱 : Variants) (c : Dev nD) (E : Set Name) (p : C Val S α) (X : St Val S)
    (Q : α → St Val S → Prop) (hp : p.wp X Q) :
    (ownsAll c X : sProp 𝕄) ⊢ Idealize.SL.Sem.wp frame (wpE defs 𝒱 (c : Thread nD τ) none) E (p.toProg : Prog (TpuEff nD τ sig Val Λ .tc) α)
      (fun r => iprop(∃ X', ⌜Q r X'⌝ ∗ ownsAll c X')) := by
  induction p generalizing X with
  | ret a =>
    have hr : (ownsAll c X : sProp 𝕄) ⊢ iprop(∃ X', ⌜Q a X'⌝ ∗ ownsAll c X') := by
      iintro H; iexists X; isplitr
      · ipureintro; exact hp
      · iexact H
    refine hr.trans ?_
    simp only [C.toProg, wp_ret]
    exact fupd_intro
  | load b off size inb hl k ih =>
    refine (ownsAll_turn c X b).trans ?_
    simp only [C.toProg]
    iintro ⟨H, Hb⟩
    unfold owns
    icases H with ⟨%f, %hf, H⟩
    iapply (wp_load_rect 𝒱 (c : Thread nD τ) none E (m := S.mr b) (r := Rect.unit off size inb) (hl := hl)
      (k := fun x => (k x).toProg) (f := f) (View.set_slice_subset _ _)) $$ H
    iintro H
    have hx : ((S.mr b).access (Rect.unit off size inb)).read Val f = VecWindow.window (X b) off size inb := by
      rw [← hf]; exact View.readAt_unit _ f inb rfl inb
    rw [hx]
    iapply (ih _ X hp)
    rw [show (ownsAll c X : sProp 𝕄) = ownsAll c (Function.update X b (X b)) from by rw [Function.update_eq_self]]
    iapply Hb
    iexists f; isplitr
    · ipureintro; exact hf
    · iexact H
  | store b off size inb w hx k ih =>
    refine (ownsAll_turn c X b).trans ?_
    simp only [C.toProg]
    iintro ⟨H, Hb⟩
    unfold owns
    icases H with ⟨%f, %hf, H⟩
    iapply (wp_store_writes₀ 𝒱 (c : Thread nD τ) none E (m := S.mr b) (r := Rect.unit off size inb) (w := w) (hx := hx) (hm := .inl rfl)
      (k := fun _ => k.toProg) (f := f) (View.set_slice_subset _ _)) $$ H
    iintro H
    have hw : (S.mr b).view.read Val ((S.mr b).view.writes Val f [⟨Rect.unit off size inb, w⟩]) = VecWindow.put (X b) off size w := by
      rw [← hf]; exact View.read_writes_cons_put _ f inb w [] rfl
    iapply (ih (Function.update X b (VecWindow.put (X b) off size w)) hp)
    iapply Hb
    iexists (S.mr b).view.writes Val f [⟨Rect.unit off size inb, w⟩]; isplitr
    · ipureintro; exact hw
    · iexact H
  | assume P d k ih =>
    obtain ⟨hP, hk⟩ := hp
    exact (ih hP X hk).trans (wp_assume (P := P) (d := d) (k := fun h => (k h.down).toProg) 𝒱 (c : Thread nD τ) none E hP)
  | branch P d a b iha ihb =>
    by_cases hP : P
    · rw [show (C.branch P d a b : C Val S α).toProg (nD := nD) (τ := τ) (Λ := Λ) = a.toProg from dif_pos hP]
      exact iha X (hp.1 hP)
    · rw [show (C.branch P d a b : C Val S α).toProg (nD := nD) (τ := τ) (Λ := Λ) = b.toProg from dif_neg hP]
      exact ihb X (hp.2 hP)

end Logic

end Cert.Cmd
-- ==== Proof.Body.lean ====
/-
  The kernel's body at one grid point, as a `Cmd.C`: the same loads and stores in the same order, with the steps the kernel writes
  out by hand (512 row gathers, 8 counter refreshes, the chunks of the attention, 4 state updates) as recursions.

  Buffers, by the name of the kernel's arguments: `ksm` the key codes as scalars, `qs` the query scales, `q`/`v` the query and value codes,
  `k`/`vs` key codes and value scales as vectors, `cb`/`cbf` the codebook in two types, `u0`/`c0` the initial state, `out`/`uf`/`cf` the
  outputs, then the scratch: `lhs` the left operand of the score product, `kg` the gathered key rows, `s` scores, `p` weights,
  `ut`/`utb` the state, transposed, `cnt`/`cntc` the counters along lanes and along rows.
-/
module

public import proofs.«01_k».proof.Proof.Cmd
public import proofs.«01_k».proof.Proof.Gen.KernelIdeal

@[expose] public section

noncomputable section

namespace Cert.Body

open Idealize.ShloMosaic Idealize.SL.Sem
open Cert.KernelIdeal Cert.KernelIdeal.Gen Cert.Cmd

variable {F : FTy → Type} [FloatOps F]

/-- The names of the buffers the body works on. -/
inductive Nm
  | ksm | qs | q | v | k | vs | cb | cbf | u0 | c0 | out | uf | cf | lhs | kg | s | p | ut | utb | cnt | cntc
  deriving DecidableEq

instance : Fintype Nm where
  elems := {.ksm, .qs, .q, .v, .k, .vs, .cb, .cbf, .u0, .c0, .out, .uf, .cf, .lhs, .kg, .s, .p, .ut, .utb, .cnt, .cntc}
  complete := by intro x; cases x <;> decide

/-- The memrefs the body is called with, and what the stores of bf16 values need of theirs. -/
structure Ops (sig : RefSig) where
  ksm : Memref sig .tc .smem S1x1x512 .i32
  qs : Memref sig .tc .smem S60x32 .f32
  q : Memref sig .tc .vmem S1x128x512 .fp8e4m3
  v : Memref sig .tc .vmem S1x128x512 .fp8e4m3
  k : Memref sig .tc .vmem S1x1x512 .i32
  vs : Memref sig .tc .vmem S1x1x512 .f32
  cb : Memref sig .tc .vmem S1x1024x128 .bf16
  cbf : Memref sig .tc .vmem S1x1024x128 .f32
  u0 : Memref sig .tc .vmem S1x1024x128 .f32
  c0 : Memref sig .tc .vmem S1x1x1024 .f32
  out : Memref sig .tc .vmem S1x512x128 .bf16
  uf : Memref sig .tc .vmem S1x1024x128 .f32
  cf : Memref sig .tc .vmem S1x1x1024 .f32
  lhs : Memref sig .tc .vmem S1536x256 .bf16
  kg : Memref sig .tc .vmem S512x128 .f32
  s : Memref sig .tc .vmem S1536x256 .f32
  p : Memref sig .tc .vmem S1536x256 .bf16
  ut : Memref sig .tc .vmem S128x1024 .f32
  utb : Memref sig .tc .vmem S128x1024 .bf16
  cnt : Memref sig .tc .vmem S8x1024 .f32
  cntc : Memref sig .tc .vmem S1024x128 .f32
  hout : out.IsWhole
  hlhs : lhs.IsWhole
  hp : p.IsWhole
  hutb : utb.IsWhole

variable {sig : RefSig} (O : Ops sig)

def Nm.cs : Nm → CoreSpace
  | .ksm | .qs => .smem
  | _ => .vmem

def Nm.sh : Nm → Shape
  | .ksm => S1x1x512 | .qs => S60x32 | .q => S1x128x512 | .v => S1x128x512 | .k => S1x1x512 | .vs => S1x1x512
  | .cb => S1x1024x128 | .cbf => S1x1024x128 | .u0 => S1x1024x128 | .c0 => S1x1x1024
  | .out => S1x512x128 | .uf => S1x1024x128 | .cf => S1x1x1024
  | .lhs => S1536x256 | .kg => S512x128 | .s => S1536x256 | .p => S1536x256 | .ut => S128x1024 | .utb => S128x1024
  | .cnt => S8x1024 | .cntc => S1024x128

def Nm.el : Nm → EltTy
  | .ksm => .i32 | .qs => .f32 | .q => .fp8e4m3 | .v => .fp8e4m3 | .k => .i32 | .vs => .f32
  | .cb => .bf16 | .cbf => .f32 | .u0 => .f32 | .c0 => .f32
  | .out => .bf16 | .uf => .f32 | .cf => .f32
  | .lhs => .bf16 | .kg => .f32 | .s => .f32 | .p => .bf16 | .ut => .f32 | .utb => .bf16
  | .cnt => .f32 | .cntc => .f32

/-- The buffers of the body. -/
def Ops.bufs : Bufs sig Nm where
  cs := Nm.cs
  sh := Nm.sh
  el := Nm.el
  mr := fun
    | .ksm => O.ksm | .qs => O.qs | .q => O.q | .v => O.v | .k => O.k | .vs => O.vs | .cb => O.cb | .cbf => O.cbf
    | .u0 => O.u0 | .c0 => O.c0 | .out => O.out | .uf => O.uf | .cf => O.cf | .lhs => O.lhs | .kg => O.kg | .s => O.s
    | .p => O.p | .ut => O.ut | .utb => O.utb | .cnt => O.cnt | .cntc => O.cntc

/-- A body over these buffers. -/
abbrev Cm (F : FTy → Type) [FloatOps F] (O : Ops sig) (α : Type) : Type := C (Elt F) O.bufs α

variable {α : Type}

/-! ## The values stored -/

/-- The mask column block of 128 codes: 0 where the counter is positive, `neg` elsewhere. -/
def maskCol (neg : F .f32) (cc : FVec F S128x128 .f32) : FVec F S128x128 .bf16 :=
  shapeCast S128x128 (truncf .bf16 (select (cmpf .ogt cc (broadcast S128x128 (Scalar.ofBits .f32 0x00000000#32)))
    (broadcast S128x128 (Scalar.ofBits .f32 0x00000000#32)) (broadcast S128x128 neg)) bitsLt_bf16_f32) shapeCasts_S128x128_S128x128

/-- 128 counters spread along rows. -/
def colOf (x : Vec F S1x128 .f32) : FVec F S128x128 .f32 :=
  transpose S128x128 [1, 0] (broadcastTo S128x128 (shapeCast S1x128 x shapeCasts_S1x128_S1x128) broadcasts_S1x128_S128x128)
    transposes_S128x128_p1_0_S128x128

def colSt (x : Vec F S1x128 .f32) : FVec F S128x128 .f32 := shapeCast S128x128 (colOf x) shapeCasts_S128x128_S128x128

def cbSt (x : Vec F S1x1024x128 .bf16) : FVec F S1024x128 .bf16 :=
  shapeCast S1024x128 (shapeCast S1024x128 x shapeCasts_S1x1024x128_S1024x128) shapeCasts_S1024x128_S1024x128

def zeroSt : FVec F S512x128 .bf16 :=
  shapeCast S512x128 (broadcast S512x128 (Scalar.ofBits .bf16 0x0000#16 : F .bf16)) shapeCasts_S512x128_S512x128

def u0T (x : Vec F S1x1024x128 .f32) : FVec F S128x1024 .f32 :=
  transpose S128x1024 [1, 0] (shapeCast S1024x128 x shapeCasts_S1x1024x128_S1024x128) transposes_S1024x128_p1_0_S128x1024

def utSt (x : Vec F S1x1024x128 .f32) : FVec F S128x1024 .f32 := shapeCast S128x1024 (u0T x) shapeCasts_S128x1024_S128x1024

def utbSt (x : Vec F S1x1024x128 .f32) : FVec F S128x1024 .bf16 :=
  shapeCast S128x1024 (truncf .bf16 (u0T x) bitsLt_bf16_f32) shapeCasts_S128x1024_S128x1024

def cntSt (x : Vec F S1x1x1024 .f32) : FVec F S8x1024 .f32 :=
  shapeCast S8x1024 (broadcastTo S8x1024 (shapeCast S1x1024 (shapeCast S1x1024 x shapeCasts_S1x1x1024_S1x1024) shapeCasts_S1x1024_S1x1024)
    broadcasts_S1x1024_S8x1024) shapeCasts_S8x1024_S8x1024

def rowSt (x : Vec F S1x1x128 .f32) : FVec F S1x128 .f32 :=
  shapeCast S1x128 (shapeCast S1x128 x shapeCasts_S1x1x128_S1x128) shapeCasts_S1x128_S1x128

def kgSt (x : Vec F S512x128 .f32) : FVec F S512x128 .bf16 :=
  shapeCast S512x128 (truncf .bf16 x bitsLt_bf16_f32) shapeCasts_S512x128_S512x128

/-- The value codes times their scales. -/
def vtOf (v : Vec F S1x128x512 .fp8e4m3) (vs : Vec F S1x1x512 .f32) : FVec F S128x512 .bf16 :=
  mulf (extf .bf16 (shapeCast S128x512 v shapeCasts_S1x128x512_S128x512) bitsLt_fp8e4m3_bf16)
    (broadcastTo S128x512 (truncf .bf16 (shapeCast S1x512 vs shapeCasts_S1x1x512_S1x512) bitsLt_bf16_f32) broadcasts_S1x512_S128x512)

/-- The rows that multiply the mask column: one row of ones over rows of zeros. -/
def oneRow : FVec F S128x256 .bf16 :=
  truncf .bf16 (select (cmpi .eq (iota .tc S128x256 32 [0] iota_S128x256_d0_w32) (broadcast S128x256 0#32))
    (broadcast S128x256 (Scalar.ofBits .f32 0x3F800000#32)) (broadcast S128x256 (Scalar.ofBits .f32 0x00000000#32))) bitsLt_bf16_f32

/-- The right operand of the score product: 256 queries over the mask rows. -/
def rhsOf (q : Vec F S1x128x256 .fp8e4m3) : FVec F S256x256 .bf16 :=
  concatenate S256x256 0 [⟨S128x256, extf .bf16 (shapeCast S128x256 q shapeCasts_S1x128x256_S128x256) bitsLt_fp8e4m3_bf16⟩,
    ⟨S128x256, oneRow (F := F)⟩] concatenates_S128x256_S128x256_S256x256_d0

def score0 (q : Vec F S1x128x256 .fp8e4m3) (lhs : Vec F S1280x256 .bf16) : FVec F S1280x256 .f32 :=
  matmul dot_S1280x256_S256x256_S1280x256_1_0_0_1_n_n none lhs (rhsOf q) (constant S1280x256 .f32 0x00000000#32)

def score1 (q : Vec F S1x128x256 .fp8e4m3) (lhs : Vec F S1536x256 .bf16) : FVec F S1536x256 .f32 :=
  matmul dot_S1536x256_S256x256_S1536x256_1_0_0_1_n_n none lhs (rhsOf q) (constant S1536x256 .f32 0x00000000#32)

/-- The causal mask of a 256 by 256 tile on the diagonal. -/
def diag (neg : F .f32) (x : FVec F S256x256 .f32) : FVec F S256x256 .f32 :=
  shapeCast S256x256 (select (cmpi .sle (iota .tc S256x256 32 [0] iota_S256x256_d0_w32) (iota .tc S256x256 32 [1] iota_S256x256_d1_w32))
    x (broadcast S256x256 neg)) shapeCasts_S256x256_S256x256

def sLow0 (q : Vec F S1x128x256 .fp8e4m3) (lhs : Vec F S1280x256 .bf16) : FVec F S1024x256 .f32 :=
  shapeCast S1024x256 (extractStridedSlice S1024x256 ![0, 0] (score0 q lhs) slices_S1280x256_o0_0_S1024x256) shapeCasts_S1024x256_S1024x256

def sDiag0 (neg : F .f32) (q : Vec F S1x128x256 .fp8e4m3) (lhs : Vec F S1280x256 .bf16) : FVec F S256x256 .f32 :=
  diag neg (extractStridedSlice S256x256 ![1024, 0] (score0 q lhs) slices_S1280x256_o1024_0_S256x256)

def sLow1 (q : Vec F S1x128x256 .fp8e4m3) (lhs : Vec F S1536x256 .bf16) : FVec F S1280x256 .f32 :=
  shapeCast S1280x256 (extractStridedSlice S1280x256 ![0, 0] (score1 q lhs) slices_S1536x256_o0_0_S1280x256) shapeCasts_S1280x256_S1280x256

def sDiag1 (neg : F .f32) (q : Vec F S1x128x256 .fp8e4m3) (lhs : Vec F S1536x256 .bf16) : FVec F S256x256 .f32 :=
  diag neg (extractStridedSlice S256x256 ![1280, 0] (score1 q lhs) slices_S1536x256_o1280_0_S256x256)

def max0 (s : Vec F S1280x256 .f32) : FVec F S1x256 .f32 :=
  shapeCast S1x256 (multiReduction .maximumf [0] S256 s 0xFF800000#32 reduces_S1280x256_S256 (.inl rfl) rfl) shapeCasts_S256_S1x256

def max1 (s : Vec F S1536x256 .f32) : FVec F S1x256 .f32 :=
  shapeCast S1x256 (multiReduction .maximumf [0] S256 s 0xFF800000#32 reduces_S1536x256_S256 (.inl rfl) rfl) shapeCasts_S256_S1x256

/-- The weights of a chunk of 128 rows of scores, from the maximum `m`. -/
def wgt (c : F .f32) (m : FVec F S1x256 .f32) (s : Vec F S128x256 .f32) : FVec F S128x256 .f32 :=
  exp2 (mulf (subf s (broadcastTo S128x256 m broadcasts_S1x256_S128x256)) (broadcast S128x256 c))

def wgtSt (c : F .f32) (m : FVec F S1x256 .f32) (s : Vec F S128x256 .f32) : FVec F S128x256 .bf16 :=
  shapeCast S128x256 (truncf .bf16 (wgt c m s) bitsLt_bf16_f32) shapeCasts_S128x256_S128x256

def den0 : FVec F S8x256 .f32 := broadcast S8x256 (Scalar.ofBits .f32 0x00000000#32)

/-- A chunk of weights added to the running denominator, 8 rows at a time. -/
def accum (den : FVec F S8x256 .f32) (x : FVec F S128x256 .f32) : FVec F S8x256 .f32 :=
  addf den (multiReduction .add [0] S8x256 (shapeCast S16x8x256 x shapeCasts_S128x256_S16x8x256) 0x00000000#32
    reduces_S16x8x256_S8x256 (.inl rfl) rfl)

/-- A chunk's counters next to themselves: one column per query. -/
def twice (x : Vec F S128x128 .f32) : FVec F S128x256 .f32 :=
  concatenate S128x256 1 [⟨S128x128, x⟩, ⟨S128x128, x⟩] concatenates_S128x128_S128x128_S128x256_d1

def outOf (num : FVec F S128x256 .f32) (den : FVec F S8x256 .f32) : FVec F S1x256x128 .bf16 :=
  shapeCast S1x256x128 (truncf .bf16 (transpose S256x128 [1, 0] (divf num
    (broadcastTo S128x256 (shapeCast S1x256 (multiReduction .add [0] S256 den 0x00000000#32 reduces_S8x256_S256 (.inl rfl) rfl)
      shapeCasts_S256_S1x256) broadcasts_S1x256_S128x256)) transposes_S128x256_p1_0_S256x128) bitsLt_bf16_f32) shapeCasts_S256x128_S1x256x128

def codeSum (u : Vec F S128x1024 .bf16) (g : Vec F S1024x256 .bf16) : FVec F S128x256 .f32 :=
  matmul dot_S128x1024_S1024x256_S128x256_1_0_0_1_n_n none u g (constant S128x256 .f32 0x00000000#32)

def out0 (vt : FVec F S128x512 .bf16) (den : FVec F S8x256 .f32) (u : Vec F S128x1024 .bf16) (g : Vec F S1024x256 .bf16)
    (e : Vec F S256x256 .bf16) : FVec F S1x256x128 .bf16 :=
  outOf (addf (codeSum u g) (matmul dot_S128x256_S256x256_S128x256_1_0_0_1_n_n none
    (extractStridedSlice S128x256 ![0, 0] vt slices_S128x512_o0_0_S128x256) e (constant S128x256 .f32 0x00000000#32))) den

def out1 (vt : FVec F S128x512 .bf16) (den : FVec F S8x256 .f32) (u : Vec F S128x1024 .bf16) (g : Vec F S1024x256 .bf16)
    (e : Vec F S512x256 .bf16) : FVec F S1x256x128 .bf16 :=
  outOf (addf (codeSum u g) (matmul dot_S128x512_S512x256_S128x256_1_0_0_1_n_n none vt e (constant S128x256 .f32 0x00000000#32))) den

/-- The scaled values over 16 rows of ones. -/
def vtaOf (vt : FVec F S128x512 .bf16) : FVec F S144x512 .bf16 :=
  concatenate S144x512 0 [⟨S128x512, vt⟩, ⟨S16x512, broadcast S16x512 (Scalar.ofBits .bf16 0x3F80#16 : F .bf16)⟩]
    concatenates_S128x512_S16x512_S144x512_d0

/-- 128 key codes spread along rows. -/
def kRows (k : Vec F S1x1x128 .i32) : FVec F S128x128 .f32 :=
  transpose S128x128 [1, 0] (broadcastTo S128x128 (shapeCast S1x128 (sitofp .f32 (shapeCast S1x128 k shapeCasts_S1x1x128_S1x128 : IVec S1x128 32))
    shapeCasts_S1x128_S1x128) broadcasts_S1x128_S128x128) transposes_S128x128_p1_0_S128x128

/-- The 512 key codes along rows, as 16-bit words. -/
def kcolOf (k0 k1 k2 k3 : Vec F S1x1x128 .i32) : IVec S512x128 16 :=
  trunci 16 (fptosi 32 (concatenate S512x128 0 [⟨S128x128, kRows k0⟩, ⟨S128x128, kRows k1⟩, ⟨S128x128, kRows k2⟩, ⟨S128x128, kRows k3⟩]
    concatenates_S128x128_S128x128_S128x128_S128x128_S512x128_d0) : IVec S512x128 32) natLt_16_32

/-- Which of the 128 codes from `o` on each key has. -/
def hot (kcol : IVec S512x128 16) (o : BitVec 16) : FVec F S512x128 .bf16 :=
  select (cmpi .eq kcol (addi (iota .tc S512x128 16 [1] iota_S512x128_d1_w16) (broadcast S512x128 o)))
    (broadcast S512x128 (Scalar.ofBits .bf16 0x3F80#16 : F .bf16)) (broadcast S512x128 (Scalar.ofBits .bf16 0x0000#16 : F .bf16))

/-- The block's additions to the state (128 rows) and to the counters (16 equal rows), at 256 codes. -/
def duOf (vta : FVec F S144x512 .bf16) (kcol : IVec S512x128 16) (o o' : BitVec 16) : FVec F S144x256 .f32 :=
  matmul dot_S144x512_S512x256_S144x256_1_0_0_1_n_n none vta
    (concatenate S512x256 1 [⟨S512x128, hot kcol o⟩, ⟨S512x128, hot kcol o'⟩] concatenates_S512x128_S512x128_S512x256_d1)
    (constant S144x256 .f32 0x00000000#32)

def uAdd (du : FVec F S144x256 .f32) (u : Vec F S128x256 .f32) : FVec F S128x256 .f32 :=
  addf u (extractStridedSlice S128x256 ![0, 0] du slices_S144x256_o0_0_S128x256)

def uAddSt (du : FVec F S144x256 .f32) (u : Vec F S128x256 .f32) : FVec F S128x256 .f32 :=
  shapeCast S128x256 (uAdd du u) shapeCasts_S128x256_S128x256

def uAddbSt (du : FVec F S144x256 .f32) (u : Vec F S128x256 .f32) : FVec F S128x256 .bf16 :=
  shapeCast S128x256 (truncf .bf16 (uAdd du u) bitsLt_bf16_f32) shapeCasts_S128x256_S128x256

def cAddSt (du : FVec F S144x256 .f32) (x : Vec F S8x256 .f32) : FVec F S8x256 .f32 :=
  shapeCast S8x256 (addf x (extractStridedSlice S8x256 ![128, 0] du slices_S144x256_o128_0_S8x256)) shapeCasts_S8x256_S8x256

def ufSt (x : Vec F S128x1024 .f32) : FVec F S1x1024x128 .f32 :=
  shapeCast S1x1024x128 (transpose S1024x128 [1, 0] x transposes_S128x1024_p1_0_S1024x128) shapeCasts_S1024x128_S1x1024x128

def cfSt (x : Vec F S1x1024 .f32) : FVec F S1x1x1024 .f32 := shapeCast S1x1x1024 x shapeCasts_S1x1024_S1x1x1024

/-! ## Windows whose place depends on a step -/

theorem kAt (t : Nat) (h : t < 512) : ∀ a, (![0, 0, t] : Fin 3 → Nat) a + S1x1x1.size a ≤ S1x1x512.size a := by
  intro a; fin_cases a
  · exact Nat.le_refl 1
  · exact Nat.le_refl 1
  · exact h
theorem rowAt (t : Nat) (h : t < 512) : ∀ a, (![t, 0] : Fin 2 → Nat) a + S1x128.size a ≤ S512x128.size a := by
  intro a; fin_cases a
  · exact h
  · exact Nat.le_refl 128

/-- A window of sizes `n` by `m` at `r`, `c` in a matrix of sizes `N` by `M`. -/
theorem at2 {N M n m r c : Nat} (hr : r + n ≤ N) (hc : c + m ≤ M) :
    ∀ a, (![r, c] : Fin 2 → Nat) a + (![n, m] : Fin 2 → Nat) a ≤ (![N, M] : Fin 2 → Nat) a := by
  intro a; fin_cases a
  · exact hr
  · exact hc

/-- Where the row of code `v` starts in the codebook. -/
def kOff (v : BitVec 32) : Fin 3 → Nat := ![0, (Scalar.indexCast v).toNat, 0]
/-- The code is in range: its row lies in the codebook. -/
def kChk (v : BitVec 32) : Prop := ∀ a, kOff v a + S1x1x128.size a ≤ S1x1024x128.size a
def kChk.dec (v : BitVec 32) : Decidable (kChk v) := decidable_of_iff' (∀ a, kOff v a + S1x1x128.size a ≤ S1x1024x128.size a) Iff.rfl

theorem packed_mask (j : Nat) (h : j < 8) : (Rect.unit (s := S1536x256) ![128 * j, 128] S128x128.size
    (at2 (N := 1536) (M := 256) (by omega) (by omega))).PackedRows (EltTy.packing .bf16) :=
  .inr ⟨Nat.le_refl 2, rfl, .inl ⟨⟨64 * j, by show 128 * j = 2 * (64 * j); omega⟩, ⟨64, rfl⟩⟩⟩

theorem packed_p (r : Nat) (h : r + 128 ≤ 1536) (h2 : 2 ∣ r) : (Rect.unit (s := S1536x256) ![r, 0] S128x256.size
    (at2 (N := 1536) (M := 256) h (by omega))).PackedRows (EltTy.packing .bf16) :=
  .inr ⟨Nat.le_refl 2, rfl, .inl ⟨(show 2 ∣ r from h2), ⟨64, rfl⟩⟩⟩

theorem packed_utb (j : Nat) (h : j < 4) : (Rect.unit (s := S128x1024) ![0, 256 * j] S128x256.size
    (at2 (N := 128) (M := 1024) (by omega) (by omega))).PackedRows (EltTy.packing .bf16) :=
  .inr ⟨Nat.le_refl 2, rfl, .inl ⟨⟨0, rfl⟩, ⟨64, rfl⟩⟩⟩

/-! ## The steps -/

/-- Load a window and forget it: the kernel reads each window it is about to store. -/
abbrev skip {b : Nm} {off size : Fin (O.bufs.sh b).rank → ℕ} {inb : ∀ a, off a + size a ≤ (O.bufs.sh b).size a}
    (hl : (O.bufs.mr b).view.LoadsAt (Rect.unit off size inb).toLoadRect) (κ : Cm F O α) : Cm F O α :=
  .load b off size inb hl fun _ => κ

/-- Counters 128j … 128j+127 spread along rows, and their mask column; `n` blocks from `j` on. -/
def refresh (neg : F .f32) : (n j : Nat) → j + n ≤ 8 → Cm F O α → Cm F O α
  | 0, _, _, κ => κ
  | n + 1, j, h, κ =>
    .load .cnt ![0, 128 * j] S1x128.size (at2 (N := 8) (M := 1024) (by omega) (by omega)) (View.loadsAt_vmem h_S1x128) fun x =>
    .load .cntc ![128 * j, 0] S128x128.size (at2 (N := 1024) (M := 128) (by omega) (by omega)) (View.loadsAt_vmem h_S128x128) fun _ =>
    .store .cntc ![128 * j, 0] S128x128.size (at2 (N := 1024) (M := 128) (by omega) (by omega)) (colSt x)
      (View.stores_vmem_bits_univ h_S128x128 rfl) <|
    .load .lhs ![128 * j, 128] S128x128.size (at2 (N := 1536) (M := 256) (by omega) (by omega)) (View.loadsAt_vmem h_S128x128) fun _ =>
    .store .lhs ![128 * j, 128] S128x128.size (at2 (N := 1536) (M := 256) (by omega) (by omega)) (maskCol neg (colOf x))
      (View.stores_vmem h_S128x128 (O.hlhs.storeExact_slice rfl _ (packed_mask j (by omega))) (fun _ => rfl)) <|
    refresh neg n (j + 1) (by omega) κ

/-- What the first block of a head sets up. -/
def init (neg : F .f32) (κ : Cm F O α) : Cm F O α :=
  .load .cb ![0, 0, 0] S1x1024x128.size inb_S1x1024x128_S1x1024x128_0_0_0 (View.loadsAt_vmem h_S1x1024x128) fun cb =>
  .load .lhs ![0, 0] S1024x128.size inb_S1536x256_S1024x128_0_0 (View.loadsAt_vmem h_S1024x128) fun _ =>
  .store .lhs ![0, 0] S1024x128.size inb_S1536x256_S1024x128_0_0 (cbSt cb)
    (View.stores_vmem h_S1024x128 (O.hlhs.storeExact_slice rfl _ packedbf16_S1536x256_S1024x128_0_0) (fun _ => rfl)) <|
  .load .lhs ![1024, 128] S512x128.size inb_S1536x256_S512x128_1024_128 (View.loadsAt_vmem h_S512x128) fun _ =>
  .store .lhs ![1024, 128] S512x128.size inb_S1536x256_S512x128_1024_128 zeroSt
    (View.stores_vmem h_S512x128 (O.hlhs.storeExact_slice rfl _ packedbf16_S1536x256_S512x128_1024_128) (fun _ => rfl)) <|
  .load .u0 ![0, 0, 0] S1x1024x128.size inb_S1x1024x128_S1x1024x128_0_0_0 (View.loadsAt_vmem h_S1x1024x128) fun u0 =>
  .load .ut ![0, 0] S128x1024.size inb_S128x1024_S128x1024_0_0 (View.loadsAt_vmem h_S128x1024) fun _ =>
  .store .ut ![0, 0] S128x1024.size inb_S128x1024_S128x1024_0_0 (utSt u0) (View.stores_vmem_bits_univ h_S128x1024 rfl) <|
  .load .utb ![0, 0] S128x1024.size inb_S128x1024_S128x1024_0_0 (View.loadsAt_vmem h_S128x1024) fun _ =>
  .store .utb ![0, 0] S128x1024.size inb_S128x1024_S128x1024_0_0 (utbSt u0)
    (View.stores_vmem h_S128x1024 (O.hutb.storeExact_slice rfl _ packedbf16_S128x1024_S128x1024_0_0) (fun _ => rfl)) <|
  .load .c0 ![0, 0, 0] S1x1x1024.size inb_S1x1x1024_S1x1x1024_0_0_0 (View.loadsAt_vmem h_S1x1x1024) fun c0 =>
  .load .cnt ![0, 0] S8x1024.size inb_S8x1024_S8x1024_0_0 (View.loadsAt_vmem h_S8x1024) fun _ =>
  .store .cnt ![0, 0] S8x1024.size inb_S8x1024_S8x1024_0_0 (cntSt c0) (View.stores_vmem_bits_univ h_S8x1024 rfl) <|
  refresh O neg 8 0 (by omega) κ

/-- The row of the codebook of key `t`, into row `t` of `kg`; `n` keys from `t` on. -/
def gather : (n t : Nat) → t + n ≤ 512 → Cm F O α → Cm F O α
  | 0, _, _, κ => κ
  | n + 1, t, h, κ =>
    .load .ksm ![0, 0, t] S1x1x1.size (kAt t (by omega)) (View.loadsAt_rect (View.loads_smem_one (show EltTy.packing .i32 = 1 from rfl) numel1_S1x1x1)) fun f =>
    .assume (kChk (f (Shape.Idx.first (by exact Nat.one_pos)))) (kChk.dec _) fun hw =>
    .load .cbf (kOff (f (Shape.Idx.first (by exact Nat.one_pos)))) S1x1x128.size hw (View.loadsAt_vmem h_S1x1x128) fun x =>
    .load .kg ![t, 0] S1x128.size (rowAt t (by omega)) (View.loadsAt_vmem h_S1x128) fun _ =>
    .store .kg ![t, 0] S1x128.size (rowAt t (by omega)) (rowSt x) (View.stores_vmem_bits_univ h_S1x128 rfl) <|
    gather n (t + 1) (by omega) κ

/-- The weights of 128 codes, times their counters into the denominator; `n` chunks from chunk `i` on. -/
def codes (c : F .f32) (m : FVec F S1x256 .f32) : (n i : Nat) → i + n ≤ 8 → FVec F S8x256 .f32 → (FVec F S8x256 .f32 → Cm F O α) → Cm F O α
  | 0, _, _, den, κ => κ den
  | n + 1, i, h, den, κ =>
    .load .s ![128 * i, 0] S128x256.size (at2 (N := 1536) (M := 256) (by omega) (by omega)) (View.loadsAt_vmem h_S128x256) fun s =>
    .load .cntc ![128 * i, 0] S128x128.size (at2 (N := 1024) (M := 128) (by omega) (by omega)) (View.loadsAt_vmem h_S128x128) fun x =>
    .load .p ![128 * i, 0] S128x256.size (at2 (N := 1536) (M := 256) (by omega) (by omega)) (View.loadsAt_vmem h_S128x256) fun _ =>
    .store .p ![128 * i, 0] S128x256.size (at2 (N := 1536) (M := 256) (by omega) (by omega)) (wgtSt c m s)
      (View.stores_vmem h_S128x256 (O.hp.storeExact_slice rfl _ (packed_p (128 * i) (by omega) (by omega))) (fun _ => rfl)) <|
    codes c m n (i + 1) (by omega) (accum den (mulf (wgt c m s) (twice x))) κ

/-- The weights of 128 keys, into the denominator; `n` chunks from chunk `i` on. -/
def keys (c : F .f32) (m : FVec F S1x256 .f32) : (n i : Nat) → i + n ≤ 12 → FVec F S8x256 .f32 → (FVec F S8x256 .f32 → Cm F O α) → Cm F O α
  | 0, _, _, den, κ => κ den
  | n + 1, i, h, den, κ =>
    .load .s ![128 * i, 0] S128x256.size (at2 (N := 1536) (M := 256) (by omega) (by omega)) (View.loadsAt_vmem h_S128x256) fun s =>
    .load .p ![128 * i, 0] S128x256.size (at2 (N := 1536) (M := 256) (by omega) (by omega)) (View.loadsAt_vmem h_S128x256) fun _ =>
    .store .p ![128 * i, 0] S128x256.size (at2 (N := 1536) (M := 256) (by omega) (by omega)) (wgtSt c m s)
      (View.stores_vmem h_S128x256 (O.hp.storeExact_slice rfl _ (packed_p (128 * i) (by omega) (by omega))) (fun _ => rfl)) <|
    keys c m n (i + 1) (by omega) (accum den (wgt c m s)) κ

/-- The first 256 queries. -/
def attend0 (neg c : F .f32) (vt : FVec F S128x512 .bf16) (κ : Cm F O α) : Cm F O α :=
  .load .q ![0, 0, 0] S1x128x256.size inb_S1x128x512_S1x128x256_0_0_0 (View.loadsAt_vmem h_S1x128x256) fun q =>
  .load .lhs ![0, 0] S1280x256.size inb_S1536x256_S1280x256_0_0 (View.loadsAt_vmem h_S1280x256) fun lhs =>
  .load .s ![0, 0] S1024x256.size inb_S1536x256_S1024x256_0_0 (View.loadsAt_vmem h_S1024x256) fun _ =>
  .store .s ![0, 0] S1024x256.size inb_S1536x256_S1024x256_0_0 (sLow0 q lhs) (View.stores_vmem_bits_univ h_S1024x256 rfl) <|
  .load .s ![1024, 0] S256x256.size inb_S1536x256_S256x256_1024_0 (View.loadsAt_vmem h_S256x256) fun _ =>
  .store .s ![1024, 0] S256x256.size inb_S1536x256_S256x256_1024_0 (sDiag0 neg q lhs) (View.stores_vmem_bits_univ h_S256x256 rfl) <|
  .load .s ![0, 0] S1280x256.size inb_S1536x256_S1280x256_0_0 (View.loadsAt_vmem h_S1280x256) fun s =>
  codes O c (max0 s) 8 0 (by omega) den0 fun den =>
  keys O c (max0 s) 2 8 (by omega) den fun den =>
  .load .utb ![0, 0] S128x1024.size inb_S128x1024_S128x1024_0_0 (View.loadsAt_vmem h_S128x1024) fun u =>
  .load .p ![0, 0] S1024x256.size inb_S1536x256_S1024x256_0_0 (View.loadsAt_vmem h_S1024x256) fun g =>
  .load .p ![1024, 0] S256x256.size inb_S1536x256_S256x256_1024_0 (View.loadsAt_vmem h_S256x256) fun e =>
  .load .out ![0, 0, 0] S1x256x128.size inb_S1x512x128_S1x256x128_0_0_0 (View.loadsAt_vmem h_S1x256x128) fun _ =>
  .store .out ![0, 0, 0] S1x256x128.size inb_S1x512x128_S1x256x128_0_0_0 (out0 vt den u g e)
    (View.stores_vmem h_S1x256x128 (O.hout.storeExact_slice rfl _ packedbf16_S1x512x128_S1x256x128_0_0_0) (fun _ => rfl)) κ

/-- The other 256 queries. -/
def attend1 (neg c : F .f32) (vt : FVec F S128x512 .bf16) (κ : Cm F O α) : Cm F O α :=
  .load .q ![0, 0, 256] S1x128x256.size inb_S1x128x512_S1x128x256_0_0_256 (View.loadsAt_vmem h_S1x128x256) fun q =>
  .load .lhs ![0, 0] S1536x256.size inb_S1536x256_S1536x256_0_0 (View.loadsAt_vmem h_S1536x256) fun lhs =>
  .load .s ![0, 0] S1280x256.size inb_S1536x256_S1280x256_0_0 (View.loadsAt_vmem h_S1280x256) fun _ =>
  .store .s ![0, 0] S1280x256.size inb_S1536x256_S1280x256_0_0 (sLow1 q lhs) (View.stores_vmem_bits_univ h_S1280x256 rfl) <|
  .load .s ![1280, 0] S256x256.size inb_S1536x256_S256x256_1280_0 (View.loadsAt_vmem h_S256x256) fun _ =>
  .store .s ![1280, 0] S256x256.size inb_S1536x256_S256x256_1280_0 (sDiag1 neg q lhs) (View.stores_vmem_bits_univ h_S256x256 rfl) <|
  .load .s ![0, 0] S1536x256.size inb_S1536x256_S1536x256_0_0 (View.loadsAt_vmem h_S1536x256) fun s =>
  codes O c (max1 s) 8 0 (by omega) den0 fun den =>
  keys O c (max1 s) 4 8 (by omega) den fun den =>
  .load .utb ![0, 0] S128x1024.size inb_S128x1024_S128x1024_0_0 (View.loadsAt_vmem h_S128x1024) fun u =>
  .load .p ![0, 0] S1024x256.size inb_S1536x256_S1024x256_0_0 (View.loadsAt_vmem h_S1024x256) fun g =>
  .load .p ![1024, 0] S512x256.size inb_S1536x256_S512x256_1024_0 (View.loadsAt_vmem h_S512x256) fun e =>
  .load .out ![0, 256, 0] S1x256x128.size inb_S1x512x128_S1x256x128_0_256_0 (View.loadsAt_vmem h_S1x256x128) fun _ =>
  .store .out ![0, 256, 0] S1x256x128.size inb_S1x512x128_S1x256x128_0_256_0 (out1 vt den u g e)
    (View.stores_vmem h_S1x256x128 (O.hout.storeExact_slice rfl _ packedbf16_S1x512x128_S1x256x128_0_256_0) (fun _ => rfl)) κ

/-- The block's additions to 256 codes of the state and of the counters; `n` groups from group `j` on. -/
def update (vta : FVec F S144x512 .bf16) (kcol : IVec S512x128 16) : (n j : Nat) → j + n ≤ 4 → Cm F O α → Cm F O α
  | 0, _, _, κ => κ
  | n + 1, j, h, κ =>
    .load .ut ![0, 256 * j] S128x256.size (at2 (N := 128) (M := 1024) (by omega) (by omega)) (View.loadsAt_vmem h_S128x256) fun u =>
    .load .ut ![0, 256 * j] S128x256.size (at2 (N := 128) (M := 1024) (by omega) (by omega)) (View.loadsAt_vmem h_S128x256) fun _ =>
    .store .ut ![0, 256 * j] S128x256.size (at2 (N := 128) (M := 1024) (by omega) (by omega))
      (uAddSt (duOf vta kcol (BitVec.ofNat 16 (256 * j)) (BitVec.ofNat 16 (256 * j + 128))) u) (View.stores_vmem_bits_univ h_S128x256 rfl) <|
    .load .utb ![0, 256 * j] S128x256.size (at2 (N := 128) (M := 1024) (by omega) (by omega)) (View.loadsAt_vmem h_S128x256) fun _ =>
    .store .utb ![0, 256 * j] S128x256.size (at2 (N := 128) (M := 1024) (by omega) (by omega))
      (uAddbSt (duOf vta kcol (BitVec.ofNat 16 (256 * j)) (BitVec.ofNat 16 (256 * j + 128))) u)
      (View.stores_vmem h_S128x256 (O.hutb.storeExact_slice rfl _ (packed_utb j (by omega))) (fun _ => rfl)) <|
    .load .cnt ![0, 256 * j] S8x256.size (at2 (N := 8) (M := 1024) (by omega) (by omega)) (View.loadsAt_vmem h_S8x256) fun x =>
    .load .cnt ![0, 256 * j] S8x256.size (at2 (N := 8) (M := 1024) (by omega) (by omega)) (View.loadsAt_vmem h_S8x256) fun _ =>
    .store .cnt ![0, 256 * j] S8x256.size (at2 (N := 8) (M := 1024) (by omega) (by omega))
      (cAddSt (duOf vta kcol (BitVec.ofNat 16 (256 * j)) (BitVec.ofNat 16 (256 * j + 128))) x) (View.stores_vmem_bits_univ h_S8x256 rfl) <|
    update vta kcol n (j + 1) (by omega) κ

/-- The state and the counters into their outputs. -/
def finish : Cm F O PUnit :=
  .load .ut ![0, 0] S128x1024.size inb_S128x1024_S128x1024_0_0 (View.loadsAt_vmem h_S128x1024) fun u =>
  .load .uf ![0, 0, 0] S1x1024x128.size inb_S1x1024x128_S1x1024x128_0_0_0 (View.loadsAt_vmem h_S1x1024x128) fun _ =>
  .store .uf ![0, 0, 0] S1x1024x128.size inb_S1x1024x128_S1x1024x128_0_0_0 (ufSt u) (View.stores_vmem_bits_univ h_S1x1024x128 rfl) <|
  .load .cnt ![0, 0] S1x1024.size inb_S8x1024_S1x1024_0_0 (View.loadsAt_vmem h_S1x1024) fun x =>
  .load .cf ![0, 0, 0] S1x1x1024.size inb_S1x1x1024_S1x1x1024_0_0_0 (View.loadsAt_vmem h_S1x1x1024) fun _ =>
  .store .cf ![0, 0, 0] S1x1x1024.size inb_S1x1x1024_S1x1x1024_0_0_0 (cfSt x) (View.stores_vmem_bits_univ h_S1x1x1024 rfl) <|
  .ret ⟨⟩

/-- The attention of a block and the update of the state, the key rows being in `kg`. -/
def work (neg scale : F .f32) (i : grid0.Coords) (κ : Cm F O α) : Cm F O α :=
  .load .kg ![0, 0] S512x128.size inb_S512x128_S512x128_0_0 (View.loadsAt_vmem h_S512x128) fun kg =>
  .load .lhs ![1024, 0] S512x128.size inb_S1536x256_S512x128_1024_0 (View.loadsAt_vmem h_S512x128) fun _ =>
  .store .lhs ![1024, 0] S512x128.size inb_S1536x256_S512x128_1024_0 (kgSt kg)
    (View.stores_vmem h_S512x128 (O.hlhs.storeExact_slice rfl _ packedbf16_S1536x256_S512x128_1024_0) (fun _ => rfl)) <|
  .load .qs (k0_off513 i) S1x1.size (k0_off513_inb i) (View.loadsAt_rect (View.loads_smem_one (show EltTy.packing .f32 = 1 from rfl) numel1_S1x1)) fun qs =>
  .load .v ![0, 0, 0] S1x128x512.size inb_S1x128x512_S1x128x512_0_0_0 (View.loadsAt_vmem h_S1x128x512) fun v =>
  .load .vs ![0, 0, 0] S1x1x512.size inb_S1x1x512_S1x1x512_0_0_0 (View.loadsAt_vmem h_S1x1x512) fun vs =>
  attend0 O neg (Scalar.mulf (qs (Shape.Idx.first (by exact Nat.one_pos))) scale) (vtOf v vs) <|
  attend1 O neg (Scalar.mulf (qs (Shape.Idx.first (by exact Nat.one_pos))) scale) (vtOf v vs) <|
  .load .k ![0, 0, 0] S1x1x128.size inb_S1x1x512_S1x1x128_0_0_0 (View.loadsAt_vmem h_S1x1x128) fun k0 =>
  .load .k ![0, 0, 128] S1x1x128.size inb_S1x1x512_S1x1x128_0_0_128 (View.loadsAt_vmem h_S1x1x128) fun k1 =>
  .load .k ![0, 0, 256] S1x1x128.size inb_S1x1x512_S1x1x128_0_0_256 (View.loadsAt_vmem h_S1x1x128) fun k2 =>
  .load .k ![0, 0, 384] S1x1x128.size inb_S1x1x512_S1x1x128_0_0_384 (View.loadsAt_vmem h_S1x1x128) fun k3 =>
  update O (vtaOf (vtOf v vs)) (kcolOf k0 k1 k2 k3) 4 0 (by omega) <|
  refresh O neg 8 0 (by omega) κ

/-- Is this the first block of its head? As the kernel computes it. -/
def first (i : grid0.Coords) : BitVec 1 := Scalar.cmpi .ne ((Scalar.extui (Scalar.cmpi .eq (BitVec.ofNat 32 (i 1).val) 0#32) : BitVec 32)) 0#32

/-- The body after the first block's set-up. -/
def rest (neg scale : F .f32) (i : grid0.Coords) : Cm F O PUnit :=
  gather O 512 0 (by omega) <| work O neg scale i <| .branch (k0_cond2 i = 1#1) inferInstance (finish O) (.ret ⟨⟩)

/-- The body. -/
def body (neg scale : F .f32) (i : grid0.Coords) : Cm F O PUnit :=
  .branch (first i = 1#1) inferInstance (init O neg (rest O neg scale i)) (rest O neg scale i)

end Cert.Body
-- ==== Proof.KernelBody.lean ====
/- The printed body of `Kernel` is `Cert.Body.body`: the steps the program writes out one by one are the recursions' unfoldings. -/
module

public import proofs.«01_k».proof.Proof.Gen.Kernel.Skeleton
public import proofs.«01_k».proof.Proof.Body

@[expose] public section

set_option maxRecDepth 65536

noncomputable section

namespace Cert.Kernel

open Idealize.ShloMosaic Idealize.SL.Sem
open Gen

variable {F : FTy → Type} [FloatOps F]

/-- Is this the first block of its head? -/
abbrev first' (i : grid0.Coords) : BitVec 1 := Cert.Body.first i

/-- The gathers of the first printed part. -/
def head (O : Cert.Body.Ops sig) (i : grid0.Coords) : Cert.Body.Cm F O (Σ' (_ : BitVec 32) (_ : BitVec 32), Elt F .i32) :=
  Cert.Body.gather O 3 0 (by omega) <|
  .load .ksm ![0, 0, 3] S1x1x1.size (Cert.Body.kAt 3 (by omega)) (View.loadsAt_rect (View.loads_smem_one (show EltTy.packing .i32 = 1 from rfl) numel1_S1x1x1)) fun f =>
  .ret ⟨BitVec.ofNat 32 (i 0).val, BitVec.ofNat 32 (i 1).val, f (Shape.Idx.first (by exact Nat.one_pos))⟩

/-- The buffers the body is called with. -/
def ops (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : Cert.Body.Ops sig :=
  ⟨arg2, arg3, arg4, arg5, arg6, arg7, arg8, arg9, arg10, arg11, arg12, arg13, arg14, arg15, arg16, arg17, arg18, arg19, arg20, arg21, arg22,
    harg12, harg15, harg18, harg20⟩

/-- The first printed part: the head's set-up where it is due, then the first keys' rows. -/
theorem part5_eq (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
    if first' i = 1#1 then (Cert.Body.init (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (Scalar.ofBits .f32 0xFF61B1E6#32) (head (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) i)).toProg else (head (F := F) (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) i).toProg := by
  rw [k0_part5_eq_skeleton]; rfl

set_option maxHeartbeats 40000000 in
/-- The printed body. -/
theorem body_eq (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : cc0_vq_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (Cert.Body.body (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (Scalar.ofBits .f32 0xFF61B1E6#32) (Scalar.ofBits .f32 0x3E0293EE#32) i).toProg := by
  rw [cc0_vq_attn_eq_skeleton]; unfold cc0_vq_attn_skel
  rw [k0_part160_eq_skeleton]; unfold k0_part160_skel
  rw [part5_eq]
  by_cases h : first' i = 1#1
  · rw [if_pos h]
    exact Eq.trans (by rfl) (dif_pos h).symm
  · rw [if_neg h]
    exact Eq.trans (by rfl) (dif_neg h).symm

end Cert.Kernel
-- ==== Proof.Safe.lean ====
/-
  The body never fails and writes no input: given that every key code of the block names a row of the codebook, `body_safe` says
  that the body ends, from any contents of the other buffers, with its inputs as they were.
-/
module

public import proofs.«01_k».proof.Proof.Body

@[expose] public section

noncomputable section

namespace Cert.Body

open Idealize.ShloMosaic Idealize.SL.Sem
open Cert.KernelIdeal Cert.KernelIdeal.Gen Cert.Cmd

variable {F : FTy → Type} [FloatOps F] {sig : RefSig} (O : Ops sig) {α : Type}

/-- The buffers the body only reads. -/
def Nm.input : Nm → Bool
  | .ksm | .qs | .q | .v | .k | .vs | .cb | .cbf | .u0 | .c0 => true
  | _ => false

/-- From any contents that agree with `X₀` on the inputs, `κ` ends in such contents. -/
def Safe (X₀ : St (Elt F) O.bufs) (κ : Cm F O α) : Prop :=
  ∀ X : St (Elt F) O.bufs, (∀ b : Nm, b.input = true → X b = X₀ b) → κ.wp X fun _ X' => ∀ b : Nm, b.input = true → X' b = X₀ b

variable {O} {X₀ : St (Elt F) O.bufs}

theorem Safe.ret (a : α) : Safe O X₀ (.ret a) := fun _ h => h

theorem Safe.load {b : Nm} {off size : Fin (O.bufs.sh b).rank → ℕ} {inb : ∀ a, off a + size a ≤ (O.bufs.sh b).size a}
    {hl : (O.bufs.mr b).view.LoadsAt (Rect.unit off size inb).toLoadRect}
    {k : ((Rect.unit off size inb).toLoadRect.shape.Idx → Elt F (O.bufs.el b)) → Cm F O α}
    (h : ∀ x, Safe O X₀ (k x)) : Safe O X₀ (.load b off size inb hl k) := fun X hX => h _ X hX

theorem Safe.loadIn {b : Nm} {off size : Fin (O.bufs.sh b).rank → ℕ} {inb : ∀ a, off a + size a ≤ (O.bufs.sh b).size a}
    {hl : (O.bufs.mr b).view.LoadsAt (Rect.unit off size inb).toLoadRect}
    {k : ((Rect.unit off size inb).toLoadRect.shape.Idx → Elt F (O.bufs.el b)) → Cm F O α} (hb : b.input = true)
    (h : Safe O X₀ (k (VecWindow.window (X₀ b) off size inb))) : Safe O X₀ (.load b off size inb hl k) := fun X hX => by
  show (k (VecWindow.window (X b) off size inb)).wp X _
  rw [hX b hb]; exact h X hX

theorem Safe.store {b : Nm} {off size : Fin (O.bufs.sh b).rank → ℕ} {inb : ∀ a, off a + size a ≤ (O.bufs.sh b).size a}
    {w : (Rect.unit off size inb).shape.Idx → Elt F (O.bufs.el b)} {hx : ((O.bufs.mr b).access (Rect.unit off size inb)).Stores Finset.univ}
    {k : Cm F O α} (hb : b.input = false) (h : Safe O X₀ k) : Safe O X₀ (.store b off size inb w hx k) := fun X hX =>
  h _ fun b' hb' => by
    rw [Function.update_of_ne (by rintro rfl; rw [hb] at hb'; cases hb')]; exact hX b' hb'

theorem Safe.assume {P : Prop} {d : Decidable P} {k : P → Cm F O α} (hP : P) (h : ∀ p, Safe O X₀ (k p)) : Safe O X₀ (.assume P d k) :=
  fun X hX => ⟨hP, h hP X hX⟩

theorem Safe.branch {P : Prop} {d : Decidable P} {a b : Cm F O α} (ha : Safe O X₀ a) (hb : Safe O X₀ b) : Safe O X₀ (.branch P d a b) :=
  fun X hX => ⟨fun _ => ha X hX, fun _ => hb X hX⟩

theorem refresh_safe (neg : F .f32) (n : Nat) : ∀ (j : Nat) (h : j + n ≤ 8) {κ : Cm F O α}, Safe O X₀ κ → Safe O X₀ (refresh O neg n j h κ) := by
  induction n with
  | zero => exact fun _ _ _ hκ => hκ
  | succ n ih =>
    exact fun j h κ hκ => .load fun _ => .load fun _ => .store rfl <| .load fun _ => .store rfl <| ih _ _ hκ

theorem init_safe (neg : F .f32) {κ : Cm F O α} (hκ : Safe O X₀ κ) : Safe O X₀ (init O neg κ) :=
  .load fun _ => .load fun _ => .store rfl <| .load fun _ => .store rfl <| .load fun _ => .load fun _ => .store rfl <|
    .load fun _ => .store rfl <| .load fun _ => .load fun _ => .store rfl <| refresh_safe neg _ _ _ hκ

/-- Every key code of the block names a row of the codebook. -/
def InRange (x : S1x1x512.Idx → BitVec 32) : Prop := ∀ y, kChk (x y)

theorem gather_safe (hk : InRange (X₀ .ksm)) (n : Nat) :
    ∀ (t : Nat) (h : t + n ≤ 512) {κ : Cm F O α}, Safe O X₀ κ → Safe O X₀ (gather O n t h κ) := by
  induction n with
  | zero => exact fun _ _ _ hκ => hκ
  | succ n ih =>
    intro t h κ hκ
    refine .loadIn rfl <| .assume (hk _) fun _ => .load fun _ => .load fun _ => .store rfl <| ih _ _ hκ

theorem codes_safe (c : F .f32) (m : FVec F S1x256 .f32) (n : Nat) : ∀ (i : Nat) (h : i + n ≤ 8) (den : FVec F S8x256 .f32)
    {κ : FVec F S8x256 .f32 → Cm F O α}, (∀ d, Safe O X₀ (κ d)) → Safe O X₀ (codes O c m n i h den κ) := by
  induction n with
  | zero => exact fun _ _ _ _ hκ => hκ _
  | succ n ih => exact fun i h den κ hκ => .load fun _ => .load fun _ => .load fun _ => .store rfl <| ih _ _ _ hκ

theorem keys_safe (c : F .f32) (m : FVec F S1x256 .f32) (n : Nat) : ∀ (i : Nat) (h : i + n ≤ 12) (den : FVec F S8x256 .f32)
    {κ : FVec F S8x256 .f32 → Cm F O α}, (∀ d, Safe O X₀ (κ d)) → Safe O X₀ (keys O c m n i h den κ) := by
  induction n with
  | zero => exact fun _ _ _ _ hκ => hκ _
  | succ n ih => exact fun i h den κ hκ => .load fun _ => .load fun _ => .store rfl <| ih _ _ _ hκ

theorem attend0_safe (neg c : F .f32) (vt : FVec F S128x512 .bf16) {κ : Cm F O α} (hκ : Safe O X₀ κ) : Safe O X₀ (attend0 O neg c vt κ) :=
  .load fun _ => .load fun _ => .load fun _ => .store rfl <| .load fun _ => .store rfl <| .load fun _ =>
    codes_safe _ _ _ _ _ _ fun _ => keys_safe _ _ _ _ _ _ fun _ =>
    .load fun _ => .load fun _ => .load fun _ => .load fun _ => .store rfl hκ

theorem attend1_safe (neg c : F .f32) (vt : FVec F S128x512 .bf16) {κ : Cm F O α} (hκ : Safe O X₀ κ) : Safe O X₀ (attend1 O neg c vt κ) :=
  .load fun _ => .load fun _ => .load fun _ => .store rfl <| .load fun _ => .store rfl <| .load fun _ =>
    codes_safe _ _ _ _ _ _ fun _ => keys_safe _ _ _ _ _ _ fun _ =>
    .load fun _ => .load fun _ => .load fun _ => .load fun _ => .store rfl hκ

theorem update_safe (vta : FVec F S144x512 .bf16) (kcol : IVec S512x128 16) (n : Nat) :
    ∀ (j : Nat) (h : j + n ≤ 4) {κ : Cm F O α}, Safe O X₀ κ → Safe O X₀ (update O vta kcol n j h κ) := by
  induction n with
  | zero => exact fun _ _ _ hκ => hκ
  | succ n ih =>
    exact fun j h κ hκ => .load fun _ => .load fun _ => .store rfl <| .load fun _ => .store rfl <| .load fun _ => .load fun _ =>
      .store rfl <| ih _ _ hκ

theorem finish_safe : Safe O X₀ (finish (F := F) O) :=
  .load fun _ => .load fun _ => .store rfl <| .load fun _ => .load fun _ => .store rfl <| .ret _

theorem work_safe (neg scale : F .f32) (i : grid0.Coords) {κ : Cm F O α} (hκ : Safe O X₀ κ) : Safe O X₀ (work O neg scale i κ) :=
  .load fun _ => .load fun _ => .store rfl <| .load fun _ => .load fun _ => .load fun _ =>
    attend0_safe _ _ _ <| attend1_safe _ _ _ <| .load fun _ => .load fun _ => .load fun _ => .load fun _ =>
    update_safe _ _ _ _ _ <| refresh_safe _ _ _ _ hκ

theorem body_safe (neg scale : F .f32) (i : grid0.Coords) (hk : InRange (X₀ .ksm)) : Safe O X₀ (body O neg scale i) := by
  have h : Safe O X₀ (rest O neg scale i) := gather_safe hk _ _ _ <| work_safe _ _ _ <| .branch finish_safe (.ret _)
  exact .branch (init_safe neg h) h

end Cert.Body
-- ==== Proof.Triple.lean ====
/-
  The ownership of the body's 21 buffers written out one by one, and the triple of a body in that form.
-/
module

public import proofs.«01_k».proof.Proof.Safe

@[expose] public section

noncomputable section

namespace Cert.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Cmd

variable {F : FTy → Type} [FloatOps F] {nD : Nat} {τ : Topo} {sig : RefSig} {Λ : Labels}

/-- The contents of every buffer of the body, whatever the memrefs. -/
abbrev Cont (F : FTy → Type) [FloatOps F] : Type := (b : Nm) → b.sh.Idx → Elt F b.el

section
variable {Ix : Type} [DecidableEq Ix] {Name : Type} [DecidableEq Name] {U : Type} [URA U] {Lvl : Type} [Preorder Lvl]

local notation "𝕄" => MT nD τ sig Ix (Elt F) Name U Lvl

variable (O : Ops sig)

/-- The scratch buffers at `X`. -/
def ownScratch (c : Dev nD) (X : Cont F) : sProp 𝕄 :=
  iprop(owns (c : Thread nD τ) O.lhs fullShare (X .lhs) ∗ owns (c : Thread nD τ) O.kg fullShare (X .kg)
    ∗ owns (c : Thread nD τ) O.s fullShare (X .s) ∗ owns (c : Thread nD τ) O.p fullShare (X .p)
    ∗ owns (c : Thread nD τ) O.ut fullShare (X .ut) ∗ owns (c : Thread nD τ) O.utb fullShare (X .utb)
    ∗ owns (c : Thread nD τ) O.cnt fullShare (X .cnt) ∗ owns (c : Thread nD τ) O.cntc fullShare (X .cntc))

/-- The operands' buffers at `X`, then the scratch. -/
def ownList (c : Dev nD) (X : Cont F) : sProp 𝕄 :=
  iprop(owns (c : Thread nD τ) O.ksm fullShare (X .ksm) ∗ owns (c : Thread nD τ) O.qs fullShare (X .qs)
    ∗ owns (c : Thread nD τ) O.q fullShare (X .q) ∗ owns (c : Thread nD τ) O.v fullShare (X .v)
    ∗ owns (c : Thread nD τ) O.k fullShare (X .k) ∗ owns (c : Thread nD τ) O.vs fullShare (X .vs)
    ∗ owns (c : Thread nD τ) O.cb fullShare (X .cb) ∗ owns (c : Thread nD τ) O.cbf fullShare (X .cbf)
    ∗ owns (c : Thread nD τ) O.u0 fullShare (X .u0) ∗ owns (c : Thread nD τ) O.c0 fullShare (X .c0)
    ∗ owns (c : Thread nD τ) O.out fullShare (X .out) ∗ owns (c : Thread nD τ) O.uf fullShare (X .uf)
    ∗ owns (c : Thread nD τ) O.cf fullShare (X .cf) ∗ ownScratch O c X)

theorem ownsAll_eq (c : Dev nD) (X : Cont F) : (ownsAll (S := O.bufs) c X : sProp 𝕄) = ownList O c X := by
  unfold ownsAll
  rw [bigSep_univ_eq_bigSepL [Nm.ksm, .qs, .q, .v, .k, .vs, .cb, .cbf, .u0, .c0, .out, .uf, .cf, .lhs, .kg, .s, .p, .ut, .utb, .cnt, .cntc]
    (by decide) (by decide)]
  rfl

/-- A fact of the body's meaning as a triple over the listed buffers. -/
theorem triple (defs : Defs nD τ sig (Elt F) Λ) (𝒱 : Variants) (c : Dev nD) (E : Set Name) (p : Cm F O PUnit) (X : Cont F)
    (Q : PUnit → Cont F → Prop) (hp : p.wp X Q) :
    (ownList O c X : sProp 𝕄) ⊢ Idealize.SL.Sem.wp frame (wpE defs 𝒱 (c : Thread nD τ) none) E (p.toProg : Prog (TpuEff nD τ sig (Elt F) Λ .tc) PUnit)
      (fun r => iprop(∃ X' : Cont F, ⌜Q r X'⌝ ∗ ownList O c X')) := by
  rw [show (ownList O c : Cont F → sProp 𝕄) = ownsAll (S := O.bufs) c from funext fun X => (ownsAll_eq O c X).symm]
  exact C.sound (U := U) (Lvl := Lvl) (Ix := Ix) defs 𝒱 c E p X Q hp

/-- The same, continued: whatever follows from the buffers at the end holds after the body. -/
theorem triple_then (defs : Defs nD τ sig (Elt F) Λ) (𝒱 : Variants) (c : Dev nD) (E : Set Name) (p : Cm F O PUnit) (X : Cont F)
    (Q : PUnit → Cont F → Prop) (R : sProp 𝕄) (hp : p.wp X Q) :
    iprop(ownList O c X ∗ (∀ X' : Cont F, ⌜Q ⟨⟩ X'⌝ -∗ ownList O c X' -∗ R)) ⊢ Idealize.SL.Sem.wp frame (wpE defs 𝒱 (c : Thread nD τ) none) E
      (p.toProg : Prog (TpuEff nD τ sig (Elt F) Λ .tc) PUnit) (fun _ => R) := by
  refine BIBase.Entails.trans ?_ (wp_wand_r (Q := fun r => iprop(∃ X' : Cont F, ⌜Q r X'⌝ ∗ ownList O c X')) _ _ _)
  iintro ⟨H, HR⟩
  isplitl [H]
  · iapply (triple O defs 𝒱 c E p X Q hp) $$ H
  · iintro %r ⟨%X', %hQ, H⟩
    ispecialize HR $$ %X' %hQ H
    iexact HR

end

end Cert.Body
-- ==== Proof.KernelRun.lean ====
/-
  The run of `Kernel`: from key codes in range it ends, with its arguments unchanged. The pipeline's proof data keep the inputs at their
  blocks and say nothing of the outputs; the body's obligation at every point is `Cert.Body.body_safe`.
-/
module

public import proofs.«01_k».proof.Proof.Gen.Kernel.Frame
public import proofs.«01_k».proof.Proof.KernelBody
public import proofs.«01_k».proof.Proof.Triple
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers written after the region. -/
def T0 : Finset (Ref sig .tc) := {main_v14, main_v15}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The arguments end unchanged, from a run that says nothing of the outputs. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 6 rfl).trans ((hA c 6).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

/-! The operands at a point, and the scratch. -/

abbrev ms0_0 (t : Fin cfg0.N) : Memref sig .tc .smem S1x1x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S60x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1024 .f32 := win0_12.stage (cfg0.slots t 12)
abbrev hs0_12 (t : Fin cfg0.N) : (ms0_12 t).IsWhole := hstage0_12 ((cfg0.slots t 12).cast nbuf0_12)
abbrev scM0_0 : Memref sig .tc .vmem S1536x256 .bf16 := Memref.whole cc0_scratch0
abbrev scM0_1 : Memref sig .tc .vmem S512x128 .f32 := Memref.whole cc0_scratch1
abbrev scM0_2 : Memref sig .tc .vmem S1536x256 .f32 := Memref.whole cc0_scratch2
abbrev scM0_3 : Memref sig .tc .vmem S1536x256 .bf16 := Memref.whole cc0_scratch3
abbrev scM0_4 : Memref sig .tc .vmem S128x1024 .f32 := Memref.whole cc0_scratch4
abbrev scM0_5 : Memref sig .tc .vmem S128x1024 .bf16 := Memref.whole cc0_scratch5
abbrev scM0_6 : Memref sig .tc .vmem S8x1024 .f32 := Memref.whole cc0_scratch6
abbrev scM0_7 : Memref sig .tc .vmem S1024x128 .f32 := Memref.whole cc0_scratch7

/-- The region's scoped buffers are the scratch, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The buffers of the body at a point. -/
abbrev opsAt (t : Fin cfg0.N) : Ops sig :=
  ops (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)

/-- Every block of key codes is in range. -/
def CodesIn : Prop := ∀ (c : Dev nD) (t : Fin cfg0.N), InRange (iblk m c 0 t)

/-- The proof data: inputs at their blocks, outputs at anything, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The outputs are the windows nothing is said of. -/
def forgets0 : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4000000 in
/-- The body at any point. -/
theorem sound_body (hH : CodesIn m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  let X : Cont F := fun
    | .ksm => iblk m c 0 t | .qs => iblk m c 1 t | .q => iblk m c 2 t | .v => iblk m c 3 t | .k => iblk m c 4 t | .vs => iblk m c 5 t
    | .cb => iblk m c 6 t | .cbf => iblk m c 7 t | .u0 => iblk m c 8 t | .c0 => iblk m c 9 t | .out => d10 | .uf => d11 | .cf => d12
    | .lhs => s0 | .kg => s1 | .s => s2 | .p => s3 | .ut => s4 | .utb => s5 | .cnt => s6 | .cntc => s7
  have hwp : (body (opsAt t) (Scalar.ofBits .f32 0xFF61B1E6#32) (Scalar.ofBits .f32 0x3E0293EE#32) (grid0.coords t)).wp X
      (fun _ X' => ∀ b : Nm, b.input = true → X' b = X b) :=
    body_safe (X₀ := X) _ _ _ (hH c t) X fun _ _ => rfl
  iapply (triple_then (opsAt t) (defs₀ (F := F)) Variants.none c Set.univ _ X _ _ hwp)
  isplitl [H0 H1 H2 H3 H4 H5 H6 H7 H8 H9 H10 H11 H12 S0 S1 S2 S3 S4 S5 S6 S7]
  · unfold ownList ownScratch
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %X' %hX' H
  unfold ownList ownScratch
  rw [hX' .ksm rfl, hX' .qs rfl, hX' .q rfl, hX' .v rfl, hX' .k rfl, hX' .vs rfl, hX' .cb rfl, hX' .cbf rfl, hX' .u0 rfl, hX' .c0 rfl]
  icases H with ⟨H0, H1, H2, H3, H4, H5, H6, H7, H8, H9, H10, H11, H12, S0, S1, S2, S3, S4, S5, S6, S7⟩
  isplitl [S0 S1 S2 S3 S4 S5 S6 S7 Hg]
  · isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

/-- The row of the body table at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (hH : CodesIn m) (c : Dev nD) : BodyObligation (dats (F := F) m 0 c) (defs₀ (F := F)) Variants.none () Set.univ forgets0 := fun t => by
  rw [bigSep_W0, bigSep_W0, defs₀_row]
  exact triple_restated (sound_body m hH c t) rfl .rfl fun _ => .rfl

set_option backward.isDefEq.respectTransparency.types false in
set_option maxHeartbeats 800000 in
/-- The run: inputs unchanged, every semaphore counter at zero. -/
theorem run_main_quiescent (hH : CodesIn m) : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m hH c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Idealize.SL.BI.Entails.refl _) (hout := fun _ => Idealize.SL.BI.Entails.refl _)

/-- It ends with its arguments unchanged and every semaphore counter at zero. -/
theorem frame (hH : CodesIn m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (fun c => (dats m 0 c).toRForget forgets0) (A_eq m) ((θ_run defs _ _).mono (fun _ h => h.1) (run_main_quiescent m ρ hH)))
    ((θ_run defs _ _).mono (fun _ h => h.2) (run_main_quiescent m ρ hH))

end Cert.Kernel.Run
-- ==== Proof.Codes.lean ====
/- What the precondition on the key codes says: they are below 1024. -/
module

public import proofs.«01_k».proof.Proof.Safe
public import proofs.«01_k».proof.Pre_codes_in_range

@[expose] public section

noncomputable section

namespace Cert.Body

open Idealize.ShloMosaic

/-- A code below 1024 names a row of the codebook. -/
theorem chk_of_lt (v : BitVec 32) (h : v.toNat < 1024) : kChk v := by
  intro a
  fin_cases a
  · exact Nat.le_refl 1
  · exact h
  · exact Nat.le_refl 128

/-- The precondition `k ≥ 0 ∧ k < 1024`, as computed, at one code. -/
theorem lt_of_bits {s : Shape} {k : IVec s 32} {a b : IVec s 32} (y : s.Idx) (ha : a y = 0#32) (hb : b y = 1024#32)
    (h : (andi (cmpi .sge k a) (cmpi .slt k b)) y = 1#1) : (k y).toNat < 1024 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [andi, cmpi, IntOp.cmpi, ha, hb, andi_ofBool, ofBool_eq_one, Bool.and_eq_true] at h
  obtain ⟨hge, hlt⟩ := h
  simp only [BitVec.sle, BitVec.slt, decide_eq_true_eq, BitVec.toInt, BitVec.toNat_ofNat] at hge hlt
  omega

/-- The precondition says that every code is below 1024. -/
theorem code_lt [Pre_codes_in_range.Facts] {F : FTy → Type} [FloatOps F] {a0 a1 a2 a3 a4 a5 a6 a7}
    (h : Pre_codes_in_range.fn (F := F) a0 a1 a2 a3 a4 a5 a6 a7 = fun _ => 1#1) (y) : (a2 y).toNat < 1024 :=
  lt_of_bits y rfl rfl (congrFun h y)

end Cert.Body
-- ==== Proof.KernelPre.lean ====
/- The precondition puts every block of key codes in range: the frame of `Kernel`. -/
module

public import proofs.«01_k».proof.Proof.KernelRun
public import proofs.«01_k».proof.Proof.Codes

@[expose] public section

noncomputable section

namespace Cert.Kernel.Run

open Idealize.ShloMosaic Idealize.ShloMosaic.TcCoe Idealize.ShloMosaic.Tactic
open Cert.Kernel.Gen Cert.Body

variable {F : FTy → Type} [FloatOps F] (m : (ℓ : Loc nD τ sig) → Buf (Elt F) ℓ)

/-- The key codes as the kernel gets them: heads first. -/
theorem V_codes (c : Dev nD) : V m c main_v5 = shapeCast S60x1x16384 (transpose S3x20x16384 [0, 2, 1] (m ((c : Thread nD τ).loc main_arg2))
    transposes_S3x16384x20_S3x20x16384_0_2_1) shapeCasts_S3x20x16384_S60x1x16384 := by
  show StableHlo.after (List.flatten [hostOps0]) (fun b => m (c, b)) (Proc.devRef .tc main_v5) = _
  simp only [hostOps0, List.flatten_cons, List.flatten_nil, List.append_nil, List.cons_append, List.nil_append]
  after_results
  rfl

/-- Codes below 1024 are in range in every block. -/
theorem codesIn (h : ∀ (c : Dev nD) y, (m ((c : Thread nD τ).loc main_arg2) y : BitVec 32).toNat < 1024) : CodesIn m := by
  intro c t y
  apply chk_of_lt
  unfold iblk
  rw [View.read_apply, cast_eq]
  show (V m c main_v5 _ : BitVec 32).toNat < 1024
  rw [V_codes]
  exact h c _

end Cert.Kernel.Run
-- ==== Proof.KernelIdealBody.lean ====
/- The printed body of `KernelIdeal` is `Cert.Body.body`: the steps the program writes out one by one are the recursions' unfoldings. -/
module

public import proofs.«01_k».proof.Proof.Gen.KernelIdeal.Skeleton
public import proofs.«01_k».proof.Proof.Body

@[expose] public section

set_option maxRecDepth 65536

noncomputable section

namespace Cert.KernelIdeal

open Idealize.ShloMosaic Idealize.SL.Sem
open Gen

variable {F : FTy → Type} [FloatOps F] [Named F]

/-- Is this the first block of its head? -/
abbrev first' (i : grid0.Coords) : BitVec 1 := Cert.Body.first i

/-- The gathers of the first printed part. -/
def head (O : Cert.Body.Ops sig) (i : grid0.Coords) : Cert.Body.Cm F O (Σ' (_ : BitVec 32) (_ : BitVec 32), Elt F .i32) :=
  Cert.Body.gather O 3 0 (by omega) <|
  .load .ksm ![0, 0, 3] S1x1x1.size (Cert.Body.kAt 3 (by omega)) (View.loadsAt_rect (View.loads_smem_one (show EltTy.packing .i32 = 1 from rfl) numel1_S1x1x1)) fun f =>
  .ret ⟨BitVec.ofNat 32 (i 0).val, BitVec.ofNat 32 (i 1).val, f (Shape.Idx.first (by exact Nat.one_pos))⟩

/-- The buffers the body is called with. -/
def ops (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : Cert.Body.Ops sig :=
  ⟨arg2, arg3, arg4, arg5, arg6, arg7, arg8, arg9, arg10, arg11, arg12, arg13, arg14, arg15, arg16, arg17, arg18, arg19, arg20, arg21, arg22,
    harg12, harg15, harg18, harg20⟩

/-- The first printed part: the head's set-up where it is due, then the first keys' rows. -/
theorem part5_eq (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
    if first' i = 1#1 then (Cert.Body.init (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (Named.named κ "masked" 0xFF61B1E6#32) (head (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) i)).toProg else (head (F := F) (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) i).toProg := by
  rw [k0_part5_eq_skeleton]; rfl

set_option maxHeartbeats 40000000 in
/-- The printed body. -/
theorem body_eq (i : grid0.Coords) (arg2 : Memref sig .tc .smem S1x1x512 .i32) (harg2 : arg2.IsWhole) (arg3 : Memref sig .tc .smem S60x32 .f32) (harg3 : arg3.IsWhole) (arg4 : Memref sig .tc .vmem S1x128x512 .fp8e4m3) (harg4 : arg4.IsWhole) (arg5 : Memref sig .tc .vmem S1x128x512 .fp8e4m3) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1024x128 .bf16) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x1024 .f32) (harg11 : arg11.IsWhole) (arg12 : Memref sig .tc .vmem S1x512x128 .bf16) (harg12 : arg12.IsWhole) (arg13 : Memref sig .tc .vmem S1x1024x128 .f32) (harg13 : arg13.IsWhole) (arg14 : Memref sig .tc .vmem S1x1x1024 .f32) (harg14 : arg14.IsWhole) (arg15 : Memref sig .tc .vmem S1536x256 .bf16) (harg15 : arg15.IsWhole) (arg16 : Memref sig .tc .vmem S512x128 .f32) (harg16 : arg16.IsWhole) (arg17 : Memref sig .tc .vmem S1536x256 .f32) (harg17 : arg17.IsWhole) (arg18 : Memref sig .tc .vmem S1536x256 .bf16) (harg18 : arg18.IsWhole) (arg19 : Memref sig .tc .vmem S128x1024 .f32) (harg19 : arg19.IsWhole) (arg20 : Memref sig .tc .vmem S128x1024 .bf16) (harg20 : arg20.IsWhole) (arg21 : Memref sig .tc .vmem S8x1024 .f32) (harg21 : arg21.IsWhole) (arg22 : Memref sig .tc .vmem S1024x128 .f32) (harg22 : arg22.IsWhole) : cc0_vq_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (Cert.Body.body (ops i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (Named.named κ "masked" 0xFF61B1E6#32) (Named.named κ "log2e_inv_sqrt_d" 0x3E0293EE#32) i).toProg := by
  rw [cc0_vq_attn_eq_skeleton]; unfold cc0_vq_attn_skel
  rw [k0_part160_eq_skeleton]; unfold k0_part160_skel
  rw [part5_eq]
  by_cases h : first' i = 1#1
  · rw [if_pos h]
    exact Eq.trans (by rfl) (dif_pos h).symm
  · rw [if_neg h]
    exact Eq.trans (by rfl) (dif_neg h).symm

end Cert.KernelIdeal
-- ==== Proof.KernelIdealRun.lean ====
/-
  The run of `KernelIdeal`: from key codes in range it ends, with its arguments unchanged. The pipeline's proof data keep the inputs at their
  blocks and say nothing of the outputs; the body's obligation at every point is `Cert.Body.body_safe`.
-/
module

public import proofs.«01_k».proof.Proof.Gen.KernelIdeal.Frame
public import proofs.«01_k».proof.Proof.KernelIdealBody
public import proofs.«01_k».proof.Proof.Triple
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers written after the region. -/
def T0 : Finset (Ref sig .tc) := {main_v14, main_v15}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The arguments end unchanged, from a run that says nothing of the outputs. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 6 rfl).trans ((hA c 6).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl

/-! The operands at a point, and the scratch. -/

abbrev ms0_0 (t : Fin cfg0.N) : Memref sig .tc .smem S1x1x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S60x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1024 .f32 := win0_12.stage (cfg0.slots t 12)
abbrev hs0_12 (t : Fin cfg0.N) : (ms0_12 t).IsWhole := hstage0_12 ((cfg0.slots t 12).cast nbuf0_12)
abbrev scM0_0 : Memref sig .tc .vmem S1536x256 .bf16 := Memref.whole cc0_scratch0
abbrev scM0_1 : Memref sig .tc .vmem S512x128 .f32 := Memref.whole cc0_scratch1
abbrev scM0_2 : Memref sig .tc .vmem S1536x256 .f32 := Memref.whole cc0_scratch2
abbrev scM0_3 : Memref sig .tc .vmem S1536x256 .bf16 := Memref.whole cc0_scratch3
abbrev scM0_4 : Memref sig .tc .vmem S128x1024 .f32 := Memref.whole cc0_scratch4
abbrev scM0_5 : Memref sig .tc .vmem S128x1024 .bf16 := Memref.whole cc0_scratch5
abbrev scM0_6 : Memref sig .tc .vmem S8x1024 .f32 := Memref.whole cc0_scratch6
abbrev scM0_7 : Memref sig .tc .vmem S1024x128 .f32 := Memref.whole cc0_scratch7

/-- The region's scoped buffers are the scratch, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The buffers of the body at a point. -/
abbrev opsAt (t : Fin cfg0.N) : Ops sig :=
  ops (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)

/-- Every block of key codes is in range. -/
def CodesIn : Prop := ∀ (c : Dev nD) (t : Fin cfg0.N), InRange (iblk m c 0 t)

/-- The proof data: inputs at their blocks, outputs at anything, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The outputs are the windows nothing is said of. -/
def forgets0 : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4000000 in
/-- The body at any point. -/
theorem sound_body (hH : CodesIn m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  let X : Cont F := fun
    | .ksm => iblk m c 0 t | .qs => iblk m c 1 t | .q => iblk m c 2 t | .v => iblk m c 3 t | .k => iblk m c 4 t | .vs => iblk m c 5 t
    | .cb => iblk m c 6 t | .cbf => iblk m c 7 t | .u0 => iblk m c 8 t | .c0 => iblk m c 9 t | .out => d10 | .uf => d11 | .cf => d12
    | .lhs => s0 | .kg => s1 | .s => s2 | .p => s3 | .ut => s4 | .utb => s5 | .cnt => s6 | .cntc => s7
  have hwp : (body (opsAt t) (Named.named κ "masked" 0xFF61B1E6#32) (Named.named κ "log2e_inv_sqrt_d" 0x3E0293EE#32) (grid0.coords t)).wp X
      (fun _ X' => ∀ b : Nm, b.input = true → X' b = X b) :=
    body_safe (X₀ := X) _ _ _ (hH c t) X fun _ _ => rfl
  iapply (triple_then (opsAt t) (defs₀ (F := F)) Variants.none c Set.univ _ X _ _ hwp)
  isplitl [H0 H1 H2 H3 H4 H5 H6 H7 H8 H9 H10 H11 H12 S0 S1 S2 S3 S4 S5 S6 S7]
  · unfold ownList ownScratch
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %X' %hX' H
  unfold ownList ownScratch
  rw [hX' .ksm rfl, hX' .qs rfl, hX' .q rfl, hX' .v rfl, hX' .k rfl, hX' .vs rfl, hX' .cb rfl, hX' .cbf rfl, hX' .u0 rfl, hX' .c0 rfl]
  icases H with ⟨H0, H1, H2, H3, H4, H5, H6, H7, H8, H9, H10, H11, H12, S0, S1, S2, S3, S4, S5, S6, S7⟩
  isplitl [S0 S1 S2 S3 S4 S5 S6 S7 Hg]
  · isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

/-- The row of the body table at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (hH : CodesIn m) (c : Dev nD) : BodyObligation (dats (F := F) m 0 c) (defs₀ (F := F)) Variants.none () Set.univ forgets0 := fun t => by
  rw [bigSep_W0, bigSep_W0, defs₀_row]
  exact triple_restated (sound_body m hH c t) rfl .rfl fun _ => .rfl

set_option backward.isDefEq.respectTransparency.types false in
set_option maxHeartbeats 800000 in
/-- The run: inputs unchanged, every semaphore counter at zero. -/
theorem run_main_quiescent (hH : CodesIn m) : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m hH c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Idealize.SL.BI.Entails.refl _) (hout := fun _ => Idealize.SL.BI.Entails.refl _)

/-- It ends with its arguments unchanged and every semaphore counter at zero. -/
theorem frame (hH : CodesIn m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (fun c => (dats m 0 c).toRForget forgets0) (A_eq m) ((θ_run defs _ _).mono (fun _ h => h.1) (run_main_quiescent m ρ hH)))
    ((θ_run defs _ _).mono (fun _ h => h.2) (run_main_quiescent m ρ hH))

end Cert.KernelIdeal.Run
-- ==== Proof.KernelIdealPre.lean ====
/- The precondition puts every block of key codes in range: the frame of `KernelIdeal`. -/
module

public import proofs.«01_k».proof.Proof.KernelIdealRun
public import proofs.«01_k».proof.Proof.Codes

@[expose] public section

noncomputable section

namespace Cert.KernelIdeal.Run

open Idealize.ShloMosaic Idealize.ShloMosaic.TcCoe Idealize.ShloMosaic.Tactic
open Cert.KernelIdeal.Gen Cert.Body

variable {F : FTy → Type} [FloatOps F] [Named F] (m : (ℓ : Loc nD τ sig) → Buf (Elt F) ℓ)

/-- The key codes as the kernel gets them: heads first. -/
theorem V_codes (c : Dev nD) : V m c main_v5 = shapeCast S60x1x16384 (transpose S3x20x16384 [0, 2, 1] (m ((c : Thread nD τ).loc main_arg2))
    transposes_S3x16384x20_S3x20x16384_0_2_1) shapeCasts_S3x20x16384_S60x1x16384 := by
  show StableHlo.after (List.flatten [hostOps0]) (fun b => m (c, b)) (Proc.devRef .tc main_v5) = _
  simp only [hostOps0, List.flatten_cons, List.flatten_nil, List.append_nil, List.cons_append, List.nil_append]
  after_results
  rfl

/-- Codes below 1024 are in range in every block. -/
theorem codesIn (h : ∀ (c : Dev nD) y, (m ((c : Thread nD τ).loc main_arg2) y : BitVec 32).toNat < 1024) : CodesIn m := by
  intro c t y
  apply chk_of_lt
  unfold iblk
  rw [View.read_apply, cast_eq]
  show (V m c main_v5 _ : BitVec 32).toNat < 1024
  rw [V_codes]
  exact h c _

end Cert.KernelIdeal.Run
-- ==== Proof.NatAt.lean ====
/- Arrays read at natural-number indices (0 outside), and what `window` and `put` do to such a reading. -/
module

public import Idealize.ShloMosaic.Lib.Pointwise
public import Idealize.ShloMosaic.Lib.VecWindow

@[expose] public section

noncomputable section

namespace Cert.NatAt

open Idealize.ShloMosaic

/-- Entry `r`, `c` of a matrix. -/
def g2 {N M : Nat} (x : (⟨2, ![N, M]⟩ : Shape).Idx → EReal) (r c : ℕ) : EReal :=
  if h : r < N ∧ c < M then x (ix2 ⟨r, h.1⟩ ⟨c, h.2⟩) else 0

/-- Entry `a`, `r`, `c` of an array of rank 3. -/
def g3 {L N M : Nat} (x : (⟨3, ![L, N, M]⟩ : Shape).Idx → EReal) (a r c : ℕ) : EReal :=
  if h : a < L ∧ r < N ∧ c < M then x (ix3 ⟨a, h.1⟩ ⟨r, h.2.1⟩ ⟨c, h.2.2⟩) else 0

/-- Word `t` of a row of words. -/
def gk {M : Nat} (x : (⟨3, ![1, 1, M]⟩ : Shape).Idx → BitVec 32) (t : ℕ) : BitVec 32 :=
  if h : t < M then x (ix3 0 0 ⟨t, h⟩) else 0

theorem g2_of {N M : Nat} (x : (⟨2, ![N, M]⟩ : Shape).Idx → EReal) {r c : ℕ} (hr : r < N) (hc : c < M) :
    g2 x r c = x (ix2 ⟨r, hr⟩ ⟨c, hc⟩) := dif_pos ⟨hr, hc⟩

theorem g3_of {L N M : Nat} (x : (⟨3, ![L, N, M]⟩ : Shape).Idx → EReal) {a r c : ℕ} (ha : a < L) (hr : r < N) (hc : c < M) :
    g3 x a r c = x (ix3 ⟨a, ha⟩ ⟨r, hr⟩ ⟨c, hc⟩) := dif_pos ⟨ha, hr, hc⟩

theorem gk_of {M : Nat} (x : (⟨3, ![1, 1, M]⟩ : Shape).Idx → BitVec 32) {t : ℕ} (h : t < M) : gk x t = x (ix3 0 0 ⟨t, h⟩) := dif_pos h

theorem g2_put {N M n m r0 c0 : Nat} (x : (⟨2, ![N, M]⟩ : Shape).Idx → EReal) (hr : r0 + n ≤ N) (hc : c0 + m ≤ M)
    (w : (⟨2, ![n, m]⟩ : Shape).Idx → EReal) (r c : ℕ) :
    g2 (VecWindow.put (s := ⟨2, ![N, M]⟩) x ![r0, c0] ![n, m] w) r c
      = if r0 ≤ r ∧ r < r0 + n ∧ c0 ≤ c ∧ c < c0 + m then g2 w (r - r0) (c - c0) else g2 x r c := by
  by_cases hb : r < N ∧ c < M
  · rw [g2_of _ hb.1 hb.2, g2_of _ hb.1 hb.2]
    unfold VecWindow.put
    by_cases h : r0 ≤ r ∧ r < r0 + n ∧ c0 ≤ c ∧ c < c0 + m
    · rw [if_pos h, g2_of _ (by omega) (by omega), dif_pos (by intro a; fin_cases a; exacts [⟨h.1, h.2.1⟩, h.2.2])]
      exact congrArg w (funext fun a => by fin_cases a <;> rfl)
    · rw [if_neg h, dif_neg (fun h' => h ⟨(h' 0).1, (h' 0).2, (h' 1).1, (h' 1).2⟩)]
  · rw [if_neg (by omega)]; unfold g2; rw [dif_neg hb, dif_neg hb]

theorem g3_put {L N M l n m a0 r0 c0 : Nat} (x : (⟨3, ![L, N, M]⟩ : Shape).Idx → EReal) (ha : a0 + l ≤ L) (hr : r0 + n ≤ N) (hc : c0 + m ≤ M)
    (w : (⟨3, ![l, n, m]⟩ : Shape).Idx → EReal) (a r c : ℕ) :
    g3 (VecWindow.put (s := ⟨3, ![L, N, M]⟩) x ![a0, r0, c0] ![l, n, m] w) a r c
      = if a0 ≤ a ∧ a < a0 + l ∧ r0 ≤ r ∧ r < r0 + n ∧ c0 ≤ c ∧ c < c0 + m then g3 w (a - a0) (r - r0) (c - c0) else g3 x a r c := by
  by_cases hb : a < L ∧ r < N ∧ c < M
  · rw [g3_of _ hb.1 hb.2.1 hb.2.2, g3_of _ hb.1 hb.2.1 hb.2.2]
    unfold VecWindow.put
    by_cases h : a0 ≤ a ∧ a < a0 + l ∧ r0 ≤ r ∧ r < r0 + n ∧ c0 ≤ c ∧ c < c0 + m
    · rw [if_pos h, g3_of _ (by omega) (by omega) (by omega),
        dif_pos (by intro a; fin_cases a; exacts [⟨h.1, h.2.1⟩, ⟨h.2.2.1, h.2.2.2.1⟩, h.2.2.2.2])]
      exact congrArg w (funext fun a => by fin_cases a <;> rfl)
    · rw [if_neg h, dif_neg (fun h' => h ⟨(h' 0).1, (h' 0).2, (h' 1).1, (h' 1).2, (h' 2).1, (h' 2).2⟩)]
  · rw [if_neg (by omega)]; unfold g3; rw [dif_neg hb, dif_neg hb]

theorem g2_window {N M n m r0 c0 : Nat} (x : (⟨2, ![N, M]⟩ : Shape).Idx → EReal)
    (inb : ∀ a, (![r0, c0] : Fin 2 → Nat) a + (![n, m] : Fin 2 → Nat) a ≤ (⟨2, ![N, M]⟩ : Shape).size a) {r c : ℕ} (hr : r < n) (hc : c < m) :
    g2 (N := n) (M := m) (VecWindow.window (s := ⟨2, ![N, M]⟩) x ![r0, c0] ![n, m] inb) r c = g2 x (r0 + r) (c0 + c) := by
  have h0 : r0 + n ≤ N := inb 0
  have h1 : c0 + m ≤ M := inb 1
  rw [g2_of _ hr hc, g2_of _ (by omega) (by omega)]
  exact congrArg x (funext fun a => by fin_cases a <;> exact Fin.ext (by simp [Rect.emb, Rect.unit]))

theorem g3_window {L N M l n m a0 r0 c0 : Nat} (x : (⟨3, ![L, N, M]⟩ : Shape).Idx → EReal)
    (inb : ∀ a, (![a0, r0, c0] : Fin 3 → Nat) a + (![l, n, m] : Fin 3 → Nat) a ≤ (⟨3, ![L, N, M]⟩ : Shape).size a) {a r c : ℕ}
    (ha : a < l) (hr : r < n) (hc : c < m) :
    g3 (L := l) (N := n) (M := m) (VecWindow.window (s := ⟨3, ![L, N, M]⟩) x ![a0, r0, c0] ![l, n, m] inb) a r c = g3 x (a0 + a) (r0 + r) (c0 + c) := by
  have h0 : a0 + l ≤ L := inb 0
  have h1 : r0 + n ≤ N := inb 1
  have h2 : c0 + m ≤ M := inb 2
  rw [g3_of _ ha hr hc, g3_of _ (by omega) (by omega) (by omega)]
  exact congrArg x (funext fun a => by fin_cases a <;> exact Fin.ext (by simp [Rect.emb, Rect.unit]))

theorem gk_window {M m c0 : Nat} (x : (⟨3, ![1, 1, M]⟩ : Shape).Idx → BitVec 32)
    (inb : ∀ a, (![0, 0, c0] : Fin 3 → Nat) a + (![1, 1, m] : Fin 3 → Nat) a ≤ (⟨3, ![1, 1, M]⟩ : Shape).size a) {c : ℕ} (hc : c < m) :
    gk (M := m) (VecWindow.window (s := ⟨3, ![1, 1, M]⟩) x ![0, 0, c0] ![1, 1, m] inb) c = gk x (c0 + c) := by
  have h2 : c0 + m ≤ M := inb 2
  rw [gk_of _ hc, gk_of _ (by omega)]
  exact congrArg x (funext fun a => by fin_cases a <;> exact Fin.ext (by simp [Rect.emb, Rect.unit]))

/-- A matrix read as itself: two with the same readings are equal. -/
theorem ext2 {N M : Nat} {x y : (⟨2, ![N, M]⟩ : Shape).Idx → EReal} (h : ∀ r c, r < N → c < M → g2 x r c = g2 y r c) : x = y := by
  funext j
  have e : ix2 ⟨(j 0).val, (j 0).isLt⟩ ⟨(j 1).val, (j 1).isLt⟩ = j := funext fun a => by fin_cases a <;> rfl
  exact (congrArg x e).symm.trans (((g2_of x (j 0).isLt (j 1).isLt).symm.trans
    ((h _ _ (j 0).isLt (j 1).isLt).trans (g2_of y (j 0).isLt (j 1).isLt))).trans (congrArg y e))

theorem ext3 {L N M : Nat} {x y : (⟨3, ![L, N, M]⟩ : Shape).Idx → EReal} (h : ∀ a r c, a < L → r < N → c < M → g3 x a r c = g3 y a r c) : x = y := by
  funext j
  have e : ix3 ⟨(j 0).val, (j 0).isLt⟩ ⟨(j 1).val, (j 1).isLt⟩ ⟨(j 2).val, (j 2).isLt⟩ = j := funext fun a => by fin_cases a <;> rfl
  exact (congrArg x e).symm.trans (((g3_of x (j 0).isLt (j 1).isLt (j 2).isLt).symm.trans
    ((h _ _ _ (j 0).isLt (j 1).isLt (j 2).isLt).trans (g3_of y (j 0).isLt (j 1).isLt (j 2).isLt))).trans (congrArg y e))

/-- A sum over residues mod 8 is the sum over all. -/
theorem sum_mod8 {β : Type} [AddCommMonoid β] (f : ℕ → β) (n : ℕ) :
    ∑ a ∈ Finset.range 8, ∑ x ∈ Finset.range n, f (8 * x + a) = ∑ r ∈ Finset.range (8 * n), f r := by
  induction n with
  | zero => simp
  | succ n ih =>
    simp only [Finset.sum_range_succ (n := n)]
    rw [Finset.sum_add_distrib, ih, show 8 * (n + 1) = 8 * n + 8 from by omega, Finset.sum_range_add]

theorem sum_fin {β : Type} [AddCommMonoid β] {n : ℕ} (f : Fin n → β) (g : ℕ → β) (h : ∀ i : Fin n, f i = g i.val) : ∑ i, f i = ∑ i ∈ Finset.range n, g i := by
  rw [Finset.sum_range]; exact Finset.sum_congr rfl fun i _ => h i

theorem sup_fin {n : ℕ} (f : Fin n → EReal) (g : ℕ → EReal) (h : ∀ i : Fin n, f i = g i.val) : (Finset.univ.sup f) = (Finset.range n).sup g := by
  apply le_antisymm
  · exact Finset.sup_le fun i _ => (h i).le.trans (Finset.le_sup (f := g) (Finset.mem_range.2 i.isLt))
  · exact Finset.sup_le fun i hi => (h ⟨i, Finset.mem_range.1 hi⟩).ge.trans (Finset.le_sup (f := f) (Finset.mem_univ _))

end Cert.NatAt
-- ==== Proof.Pay.lean ====
/- The values the body stores, read at an index, over the extended reals. -/
module

public import proofs.«01_k».proof.Proof.Body
public import proofs.«01_k».proof.Proof.NatAt
public import Idealize.ShloMosaic.Lib.WordCmp

@[expose] public section

set_option maxRecDepth 16384

noncomputable section

namespace Cert.Body

open Idealize.ShloMosaic
open Cert.KernelIdeal Cert.KernelIdeal.Gen Cert.NatAt

/-- The mask value of a counter: 0 where the code has occurred, else `neg`. -/
def maskOf (neg k : EReal) : EReal := if 0 < k then 0 else neg

theorem colOf_apply (x : Vec Ideal S1x128 .f32) (r c : Fin 128) : colOf x (ix2 r c) = x (ix2 0 r) := by
  pointwise [colOf]

theorem g2_colSt (x : Vec Ideal S1x128 .f32) {r c : ℕ} (hr : r < 128) (hc : c < 128) : g2 (N := 128) (M := 128) (colSt x) r c = g2 (N := 1) (M := 128) x 0 r := by
  rw [g2_of _ hr hc, g2_of _ (by omega) hr]; pointwise [colSt, colOf]

theorem g2_maskCol (neg : EReal) (x : Vec Ideal S1x128 .f32) {r c : ℕ} (hr : r < 128) (hc : c < 128) :
    g2 (N := 128) (M := 128) (maskCol (F := Ideal) neg (colOf x)) r c = maskOf neg (g2 (N := 1) (M := 128) x 0 r) := by
  rw [g2_of _ hr hc, g2_of _ (by omega) hr]
  pointwise [maskCol, colOf]
  rfl

theorem g2_cbSt (x : Vec Ideal S1x1024x128 .bf16) {r c : ℕ} (hr : r < 1024) (hc : c < 128) :
    g2 (N := 1024) (M := 128) (cbSt x) r c = g3 (L := 1) (N := 1024) (M := 128) x 0 r c := by
  rw [g2_of _ hr hc, g3_of _ (by omega) hr hc]; pointwise [cbSt]

theorem g2_zeroSt (r c : ℕ) : g2 (N := 512) (M := 128) (zeroSt (F := Ideal)) r c = 0 := by
  unfold g2; split_ifs
  · pointwise [zeroSt]
  · rfl

theorem g2_utSt (x : Vec Ideal S1x1024x128 .f32) {j c : ℕ} (hj : j < 128) (hc : c < 1024) :
    g2 (N := 128) (M := 1024) (utSt x) j c = g3 (L := 1) (N := 1024) (M := 128) x 0 c j := by
  rw [g2_of _ hj hc, g3_of _ (by omega) hc hj]; pointwise [utSt, u0T]

theorem g2_utbSt (x : Vec Ideal S1x1024x128 .f32) {j c : ℕ} (hj : j < 128) (hc : c < 1024) :
    g2 (N := 128) (M := 1024) (utbSt x) j c = g3 (L := 1) (N := 1024) (M := 128) x 0 c j := by
  rw [g2_of _ hj hc, g3_of _ (by omega) hc hj]; pointwise [utbSt, u0T]

theorem g2_cntSt (x : Vec Ideal S1x1x1024 .f32) {i c : ℕ} (hi : i < 8) (hc : c < 1024) :
    g2 (N := 8) (M := 1024) (cntSt x) i c = g3 (L := 1) (N := 1) (M := 1024) x 0 0 c := by
  rw [g2_of _ hi hc, g3_of _ (by omega) (by omega) hc]; pointwise [cntSt]

theorem g2_rowSt (x : Vec Ideal S1x1x128 .f32) {j : ℕ} (hj : j < 128) :
    g2 (N := 1) (M := 128) (rowSt x) 0 j = g3 (L := 1) (N := 1) (M := 128) x 0 0 j := by
  rw [g2_of _ (by omega) hj, g3_of _ (by omega) (by omega) hj]; pointwise [rowSt]

theorem g2_kgSt (x : Vec Ideal S512x128 .f32) {r j : ℕ} (hr : r < 512) (hj : j < 128) :
    g2 (N := 512) (M := 128) (kgSt x) r j = g2 (N := 512) (M := 128) x r j := by
  rw [g2_of _ hr hj, g2_of _ hr hj]; pointwise [kgSt]

theorem g2_vtOf (v : Vec Ideal S1x128x512 .fp8e4m3) (vs : Vec Ideal S1x1x512 .f32) {j t : ℕ} (hj : j < 128) (ht : t < 512) :
    g2 (N := 128) (M := 512) (vtOf v vs) j t = g3 (L := 1) (N := 128) (M := 512) v 0 j t * g3 (L := 1) (N := 1) (M := 512) vs 0 0 t := by
  rw [g2_of _ hj ht, g3_of _ (by omega) hj ht, g3_of _ (by omega) (by omega) ht]; pointwise [vtOf]

theorem sel_row (x : Fin 128) : (IntOp.cmpi CmpIPredicate.eq (BitVec.ofNat 32 x.val) 0#32) = if x = 0 then 1#1 else 0#1 := by
  revert x; decide

/-- The scores without the causal mask: the product over the 128 features, and the mask column. -/
def score (L : ℕ → ℕ → EReal) (Q : ℕ → ℕ → EReal) (r q : ℕ) : EReal := (∑ j ∈ Finset.range 128, L r j * Q j q) + L r 128

theorem sel_le {r i : ℕ} (hr : r < 256) (hi : i < 256) (x y : EReal) :
    (Scalar.select (IntOp.cmpi CmpIPredicate.sle (BitVec.ofNat 32 r) (BitVec.ofNat 32 i)) x y : EReal) = if r ≤ i then x else y := by
  rw [Idealize.ShloMosaic.WordCmp.cmpi_sle_ofNat (by omega) (by omega)]
  by_cases h : r ≤ i
  · rw [if_pos h, decide_eq_true h]; rfl
  · rw [if_neg h, decide_eq_false h]; rfl

theorem negInf : Ideal.ofBits FTy.f32 0xFF800000#32 = ⊥ := by
  simp [Ideal.ofBits, Ideal.ieee]

theorem score0_apply (q : Vec Ideal S1x128x256 .fp8e4m3) (lhs : Vec Ideal S1280x256 .bf16) (r : Fin 1280) (i : Fin 256) :
    score0 q lhs (ix2 r i) = score (g2 (N := 1280) (M := 256) lhs) (fun j q' => g3 (L := 1) (N := 128) (M := 256) q 0 j q') r i := by
  pointwise [score0, rhsOf, oneRow]
  unfold score
  congr 1
  · exact sum_fin _ _ fun j => by
      show _ = g2 _ _ _ * g3 _ _ _ _
      rw [g2_of _ r.isLt (by omega), g3_of _ (by omega) j.isLt i.isLt]; rfl
  · rw [g2_of _ r.isLt (by omega)]
    refine Finset.sum_eq_single (0 : Fin 128) ?_ (fun h => absurd (Finset.mem_univ _) h) |>.trans ?_
    · intro b _ hb; rw [sel_row, if_neg hb]; rfl
    · rfl

theorem score1_apply (q : Vec Ideal S1x128x256 .fp8e4m3) (lhs : Vec Ideal S1536x256 .bf16) (r : Fin 1536) (i : Fin 256) :
    score1 q lhs (ix2 r i) = score (g2 (N := 1536) (M := 256) lhs) (fun j q' => g3 (L := 1) (N := 128) (M := 256) q 0 j q') r i := by
  pointwise [score1, rhsOf, oneRow]
  unfold score
  congr 1
  · exact sum_fin _ _ fun j => by
      show _ = g2 _ _ _ * g3 _ _ _ _
      rw [g2_of _ r.isLt (by omega), g3_of _ (by omega) j.isLt i.isLt]; rfl
  · rw [g2_of _ r.isLt (by omega)]
    refine Finset.sum_eq_single (0 : Fin 128) ?_ (fun h => absurd (Finset.mem_univ _) h) |>.trans ?_
    · intro b _ hb; rw [sel_row, if_neg hb]; rfl
    · rfl

theorem g2_sLow0 (q : Vec Ideal S1x128x256 .fp8e4m3) (lhs : Vec Ideal S1280x256 .bf16) {r i : ℕ} (hr : r < 1024) (hi : i < 256) :
    g2 (N := 1024) (M := 256) (sLow0 q lhs) r i = score (g2 (N := 1280) (M := 256) lhs) (fun j q' => g3 (L := 1) (N := 128) (M := 256) q 0 j q') r i := by
  rw [g2_of _ hr hi]; pointwise [sLow0]; simpa using score0_apply q lhs ⟨0 + r, by omega⟩ ⟨0 + i, by omega⟩

theorem g2_sLow1 (q : Vec Ideal S1x128x256 .fp8e4m3) (lhs : Vec Ideal S1536x256 .bf16) {r i : ℕ} (hr : r < 1280) (hi : i < 256) :
    g2 (N := 1280) (M := 256) (sLow1 q lhs) r i = score (g2 (N := 1536) (M := 256) lhs) (fun j q' => g3 (L := 1) (N := 128) (M := 256) q 0 j q') r i := by
  rw [g2_of _ hr hi]; pointwise [sLow1]; simpa using score1_apply q lhs ⟨0 + r, by omega⟩ ⟨0 + i, by omega⟩

theorem g2_sDiag0 (neg : EReal) (q : Vec Ideal S1x128x256 .fp8e4m3) (lhs : Vec Ideal S1280x256 .bf16) {r i : ℕ} (hr : r < 256) (hi : i < 256) :
    g2 (N := 256) (M := 256) (sDiag0 (F := Ideal) neg q lhs) r i
      = if r ≤ i then score (g2 (N := 1280) (M := 256) lhs) (fun j q' => g3 (L := 1) (N := 128) (M := 256) q 0 j q') (1024 + r) i else neg := by
  rw [g2_of _ hr hi]; pointwise [sDiag0, diag]
  rw [sel_le hr hi, score0_apply]

theorem g2_sDiag1 (neg : EReal) (q : Vec Ideal S1x128x256 .fp8e4m3) (lhs : Vec Ideal S1536x256 .bf16) {r i : ℕ} (hr : r < 256) (hi : i < 256) :
    g2 (N := 256) (M := 256) (sDiag1 (F := Ideal) neg q lhs) r i
      = if r ≤ i then score (g2 (N := 1536) (M := 256) lhs) (fun j q' => g3 (L := 1) (N := 128) (M := 256) q 0 j q') (1280 + r) i else neg := by
  rw [g2_of _ hr hi]; pointwise [sDiag1, diag]
  rw [sel_le hr hi, score1_apply]

theorem g2_max0 (s : Vec Ideal S1280x256 .f32) {i : ℕ} (hi : i < 256) :
    g2 (N := 1) (M := 256) (max0 s) 0 i = (Finset.range 1280).sup fun r => g2 (N := 1280) (M := 256) s r i := by
  rw [g2_of _ (by omega) hi]; pointwise [max0]
  rw [negInf]
  exact sup_fin _ _ fun r => (g2_of _ r.isLt hi).symm

theorem g2_max1 (s : Vec Ideal S1536x256 .f32) {i : ℕ} (hi : i < 256) :
    g2 (N := 1) (M := 256) (max1 s) 0 i = (Finset.range 1536).sup fun r => g2 (N := 1536) (M := 256) s r i := by
  rw [g2_of _ (by omega) hi]; pointwise [max1]
  rw [negInf]
  exact sup_fin _ _ fun r => (g2_of _ r.isLt hi).symm

theorem g2_wgt (c : EReal) (m : FVec Ideal S1x256 .f32) (s : Vec Ideal S128x256 .f32) {r i : ℕ} (hr : r < 128) (hi : i < 256) :
    g2 (N := 128) (M := 256) (wgt (F := Ideal) c m s) r i = Ideal.exp2 ((g2 (N := 128) (M := 256) s r i - g2 (N := 1) (M := 256) m 0 i) * c) := by
  rw [g2_of _ hr hi, g2_of _ hr hi, g2_of _ (by omega) hi]; pointwise [wgt]
  rfl

theorem g2_wgtSt (c : EReal) (m : FVec Ideal S1x256 .f32) (s : Vec Ideal S128x256 .f32) {r i : ℕ} (hr : r < 128) (hi : i < 256) :
    g2 (N := 128) (M := 256) (wgtSt (F := Ideal) c m s) r i = g2 (N := 128) (M := 256) (wgt (F := Ideal) c m s) r i := by
  rw [g2_of _ hr hi, g2_of _ hr hi]; pointwise [wgtSt]

theorem g2_den0 (r c : ℕ) : g2 (N := 8) (M := 256) (den0 (F := Ideal)) r c = 0 := by
  unfold g2; split_ifs
  · pointwise [den0]
  · rfl

theorem g2_accum (den : FVec Ideal S8x256 .f32) (x : FVec Ideal S128x256 .f32) {a i : ℕ} (ha : a < 8) (hi : i < 256) :
    g2 (N := 8) (M := 256) (accum den x) a i = g2 (N := 8) (M := 256) den a i + ∑ g ∈ Finset.range 16, g2 (N := 128) (M := 256) x (8 * g + a) i := by
  rw [g2_of _ ha hi, g2_of _ ha hi]; pointwise [accum]
  refine congrArg (_ + ·) (sum_fin _ _ fun g => ?_)
  rw [g2_of _ (by omega) hi]; congr 3; omega

theorem g2_mulTwice (w : FVec Ideal S128x256 .f32) (x : Vec Ideal S128x128 .f32) {r i : ℕ} (hr : r < 128) (hi : i < 256) :
    g2 (N := 128) (M := 256) (mulf w (twice x)) r i = g2 (N := 128) (M := 256) w r i * g2 (N := 128) (M := 128) x r (i % 128) := by
  rw [g2_of _ hr hi, g2_of _ hr hi, g2_of _ hr (by omega)]; pointwise [twice]
  congr 1
  by_cases h : i < 128
  · rw [dif_pos h]; exact congrArg (fun z => x (ix2 _ z)) (Fin.ext (Nat.mod_eq_of_lt h).symm)
  · rw [dif_neg h]; exact congrArg (fun z => x (ix2 _ z)) (Fin.ext (show i - 128 = i % 128 by omega))

/-- Numerator over denominator, the denominator summed over its 8 rows. -/
theorem g3_outOf (num : FVec Ideal S128x256 .f32) (den : FVec Ideal S8x256 .f32) {i j : ℕ} (hi : i < 256) (hj : j < 128) :
    g3 (L := 1) (N := 256) (M := 128) (outOf num den) 0 i j
      = Ideal.div (g2 (N := 128) (M := 256) num j i) (∑ a ∈ Finset.range 8, g2 (N := 8) (M := 256) den a i) := by
  rw [g3_of _ (by omega) hi hj, g2_of _ hj hi]; pointwise [outOf]
  exact congrArg (Ideal.div _) (sum_fin _ _ fun a => (g2_of _ a.isLt hi).symm)

/-- The output of 256 queries over 256 keys: codes' state and keys' values, weighted, over the denominator. -/
theorem g3_out0 (vt : FVec Ideal S128x512 .bf16) (den : FVec Ideal S8x256 .f32) (u : Vec Ideal S128x1024 .bf16) (g : Vec Ideal S1024x256 .bf16)
    (e : Vec Ideal S256x256 .bf16) {j i : ℕ} (hi : i < 256) (hj : j < 128) :
    g3 (L := 1) (N := 256) (M := 128) (out0 vt den u g e) 0 i j
      = Ideal.div ((∑ c ∈ Finset.range 1024, g2 (N := 128) (M := 1024) u j c * g2 (N := 1024) (M := 256) g c i)
          + ∑ t ∈ Finset.range 256, g2 (N := 128) (M := 512) vt j t * g2 (N := 256) (M := 256) e t i)
        (∑ a ∈ Finset.range 8, g2 (N := 8) (M := 256) den a i) := by
  unfold out0
  rw [g3_outOf _ _ hi hj]
  congr 1
  rw [g2_of _ hj hi]; pointwise [codeSum]
  congr 1
  · exact sum_fin _ _ fun c => by rw [g2_of _ hj c.isLt, g2_of _ c.isLt hi]
  · exact sum_fin _ _ fun t => by rw [g2_of _ hj (by omega), g2_of _ t.isLt hi]

/-- The output of 256 queries over 512 keys: codes' state and keys' values, weighted, over the denominator. -/
theorem g3_out1 (vt : FVec Ideal S128x512 .bf16) (den : FVec Ideal S8x256 .f32) (u : Vec Ideal S128x1024 .bf16) (g : Vec Ideal S1024x256 .bf16)
    (e : Vec Ideal S512x256 .bf16) {j i : ℕ} (hi : i < 256) (hj : j < 128) :
    g3 (L := 1) (N := 256) (M := 128) (out1 vt den u g e) 0 i j
      = Ideal.div ((∑ c ∈ Finset.range 1024, g2 (N := 128) (M := 1024) u j c * g2 (N := 1024) (M := 256) g c i)
          + ∑ t ∈ Finset.range 512, g2 (N := 128) (M := 512) vt j t * g2 (N := 512) (M := 256) e t i)
        (∑ a ∈ Finset.range 8, g2 (N := 8) (M := 256) den a i) := by
  unfold out1
  rw [g3_outOf _ _ hi hj]
  congr 1
  rw [g2_of _ hj hi]; pointwise [codeSum]
  congr 1
  · exact sum_fin _ _ fun c => by rw [g2_of _ hj c.isLt, g2_of _ c.isLt hi]
  · exact sum_fin _ _ fun t => by rw [g2_of _ hj (by omega), g2_of _ t.isLt hi]

theorem g3_ufSt (x : Vec Ideal S128x1024 .f32) {c j : ℕ} (hc : c < 1024) (hj : j < 128) :
    g3 (L := 1) (N := 1024) (M := 128) (ufSt x) 0 c j = g2 (N := 128) (M := 1024) x j c := by
  rw [g3_of _ (by omega) hc hj, g2_of _ hj hc]; pointwise [ufSt]

theorem g3_cfSt (x : Vec Ideal S1x1024 .f32) {c : ℕ} (hc : c < 1024) :
    g3 (L := 1) (N := 1) (M := 1024) (cfSt x) 0 0 c = g2 (N := 1) (M := 1024) x 0 c := by
  rw [g3_of _ (by omega) (by omega) hc, g2_of _ (by omega) hc]; pointwise [cfSt]

theorem g2_vtaOf (vt : FVec Ideal S128x512 .bf16) {j t : ℕ} (hj : j < 144) (ht : t < 512) :
    g2 (N := 144) (M := 512) (vtaOf vt) j t = if j < 128 then g2 (N := 128) (M := 512) vt j t else 1 := by
  rw [g2_of _ hj ht]; pointwise [vtaOf]
  split_ifs with h
  · rw [g2_of _ h ht]
  · rfl

/-- A small code, as a float and back, as a 16-bit word. -/
theorem word16 (v : BitVec 32) (h : v.toNat < 1024) : BitVec.setWidth 16 (Ideal.fptosi 32 ((v.toInt : ℝ) : EReal)) = BitVec.ofNat 16 v.toNat := by
  have e : v.toInt = (v.toNat : ℤ) := by rw [BitVec.toInt_eq_toNat_cond]; split_ifs <;> omega
  have f : Ideal.toIntClamped (-(2 ^ (32 - 1) : Nat)) ((2 ^ (32 - 1) : Nat) - 1) (((v.toNat : ℤ) : ℝ) : EReal) = (v.toNat : ℤ) := by
    show max _ (min _ (if (0 : ℝ) ≤ ((v.toNat : ℤ) : ℝ) then ⌊((v.toNat : ℤ) : ℝ)⌋ else _)) = _
    rw [if_pos (by exact_mod_cast Nat.zero_le _), Int.floor_intCast]
    norm_num
    omega
  rw [e]
  unfold Ideal.fptosi
  rw [f]
  apply BitVec.eq_of_toNat_eq
  simp

theorem kcol_apply (k0 k1 k2 k3 : Vec Ideal S1x1x128 .i32) (kk : ℕ → BitVec 32) (hk : ∀ t, (kk t).toNat < 1024)
    (h0 : ∀ t < 128, gk (M := 128) k0 t = kk t) (h1 : ∀ t < 128, gk (M := 128) k1 t = kk (128 + t))
    (h2 : ∀ t < 128, gk (M := 128) k2 t = kk (256 + t)) (h3 : ∀ t < 128, gk (M := 128) k3 t = kk (384 + t)) (t : Fin 512) (l : Fin 128) :
    kcolOf (F := Ideal) k0 k1 k2 k3 (ix2 t l) = BitVec.ofNat 16 (kk t).toNat := by
  have hw : ∀ v : BitVec 32, v = kk t → BitVec.setWidth 16 (Ideal.fptosi 32 ((v.toInt : ℝ) : EReal)) = BitVec.ofNat 16 (kk t).toNat :=
    fun v hv => by rw [hv]; exact word16 _ (hk _)
  pointwise [kcolOf, kRows]
  by_cases a : t.val < 128
  · rw [dif_pos a]; exact hw _ ((gk_of k0 a).symm.trans (h0 _ a))
  rw [dif_neg a]
  by_cases b : t.val - 128 < 128
  · rw [dif_pos b]; exact hw _ ((gk_of k1 b).symm.trans ((h1 _ b).trans (congrArg kk (by omega))))
  rw [dif_neg b]
  by_cases c : t.val - 128 - 128 < 128
  · rw [dif_pos c]; exact hw _ ((gk_of k2 c).symm.trans ((h2 _ c).trans (congrArg kk (by omega))))
  rw [dif_neg c]
  exact hw _ ((gk_of k3 (show t.val - 128 - 128 - 128 < 128 by omega)).symm.trans ((h3 _ (by omega)).trans (congrArg kk (by omega))))

theorem hot_word {kk o l : ℕ} (hl : l < 128) (hkk : kk < 1024) (ho : o < 1024) :
    (Scalar.select (IntOp.cmpi CmpIPredicate.eq (BitVec.ofNat 16 kk) (IntOp.addi (BitVec.ofNat 16 l) (BitVec.ofNat 16 o))) (1 : EReal) 0 : EReal)
      = if kk = o + l then 1 else 0 := by
  have e : IntOp.addi (BitVec.ofNat 16 l) (BitVec.ofNat 16 o) = BitVec.ofNat 16 (o + l) := by
    apply BitVec.eq_of_toNat_eq; simp [IntOp.addi]; omega
  rw [e]
  by_cases h : kk = o + l
  · subst h; simp [IntOp.cmpi, Scalar.select]
  · have : BitVec.ofNat 16 kk ≠ BitVec.ofNat 16 (o + l) := fun h' => h (by
      have := congrArg BitVec.toNat h'; simp at this; omega)
    rw [if_neg h]
    show (if BitVec.ofBool (BitVec.ofNat 16 kk == BitVec.ofNat 16 (o + l)) = 1#1 then (1 : EReal) else 0) = 0
    rw [beq_eq_false_iff_ne.2 this]; rfl

/-- The additions to 256 codes: the sum over the keys that have the code. -/
theorem g2_duOf (vta : FVec Ideal S144x512 .bf16) (k : IVec S512x128 16) (kk : ℕ → ℕ) (hkk : ∀ t, kk t < 1024)
    (hk : ∀ (t : Fin 512) (l : Fin 128), k (ix2 t l) = BitVec.ofNat 16 (kk t)) {o : ℕ} (ho : o + 128 < 1024) {j c : ℕ} (hj : j < 144) (hc : c < 256) :
    g2 (N := 144) (M := 256) (duOf vta k (BitVec.ofNat 16 o) (BitVec.ofNat 16 (o + 128))) j c
      = ∑ t ∈ Finset.range 512, g2 (N := 144) (M := 512) vta j t * (if kk t = o + c then 1 else 0) := by
  rw [g2_of _ hj hc]; pointwise [duOf, hot]
  refine sum_fin _ _ fun t => ?_
  rw [g2_of _ hj t.isLt]
  congr 1
  by_cases h : c < 128
  · rw [dif_pos h, hk]; exact hot_word h (hkk _) (by omega)
  · rw [dif_neg h, hk]; refine (hot_word (l := c - 128) (by omega) (hkk _) ho).trans ?_
    rw [show o + 128 + (c - 128) = o + c from by omega]

theorem g2_uAddSt (du : FVec Ideal S144x256 .f32) (u : Vec Ideal S128x256 .f32) {j c : ℕ} (hj : j < 128) (hc : c < 256) :
    g2 (N := 128) (M := 256) (uAddSt du u) j c = g2 (N := 128) (M := 256) u j c + g2 (N := 144) (M := 256) du j c := by
  rw [g2_of _ hj hc, g2_of _ hj hc, g2_of _ (by omega) hc]; pointwise [uAddSt, uAdd]

theorem g2_uAddbSt (du : FVec Ideal S144x256 .f32) (u : Vec Ideal S128x256 .f32) {j c : ℕ} (hj : j < 128) (hc : c < 256) :
    g2 (N := 128) (M := 256) (uAddbSt du u) j c = g2 (N := 128) (M := 256) u j c + g2 (N := 144) (M := 256) du j c := by
  rw [g2_of _ hj hc, g2_of _ hj hc, g2_of _ (by omega) hc]; pointwise [uAddbSt, uAdd]

theorem g2_cAddSt (du : FVec Ideal S144x256 .f32) (u : Vec Ideal S8x256 .f32) {i c : ℕ} (hi : i < 8) (hc : c < 256) :
    g2 (N := 8) (M := 256) (cAddSt du u) i c = g2 (N := 8) (M := 256) u i c + g2 (N := 144) (M := 256) du (128 + i) c := by
  rw [g2_of _ hi hc, g2_of _ hi hc, g2_of _ (by omega) hc]; pointwise [cAddSt]

end Cert.Body
-- ==== Proof.Loops.lean ====
/- What the body's loops do to the contents, over the extended reals: each leaves every other buffer as it was. -/
module

public import proofs.«01_k».proof.Proof.Pay
public import proofs.«01_k».proof.Proof.Codes

@[expose] public section

set_option maxRecDepth 16384

noncomputable section

namespace Cert.Body

open Idealize.ShloMosaic
open Cert.KernelIdeal Cert.KernelIdeal.Gen Cert.NatAt Cert.Cmd

/-- Contents of the buffers over the extended reals. -/
abbrev CI : Type := (b : Nm) → b.sh.Idx → Elt Ideal b.el

/-! ## The buffers read at natural numbers -/

def aLhs (X : CI) : ℕ → ℕ → EReal := g2 (N := 1536) (M := 256) (X .lhs)
def aKg (X : CI) : ℕ → ℕ → EReal := g2 (N := 512) (M := 128) (X .kg)
def aS (X : CI) : ℕ → ℕ → EReal := g2 (N := 1536) (M := 256) (X .s)
def aP (X : CI) : ℕ → ℕ → EReal := g2 (N := 1536) (M := 256) (X .p)
def aUt (X : CI) : ℕ → ℕ → EReal := g2 (N := 128) (M := 1024) (X .ut)
def aUtb (X : CI) : ℕ → ℕ → EReal := g2 (N := 128) (M := 1024) (X .utb)
def aCnt (X : CI) : ℕ → ℕ → EReal := g2 (N := 8) (M := 1024) (X .cnt)
def aCntc (X : CI) : ℕ → ℕ → EReal := g2 (N := 1024) (M := 128) (X .cntc)
def aQ (X : CI) : ℕ → ℕ → EReal := g3 (L := 1) (N := 128) (M := 512) (X .q) 0
def aV (X : CI) : ℕ → ℕ → EReal := g3 (L := 1) (N := 128) (M := 512) (X .v) 0
def aVs (X : CI) : ℕ → EReal := g3 (L := 1) (N := 1) (M := 512) (X .vs) 0 0
def aCb (X : CI) : ℕ → ℕ → EReal := g3 (L := 1) (N := 1024) (M := 128) (X .cb) 0
def aCbf (X : CI) : ℕ → ℕ → EReal := g3 (L := 1) (N := 1024) (M := 128) (X .cbf) 0
def aU0 (X : CI) : ℕ → ℕ → EReal := g3 (L := 1) (N := 1024) (M := 128) (X .u0) 0
def aC0 (X : CI) : ℕ → EReal := g3 (L := 1) (N := 1) (M := 1024) (X .c0) 0 0
def aOut (X : CI) : ℕ → ℕ → EReal := g3 (L := 1) (N := 512) (M := 128) (X .out) 0
def aUf (X : CI) : ℕ → ℕ → EReal := g3 (L := 1) (N := 1024) (M := 128) (X .uf) 0
def aCf (X : CI) : ℕ → EReal := g3 (L := 1) (N := 1) (M := 1024) (X .cf) 0 0
def aKsm (X : CI) : ℕ → BitVec 32 := gk (M := 512) (X .ksm)
def aK (X : CI) : ℕ → BitVec 32 := gk (M := 512) (X .k)

variable {sig : RefSig} (O : Ops sig) {α : Type}

/-! ## One step -/

theorem load_wp {b : Nm} {off size : Fin (O.bufs.sh b).rank → ℕ} {inb} {hl} {k : _ → Cm Ideal O α} {X : CI} {Q : α → CI → Prop}
    (h : ∀ x, x = VecWindow.window (s := O.bufs.sh b) (X b) off size inb → (k x).wp (S := O.bufs) X Q) :
    (C.load (S := O.bufs) b off size inb hl k).wp (S := O.bufs) X Q := h _ rfl

theorem store_wp {b : Nm} {off size : Fin (O.bufs.sh b).rank → ℕ} {inb} {w} {hx} {k : Cm Ideal O α} {X : CI} {Q : α → CI → Prop}
    (h : ∀ X' : CI, (∀ b', b' ≠ b → X' b' = X b') → X' b = VecWindow.put (s := O.bufs.sh b) (X b) off size w → k.wp (S := O.bufs) X' Q) :
    (C.store (S := O.bufs) b off size inb w hx k).wp (S := O.bufs) X Q :=
  h _ (fun _ hb => Function.update_of_ne hb _ _) (Function.update_self _ _ _)

/-! ## The loops -/

theorem refresh_wp (neg : EReal) (n j : Nat) (h : j + n ≤ 8) (κ : Cm Ideal O α) (X : CI) (Q : α → CI → Prop)
    (hκ : ∀ X' : CI, (∀ b, b ≠ .cntc → b ≠ .lhs → X' b = X b) →
      (∀ r c, aCntc X' r c = if 128 * j ≤ r ∧ r < 128 * (j + n) ∧ c < 128 then aCnt X 0 r else aCntc X r c) →
      (∀ r c, aLhs X' r c = if 128 * j ≤ r ∧ r < 128 * (j + n) ∧ 128 ≤ c ∧ c < 256 then maskOf neg (aCnt X 0 r) else aLhs X r c) →
      κ.wp (S := O.bufs) X' Q) :
    (refresh (F := Ideal) O neg n j h κ).wp (S := O.bufs) X Q := by
  induction n generalizing j X with
  | zero =>
    exact hκ X (fun _ _ _ => rfl) (fun r c => by rw [if_neg (by omega)]) (fun r c => by rw [if_neg (by omega)])
  | succ n ih =>
    refine load_wp O fun x hx => load_wp O fun _ _ => store_wp O fun X1 k1 e1 => load_wp O fun _ _ => store_wp O fun X2 k2 e2 => ih (j + 1) _ X2 ?_
    intro X' k3 e3 e4
    have w : ∀ c < 128, g2 (N := 1) (M := 128) x 0 c = aCnt X 0 (128 * j + c) := fun c hc => by
      rw [hx]; exact g2_window (N := 8) (M := 1024) (n := 1) (m := 128) (X .cnt) _ (by omega) hc
    have c2 : ∀ r, aCnt X2 0 r = aCnt X 0 r := fun r => by unfold aCnt; rw [k2 .cnt (by decide), k1 .cnt (by decide)]
    have s1 : ∀ r c, aCntc X2 r c = if 128 * j ≤ r ∧ r < 128 * j + 128 ∧ 0 ≤ c ∧ c < 0 + 128 then aCnt X 0 r else aCntc X r c := fun r c => by
      unfold aCntc; rw [k2 .cntc (by decide), e1]
      refine (g2_put (N := 1024) (M := 128) (n := 128) (m := 128) (X .cntc) (by omega) (by omega) _ r c).trans ?_
      by_cases hb : 128 * j ≤ r ∧ r < 128 * j + 128 ∧ 0 ≤ c ∧ c < 0 + 128
      · rw [if_pos hb, if_pos hb]; refine (g2_colSt (r := r - 128 * j) (c := c - 0) _ (by omega) (by omega)).trans ?_; rw [w _ (by omega)]; congr 1; omega
      · rw [if_neg hb, if_neg hb]
    have s2 : ∀ r c, aLhs X2 r c = if 128 * j ≤ r ∧ r < 128 * j + 128 ∧ 128 ≤ c ∧ c < 128 + 128 then maskOf neg (aCnt X 0 r) else aLhs X r c := fun r c => by
      unfold aLhs; rw [e2, k1 .lhs (by decide)]
      refine (g2_put (N := 1536) (M := 256) (n := 128) (m := 128) (X .lhs) (by omega) (by omega) _ r c).trans ?_
      by_cases hb : 128 * j ≤ r ∧ r < 128 * j + 128 ∧ 128 ≤ c ∧ c < 128 + 128
      · rw [if_pos hb, if_pos hb]; refine (g2_maskCol (r := r - 128 * j) (c := c - 128) _ _ (by omega) (by omega)).trans ?_; rw [w _ (by omega)]; congr 2; omega
      · rw [if_neg hb, if_neg hb]
    refine hκ X' (fun b hb hb' => (k3 b hb hb').trans ((k2 b hb').trans (k1 b hb))) (fun r c => ?_) (fun r c => ?_)
    · rw [e3, c2, s1]; split_ifs <;> first | rfl | omega
    · rw [e4, c2, s2]; split_ifs <;> first | rfl | omega

theorem gather_wp (n t : Nat) (h : t + n ≤ 512) (κ : Cm Ideal O α) (X : CI) (Q : α → CI → Prop)
    (hk : ∀ t < 512, (aKsm X t).toNat < 1024)
    (hκ : ∀ X' : CI, (∀ b, b ≠ .kg → X' b = X b) →
      (∀ r c, aKg X' r c = if t ≤ r ∧ r < t + n ∧ c < 128 then aCbf X (aKsm X r).toNat c else aKg X r c) →
      κ.wp (S := O.bufs) X' Q) :
    (gather (F := Ideal) O n t h κ).wp (S := O.bufs) X Q := by
  induction n generalizing t X with
  | zero => exact hκ X (fun _ _ => rfl) (fun r c => by rw [if_neg (by omega)])
  | succ n ih =>
    refine load_wp O fun f hf => ?_
    have ef : f (Shape.Idx.first (by exact Nat.one_pos)) = aKsm X t := by
      have e0 : f (Shape.Idx.first (by exact Nat.one_pos)) = gk (M := 1) f 0 :=
        (congrArg f (funext fun a => by fin_cases a <;> rfl)).trans (gk_of (M := 1) f (t := 0) Nat.one_pos).symm
      rw [e0, hf]; exact gk_window (M := 512) (m := 1) (X .ksm) _ (by omega)
    have hw : kChk (f (Shape.Idx.first (by exact Nat.one_pos))) := by
      rw [ef]; exact chk_of_lt _ (hk t (by omega))
    refine ⟨hw, load_wp O fun x hx => load_wp O fun _ _ => store_wp O fun X1 k1 e1 => ih (t + 1) _ X1 ?_ ?_⟩
    · intro t ht; have := hk t ht; unfold aKsm at *; rwa [k1 .ksm (by decide)]
    intro X' k3 e3
    have ck : ∀ r, aKsm X1 r = aKsm X r := fun r => by unfold aKsm; rw [k1 .ksm (by decide)]
    have cc : ∀ r c, aCbf X1 r c = aCbf X r c := fun r c => by unfold aCbf; rw [k1 .cbf (by decide)]
    have s1 : ∀ r c, aKg X1 r c = if t ≤ r ∧ r < t + 1 ∧ 0 ≤ c ∧ c < 0 + 128 then aCbf X (aKsm X r).toNat c else aKg X r c := fun r c => by
      unfold aKg; rw [e1]
      refine (g2_put (N := 512) (M := 128) (n := 1) (m := 128) (X .kg) (by omega) (by omega) _ r c).trans ?_
      by_cases hb : t ≤ r ∧ r < t + 1 ∧ 0 ≤ c ∧ c < 0 + 128
      · rw [if_pos hb, if_pos hb]
        have : r = t := by omega
        subst this
        rw [Nat.sub_self, Nat.sub_zero]; refine (g2_rowSt (j := c) _ (by omega)).trans ?_
        rw [hx, ← ef]
        refine (g3_window (L := 1) (N := 1024) (M := 128) (l := 1) (n := 1) (m := 128) (r0 := (f (Shape.Idx.first (by exact Nat.one_pos))).toNat)
          (X .cbf) hw (a := 0) (r := 0) (c := c) (by omega) (by omega) (by omega)).trans ?_
        rw [Nat.zero_add, Nat.add_zero, Nat.zero_add]; rfl
      · rw [if_neg hb, if_neg hb]
    refine hκ X' (fun b hb => (k3 b hb).trans (k1 b hb)) (fun r c => ?_)
    rw [e3, ck, cc, s1]; split_ifs <;> first | rfl | omega

/-- The weight of row `r` of the scores for a query, from the maximum `m`. -/
def wt (c : EReal) (S : ℕ → ℕ → EReal) (m : ℕ → EReal) (r q : ℕ) : EReal := Ideal.exp2 ((S r q - m q) * c)

theorem codes_wp (c : EReal) (m : FVec Ideal S1x256 .f32) (n i : Nat) (h : i + n ≤ 8) (den : FVec Ideal S8x256 .f32)
    (κ : FVec Ideal S8x256 .f32 → Cm Ideal O α) (X : CI) (Q : α → CI → Prop)
    (hκ : ∀ (X' : CI) (den' : FVec Ideal S8x256 .f32), (∀ b, b ≠ .p → X' b = X b) →
      (∀ r q, aP X' r q = if 128 * i ≤ r ∧ r < 128 * (i + n) ∧ q < 256 then wt c (aS X) (g2 (N := 1) (M := 256) m 0) r q else aP X r q) →
      (∀ a q, a < 8 → q < 256 → g2 (N := 8) (M := 256) den' a q = g2 (N := 8) (M := 256) den a q
        + ∑ g ∈ Finset.range (16 * n), wt c (aS X) (g2 (N := 1) (M := 256) m 0) (128 * i + (8 * g + a)) q * aCntc X (128 * i + (8 * g + a)) (q % 128)) →
      (κ den').wp (S := O.bufs) X' Q) :
    (codes (F := Ideal) O c m n i h den κ).wp (S := O.bufs) X Q := by
  induction n generalizing i X den with
  | zero => exact hκ X den (fun _ _ => rfl) (fun r c => by rw [if_neg (by omega)]) (fun a q _ _ => by simp)
  | succ n ih =>
    refine load_wp O fun s hs => load_wp O fun x hx => load_wp O fun _ _ => store_wp O fun X1 k1 e1 => ih (i + 1) _ _ X1 ?_
    intro X' den' k3 e3 d3
    have cs : aS X1 = aS X := by unfold aS; rw [k1 .s (by decide)]
    have cc : aCntc X1 = aCntc X := by unfold aCntc; rw [k1 .cntc (by decide)]
    have ws : ∀ r q, r < 128 → q < 256 → g2 (N := 128) (M := 256) s r q = aS X (128 * i + r) q := fun r q hr hq => by
      rw [hs]; exact (g2_window (N := 1536) (M := 256) (n := 128) (m := 256) (X .s) _ hr hq).trans (by rw [Nat.zero_add]; rfl)
    have wx : ∀ r q, r < 128 → q < 128 → g2 (N := 128) (M := 128) x r q = aCntc X (128 * i + r) q := fun r q hr hq => by
      rw [hx]; exact (g2_window (N := 1024) (M := 128) (n := 128) (m := 128) (X .cntc) _ hr hq).trans (by rw [Nat.zero_add]; rfl)
    have s1 : ∀ r q, aP X1 r q = if 128 * i ≤ r ∧ r < 128 * i + 128 ∧ 0 ≤ q ∧ q < 0 + 256 then wt c (aS X) (g2 (N := 1) (M := 256) m 0) r q else aP X r q := fun r q => by
      unfold aP; rw [e1]
      refine (g2_put (N := 1536) (M := 256) (n := 128) (m := 256) (X .p) (by omega) (by omega) _ r q).trans ?_
      by_cases hb : 128 * i ≤ r ∧ r < 128 * i + 128 ∧ 0 ≤ q ∧ q < 0 + 256
      · rw [if_pos hb, if_pos hb, Nat.sub_zero]
        refine ((g2_wgtSt (r := r - 128 * i) (i := q) _ _ _ (by omega) (by omega)).trans
          (g2_wgt (r := r - 128 * i) (i := q) _ _ _ (by omega) (by omega))).trans ?_
        rw [ws _ _ (by omega) (by omega), show 128 * i + (r - 128 * i) = r from by omega]; rfl
      · rw [if_neg hb, if_neg hb]
    refine hκ X' den' (fun b hb => (k3 b hb).trans (k1 b hb)) (fun r q => ?_) (fun a q ha hq => ?_)
    · rw [e3, cs, s1]; split_ifs <;> first | rfl | omega
    · rw [d3 a q ha hq, cs, cc, g2_accum _ _ ha hq, show 16 * (n + 1) = 16 + 16 * n from by omega, Finset.sum_range_add, add_assoc]
      congr 2
      · refine Finset.sum_congr rfl fun g hg => ?_
        have hg' := Finset.mem_range.1 hg
        refine (g2_mulTwice (r := 8 * g + a) (i := q) _ _ (by omega) hq).trans (congrArg₂ _ ?_ (wx _ _ (by omega) (by omega)))
        refine (g2_wgt (r := 8 * g + a) (i := q) _ _ _ (by omega) hq).trans ?_
        rw [ws _ _ (by omega) hq]; rfl
      · refine Finset.sum_congr rfl fun g _ => ?_
        rw [show 128 * (i + 1) + (8 * g + a) = 128 * i + (8 * (16 + g) + a) from by omega]

theorem keys_wp (c : EReal) (m : FVec Ideal S1x256 .f32) (n i : Nat) (h : i + n ≤ 12) (den : FVec Ideal S8x256 .f32)
    (κ : FVec Ideal S8x256 .f32 → Cm Ideal O α) (X : CI) (Q : α → CI → Prop)
    (hκ : ∀ (X' : CI) (den' : FVec Ideal S8x256 .f32), (∀ b, b ≠ .p → X' b = X b) →
      (∀ r q, aP X' r q = if 128 * i ≤ r ∧ r < 128 * (i + n) ∧ q < 256 then wt c (aS X) (g2 (N := 1) (M := 256) m 0) r q else aP X r q) →
      (∀ a q, a < 8 → q < 256 → g2 (N := 8) (M := 256) den' a q = g2 (N := 8) (M := 256) den a q
        + ∑ g ∈ Finset.range (16 * n), wt c (aS X) (g2 (N := 1) (M := 256) m 0) (128 * i + (8 * g + a)) q) →
      (κ den').wp (S := O.bufs) X' Q) :
    (keys (F := Ideal) O c m n i h den κ).wp (S := O.bufs) X Q := by
  induction n generalizing i X den with
  | zero => exact hκ X den (fun _ _ => rfl) (fun r c => by rw [if_neg (by omega)]) (fun a q _ _ => by simp)
  | succ n ih =>
    refine load_wp O fun s hs => load_wp O fun _ _ => store_wp O fun X1 k1 e1 => ih (i + 1) _ _ X1 ?_
    intro X' den' k3 e3 d3
    have cs : aS X1 = aS X := by unfold aS; rw [k1 .s (by decide)]
    have ws : ∀ r q, r < 128 → q < 256 → g2 (N := 128) (M := 256) s r q = aS X (128 * i + r) q := fun r q hr hq => by
      rw [hs]; exact (g2_window (N := 1536) (M := 256) (n := 128) (m := 256) (X .s) _ hr hq).trans (by rw [Nat.zero_add]; rfl)
    have s1 : ∀ r q, aP X1 r q = if 128 * i ≤ r ∧ r < 128 * i + 128 ∧ 0 ≤ q ∧ q < 0 + 256 then wt c (aS X) (g2 (N := 1) (M := 256) m 0) r q else aP X r q := fun r q => by
      unfold aP; rw [e1]
      refine (g2_put (N := 1536) (M := 256) (n := 128) (m := 256) (X .p) (by omega) (by omega) _ r q).trans ?_
      by_cases hb : 128 * i ≤ r ∧ r < 128 * i + 128 ∧ 0 ≤ q ∧ q < 0 + 256
      · rw [if_pos hb, if_pos hb, Nat.sub_zero]
        refine ((g2_wgtSt (r := r - 128 * i) (i := q) _ _ _ (by omega) (by omega)).trans
          (g2_wgt (r := r - 128 * i) (i := q) _ _ _ (by omega) (by omega))).trans ?_
        rw [ws _ _ (by omega) (by omega), show 128 * i + (r - 128 * i) = r from by omega]; rfl
      · rw [if_neg hb, if_neg hb]
    refine hκ X' den' (fun b hb => (k3 b hb).trans (k1 b hb)) (fun r q => ?_) (fun a q ha hq => ?_)
    · rw [e3, cs, s1]; split_ifs <;> first | rfl | omega
    · rw [d3 a q ha hq, cs, g2_accum _ _ ha hq, show 16 * (n + 1) = 16 + 16 * n from by omega, Finset.sum_range_add, add_assoc]
      congr 2
      · refine Finset.sum_congr rfl fun g hg => ?_
        have hg' := Finset.mem_range.1 hg
        refine (g2_wgt (r := 8 * g + a) (i := q) _ _ _ (by omega) hq).trans ?_
        rw [ws _ _ (by omega) hq]; rfl
      · refine Finset.sum_congr rfl fun g _ => ?_
        rw [show 128 * (i + 1) + (8 * g + a) = 128 * i + (8 * (16 + g) + a) from by omega]

theorem update_wp (vta : FVec Ideal S144x512 .bf16) (kcol : IVec S512x128 16) (kk : ℕ → ℕ) (hkk : ∀ t, kk t < 1024)
    (hk : ∀ (t : Fin 512) (l : Fin 128), kcol (ix2 t l) = BitVec.ofNat 16 (kk t)) (n j : Nat) (h : j + n ≤ 4) (κ : Cm Ideal O α) (X : CI) (Q : α → CI → Prop)
    (hu : ∀ f c, f < 128 → c < 1024 → aUtb X f c = aUt X f c)
    (hκ : ∀ X' : CI, (∀ b, b ≠ .ut → b ≠ .utb → b ≠ .cnt → X' b = X b) →
      (∀ f c, f < 128 → aUt X' f c = if 256 * j ≤ c ∧ c < 256 * (j + n)
        then aUt X f c + ∑ t ∈ Finset.range 512, g2 (N := 144) (M := 512) vta f t * (if kk t = c then 1 else 0) else aUt X f c) →
      (∀ f c, f < 128 → c < 1024 → aUtb X' f c = aUt X' f c) →
      (∀ i c, i < 8 → aCnt X' i c = if 256 * j ≤ c ∧ c < 256 * (j + n)
        then aCnt X i c + ∑ t ∈ Finset.range 512, g2 (N := 144) (M := 512) vta (128 + i) t * (if kk t = c then 1 else 0) else aCnt X i c) →
      κ.wp (S := O.bufs) X' Q) :
    (update (F := Ideal) O vta kcol n j h κ).wp (S := O.bufs) X Q := by
  induction n generalizing j X with
  | zero =>
    exact hκ X (fun _ _ _ _ => rfl) (fun f c _ => by rw [if_neg (by omega)]) hu (fun f c _ => by rw [if_neg (by omega)])
  | succ n ih =>
    refine load_wp O fun u hx => load_wp O fun _ _ => store_wp O fun X1 k1 e1 => load_wp O fun _ _ => store_wp O fun X2 k2 e2 =>
      load_wp O fun x hx' => load_wp O fun _ _ => store_wp O fun X3 k3 e3 => ih (j + 1) _ X3 ?_ ?_
    all_goals
      have wu : ∀ f c, f < 128 → c < 256 → g2 (N := 128) (M := 256) u f c = aUt X f (256 * j + c) := fun f c hf hc => by
        rw [hx]; exact (g2_window (N := 128) (M := 1024) (n := 128) (m := 256) (X .ut) _ hf hc).trans (by rw [Nat.zero_add]; rfl)
      have wx : ∀ f c, f < 8 → c < 256 → g2 (N := 8) (M := 256) x f c = aCnt X f (256 * j + c) := fun f c hf hc => by
        rw [hx', k2 .cnt (by decide), k1 .cnt (by decide)]
        exact (g2_window (N := 8) (M := 1024) (n := 8) (m := 256) (X .cnt) _ hf hc).trans (by rw [Nat.zero_add]; rfl)
      have s1 : ∀ f c, aUt X3 f c = if 0 ≤ f ∧ f < 0 + 128 ∧ 256 * j ≤ c ∧ c < 256 * j + 256
          then aUt X f c + ∑ t ∈ Finset.range 512, g2 (N := 144) (M := 512) vta f t * (if kk t = c then 1 else 0) else aUt X f c := fun f c => by
        unfold aUt; rw [k3 .ut (by decide), k2 .ut (by decide), e1]
        refine (g2_put (N := 128) (M := 1024) (n := 128) (m := 256) (X .ut) (by omega) (by omega) _ f c).trans ?_
        by_cases hb : 0 ≤ f ∧ f < 0 + 128 ∧ 256 * j ≤ c ∧ c < 256 * j + 256
        · rw [if_pos hb, if_pos hb, Nat.sub_zero]; refine (g2_uAddSt (j := f) (c := c - 256 * j) _ _ (by omega) (by omega)).trans ?_; rw [wu _ _ (by omega) (by omega),
            g2_duOf (j := f) (c := c - 256 * j) vta kcol kk hkk hk (by omega) (by omega) (by omega), show 256 * j + (c - 256 * j) = c from by omega]; rfl
        · rw [if_neg hb, if_neg hb]
      have s2 : ∀ f c, aUtb X3 f c = if 0 ≤ f ∧ f < 0 + 128 ∧ 256 * j ≤ c ∧ c < 256 * j + 256
          then aUt X f c + ∑ t ∈ Finset.range 512, g2 (N := 144) (M := 512) vta f t * (if kk t = c then 1 else 0) else aUtb X f c := fun f c => by
        unfold aUtb; rw [k3 .utb (by decide), e2, k1 .utb (by decide)]
        refine (g2_put (N := 128) (M := 1024) (n := 128) (m := 256) (X .utb) (by omega) (by omega) _ f c).trans ?_
        by_cases hb : 0 ≤ f ∧ f < 0 + 128 ∧ 256 * j ≤ c ∧ c < 256 * j + 256
        · rw [if_pos hb, if_pos hb, Nat.sub_zero]; refine (g2_uAddbSt (j := f) (c := c - 256 * j) _ _ (by omega) (by omega)).trans ?_; rw [wu _ _ (by omega) (by omega),
            g2_duOf (j := f) (c := c - 256 * j) vta kcol kk hkk hk (by omega) (by omega) (by omega), show 256 * j + (c - 256 * j) = c from by omega]
        · rw [if_neg hb, if_neg hb]
      have s3 : ∀ i c, aCnt X3 i c = if 0 ≤ i ∧ i < 0 + 8 ∧ 256 * j ≤ c ∧ c < 256 * j + 256
          then aCnt X i c + ∑ t ∈ Finset.range 512, g2 (N := 144) (M := 512) vta (128 + i) t * (if kk t = c then 1 else 0) else aCnt X i c := fun f c => by
        unfold aCnt; rw [e3, k2 .cnt (by decide), k1 .cnt (by decide)]
        refine (g2_put (N := 8) (M := 1024) (n := 8) (m := 256) (X .cnt) (by omega) (by omega) _ f c).trans ?_
        by_cases hb : 0 ≤ f ∧ f < 0 + 8 ∧ 256 * j ≤ c ∧ c < 256 * j + 256
        · rw [if_pos hb, if_pos hb, Nat.sub_zero]; refine (g2_cAddSt (i := f) (c := c - 256 * j) _ _ (by omega) (by omega)).trans ?_; rw [wx _ _ (by omega) (by omega),
            g2_duOf (j := 128 + f) (c := c - 256 * j) vta kcol kk hkk hk (by omega) (by omega) (by omega), show 256 * j + (c - 256 * j) = c from by omega]; rfl
        · rw [if_neg hb, if_neg hb]
    · intro f c hf hc; rw [s1, s2, hu f c hf hc]
    intro X' k4 e4 e5 e6
    refine hκ X' (fun b hb hb' hb'' => (k4 b hb hb' hb'').trans ((k3 b hb'').trans ((k2 b hb').trans (k1 b hb)))) (fun f c hf => ?_) e5 (fun i c hi => ?_)
    · rw [e4 f c hf, s1]; split_ifs <;> first | rfl | omega
    · rw [e6 i c hi, s3]; split_ifs <;> first | rfl | omega

end Cert.Body
-- ==== Proof.Attend.lean ====
/- The attention of a block: what its two halves leave in the output block, as a formula of the operands. -/
module

public import proofs.«01_k».proof.Proof.Loops

@[expose] public section

set_option maxRecDepth 16384

noncomputable section

namespace Cert.Body

open Idealize.ShloMosaic
open Cert.KernelIdeal Cert.KernelIdeal.Gen Cert.NatAt Cert.Cmd

/-! ## The formula

Rows 0 … 1023 are the codes, row 1024 + t is key t of the block. -/

/-- How many rows a query of the block is given: the keys of its half of the block and before. -/
def rowsOf (q : ℕ) : ℕ := if q < 256 then 1280 else 1536

/-- The score of a row: `neg` for a key after the query. -/
def scr (neg : EReal) (L Q : ℕ → ℕ → EReal) (r q : ℕ) : EReal := if r < 1024 ∨ r - 1024 ≤ q then score L Q r q else neg

def mx (neg : EReal) (L Q : ℕ → ℕ → EReal) (q : ℕ) : EReal := (Finset.range (rowsOf q)).sup fun r => scr neg L Q r q

/-- The weight of a row. -/
def wr (neg c : EReal) (L Q : ℕ → ℕ → EReal) (r q : ℕ) : EReal := wt c (scr neg L Q) (mx neg L Q) r q

/-- The output of a query: `U` the codes' state and `V` the keys' values, weighted, over the weights with the counters `K`. -/
def attOut (neg c : EReal) (L Q : ℕ → ℕ → EReal) (K : ℕ → EReal) (U V : ℕ → ℕ → EReal) (q j : ℕ) : EReal :=
  Ideal.div ((∑ r ∈ Finset.range 1024, U j r * wr neg c L Q r q) + ∑ t ∈ Finset.range (rowsOf q - 1024), V j t * wr neg c L Q (1024 + t) q)
    ((∑ r ∈ Finset.range 1024, wr neg c L Q r q * K r) + ∑ t ∈ Finset.range (rowsOf q - 1024), wr neg c L Q (1024 + t) q)

theorem score_congr {L L' Q Q' : ℕ → ℕ → EReal} {r q q' : ℕ} (hL : ∀ j ≤ 128, L r j = L' r j) (hQ : ∀ j < 128, Q j q = Q' j q') :
    score L Q r q = score L' Q' r q' := by
  unfold score
  rw [hL 128 (by omega)]
  congr 1
  exact Finset.sum_congr rfl fun j hj => by rw [hL j (Finset.mem_range.1 hj).le, hQ j (Finset.mem_range.1 hj)]

/-- The 8 rows of the denominator, together. -/
theorem den_sum (den : ℕ → EReal) (f g : ℕ → EReal) (n : ℕ)
    (h : ∀ a, a < 8 → den a = 0 + (∑ x ∈ Finset.range 128, f (8 * x + a)) + ∑ x ∈ Finset.range n, g (8 * x + a)) :
    ∑ a ∈ Finset.range 8, den a = (∑ r ∈ Finset.range 1024, f r) + ∑ r ∈ Finset.range (8 * n), g r := by
  rw [Finset.sum_congr rfl fun a ha => h a (Finset.mem_range.1 ha)]
  simp only [zero_add]
  rw [Finset.sum_add_distrib, sum_mod8, sum_mod8]

variable {sig : RefSig} (O : Ops sig) {α : Type}

theorem attend0_wp (neg c : EReal) (vt : FVec Ideal S128x512 .bf16) (κ : Cm Ideal O α) (X : CI) (Q : α → CI → Prop) (K : ℕ → EReal)
    (hK : ∀ r l, r < 1024 → l < 128 → aCntc X r l = K r)
    (hκ : ∀ X' : CI, (∀ b, b ≠ .s → b ≠ .p → b ≠ .out → X' b = X b) →
      (∀ q j, aOut X' q j = if 0 ≤ q ∧ q < 0 + 256 ∧ j < 128 then attOut neg c (aLhs X) (aQ X) K (aUtb X) (g2 (N := 128) (M := 512) vt) q j else aOut X q j) →
      κ.wp (S := O.bufs) X' Q) :
    (attend0 (F := Ideal) O neg c vt κ).wp (S := O.bufs) X Q := by
  refine load_wp O fun q hq => load_wp O fun lhs hl => load_wp O fun _ _ => store_wp O fun X1 k1 e1 => load_wp O fun _ _ => store_wp O fun X2 k2 e2 =>
    load_wp O fun s hs => codes_wp O c (max0 s) 8 0 _ den0 _ X2 Q ?_
  intro X3 den1 k3 p3 d3
  refine keys_wp O c (max0 s) 2 8 _ den1 _ X3 Q ?_
  intro X4 den2 k4 p4 d4
  refine load_wp O fun u hu => load_wp O fun g hg => load_wp O fun e he => load_wp O fun _ _ => store_wp O fun X5 k5 e5 => hκ X5 ?_ ?_
  · intro b h1 h2 h3
    rw [k5 b h3, k4 b h2, k3 b h2, k2 b h1, k1 b h1]
  have hsc : ∀ r i, r < 1280 → i < 256 → score (g2 (N := 1280) (M := 256) lhs) (fun j q' => g3 (L := 1) (N := 128) (M := 256) q 0 j q') r i
      = score (aLhs X) (aQ X) r (0 + i) := fun r i hr hi => score_congr
    (fun j hj => by rw [hl]; exact (g2_window (N := 1536) (M := 256) (n := 1280) (m := 256) (X .lhs) _ hr (by omega)).trans (by rw [Nat.zero_add, Nat.zero_add]; rfl))
    (fun j hj => by
      show g3 (L := 1) (N := 128) (M := 256) q 0 j i = _
      rw [hq]; exact (g3_window (L := 1) (N := 128) (M := 512) (l := 1) (n := 128) (m := 256) (X .q) _ (by omega) hj hi).trans
        (by rw [Nat.zero_add, Nat.zero_add]; rfl))
  have hS : ∀ r i, r < 1280 → i < 256 → aS X2 r i = scr neg (aLhs X) (aQ X) r (0 + i) := fun r i hr hi => by
    unfold aS scr
    rw [e2]
    refine (g2_put (N := 1536) (M := 256) (n := 256) (m := 256) (X1 .s) (by omega) (by omega) _ r i).trans ?_
    by_cases hb : 1024 ≤ r
    · rw [if_pos (by omega)]
      refine (g2_sDiag0 (r := r - 1024) (i := i - 0) neg _ _ (by omega) (by omega)).trans ?_
      rw [Nat.sub_zero, show 1024 + (r - 1024) = r from by omega]
      by_cases hc : r - 1024 ≤ i
      · rw [if_pos hc, if_pos (by omega)]; exact hsc r i hr hi
      · rw [if_neg hc, if_neg (by omega)]
    · rw [if_neg (by omega), if_pos (by omega), e1]
      refine (g2_put (N := 1536) (M := 256) (n := 1024) (m := 256) (X .s) (by omega) (by omega) _ r i).trans ?_
      rw [if_pos (by omega)]
      refine (g2_sLow0 (r := r - 0) (i := i - 0) _ _ (by omega) (by omega)).trans ?_
      exact hsc r i hr hi
  have hR : ∀ i, i < 256 → rowsOf (0 + i) = 1280 := fun i hi => by unfold rowsOf; rw [if_pos (by omega)]
  have hm : ∀ i, i < 256 → g2 (N := 1) (M := 256) (max0 (F := Ideal) s) 0 i = mx neg (aLhs X) (aQ X) (0 + i) := fun i hi => by
    refine (g2_max0 _ hi).trans ?_
    unfold mx
    rw [hR i hi]
    refine Finset.sup_congr rfl fun r hr => ?_
    have hr' := Finset.mem_range.1 hr
    rw [← hS r i hr' hi, hs]
    exact (g2_window (N := 1536) (M := 256) (n := 1280) (m := 256) (X2 .s) _ hr' hi).trans (by rw [Nat.zero_add, Nat.zero_add]; rfl)
  have hw : ∀ r i, r < 1280 → i < 256 → wt c (aS X2) (g2 (N := 1) (M := 256) (max0 (F := Ideal) s) 0) r i = wr neg c (aLhs X) (aQ X) r (0 + i) :=
    fun r i hr hi => by unfold wr wt; rw [hS r i hr hi, hm i hi]
  have cs : aS X3 = aS X2 := by unfold aS; rw [k3 .s (by decide)]
  have cc : aCntc X2 = aCntc X := by unfold aCntc; rw [k2 .cntc (by decide), k1 .cntc (by decide)]
  have cu : aUtb X4 = aUtb X := by unfold aUtb; rw [k4 .utb (by decide), k3 .utb (by decide), k2 .utb (by decide), k1 .utb (by decide)]
  have hden : ∀ i, i < 256 → ∑ a ∈ Finset.range 8, g2 (N := 8) (M := 256) den2 a i
      = (∑ r ∈ Finset.range 1024, wr neg c (aLhs X) (aQ X) r (0 + i) * K r) + ∑ r ∈ Finset.range 256, wr neg c (aLhs X) (aQ X) (1024 + r) (0 + i) := fun i hi => by
    refine den_sum (fun a => g2 (N := 8) (M := 256) den2 a i) (fun r => wr neg c (aLhs X) (aQ X) r (0 + i) * K r)
      (fun r => wr neg c (aLhs X) (aQ X) (1024 + r) (0 + i)) 32 fun a ha => ?_
    show g2 (N := 8) (M := 256) den2 a i = _
    rw [d4 a i ha hi, d3 a i ha hi, g2_den0, cs, cc]
    congr 1
    · congr 1
      refine Finset.sum_congr rfl fun x hx => ?_
      have hx' := Finset.mem_range.1 hx
      rw [Nat.mul_zero, Nat.zero_add, hw _ _ (by omega) hi, hK _ _ (by omega) (by omega)]
    · refine Finset.sum_congr rfl fun x hx => ?_
      have hx' := Finset.mem_range.1 hx
      rw [hw _ _ (by omega) hi]
  intro q' j
  unfold aOut
  rw [e5]
  refine (g3_put (L := 1) (N := 512) (M := 128) (l := 1) (n := 256) (m := 128) (X4 .out) (by omega) (by omega) (by omega) _ 0 q' j).trans ?_
  by_cases hb : 0 ≤ q' ∧ q' < 0 + 256 ∧ j < 128
  · obtain ⟨i, rfl⟩ : ∃ i, q' = 0 + i := ⟨q' - 0, by omega⟩
    have hi : i < 256 := by omega
    rw [if_pos (by omega), if_pos hb, show 0 + i - 0 = i from by omega]
    refine (g3_out0 (i := i) (j := j - 0) vt den2 _ _ _ hi (by omega)).trans ?_
    unfold attOut
    rw [hden i hi, hR i hi]
    congr 2
    · refine Finset.sum_congr rfl fun r hr => ?_
      have hr' := Finset.mem_range.1 hr
      refine congrArg₂ _ ?_ ?_
      · rw [hu, ← cu]
        exact (g2_window (N := 128) (M := 1024) (n := 128) (m := 1024) (X4 .utb) _ (by omega) hr').trans (by rw [Nat.zero_add, Nat.zero_add]; rfl)
      · rw [hg]
        refine (g2_window (N := 1536) (M := 256) (n := 1024) (m := 256) (X4 .p) _ hr' hi).trans ?_
        rw [Nat.zero_add, Nat.zero_add]
        refine (p4 r i).trans ?_
        rw [if_neg (by omega), p3, if_pos (by omega), hw _ _ (by omega) hi, Nat.zero_add]
    · refine Finset.sum_congr rfl fun t ht => ?_
      have ht' := Finset.mem_range.1 ht
      refine congrArg₂ _ rfl ?_
      rw [he]
      refine (g2_window (N := 1536) (M := 256) (n := 256) (m := 256) (X4 .p) _ (by omega) hi).trans ?_
      rw [Nat.zero_add]
      refine (p4 (1024 + t) i).trans ?_
      rw [if_pos (by omega), cs, hw _ _ (by omega) hi, Nat.zero_add]
  · rw [if_neg (by omega), if_neg hb, k4 .out (by decide), k3 .out (by decide), k2 .out (by decide), k1 .out (by decide)]

theorem attend1_wp (neg c : EReal) (vt : FVec Ideal S128x512 .bf16) (κ : Cm Ideal O α) (X : CI) (Q : α → CI → Prop) (K : ℕ → EReal)
    (hK : ∀ r l, r < 1024 → l < 128 → aCntc X r l = K r)
    (hκ : ∀ X' : CI, (∀ b, b ≠ .s → b ≠ .p → b ≠ .out → X' b = X b) →
      (∀ q j, aOut X' q j = if 256 ≤ q ∧ q < 256 + 256 ∧ j < 128 then attOut neg c (aLhs X) (aQ X) K (aUtb X) (g2 (N := 128) (M := 512) vt) q j else aOut X q j) →
      κ.wp (S := O.bufs) X' Q) :
    (attend1 (F := Ideal) O neg c vt κ).wp (S := O.bufs) X Q := by
  refine load_wp O fun q hq => load_wp O fun lhs hl => load_wp O fun _ _ => store_wp O fun X1 k1 e1 => load_wp O fun _ _ => store_wp O fun X2 k2 e2 =>
    load_wp O fun s hs => codes_wp O c (max1 s) 8 0 _ den0 _ X2 Q ?_
  intro X3 den1 k3 p3 d3
  refine keys_wp O c (max1 s) 4 8 _ den1 _ X3 Q ?_
  intro X4 den2 k4 p4 d4
  refine load_wp O fun u hu => load_wp O fun g hg => load_wp O fun e he => load_wp O fun _ _ => store_wp O fun X5 k5 e5 => hκ X5 ?_ ?_
  · intro b h1 h2 h3
    rw [k5 b h3, k4 b h2, k3 b h2, k2 b h1, k1 b h1]
  have hsc : ∀ r i, r < 1536 → i < 256 → score (g2 (N := 1536) (M := 256) lhs) (fun j q' => g3 (L := 1) (N := 128) (M := 256) q 0 j q') r i
      = score (aLhs X) (aQ X) r (256 + i) := fun r i hr hi => score_congr
    (fun j hj => by rw [hl]; exact (g2_window (N := 1536) (M := 256) (n := 1536) (m := 256) (X .lhs) _ hr (by omega)).trans (by rw [Nat.zero_add, Nat.zero_add]; rfl))
    (fun j hj => by
      show g3 (L := 1) (N := 128) (M := 256) q 0 j i = _
      rw [hq]; exact (g3_window (L := 1) (N := 128) (M := 512) (l := 1) (n := 128) (m := 256) (X .q) _ (by omega) hj hi).trans
        (by rw [Nat.zero_add, Nat.zero_add]; rfl))
  have hS : ∀ r i, r < 1536 → i < 256 → aS X2 r i = scr neg (aLhs X) (aQ X) r (256 + i) := fun r i hr hi => by
    unfold aS scr
    rw [e2]
    refine (g2_put (N := 1536) (M := 256) (n := 256) (m := 256) (X1 .s) (by omega) (by omega) _ r i).trans ?_
    by_cases hb : 1280 ≤ r
    · rw [if_pos (by omega)]
      refine (g2_sDiag1 (r := r - 1280) (i := i - 0) neg _ _ (by omega) (by omega)).trans ?_
      rw [Nat.sub_zero, show 1280 + (r - 1280) = r from by omega]
      by_cases hc : r - 1280 ≤ i
      · rw [if_pos hc, if_pos (by omega)]; exact hsc r i hr hi
      · rw [if_neg hc, if_neg (by omega)]
    · rw [if_neg (by omega), if_pos (by omega), e1]
      refine (g2_put (N := 1536) (M := 256) (n := 1280) (m := 256) (X .s) (by omega) (by omega) _ r i).trans ?_
      rw [if_pos (by omega)]
      refine (g2_sLow1 (r := r - 0) (i := i - 0) _ _ (by omega) (by omega)).trans ?_
      exact hsc r i hr hi
  have hR : ∀ i, i < 256 → rowsOf (256 + i) = 1536 := fun i hi => by unfold rowsOf; rw [if_neg (by omega)]
  have hm : ∀ i, i < 256 → g2 (N := 1) (M := 256) (max1 (F := Ideal) s) 0 i = mx neg (aLhs X) (aQ X) (256 + i) := fun i hi => by
    refine (g2_max1 _ hi).trans ?_
    unfold mx
    rw [hR i hi]
    refine Finset.sup_congr rfl fun r hr => ?_
    have hr' := Finset.mem_range.1 hr
    rw [← hS r i hr' hi, hs]
    exact (g2_window (N := 1536) (M := 256) (n := 1536) (m := 256) (X2 .s) _ hr' hi).trans (by rw [Nat.zero_add, Nat.zero_add]; rfl)
  have hw : ∀ r i, r < 1536 → i < 256 → wt c (aS X2) (g2 (N := 1) (M := 256) (max1 (F := Ideal) s) 0) r i = wr neg c (aLhs X) (aQ X) r (256 + i) :=
    fun r i hr hi => by unfold wr wt; rw [hS r i hr hi, hm i hi]
  have cs : aS X3 = aS X2 := by unfold aS; rw [k3 .s (by decide)]
  have cc : aCntc X2 = aCntc X := by unfold aCntc; rw [k2 .cntc (by decide), k1 .cntc (by decide)]
  have cu : aUtb X4 = aUtb X := by unfold aUtb; rw [k4 .utb (by decide), k3 .utb (by decide), k2 .utb (by decide), k1 .utb (by decide)]
  have hden : ∀ i, i < 256 → ∑ a ∈ Finset.range 8, g2 (N := 8) (M := 256) den2 a i
      = (∑ r ∈ Finset.range 1024, wr neg c (aLhs X) (aQ X) r (256 + i) * K r) + ∑ r ∈ Finset.range 512, wr neg c (aLhs X) (aQ X) (1024 + r) (256 + i) := fun i hi => by
    refine den_sum (fun a => g2 (N := 8) (M := 256) den2 a i) (fun r => wr neg c (aLhs X) (aQ X) r (256 + i) * K r)
      (fun r => wr neg c (aLhs X) (aQ X) (1024 + r) (256 + i)) 64 fun a ha => ?_
    show g2 (N := 8) (M := 256) den2 a i = _
    rw [d4 a i ha hi, d3 a i ha hi, g2_den0, cs, cc]
    congr 1
    · congr 1
      refine Finset.sum_congr rfl fun x hx => ?_
      have hx' := Finset.mem_range.1 hx
      rw [Nat.mul_zero, Nat.zero_add, hw _ _ (by omega) hi, hK _ _ (by omega) (by omega)]
    · refine Finset.sum_congr rfl fun x hx => ?_
      have hx' := Finset.mem_range.1 hx
      rw [hw _ _ (by omega) hi]
  intro q' j
  unfold aOut
  rw [e5]
  refine (g3_put (L := 1) (N := 512) (M := 128) (l := 1) (n := 256) (m := 128) (X4 .out) (by omega) (by omega) (by omega) _ 0 q' j).trans ?_
  by_cases hb : 256 ≤ q' ∧ q' < 256 + 256 ∧ j < 128
  · obtain ⟨i, rfl⟩ : ∃ i, q' = 256 + i := ⟨q' - 256, by omega⟩
    have hi : i < 256 := by omega
    rw [if_pos (by omega), if_pos hb, show 256 + i - 256 = i from by omega]
    refine (g3_out1 (i := i) (j := j - 0) vt den2 _ _ _ hi (by omega)).trans ?_
    unfold attOut
    rw [hden i hi, hR i hi]
    congr 2
    · refine Finset.sum_congr rfl fun r hr => ?_
      have hr' := Finset.mem_range.1 hr
      refine congrArg₂ _ ?_ ?_
      · rw [hu, ← cu]
        exact (g2_window (N := 128) (M := 1024) (n := 128) (m := 1024) (X4 .utb) _ (by omega) hr').trans (by rw [Nat.zero_add, Nat.zero_add]; rfl)
      · rw [hg]
        refine (g2_window (N := 1536) (M := 256) (n := 1024) (m := 256) (X4 .p) _ hr' hi).trans ?_
        rw [Nat.zero_add, Nat.zero_add]
        refine (p4 r i).trans ?_
        rw [if_neg (by omega), p3, if_pos (by omega), hw _ _ (by omega) hi]
    · refine Finset.sum_congr rfl fun t ht => ?_
      have ht' := Finset.mem_range.1 ht
      refine congrArg₂ _ rfl ?_
      rw [he]
      refine (g2_window (N := 1536) (M := 256) (n := 512) (m := 256) (X4 .p) _ (by omega) hi).trans ?_
      rw [Nat.zero_add]
      refine (p4 (1024 + t) i).trans ?_
      rw [if_pos (by omega), cs, hw _ _ (by omega) hi]
  · rw [if_neg (by omega), if_neg hb, k4 .out (by decide), k3 .out (by decide), k2 .out (by decide), k1 .out (by decide)]

end Cert.Body
-- ==== Proof.Block.lean ====
/- What the body does at one grid point: the scratch holds the head's state before the block, and after it the state with the block's
   keys added; the output block is the attention formula. -/
module

public import proofs.«01_k».proof.Proof.Attend

@[expose] public section

set_option maxRecDepth 16384

noncomputable section

namespace Cert.Body

open Idealize.ShloMosaic
open Cert.KernelIdeal Cert.KernelIdeal.Gen Cert.NatAt Cert.Cmd

/-- The scratch at a head's state `U` (by code and feature) and counters `K`, with codebook `cb`. -/
structure Inv (neg : EReal) (cb U : ℕ → ℕ → EReal) (K : ℕ → EReal) (X : CI) : Prop where
  cb : ∀ r c, r < 1024 → c < 128 → aLhs X r c = cb r c
  mask : ∀ r c, r < 1024 → 128 ≤ c → c < 256 → aLhs X r c = maskOf neg (K r)
  zero : ∀ r c, 1024 ≤ r → r < 1536 → 128 ≤ c → c < 256 → aLhs X r c = 0
  ut : ∀ j c, j < 128 → c < 1024 → aUt X j c = U c j
  utb : ∀ j c, j < 128 → c < 1024 → aUtb X j c = U c j
  cnt : ∀ i c, i < 8 → c < 1024 → aCnt X i c = K c
  cntc : ∀ r l, r < 1024 → l < 128 → aCntc X r l = K r

/-- The rows the queries are scored against. -/
def rowsL (neg : EReal) (cb : ℕ → ℕ → EReal) (K : ℕ → EReal) (kg : ℕ → ℕ → EReal) (r c : ℕ) : EReal :=
  if r < 1024 then (if c < 128 then cb r c else maskOf neg (K r)) else if c < 128 then kg (r - 1024) c else 0

/-- The state after a block with keys `kk` and values `V`. -/
def nextU (V : ℕ → ℕ → EReal) (kk : ℕ → ℕ) (U : ℕ → ℕ → EReal) (c j : ℕ) : EReal :=
  U c j + ∑ t ∈ Finset.range 512, V j t * (if kk t = c then 1 else 0)

/-- The counters after a block with keys `kk`. -/
def nextK (kk : ℕ → ℕ) (K : ℕ → EReal) (c : ℕ) : EReal := K c + ∑ t ∈ Finset.range 512, 1 * (if kk t = c then 1 else 0)

/-- A buffer the body only reads. -/
def Nm.isIn : Nm → Bool
  | .ksm | .qs | .q | .v | .k | .vs | .cb | .cbf | .u0 | .c0 => true
  | _ => false

variable {sig : RefSig} (O : Ops sig) {α : Type}

theorem Inv.refresh {neg : EReal} {cb U : ℕ → ℕ → EReal} {K : ℕ → EReal} {X X' : CI}
    (hcb : ∀ r c, r < 1024 → c < 128 → aLhs X r c = cb r c)
    (hz : ∀ r c, 1024 ≤ r → r < 1536 → 128 ≤ c → c < 256 → aLhs X r c = 0)
    (hut : ∀ j c, j < 128 → c < 1024 → aUt X j c = U c j) (hutb : ∀ j c, j < 128 → c < 1024 → aUtb X j c = U c j)
    (hcnt : ∀ i c, i < 8 → c < 1024 → aCnt X i c = K c)
    (h0 : ∀ b, b ≠ .cntc → b ≠ .lhs → X' b = X b)
    (h1 : ∀ r c, aCntc X' r c = if 128 * 0 ≤ r ∧ r < 128 * (0 + 8) ∧ c < 128 then aCnt X 0 r else aCntc X r c)
    (h2 : ∀ r c, aLhs X' r c = if 128 * 0 ≤ r ∧ r < 128 * (0 + 8) ∧ 128 ≤ c ∧ c < 256 then maskOf neg (aCnt X 0 r) else aLhs X r c) :
    Inv neg cb U K X' where
  cb r c hr hc := by rw [h2, if_neg (by omega), hcb r c hr hc]
  mask r c hr hc hc' := by rw [h2, if_pos (by omega), hcnt 0 r (by omega) hr]
  zero r c hr hr' hc hc' := by rw [h2, if_neg (by omega), hz r c hr hr' hc hc']
  ut j c hj hc := by rw [← hut j c hj hc]; unfold aUt; rw [h0 .ut (by decide) (by decide)]
  utb j c hj hc := by rw [← hutb j c hj hc]; unfold aUtb; rw [h0 .utb (by decide) (by decide)]
  cnt i c hi hc := by rw [← hcnt i c hi hc]; unfold aCnt; rw [h0 .cnt (by decide) (by decide)]
  cntc r l hr hl := by rw [h1, if_pos (by omega), hcnt 0 r (by omega) hr]

theorem init_wp (neg : EReal) (κ : Cm Ideal O α) (X : CI) (Q : α → CI → Prop)
    (hκ : ∀ X' : CI, (∀ b, b.isIn = true ∨ b = .uf ∨ b = .cf ∨ b = .out → X' b = X b) → Inv neg (aCb X) (aU0 X) (aC0 X) X' → κ.wp (S := O.bufs) X' Q) :
    (init (F := Ideal) O neg κ).wp (S := O.bufs) X Q := by
  refine load_wp O fun cb hcb => load_wp O fun _ _ => store_wp O fun X1 k1 e1 => load_wp O fun _ _ => store_wp O fun X2 k2 e2 =>
    load_wp O fun u0 hu => load_wp O fun _ _ => store_wp O fun X3 k3 e3 => load_wp O fun _ _ => store_wp O fun X4 k4 e4 =>
    load_wp O fun c0 hc0 => load_wp O fun _ _ => store_wp O fun X5 k5 e5 => refresh_wp O neg 8 0 _ κ X5 Q ?_
  intro X' h0 h1 h2
  refine hκ X' ?_ (Inv.refresh ?_ ?_ ?_ ?_ ?_ h0 h1 h2)
  · intro b hb
    have hn : ∀ b', (b'.isIn = true ∨ b' = .uf ∨ b' = .cf ∨ b' = .out → False) → b ≠ b' := fun b' hb' e => hb' (e ▸ hb)
    rw [h0 b (hn _ (by decide)) (hn _ (by decide)), k5 b (hn _ (by decide)), k4 b (hn _ (by decide)), k3 b (hn _ (by decide)),
      k2 b (hn _ (by decide)), k1 b (hn _ (by decide))]
  · intro r c hr hc
    unfold aLhs
    rw [k5 .lhs (by decide), k4 .lhs (by decide), k3 .lhs (by decide), e2]
    refine (g2_put (N := 1536) (M := 256) (n := 512) (m := 128) (X1 .lhs) (by omega) (by omega) _ r c).trans ?_
    rw [if_neg (by omega), e1]
    refine (g2_put (N := 1536) (M := 256) (n := 1024) (m := 128) (X .lhs) (by omega) (by omega) _ r c).trans ?_
    rw [if_pos (by omega)]
    refine (g2_cbSt (r := r - 0) (c := c - 0) _ (by omega) (by omega)).trans ?_
    rw [hcb]
    refine (g3_window (L := 1) (N := 1024) (M := 128) (l := 1) (n := 1024) (m := 128) (X .cb) _ (a := 0) (r := r) (c := c) (by omega) (by omega) (by omega)).trans ?_
    simp only [Nat.zero_add]; rfl
  · intro r c hr hr' hc hc'
    unfold aLhs
    rw [k5 .lhs (by decide), k4 .lhs (by decide), k3 .lhs (by decide), e2]
    refine (g2_put (N := 1536) (M := 256) (n := 512) (m := 128) (X1 .lhs) (by omega) (by omega) _ r c).trans ?_
    rw [if_pos (by omega)]
    exact g2_zeroSt _ _
  · intro j c hj hc
    unfold aUt
    rw [k5 .ut (by decide), k4 .ut (by decide), e3]
    refine (g2_put (N := 128) (M := 1024) (n := 128) (m := 1024) (X2 .ut) (by omega) (by omega) _ j c).trans ?_
    rw [if_pos (by omega)]
    refine (g2_utSt (j := j - 0) (c := c - 0) _ (by omega) (by omega)).trans ?_
    rw [hu, k2 .u0 (by decide), k1 .u0 (by decide)]
    refine (g3_window (L := 1) (N := 1024) (M := 128) (l := 1) (n := 1024) (m := 128) (X .u0) _ (a := 0) (r := c) (c := j) (by omega) (by omega) (by omega)).trans ?_
    simp only [Nat.zero_add]; rfl
  · intro j c hj hc
    unfold aUtb
    rw [k5 .utb (by decide), e4]
    refine (g2_put (N := 128) (M := 1024) (n := 128) (m := 1024) (X3 .utb) (by omega) (by omega) _ j c).trans ?_
    rw [if_pos (by omega)]
    refine (g2_utbSt (j := j - 0) (c := c - 0) _ (by omega) (by omega)).trans ?_
    rw [hu, k2 .u0 (by decide), k1 .u0 (by decide)]
    refine (g3_window (L := 1) (N := 1024) (M := 128) (l := 1) (n := 1024) (m := 128) (X .u0) _ (a := 0) (r := c) (c := j) (by omega) (by omega) (by omega)).trans ?_
    simp only [Nat.zero_add]; rfl
  · intro i c hi hc
    unfold aCnt
    rw [e5]
    refine (g2_put (N := 8) (M := 1024) (n := 8) (m := 1024) (X4 .cnt) (by omega) (by omega) _ i c).trans ?_
    rw [if_pos (by omega)]
    refine (g2_cntSt (i := i - 0) (c := c - 0) _ (by omega) (by omega)).trans ?_
    rw [hc0, k4 .c0 (by decide), k3 .c0 (by decide), k2 .c0 (by decide), k1 .c0 (by decide)]
    refine (g3_window (L := 1) (N := 1) (M := 1024) (l := 1) (n := 1) (m := 1024) (X .c0) _ (a := 0) (r := 0) (c := c) (by omega) (by omega) (by omega)).trans ?_
    simp only [Nat.zero_add]; rfl

/-- The scale of the scores at a grid point. -/
def cOf (scale : EReal) (i : grid0.Coords) (X : CI) : EReal := g2 (N := 60) (M := 32) (X .qs) (i 0).val (i 1).val * scale

theorem qs_at (x : (⟨2, ![60, 32]⟩ : Shape).Idx → EReal) (i : grid0.Coords) (off : Fin 2 → Nat) (inb) (h : off = ![(i 0).val, (i 1).val]) (hp) :
    VecWindow.window (s := ⟨2, ![60, 32]⟩) x off S1x1.size inb (Shape.Idx.first hp) = g2 x (i 0).val (i 1).val := by
  subst h
  rw [g2_of x (i 0).isLt (i 1).isLt]
  exact congrArg x (funext fun a => by fin_cases a <;> rfl)

/-- The scaled values. -/
def vOf (X : CI) (j t : ℕ) : EReal := aV X j t * aVs X t

theorem attOut_congr {neg c : EReal} {L L' Q : ℕ → ℕ → EReal} {K : ℕ → EReal} {U U' V V' : ℕ → ℕ → EReal} {q j : ℕ} (hq : q < 512)
    (hL : ∀ r c, r < 1536 → c ≤ 128 → L r c = L' r c) (hU : ∀ r, r < 1024 → U j r = U' j r) (hV : ∀ t, t < 512 → V j t = V' j t) :
    attOut neg c L Q K U V q j = attOut neg c L' Q K U' V' q j := by
  have hR : rowsOf q ≤ 1536 := by unfold rowsOf; split_ifs <;> omega
  have hs : ∀ r, r < 1536 → scr neg L Q r q = scr neg L' Q r q := fun r hr => by
    unfold scr; rw [score_congr (fun j hj => hL r j hr hj) (fun _ _ => rfl)]
  have hm : mx neg L Q q = mx neg L' Q q := Finset.sup_congr rfl fun r hr => hs r (by have := Finset.mem_range.1 hr; omega)
  have hw : ∀ r, r < 1536 → wr neg c L Q r q = wr neg c L' Q r q := fun r hr => by unfold wr wt; rw [hs r hr, hm]
  unfold attOut
  congr 2
  · refine Finset.sum_congr rfl fun r hr => ?_
    have := Finset.mem_range.1 hr
    rw [hU r this, hw r (by omega)]
  · refine Finset.sum_congr rfl fun r hr => ?_
    have := Finset.mem_range.1 hr
    rw [hV r (by omega), hw _ (by omega)]
  · refine Finset.sum_congr rfl fun r hr => ?_
    have := Finset.mem_range.1 hr
    rw [hw r (by omega)]
  · refine Finset.sum_congr rfl fun r hr => ?_
    have := Finset.mem_range.1 hr
    rw [hw _ (by omega)]

theorem work_wp (neg scale : EReal) (i : grid0.Coords) (κ : Cm Ideal O α) (X : CI) (Q : α → CI → Prop) (cb U : ℕ → ℕ → EReal) (K : ℕ → EReal)
    (hI : Inv neg cb U K X) (hk : ∀ t, (aK X t).toNat < 1024)
    (hκ : ∀ X' : CI, (∀ b, b.isIn = true ∨ b = .uf ∨ b = .cf → X' b = X b) →
      Inv neg cb (nextU (vOf X) (fun t => (aK X t).toNat) U) (nextK (fun t => (aK X t).toNat) K) X' →
      (∀ q j, q < 512 → j < 128 → aOut X' q j
        = attOut neg (cOf scale i X) (rowsL neg cb K (aKg X)) (aQ X) K (fun j c => U c j) (vOf X) q j) →
      κ.wp (S := O.bufs) X' Q) :
    (work (F := Ideal) O neg scale i κ).wp (S := O.bufs) X Q := by
  refine load_wp O fun kg hkg => load_wp O fun _ _ => store_wp O fun X1 k1 e1 => load_wp O fun qs hqs => load_wp O fun v hv => load_wp O fun vs hvs => ?_
  have eqs : Scalar.mulf (F := Ideal) (φ := .f32) (qs (Shape.Idx.first (by exact Nat.one_pos))) scale = cOf scale i X := by
    refine congrArg (· * scale) ?_
    rw [hqs, k1 .qs (by decide)]
    exact qs_at (X .qs) i _ _ (k0_off513_eq i) _
  have evt : ∀ j t, j < 128 → t < 512 → g2 (N := 128) (M := 512) (vtOf (F := Ideal) v vs) j t = vOf X j t := fun j t hj ht => by
    refine (g2_vtOf _ _ hj ht).trans ?_
    rw [hv, hvs, k1 .v (by decide), k1 .vs (by decide)]
    refine congrArg₂ _ ((g3_window (L := 1) (N := 128) (M := 512) (l := 1) (n := 128) (m := 512) (X .v) _ (a := 0) (r := j) (c := t) (by omega) (by omega) (by omega)).trans ?_)
      ((g3_window (L := 1) (N := 1) (M := 512) (l := 1) (n := 1) (m := 512) (X .vs) _ (a := 0) (r := 0) (c := t) (by omega) (by omega) (by omega)).trans ?_)
    · simp only [Nat.zero_add]; rfl
    · simp only [Nat.zero_add]; rfl
  rw [eqs]
  have l1 : ∀ r c, aLhs X1 r c = if 1024 ≤ r ∧ r < 1024 + 512 ∧ 0 ≤ c ∧ c < 0 + 128 then aKg X (r - 1024) c else aLhs X r c := fun r c => by
    unfold aLhs
    rw [e1]
    refine (g2_put (N := 1536) (M := 256) (n := 512) (m := 128) (X .lhs) (by omega) (by omega) _ r c).trans ?_
    by_cases hb : 1024 ≤ r ∧ r < 1024 + 512 ∧ 0 ≤ c ∧ c < 0 + 128
    · rw [if_pos hb, if_pos hb]
      refine (g2_kgSt (r := r - 1024) (j := c - 0) _ (by omega) (by omega)).trans ?_
      rw [hkg]
      refine (g2_window (N := 512) (M := 128) (n := 512) (m := 128) (X .kg) _ (r := r - 1024) (c := c - 0) (by omega) (by omega)).trans ?_
      simp only [Nat.zero_add]; rfl
    · rw [if_neg hb, if_neg hb]
  have lL : ∀ r c, r < 1536 → c ≤ 128 → aLhs X1 r c = rowsL neg cb K (aKg X) r c := fun r c hr hc => by
    rw [l1]; unfold rowsL
    by_cases h1 : r < 1024
    · rw [if_neg (by omega), if_pos h1]
      by_cases h2 : c < 128
      · rw [if_pos h2, hI.cb r c h1 h2]
      · rw [if_neg h2, hI.mask r c h1 (by omega) (by omega)]
    · rw [if_neg h1]
      by_cases h2 : c < 128
      · rw [if_pos h2, if_pos (by omega)]
      · rw [if_neg h2, if_neg (by omega), hI.zero r c (by omega) hr (by omega) (by omega)]
  have hK1 : ∀ r l, r < 1024 → l < 128 → aCntc X1 r l = K r := fun r l hr hl => by
    rw [← hI.cntc r l hr hl]; unfold aCntc; rw [k1 .cntc (by decide)]
  have q1 : aQ X1 = aQ X := by unfold aQ; rw [k1 .q (by decide)]
  have u1 : aUtb X1 = aUtb X := by unfold aUtb; rw [k1 .utb (by decide)]
  refine attend0_wp O neg _ (vtOf v vs) _ X1 Q K hK1 ?_
  intro X2 k2 o2
  refine attend1_wp O neg _ (vtOf v vs) _ X2 Q K ?_ ?_
  · intro r l hr hl; rw [← hK1 r l hr hl]; unfold aCntc; rw [k2 .cntc (by decide) (by decide) (by decide)]
  intro X3 k3 o3
  have same3 : ∀ b, b ≠ .lhs → b ≠ .s → b ≠ .p → b ≠ .out → X3 b = X b := fun b h0 h1 h2 h3 => by rw [k3 b h1 h2 h3, k2 b h1 h2 h3, k1 b h0]
  have l3 : aLhs X3 = aLhs X1 := by unfold aLhs; rw [k3 .lhs (by decide) (by decide) (by decide), k2 .lhs (by decide) (by decide) (by decide)]
  have l2 : aLhs X2 = aLhs X1 := by unfold aLhs; rw [k2 .lhs (by decide) (by decide) (by decide)]
  have q2 : aQ X2 = aQ X := by rw [← q1]; unfold aQ; rw [k2 .q (by decide) (by decide) (by decide)]
  have u2 : aUtb X2 = aUtb X := by rw [← u1]; unfold aUtb; rw [k2 .utb (by decide) (by decide) (by decide)]
  have out3 : ∀ q j, q < 512 → j < 128 → aOut X3 q j
      = attOut neg (cOf scale i X) (rowsL neg cb K (aKg X)) (aQ X) K (fun j c => U c j) (vOf X) q j := fun q j hq hj => by
    rw [o3, o2, l2, q2, u2, q1, u1]
    have := attOut_congr (neg := neg) (c := cOf scale i X) (Q := aQ X) (K := K) (U := aUtb X) (U' := fun j c => U c j)
      (V := g2 (N := 128) (M := 512) (vtOf (F := Ideal) v vs)) (V' := vOf X) (j := j) hq lL (fun r hr => hI.utb j r hj hr) (fun t ht => evt j t hj ht)
    rw [← this]
    by_cases hb : q < 256
    · rw [if_neg (by omega), if_pos (by omega)]
    · rw [if_pos (by omega)]
  refine load_wp O fun w0 h0 => load_wp O fun w1 h1 => load_wp O fun w2 h2 => load_wp O fun w3 h3 => ?_
  have ek : aK X3 = aK X := by unfold aK; rw [same3 .k (by decide) (by decide) (by decide) (by decide)]
  have hkc := kcol_apply w0 w1 w2 w3 (aK X) hk
    (fun t ht => by rw [h0, same3 .k (by decide) (by decide) (by decide) (by decide)]; refine (gk_window (M := 512) (m := 128) (X .k) _ ht).trans (by simp only [Nat.zero_add]; rfl))
    (fun t ht => by rw [h1, same3 .k (by decide) (by decide) (by decide) (by decide)]; exact gk_window (M := 512) (m := 128) (X .k) _ ht)
    (fun t ht => by rw [h2, same3 .k (by decide) (by decide) (by decide) (by decide)]; exact gk_window (M := 512) (m := 128) (X .k) _ ht)
    (fun t ht => by rw [h3, same3 .k (by decide) (by decide) (by decide) (by decide)]; exact gk_window (M := 512) (m := 128) (X .k) _ ht)
  refine update_wp O (vtaOf (vtOf v vs)) (kcolOf w0 w1 w2 w3) (fun t => (aK X t).toNat) hk hkc 4 0 _ _ X3 Q ?_ ?_
  · intro f c hf hc
    unfold aUtb aUt
    rw [same3 .ut (by decide) (by decide) (by decide) (by decide), same3 .utb (by decide) (by decide) (by decide) (by decide)]
    exact (hI.utb f c hf hc).trans (hI.ut f c hf hc).symm
  intro X4 k4 a4 b4 c4
  refine refresh_wp O neg 8 0 _ κ X4 Q ?_
  intro X5 k5 a5 b5
  have l4 : aLhs X4 = aLhs X1 := by rw [← l3]; unfold aLhs; rw [k4 .lhs (by decide) (by decide) (by decide)]
  have ut4 : ∀ j c, j < 128 → c < 1024 → aUt X4 j c = nextU (vOf X) (fun t => (aK X t).toNat) U c j := fun j c hj hc => by
    rw [a4 j c hj, if_pos (by omega)]
    unfold nextU
    congr 1
    · rw [← hI.ut j c hj hc]; unfold aUt; rw [same3 .ut (by decide) (by decide) (by decide) (by decide)]
    · refine Finset.sum_congr rfl fun t ht => ?_
      rw [g2_vtaOf _ (by omega) (Finset.mem_range.1 ht), if_pos hj]
      refine congrArg (· * _) (evt j t hj (Finset.mem_range.1 ht))
  refine hκ X5 ?_ (Inv.refresh ?_ ?_ ut4 ?_ ?_ k5 a5 b5) ?_
  · intro b hb
    have hn : ∀ b', (b'.isIn = true ∨ b' = .uf ∨ b' = .cf → False) → b ≠ b' := fun b' hb' e => hb' (e ▸ hb)
    rw [k5 b (hn _ (by decide)) (hn _ (by decide)), k4 b (hn _ (by decide)) (hn _ (by decide)) (hn _ (by decide)),
      same3 b (hn _ (by decide)) (hn _ (by decide)) (hn _ (by decide)) (hn _ (by decide))]
  · intro r c hr hc
    rw [l4, l1, if_neg (by omega), hI.cb r c hr hc]
  · intro r c hr hr' hc hc'
    rw [l4, l1, if_neg (by omega), hI.zero r c hr hr' hc hc']
  · intro j c hj hc; rw [b4 j c hj hc, ut4 j c hj hc]
  · intro i c hi hc
    rw [c4 i c hi, if_pos (by omega)]
    unfold nextK
    congr 1
    · rw [← hI.cnt i c hi hc]; unfold aCnt; rw [same3 .cnt (by decide) (by decide) (by decide) (by decide)]
    · refine Finset.sum_congr rfl fun t ht => ?_
      rw [g2_vtaOf _ (by omega) (Finset.mem_range.1 ht), if_neg (by omega)]
  · intro q j hq hj
    rw [← out3 q j hq hj]
    unfold aOut
    rw [k5 .out (by decide) (by decide), k4 .out (by decide) (by decide) (by decide)]

/-- The state and the counters after the block. -/
abbrev outU (X : CI) (U : ℕ → ℕ → EReal) : ℕ → ℕ → EReal := nextU (vOf X) (fun t => (aK X t).toNat) U
abbrev outK (X : CI) (K : ℕ → EReal) : ℕ → EReal := nextK (fun t => (aK X t).toNat) K

/-- The block's output, from the state before it. -/
def outA (neg scale : EReal) (i : grid0.Coords) (X : CI) (U : ℕ → ℕ → EReal) (K : ℕ → EReal) (q j : ℕ) : EReal :=
  attOut neg (cOf scale i X) (rowsL neg (aCb X) K fun t j => aCbf X (aKsm X t).toNat j) (aQ X) K (fun j c => U c j) (vOf X) q j

/-- What a grid point leaves: the operands as they were, the scratch at the next state, the output block, and at a head's last block the state. -/
structure Post (neg scale : EReal) (i : grid0.Coords) (U : ℕ → ℕ → EReal) (K : ℕ → EReal) (X X' : CI) : Prop where
  same : ∀ b, b.isIn = true → X' b = X b
  inv : Inv neg (aCb X) (outU X U) (outK X K) X'
  out : ∀ q j, q < 512 → j < 128 → aOut X' q j = outA neg scale i X U K q j
  uf : k0_cond2 i = 1#1 → ∀ c j, c < 1024 → j < 128 → aUf X' c j = outU X U c j
  cf : k0_cond2 i = 1#1 → ∀ c, c < 1024 → aCf X' c = outK X K c
  uf' : ¬ k0_cond2 i = 1#1 → X' .uf = X .uf
  cf' : ¬ k0_cond2 i = 1#1 → X' .cf = X .cf

theorem rest_wp (neg scale : EReal) (i : grid0.Coords) (X : CI) (U : ℕ → ℕ → EReal) (K : ℕ → EReal) (hI : Inv neg (aCb X) U K X)
    (hs : ∀ t < 512, (aKsm X t).toNat < 1024) (hk : ∀ t, (aK X t).toNat < 1024) :
    (rest (F := Ideal) O neg scale i).wp (S := O.bufs) X fun _ X' => Post neg scale i U K X X' := by
  refine gather_wp O 512 0 _ _ X _ hs ?_
  intro X1 k1 g1
  have hI1 : Inv neg (aCb X) U K X1 := ⟨
    fun r c hr hc => by rw [← hI.cb r c hr hc]; unfold aLhs; rw [k1 .lhs (by decide)],
    fun r c hr hc hc' => by rw [← hI.mask r c hr hc hc']; unfold aLhs; rw [k1 .lhs (by decide)],
    fun r c hr hr' hc hc' => by rw [← hI.zero r c hr hr' hc hc']; unfold aLhs; rw [k1 .lhs (by decide)],
    fun j c hj hc => by rw [← hI.ut j c hj hc]; unfold aUt; rw [k1 .ut (by decide)],
    fun j c hj hc => by rw [← hI.utb j c hj hc]; unfold aUtb; rw [k1 .utb (by decide)],
    fun j c hj hc => by rw [← hI.cnt j c hj hc]; unfold aCnt; rw [k1 .cnt (by decide)],
    fun j c hj hc => by rw [← hI.cntc j c hj hc]; unfold aCntc; rw [k1 .cntc (by decide)]⟩
  have ek : aK X1 = aK X := by unfold aK; rw [k1 .k (by decide)]
  have ev : vOf X1 = vOf X := by unfold vOf aV aVs; rw [k1 .v (by decide), k1 .vs (by decide)]
  have eq : aQ X1 = aQ X := by unfold aQ; rw [k1 .q (by decide)]
  have ec : cOf scale i X1 = cOf scale i X := by unfold cOf; rw [k1 .qs (by decide)]
  refine work_wp O neg scale i _ X1 _ (aCb X) U K hI1 (by rw [ek]; exact hk) ?_
  intro X2 k2 hI2 o2
  have same2 : ∀ b, b.isIn = true → X2 b = X b := fun b hb => (k2 b (.inl hb)).trans (k1 b (by rintro rfl; exact absurd hb (by decide)))
  rw [ek, ev] at hI2
  replace hI2 : Inv neg (aCb X) (outU X U) (outK X K) X2 := hI2
  have out2 : ∀ q j, q < 512 → j < 128 → aOut X2 q j = outA neg scale i X U K q j := fun q j hq hj => by
    rw [o2 q j hq hj, ec, eq, ev]
    refine attOut_congr hq (fun r c hr hc => ?_) (fun _ _ => rfl) (fun _ _ => rfl)
    unfold rowsL
    by_cases h1 : r < 1024
    · rw [if_pos h1, if_pos h1]
    · rw [if_neg h1, if_neg h1]
      by_cases h2 : c < 128
      · rw [if_pos h2, if_pos h2, g1, if_pos (by omega)]
      · rw [if_neg h2, if_neg h2]
  refine ⟨fun hc => ?_, fun hc => ?_⟩
  · refine load_wp O fun u hu => load_wp O fun _ _ => store_wp O fun X3 k3 e3 => load_wp O fun x hx => load_wp O fun _ _ => store_wp O fun X4 k4 e4 => ?_
    have same4 : ∀ b, b ≠ .uf → b ≠ .cf → X4 b = X2 b := fun b h h' => (k4 b h').trans (k3 b h)
    refine ⟨fun b hb => (same4 b (by rintro rfl; exact absurd hb (by decide)) (by rintro rfl; exact absurd hb (by decide))).trans (same2 b hb), ?_, ?_, ?_, ?_, ?_, ?_⟩
    · exact ⟨
        fun r c hr hc => by rw [← hI2.cb r c hr hc]; unfold aLhs; rw [same4 .lhs (by decide) (by decide)],
        fun r c hr hc hc' => by rw [← hI2.mask r c hr hc hc']; unfold aLhs; rw [same4 .lhs (by decide) (by decide)],
        fun r c hr hr' hc hc' => by rw [← hI2.zero r c hr hr' hc hc']; unfold aLhs; rw [same4 .lhs (by decide) (by decide)],
        fun j c hj hc => by rw [← hI2.ut j c hj hc]; unfold aUt; rw [same4 .ut (by decide) (by decide)],
        fun j c hj hc => by rw [← hI2.utb j c hj hc]; unfold aUtb; rw [same4 .utb (by decide) (by decide)],
        fun j c hj hc => by rw [← hI2.cnt j c hj hc]; unfold aCnt; rw [same4 .cnt (by decide) (by decide)],
        fun j c hj hc => by rw [← hI2.cntc j c hj hc]; unfold aCntc; rw [same4 .cntc (by decide) (by decide)]⟩
    · intro q j hq hj; rw [← out2 q j hq hj]; unfold aOut; rw [same4 .out (by decide) (by decide)]
    · intro _ c j hc hj
      rw [← hI2.ut j c hj hc]
      unfold aUf
      rw [k4 .uf (by decide), e3]
      refine (g3_put (L := 1) (N := 1024) (M := 128) (l := 1) (n := 1024) (m := 128) (X2 .uf) (by omega) (by omega) (by omega) _ 0 c j).trans ?_
      rw [if_pos (by omega)]
      refine (g3_ufSt (c := c - 0) (j := j - 0) _ (by omega) (by omega)).trans ?_
      rw [hu]
      refine (g2_window (N := 128) (M := 1024) (n := 128) (m := 1024) (X2 .ut) _ (r := j) (c := c) hj hc).trans ?_
      simp only [Nat.zero_add]; rfl
    · intro _ c hc
      rw [← hI2.cnt 0 c (by omega) hc]
      unfold aCf
      rw [e4]
      refine (g3_put (L := 1) (N := 1) (M := 1024) (l := 1) (n := 1) (m := 1024) (X3 .cf) (by omega) (by omega) (by omega) _ 0 0 c).trans ?_
      rw [if_pos (by omega)]
      refine (g3_cfSt (c := c - 0) _ (by omega)).trans ?_
      rw [hx, k3 .cnt (by decide)]
      refine (g2_window (N := 8) (M := 1024) (n := 1) (m := 1024) (X2 .cnt) _ (r := 0) (c := c) (by omega) hc).trans ?_
      simp only [Nat.zero_add]; rfl
    · intro h; exact absurd hc h
    · intro h; exact absurd hc h
  · refine ⟨same2, hI2, out2, fun h => absurd h hc, fun h => absurd h hc, fun _ => ?_, fun _ => ?_⟩
    · exact (k2 .uf (.inr (.inl rfl))).trans (k1 .uf (by decide))
    · exact (k2 .cf (.inr (.inr rfl))).trans (k1 .cf (by decide))

/-- The state before the block: the operands' at a head's first block, else what the scratch holds. -/
theorem body_wp (neg scale : EReal) (i : grid0.Coords) (X : CI) (U : ℕ → ℕ → EReal) (K : ℕ → EReal)
    (h0 : first i = 1#1 → U = aU0 X ∧ K = aC0 X) (h1 : ¬ first i = 1#1 → Inv neg (aCb X) U K X)
    (hs : ∀ t < 512, (aKsm X t).toNat < 1024) (hk : ∀ t, (aK X t).toNat < 1024) :
    (body (F := Ideal) O neg scale i).wp (S := O.bufs) X fun _ X' => Post neg scale i U K X X' := by
  refine ⟨fun hf => ?_, fun hf => rest_wp O neg scale i X U K (h1 hf) hs hk⟩
  obtain ⟨rfl, rfl⟩ := h0 hf
  refine init_wp O neg _ X _ fun X1 k1 hI => ?_
  have e : ∀ b : Nm, b.isIn = true → X1 b = X b := fun b hb => k1 b (.inl hb)
  have ecb : aCb X1 = aCb X := by unfold aCb; rw [e .cb rfl]
  have ek : aK X1 = aK X := by unfold aK; rw [e .k rfl]
  have es : aKsm X1 = aKsm X := by unfold aKsm; rw [e .ksm rfl]
  have ev : vOf X1 = vOf X := by unfold vOf aV aVs; rw [e .v rfl, e .vs rfl]
  have eo : outA neg scale i X1 = outA neg scale i X := by
    funext U K q j; unfold outA; rw [ecb, es, ev]; unfold aCbf aQ cOf; rw [e .cbf rfl, e .q rfl, e .qs rfl]
  refine C.wp_mono _ ?_ (rest_wp O neg scale i X1 _ _ (by rw [ecb]; exact hI) (by rw [es]; exact hs) (by rw [ek]; exact hk))
  intro _ X' p
  have pi := p.inv; have po := p.out; have pu := p.uf; have pc := p.cf
  rw [ecb] at pi
  unfold outU outK at *
  rw [ek, ev] at pi pu
  rw [ek] at pc
  rw [eo] at po
  exact ⟨fun b hb => (p.same b hb).trans (e b hb), pi, po, pu, pc, fun h => (p.uf' h).trans (k1 .uf (.inr (.inl rfl))),
    fun h => (p.cf' h).trans (k1 .cf (.inr (.inr (.inl rfl))))⟩

end Cert.Body
-- ==== Proof.KernelIdealBlocks.lean ====
/- The grid's points and the windows' blocks of `KernelIdeal`: point `t` is block `t % 32` of head `t / 32`. -/
module

public import proofs.«01_k».proof.Proof.KernelIdealRun
public import proofs.«01_k».proof.Proof.Block
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal.Gen Cert.Body Cert.NatAt

theorem N0 : cfg0.N = 1920 := N_0

theorem lt_N (t : Fin cfg0.N) : t.val < 1920 := Nat.lt_of_lt_of_eq t.isLt N_0

theorem coord0 : ∀ t : Fin cfg0.N, (grid0.coords t 0).val = t.val / 32 :=
  (fun t => by
    have e : (grid0.coords t 0).val = t.val / 32 % 60 := Pipeline.Grid.coords_val t 0 (by decide) rfl
    have ht : t.val < 1920 := Nat.lt_of_lt_of_eq t.isLt N_0
    omega : ∀ t : Fin grid0.N, (grid0.coords t 0).val = t.val / 32)

theorem coord1 : ∀ t : Fin cfg0.N, (grid0.coords t 1).val = t.val % 32 :=
  (fun t => by
    have e : (grid0.coords t 1).val = t.val / 1 % 32 := Pipeline.Grid.coords_val t 1 (by decide) rfl
    omega : ∀ t : Fin grid0.N, (grid0.coords t 1).val = t.val % 32)

/-- The set-up runs at a head's first block. -/
theorem first_iff (t : Fin cfg0.N) : first (grid0.coords t) = 1#1 ↔ t.val % 32 = 0 := by
  have ht := lt_N t
  simp only [first, coord1]
  word_cmp

/-- The results are written at a head's last block. -/
theorem last_iff (t : Fin cfg0.N) : k0_cond2 (grid0.coords t) = 1#1 ↔ t.val % 32 = 31 := by
  have ht := lt_N t
  simp only [k0_cond2, coord1]
  word_cmp

/-! The index maps. -/

theorem idx0 : ∀ t : Fin grid0.N, win0_0.index t = ![t.val / 32, 0, t.val % 32] := by decide +kernel
theorem idx1 : ∀ t : Fin grid0.N, win0_1.index t = ![0, 0] := by decide +kernel
theorem idx2 : ∀ t : Fin grid0.N, win0_2.index t = ![t.val / 32, 0, t.val % 32] := by decide +kernel
theorem idx3 : ∀ t : Fin grid0.N, win0_3.index t = ![t.val / 32, 0, t.val % 32] := by decide +kernel
theorem idx4 : ∀ t : Fin grid0.N, win0_4.index t = ![t.val / 32, 0, t.val % 32] := by decide +kernel
theorem idx5 : ∀ t : Fin grid0.N, win0_5.index t = ![t.val / 32, 0, t.val % 32] := by decide +kernel
theorem idx6 : ∀ t : Fin grid0.N, win0_6.index t = ![t.val / 32 % 20, 0, 0] := by decide +kernel
theorem idx7 : ∀ t : Fin grid0.N, win0_7.index t = ![t.val / 32 % 20, 0, 0] := by decide +kernel
theorem idx8 : ∀ t : Fin grid0.N, win0_8.index t = ![t.val / 32, 0, 0] := by decide +kernel
theorem idx9 : ∀ t : Fin grid0.N, win0_9.index t = ![t.val / 32, 0, 0] := by decide +kernel
theorem idx10 : ∀ t : Fin grid0.N, win0_10.index t = ![t.val / 32 / 20, t.val % 32, t.val / 32 % 20] := by decide +kernel
theorem idx11 : ∀ t : Fin grid0.N, win0_11.index t = ![t.val / 32, 0, 0] := by decide +kernel
theorem idx12 : ∀ t : Fin grid0.N, win0_12.index t = ![t.val / 32, 0, 0] := by decide +kernel

variable (m : (ℓ : Loc nD τ sig) → Buf (Elt Ideal) ℓ) (c : Dev nD)

/-! The blocks, read in the arrays. -/

theorem blk0 (t : Fin cfg0.N) (r : Fin 512) : (iblk m c 0 t : S1x1x512.Idx → BitVec 32) (ix3 0 0 r)
    = (V m c main_v5 : S60x1x16384.Idx → BitVec 32) (ix3 ⟨t.val / 32, by have := lt_N t; omega⟩ 0 ⟨512 * (t.val % 32) + r.val, by omega⟩) := by
  blk_ext [iblk, idx0 t]

theorem blk1 (t : Fin cfg0.N) (a : Fin 60) (b : Fin 32) : (iblk m c 1 t : S60x32.Idx → EReal) (ix2 a b) = (V m c main_v9 : S60x32.Idx → EReal) (ix2 a b) := by
  blk_ext [iblk, idx1 t]

theorem blk2 (t : Fin cfg0.N) (j : Fin 128) (r : Fin 512) : (iblk m c 2 t : S1x128x512.Idx → EReal) (ix3 0 j r)
    = (V m c main_v1 : S60x128x16384.Idx → EReal) (ix3 ⟨t.val / 32, by have := lt_N t; omega⟩ j ⟨512 * (t.val % 32) + r.val, by omega⟩) := by
  blk_ext [iblk, idx2 t]

theorem blk6 (t : Fin cfg0.N) (a : Fin 1024) (b : Fin 128) : (iblk m c 6 t : S1x1024x128.Idx → EReal) (ix3 0 a b)
    = (V m c main_arg3 : S20x1024x128.Idx → EReal) (ix3 ⟨t.val / 32 % 20, by omega⟩ a b) := by
  blk_ext [iblk, idx6 t]

end Cert.KernelIdeal.Val
-- ==== Proof.KernelIdealValue.lean ====
/-
  The run of `KernelIdeal` over the extended reals, with its outputs named: the scratch carries the head's state from block to block, the
  attention block is the body's formula at every point, and the state's two blocks are what a head's last point leaves.
-/
module

public import proofs.«01_k».proof.Proof.KernelIdealBlocks

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Run Cert.Body Cert.NatAt

local notation "𝕄" => MT nD τ sig Unit (Elt Ideal) ℕ (UR sig nD τ) ℕ

variable (m : (ℓ : Loc nD τ sig) → Buf (Elt Ideal) ℓ) (ρ : Dev nD → PrngReg)

/-- The masked score. -/
abbrev neg : EReal := (Named.named κ "masked" 0xFF61B1E6#32 : Ideal .f32)
/-- The factor of the query scale. -/
abbrev scale : EReal := (Named.named κ "log2e_inv_sqrt_d" 0x3E0293EE#32 : Ideal .f32)

/-- The buffers at a point before the body: the inputs at their blocks. -/
def Xin (c : Dev nD) (t : Fin cfg0.N) : CI := fun
  | .ksm => iblk m c 0 t  | .qs => iblk m c 1 t  | .q => iblk m c 2 t  | .v => iblk m c 3 t  | .k => iblk m c 4 t  | .vs => iblk m c 5 t  | .cb => iblk m c 6 t  | .cbf => iblk m c 7 t  | .u0 => iblk m c 8 t  | .c0 => iblk m c 9 t
  | .out => fun _ => (0 : EReal) | .uf => fun _ => (0 : EReal) | .cf => fun _ => (0 : EReal)
  | .lhs => fun _ => (0 : EReal) | .kg => fun _ => (0 : EReal) | .s => fun _ => (0 : EReal) | .p => fun _ => (0 : EReal) | .ut => fun _ => (0 : EReal) | .utb => fun _ => (0 : EReal) | .cnt => fun _ => (0 : EReal) | .cntc => fun _ => (0 : EReal)

/-- The same at any natural number, at point 0 past the grid. -/
def Xat (c : Dev nD) (t : ℕ) : CI := if h : t < cfg0.N then Xin m c ⟨t, h⟩ else Xin m c ⟨0, by rw [N0]; omega⟩

theorem Xat_val (c : Dev nD) (t : Fin cfg0.N) : Xat m c t.val = Xin m c t := dif_pos t.isLt

/-- The head's state before a point: at its first block the initial one, then the block before added. -/
def st (X : ℕ → CI) : ℕ → (ℕ → ℕ → EReal) × (ℕ → EReal)
  | 0 => (aU0 (X 0), aC0 (X 0))
  | t + 1 => if (t + 1) % 32 = 0 then (aU0 (X (t + 1)), aC0 (X (t + 1))) else (outU (X t) (st X t).1, outK (X t) (st X t).2)

theorem st_first (X : ℕ → CI) {t : ℕ} (h : t % 32 = 0) : st X t = (aU0 (X t), aC0 (X t)) := by
  cases t with
  | zero => rfl
  | succ t => exact if_pos h

theorem st_next (X : ℕ → CI) {t : ℕ} (h : ¬ (t + 1) % 32 = 0) : st X (t + 1) = (outU (X t) (st X t).1, outK (X t) (st X t).2) := if_neg h

/-- A head's codebook block is one at all its points. -/
theorem cb_next (c : Dev nD) (t : ℕ) (h : t + 1 < cfg0.N) (h32 : ¬ (t + 1) % 32 = 0) : aCb (Xat m c (t + 1)) = aCb (Xat m c t) := by
  rw [show Xat m c (t + 1) = Xin m c ⟨t + 1, h⟩ from dif_pos h, show Xat m c t = Xin m c ⟨t, by omega⟩ from dif_pos (by omega)]
  refine congrArg (fun x : S1x1024x128.Idx → EReal => g3 (L := 1) (N := 1024) (M := 128) x 0) (ext3 fun a r j ha hr hj => ?_)
  obtain rfl : a = 0 := by omega
  refine (g3_of (L := 1) (N := 1024) (M := 128) _ (by omega) hr hj).trans (Eq.trans ?_ (g3_of (L := 1) (N := 1024) (M := 128) _ (by omega) hr hj).symm)
  refine (blk6 m c ⟨t + 1, h⟩ ⟨r, hr⟩ ⟨j, hj⟩).trans (Eq.trans ?_ (blk6 m c ⟨t, by omega⟩ ⟨r, hr⟩ ⟨j, hj⟩).symm)
  have e : (t + 1) / 32 % 20 = t / 32 % 20 := by omega
  simp only [e]

/-- The scratch at `Y`. -/
def scrAt (c : Dev nD) (Y : CI) : sProp 𝕄 :=
  iprop(owns (c : Thread nD τ) scM0_0 fullShare (Y .lhs) ∗ owns (c : Thread nD τ) scM0_1 fullShare (Y .kg) ∗ owns (c : Thread nD τ) scM0_2 fullShare (Y .s) ∗ owns (c : Thread nD τ) scM0_3 fullShare (Y .p) ∗ owns (c : Thread nD τ) scM0_4 fullShare (Y .ut) ∗ owns (c : Thread nD τ) scM0_5 fullShare (Y .utb) ∗ owns (c : Thread nD τ) scM0_6 fullShare (Y .cnt) ∗ owns (c : Thread nD τ) scM0_7 fullShare (Y .cntc))

/-- What the scratch holds before a point: past a head's first block, the head's state. -/
def Held (c : Dev nD) (t : ℕ) (Y : CI) : Prop :=
  ¬ t % 32 = 0 → Inv neg (aCb (Xat m c t)) (st (Xat m c) t).1 (st (Xat m c) t).2 Y

/-- The scratch and the generator's register between points. -/
def Phi (c : Dev nD) (t : ℕ) : sProp 𝕄 := iprop((∃ Y : CI, ⌜Held m c t Y⌝ ∗ scrAt c Y) ∗ (∃ r, prngReg c r))

/-- The attention block a point leaves. -/
def outBlk (c : Dev nD) (t : Fin cfg0.N) : S1x512x128.Idx → EReal := fun x =>
  outA neg scale (grid0.coords t) (Xat m c t.val) (st (Xat m c) t.val).1 (st (Xat m c) t.val).2 (x 1).val (x 2).val
/-- The value sums after a point. -/
def ufBlk (c : Dev nD) (t : Fin cfg0.N) : S1x1024x128.Idx → EReal := fun x => outU (Xat m c t.val) (st (Xat m c) t.val).1 (x 1).val (x 2).val
/-- The counters after a point. -/
def cfBlk (c : Dev nD) (t : Fin cfg0.N) : S1x1x1024.Idx → EReal := fun x => outK (Xat m c t.val) (st (Xat m c) t.val).2 (x 2).val

/-- The proof data: inputs at their blocks, outputs as named, the scratch at the head's state. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
    | ⟨11, _⟩ => ufBlk m c t
    | ⟨12, _⟩ => cfBlk m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outBlk m c t := by dsimp only [dats]
theorem after0_11 (c : Dev nD) (t : Fin cfg0.N) : (dats m 0 c).after 11 t = ufBlk m c t := by dsimp only [dats]
theorem after0_12 (c : Dev nD) (t : Fin cfg0.N) : (dats m 0 c).after 12 t = cfBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem live10 (t : Fin cfg0.N) : cfg0.idle 10 (grid0.coords t) = false := rfl

theorem leaves10 (c : Dev nD) (t : Fin cfg0.N) : (dats m 0 c).leavesExact 10 t = owns (c : Thread nD τ) (ms0_10 t) fullShare (outBlk m c t) := by
  unfold Dat.leavesExact; rw [live10 t, after0_10]

theorem leaves11_last (c : Dev nD) (t : Fin cfg0.N) (h : k0_cond2 (grid0.coords t) = 1#1) :
    (dats m 0 c).leavesExact 11 t = owns (c : Thread nD τ) (ms0_11 t) fullShare (ufBlk m c t) := by
  have e : cfg0.idle 11 (grid0.coords t) = false := by
    show (!decide (k0_cond2 (grid0.coords t) = 1#1)) = false
    rw [decide_eq_true h]; rfl
  unfold Dat.leavesExact; rw [e, after0_11]

theorem leaves11_idle (c : Dev nD) (t : Fin cfg0.N) (h : ¬ k0_cond2 (grid0.coords t) = 1#1) :
    (dats m 0 c).leavesExact 11 t = iprop(∃ d, owns (c : Thread nD τ) (ms0_11 t) fullShare ((dats m 0 c).before 11 t d)) := by
  refine Dat.leavesExact_idle _ 11 t ?_ ?_
  · show (!decide (k0_cond2 (grid0.coords t) = 1#1)) = true
    rw [decide_eq_false h]; rfl
  · exact Bool.eq_false_iff.2 fun hf => h ((last_iff t).2 ((flush0_11 t).1 hf))

theorem leaves12_last (c : Dev nD) (t : Fin cfg0.N) (h : k0_cond2 (grid0.coords t) = 1#1) :
    (dats m 0 c).leavesExact 12 t = owns (c : Thread nD τ) (ms0_12 t) fullShare (cfBlk m c t) := by
  have e : cfg0.idle 12 (grid0.coords t) = false := by
    show (!decide (k0_cond2 (grid0.coords t) = 1#1)) = false
    rw [decide_eq_true h]; rfl
  unfold Dat.leavesExact; rw [e, after0_12]

theorem leaves12_idle (c : Dev nD) (t : Fin cfg0.N) (h : ¬ k0_cond2 (grid0.coords t) = 1#1) :
    (dats m 0 c).leavesExact 12 t = iprop(∃ d, owns (c : Thread nD τ) (ms0_12 t) fullShare ((dats m 0 c).before 12 t d)) := by
  refine Dat.leavesExact_idle _ 12 t ?_ ?_
  · show (!decide (k0_cond2 (grid0.coords t) = 1#1)) = true
    rw [decide_eq_false h]; rfl
  · exact Bool.eq_false_iff.2 fun hf => h ((last_iff t).2 ((flush0_12 t).1 hf))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The outputs after the body are the blocks named. -/
theorem out_eq (c : Dev nD) (t : Fin cfg0.N) (X : CI) (hX : ∀ b : Nm, b.isIn = true → X b = Xat m c t.val b) (X' : CI)
    (h : ∀ q j, q < 512 → j < 128 → aOut X' q j = outA neg scale (grid0.coords t) X (st (Xat m c) t.val).1 (st (Xat m c) t.val).2 q j) :
    X' .out = outBlk m c t := by
  refine ext3 (L := 1) (N := 512) (M := 128) fun a r j ha hr hj => ?_
  obtain rfl : a = 0 := by omega
  refine (h r j hr hj).trans (Eq.trans ?_ (g3_of (L := 1) (N := 512) (M := 128) _ (by omega) hr hj).symm)
  show _ = outA neg scale (grid0.coords t) (Xat m c t.val) (st (Xat m c) t.val).1 (st (Xat m c) t.val).2 r j
  unfold outA cOf vOf aCb aCbf aKsm aQ aV aVs
  rw [hX .qs rfl, hX .v rfl, hX .vs rfl, hX .cb rfl, hX .cbf rfl, hX .ksm rfl, hX .q rfl]

theorem outU_eq (c : Dev nD) (t : Fin cfg0.N) (X : CI) (hX : ∀ b : Nm, b.isIn = true → X b = Xat m c t.val b) (U : ℕ → ℕ → EReal) :
    outU X U = outU (Xat m c t.val) U := by
  unfold outU vOf aV aVs aK
  rw [hX .v rfl, hX .vs rfl, hX .k rfl]

theorem outK_eq (c : Dev nD) (t : Fin cfg0.N) (X : CI) (hX : ∀ b : Nm, b.isIn = true → X b = Xat m c t.val b) (K : ℕ → EReal) :
    outK X K = outK (Xat m c t.val) K := by
  unfold outK aK
  rw [hX .k rfl]

theorem cb_eq (c : Dev nD) (t : Fin cfg0.N) (X : CI) (hX : ∀ b : Nm, b.isIn = true → X b = Xat m c t.val b) : aCb X = aCb (Xat m c t.val) := by
  unfold aCb
  rw [hX .cb rfl]

/-- The state after a point is what the scratch holds before the next. -/
theorem held_next (c : Dev nD) (t : Fin cfg0.N) (X X' : CI) (hX : ∀ b : Nm, b.isIn = true → X b = Xat m c t.val b)
    (h : Inv neg (aCb X) (outU X (st (Xat m c) t.val).1) (outK X (st (Xat m c) t.val).2) X') : Held m c (t.val + 1) X' := by
  intro h32
  have ht : t.val + 1 < cfg0.N := by
    have := lt_N t
    exact Nat.lt_of_lt_of_eq (by omega : t.val + 1 < 1920) N0.symm
  rw [cb_next m c t.val ht h32, st_next _ h32, ← cb_eq m c t X hX, ← outU_eq m c t X hX, ← outK_eq m c t X hX]
  exact h

/-- The key codes of every block name codebook rows. -/
def CodesLt : Prop := ∀ (c : Dev nD) (t : Fin cfg0.N) (r : Fin 512), ((iblk m c 0 t : S1x1x512.Idx → BitVec 32) (ix3 0 0 r)).toNat < 1024
  ∧ ((iblk m c 4 t : S1x1x512.Idx → BitVec 32) (ix3 0 0 r)).toNat < 1024

/-- The body's effect at a point, from the head's state. -/
theorem point_wp (hH : CodesLt m) (c : Dev nD) (t : Fin cfg0.N) (X : CI) (hX : ∀ b : Nm, b.isIn = true → X b = Xat m c t.val b)
    (hY : Held m c t.val X) :
    (body (F := Ideal) (opsAt t) neg scale (grid0.coords t)).wp (S := (opsAt t).bufs) X
      fun _ X' => Post neg scale (grid0.coords t) (st (Xat m c) t.val).1 (st (Xat m c) t.val).2 X X' := by
  refine body_wp (opsAt t) neg scale (grid0.coords t) X _ _ (fun h => ?_) (fun h => ?_) (fun r hr => ?_) (fun r => ?_)
  · rw [st_first _ ((first_iff t).1 h)]
    unfold aU0 aC0
    rw [hX .u0 rfl, hX .c0 rfl]
    exact ⟨rfl, rfl⟩
  · rw [cb_eq m c t X hX]
    exact hY fun h32 => h ((first_iff t).2 h32)
  · unfold aKsm
    rw [hX .ksm rfl, Xat_val]
    exact lt_of_eq_of_lt (congrArg BitVec.toNat (gk_of (M := 512) _ hr)) (hH c t ⟨r, hr⟩).1
  · unfold aK
    rw [hX .k rfl, Xat_val]
    by_cases hr : r < 512
    · exact lt_of_eq_of_lt (congrArg BitVec.toNat (gk_of (M := 512) _ hr)) (hH c t ⟨r, hr⟩).2
    · exact lt_of_eq_of_lt (congrArg BitVec.toNat (dif_neg hr)) (by decide)

/-- A block of value sums is known from its entries. -/
theorem uf_eq (c : Dev nD) (t : Fin cfg0.N) (X' : CI)
    (h : ∀ a j, a < 1024 → j < 128 → aUf X' a j = outU (Xat m c t.val) (st (Xat m c) t.val).1 a j) : X' .uf = ufBlk m c t := by
  refine ext3 (L := 1) (N := 1024) (M := 128) fun a r j ha hr hj => ?_
  obtain rfl : a = 0 := by omega
  exact (h r j hr hj).trans (g3_of (L := 1) (N := 1024) (M := 128) (ufBlk m c t) (by omega) hr hj).symm

theorem cf_eq (c : Dev nD) (t : Fin cfg0.N) (X' : CI)
    (h : ∀ a, a < 1024 → aCf X' a = outK (Xat m c t.val) (st (Xat m c) t.val).2 a) : X' .cf = cfBlk m c t := by
  refine ext3 (L := 1) (N := 1) (M := 1024) fun a r j ha hr hj => ?_
  obtain rfl : a = 0 := by omega
  obtain rfl : r = 0 := by omega
  exact (h j hj).trans (g3_of (L := 1) (N := 1) (M := 1024) (cfBlk m c t) (by omega) (by omega) hj).symm

set_option maxHeartbeats 4000000 in
/-- The body at any point. -/
theorem sound_body (hH : CodesLt m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [body_eq]
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [leaves10]
  unfold Phi scrAt
  iintro ⟨⟨⟨%Y, %hY, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  let X : CI := fun
    | .ksm => iblk m c 0 t | .qs => iblk m c 1 t | .q => iblk m c 2 t | .v => iblk m c 3 t | .k => iblk m c 4 t | .vs => iblk m c 5 t | .cb => iblk m c 6 t | .cbf => iblk m c 7 t | .u0 => iblk m c 8 t | .c0 => iblk m c 9 t
    | .out => (dats m 0 c).before 10 t d10 | .uf => (dats m 0 c).before 11 t d11 | .cf => (dats m 0 c).before 12 t d12
    | .lhs => Y .lhs | .kg => Y .kg | .s => Y .s | .p => Y .p | .ut => Y .ut | .utb => Y .utb | .cnt => Y .cnt | .cntc => Y .cntc
  have hX : ∀ b : Nm, b.isIn = true → X b = Xat m c t.val b := by
    rw [Xat_val]; intro b hb; cases b <;> first | rfl | exact absurd hb (by decide)
  have hYX : Held m c t.val X := fun h => ⟨(hY h).cb, (hY h).mask, (hY h).zero, (hY h).ut, (hY h).utb, (hY h).cnt, (hY h).cntc⟩
  iapply (triple_then (opsAt t) (defs₀ (F := Ideal)) Variants.none c Set.univ _ X _ _ (point_wp m hH c t X hX hYX))
  isplitl [H0 H1 H2 H3 H4 H5 H6 H7 H8 H9 H10 H11 H12 S0 S1 S2 S3 S4 S5 S6 S7]
  · unfold ownList ownScratch
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %X' %hX' H
  have hs := hX'.same
  have hout := out_eq m c t X hX X' hX'.out
  have hheld := held_next m c t X X' hX hX'.inv
  unfold ownList ownScratch
  rw [hs .ksm rfl, hs .qs rfl, hs .q rfl, hs .v rfl, hs .k rfl, hs .vs rfl, hs .cb rfl, hs .cbf rfl, hs .u0 rfl, hs .c0 rfl, hout]
  icases H with ⟨H0, H1, H2, H3, H4, H5, H6, H7, H8, H9, H10, H11, H12, S0, S1, S2, S3, S4, S5, S6, S7⟩
  isplitl [S0 S1 S2 S3 S4 S5 S6 S7 Hg]
  · isplitl [S0 S1 S2 S3 S4 S5 S6 S7]
    · iexists X'
      isplitr; · ipureintro; exact hheld
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  by_cases hl : k0_cond2 (grid0.coords t) = 1#1
  · rw [leaves11_last m c t hl, leaves12_last m c t hl,
      ← uf_eq m c t X' (fun a j ha hj => (hX'.uf hl a j ha hj).trans (congrFun (congrFun (outU_eq m c t X hX _) a) j)),
      ← cf_eq m c t X' (fun a ha => (hX'.cf hl a ha).trans (congrFun (outK_eq m c t X hX _) a))]
    isplitl [H11]; · iexact H11
    iexact H12
  · rw [leaves11_idle m c t hl, leaves12_idle m c t hl, hX'.uf' hl, hX'.cf' hl]
    isplitl [H11]; · iexists _; iexact H11
    iexists _; iexact H12

theorem body_obligation (hH : CodesLt m) (c : Dev nD) : BodyObligation (dats m 0 c) (defs₀ (F := Ideal)) Variants.none () Set.univ := fun t => by
  rw [bigSep_W0, bigSep_W0, defs₀_row]
  exact triple_restated (sound_body m hH c t) rfl .rfl fun _ => .rfl

theorem phi_in (c : Dev nD) : Pipeline.ΦA spec0 c ⊢ (dats m 0 c).Φ 0 := by
  rw [PhiA0_eq, show (dats m 0 c).Φ 0 = Phi m c 0 from rfl]
  unfold Phi scrAt
  iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩
  isplitl [S0 S1 S2 S3 S4 S5 S6 S7]
  · iexists (fun | .lhs => s0 | .kg => s1 | .s => s2 | .p => s3 | .ut => s4 | .utb => s5 | .cnt => s6 | .cntc => s7 | b => Xat m c 0 b : CI)
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Hg

theorem phi_out (c : Dev nD) : (dats m 0 c).Φ (Fin.last cfg0.N) ⊢ Pipeline.ΦA spec0 c := by
  rw [PhiA0_eq, show (dats m 0 c).Φ (Fin.last cfg0.N) = Phi m c cfg0.N from rfl]
  unfold Phi scrAt
  iintro ⟨⟨%Y, %hY, S0, S1, S2, S3, S4, S5, S6, S7⟩, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

set_option backward.isDefEq.respectTransparency.types false in
set_option maxHeartbeats 800000 in
/-- The run: the arrays as the points leave them, the buffers after the region computed from them, every semaphore counter at zero. -/
theorem run_main (hH : CodesLt m) : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m hH c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

end Cert.KernelIdeal.Val
-- ==== Proof.Spec.lean ====
/-
  The mathematics of the three results, of one head, at natural-number indices: the value sums and counters before block `n` are the initial
  ones with every earlier key's contribution added, and the attention of query `q` of block `n` weighs the codebook's used rows and the
  block's keys up to `q`.
-/
module

public import proofs.«01_k».proof.Proof.NatAt
public import Idealize.ShloMosaic.PureOps.Ideal

@[expose] public section

noncomputable section

namespace Cert.Spec

open Idealize.ShloMosaic Cert.NatAt

/-- Entry `a`, `b`, `r`, `c` of an array of rank 4 (0 outside). -/
def g4 {K L N M : Nat} (x : (⟨4, ![K, L, N, M]⟩ : Shape).Idx → EReal) (a b r c : ℕ) : EReal :=
  if h : a < K ∧ b < L ∧ r < N ∧ c < M then x (ix4 ⟨a, h.1⟩ ⟨b, h.2.1⟩ ⟨r, h.2.2.1⟩ ⟨c, h.2.2.2⟩) else 0

theorem g4_of {K L N M : Nat} (x : (⟨4, ![K, L, N, M]⟩ : Shape).Idx → EReal) {a b r c : ℕ} (ha : a < K) (hb : b < L) (hr : r < N) (hc : c < M) :
    g4 x a b r c = x (ix4 ⟨a, ha⟩ ⟨b, hb⟩ ⟨r, hr⟩ ⟨c, hc⟩) := dif_pos ⟨ha, hb, hr, hc⟩

/-- The value of a word of an array of rank 3 (0 outside). -/
def k3 {L N M : Nat} (x : (⟨3, ![L, N, M]⟩ : Shape).Idx → BitVec 32) (a r c : ℕ) : ℕ :=
  if h : a < L ∧ r < N ∧ c < M then (x (ix3 ⟨a, h.1⟩ ⟨r, h.2.1⟩ ⟨c, h.2.2⟩)).toNat else 0

theorem k3_of {L N M : Nat} (x : (⟨3, ![L, N, M]⟩ : Shape).Idx → BitVec 32) {a r c : ℕ} (ha : a < L) (hr : r < N) (hc : c < M) :
    k3 x a r c = (x (ix3 ⟨a, ha⟩ ⟨r, hr⟩ ⟨c, hc⟩)).toNat := dif_pos ⟨ha, hr, hc⟩

/-- A reshape reads the entry at the same row-major position. -/
theorem cast_at {α : Type} {s t : Shape} (x : s.Idx → α) (h : s.ShapeCasts t) {i : s.Idx} {j : t.Idx}
    (e : (s.rowMajor i).val = (t.rowMajor j).val) : shapeCast t x h j = x i :=
  congrArg x (Shape.reshapeEquiv_eq_of_rowMajor _ e)

/-- One head's data: queries, scales, key codes, codebook, values, value scales, initial sums and counters. -/
structure Head where
  Q : ℕ → ℕ → EReal
  sc : ℕ → EReal
  kk : ℕ → ℕ
  cb : ℕ → ℕ → EReal
  V : ℕ → ℕ → EReal
  vs : ℕ → EReal
  U0 : ℕ → ℕ → EReal
  K0 : ℕ → EReal

/-- Head `h` of sequence `b` in the argument arrays. -/
def headOf (q : (⟨4, ![3, 16384, 20, 128]⟩ : Shape).Idx → EReal) (sc : (⟨3, ![3, 32, 20]⟩ : Shape).Idx → EReal)
    (k : (⟨3, ![3, 16384, 20]⟩ : Shape).Idx → BitVec 32) (cb : (⟨3, ![20, 1024, 128]⟩ : Shape).Idx → EReal)
    (v : (⟨4, ![3, 16384, 20, 128]⟩ : Shape).Idx → EReal) (vs : (⟨3, ![3, 16384, 20]⟩ : Shape).Idx → EReal)
    (u0 : (⟨4, ![3, 20, 1024, 128]⟩ : Shape).Idx → EReal) (k0 : (⟨3, ![3, 20, 1024]⟩ : Shape).Idx → EReal) (b h : ℕ) : Head where
  Q t j := g4 q b t h j
  sc n := g3 sc b n h
  kk t := k3 k b t h
  cb r j := g3 cb h r j
  V t j := g4 v b t h j
  vs t := g3 vs b t h
  U0 r j := g4 u0 b h r j
  K0 r := g3 k0 b h r

variable (H : Head)

/-- What block `n`'s keys add to code `c`'s value sum, and to its counter. -/
def dU (n c j : ℕ) : EReal := ∑ t ∈ Finset.range 512, H.V (512 * n + t) j * H.vs (512 * n + t) * (if H.kk (512 * n + t) = c then 1 else 0)
def dK (n c : ℕ) : EReal := ∑ t ∈ Finset.range 512, if H.kk (512 * n + t) = c then 1 else 0

/-- The value sums and the counters before block `n`. -/
def U (n c j : ℕ) : EReal := H.U0 c j + ∑ i ∈ Finset.range n, dU H i c j
def K (n c : ℕ) : EReal := H.K0 c + ∑ i ∈ Finset.range n, dK H i c

theorem U_succ (n c j : ℕ) : U H (n + 1) c j = U H n c j + dU H n c j := by
  unfold U; rw [Finset.sum_range_succ, add_assoc]

theorem K_succ (n c : ℕ) : K H (n + 1) c = K H n c + dK H n c := by
  unfold K; rw [Finset.sum_range_succ, add_assoc]

/-- The product of query `t` and row `r` of the codebook. -/
def dot (r t : ℕ) : EReal := ∑ j ∈ Finset.range 128, H.cb r j * H.Q t j

/-- The score of codebook row `r` for query `q` of block `n`, minus infinity where no key had the row, -/
def gScore (n r q : ℕ) : EReal := if 0 < K H n r then dot H r (512 * n + q) else ⊥
/-- and of the block's key `t`, minus infinity past the query. -/
def kScore (n t q : ℕ) : EReal := if t ≤ q then dot H (H.kk (512 * n + t)) (512 * n + q) else ⊥

/-- The greatest score. -/
def top (n q : ℕ) : EReal := (Finset.range 1024).sup (gScore H n · q) ⊔ (Finset.range 512).sup (kScore H n · q)

/-- The binary32 number nearest `128 ^ (-1/2)`: both programs' score scale. -/
def invSqrtD : ℝ := 11863283 / 134217728

theorem invSqrtD_pos : 0 < invSqrtD := by unfold invSqrtD; norm_num

/-- The temperature of block `n`. -/
def temp (n : ℕ) : EReal := H.sc n * (invSqrtD : EReal)

/-- The weight of a score. -/
def weight (n q : ℕ) (s : EReal) : EReal := Ideal.exp ((s - top H n q) * temp H n)

/-- The attention of query `q` of block `n`, feature `j`. -/
def att (n q j : ℕ) : EReal := Ideal.div
  ((∑ r ∈ Finset.range 1024, U H n r j * weight H n q (gScore H n r q))
    + ∑ t ∈ Finset.range 512, H.V (512 * n + t) j * H.vs (512 * n + t) * weight H n q (kScore H n t q))
  ((∑ r ∈ Finset.range 1024, weight H n q (gScore H n r q) * K H n r) + ∑ t ∈ Finset.range 512, weight H n q (kScore H n t q))

/-- The three results of the heads: the attention, the value sums and the counters after the last block. -/
def res1 (hd : ℕ → Head) (y : (⟨3, ![3, 16384, 2560]⟩ : Shape).Idx) : EReal :=
  att (hd (20 * (y 0).val + (y 2).val / 128)) ((y 1).val / 512) ((y 1).val % 512) ((y 2).val % 128)
def res2 (hd : ℕ → Head) (y : (⟨4, ![3, 20, 1024, 128]⟩ : Shape).Idx) : EReal := U (hd (20 * (y 0).val + (y 1).val)) 32 (y 2).val (y 3).val
def res3 (hd : ℕ → Head) (y : (⟨3, ![3, 20, 1024]⟩ : Shape).Idx) : EReal := K (hd (20 * (y 0).val + (y 1).val)) 32 (y 2).val

end Cert.Spec
-- ==== Proof.KernelIdealReads.lean ====
/- The blocks of `KernelIdeal` read in its arguments: at point `t` they are block `t % 32` of head `t / 32`. -/
module

public import proofs.«01_k».proof.Proof.KernelIdealValue
public import proofs.«01_k».proof.Proof.Spec
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal.Gen Cert.Body Cert.NatAt Cert.Spec

variable (m : (ℓ : Loc nD τ sig) → Buf (Elt Ideal) ℓ) (c : Dev nD)

theorem blk3 (t : Fin cfg0.N) (j : Fin 128) (r : Fin 512) : (iblk m c 3 t : S1x128x512.Idx → EReal) (ix3 0 j r)
    = (V m c main_v3 : S60x128x16384.Idx → EReal) (ix3 ⟨t.val / 32, by have := lt_N t; omega⟩ j ⟨512 * (t.val % 32) + r.val, by omega⟩) := by
  blk_ext [iblk, idx3 t]

theorem blk4 (t : Fin cfg0.N) (r : Fin 512) : (iblk m c 4 t : S1x1x512.Idx → BitVec 32) (ix3 0 0 r)
    = (V m c main_v5 : S60x1x16384.Idx → BitVec 32) (ix3 ⟨t.val / 32, by have := lt_N t; omega⟩ 0 ⟨512 * (t.val % 32) + r.val, by omega⟩) := by
  blk_ext [iblk, idx4 t]

theorem blk5 (t : Fin cfg0.N) (r : Fin 512) : (iblk m c 5 t : S1x1x512.Idx → EReal) (ix3 0 0 r)
    = (V m c main_v7 : S60x1x16384.Idx → EReal) (ix3 ⟨t.val / 32, by have := lt_N t; omega⟩ 0 ⟨512 * (t.val % 32) + r.val, by omega⟩) := by
  blk_ext [iblk, idx5 t]

theorem blk7 (t : Fin cfg0.N) (a : Fin 1024) (b : Fin 128) : (iblk m c 7 t : S1x1024x128.Idx → EReal) (ix3 0 a b)
    = (V m c main_v10 : S20x1024x128.Idx → EReal) (ix3 ⟨t.val / 32 % 20, by omega⟩ a b) := by
  blk_ext [iblk, idx7 t]

theorem blk8 (t : Fin cfg0.N) (a : Fin 1024) (b : Fin 128) : (iblk m c 8 t : S1x1024x128.Idx → EReal) (ix3 0 a b)
    = (V m c main_v11 : S60x1024x128.Idx → EReal) (ix3 ⟨t.val / 32, by have := lt_N t; omega⟩ a b) := by
  blk_ext [iblk, idx8 t]

theorem blk9 (t : Fin cfg0.N) (a : Fin 1024) : (iblk m c 9 t : S1x1x1024.Idx → EReal) (ix3 0 0 a)
    = (V m c main_v12 : S60x1x1024.Idx → EReal) (ix3 ⟨t.val / 32, by have := lt_N t; omega⟩ 0 a) := by
  blk_ext [iblk, idx9 t]

/-! The arrays before the call, in the arguments. -/

theorem V1_eq : V m c main_v1 = shapeCast S60x128x16384 (transpose S3x20x128x16384 [0, 2, 3, 1] (m ((c : Thread nD τ).loc main_arg0))
    transposes_S3x16384x20x128_S3x20x128x16384_0_2_3_1) shapeCasts_S3x20x128x16384_S60x128x16384 := by
  show StableHlo.after (List.flatten [hostOps0]) (fun b => m (c, b)) (Proc.devRef .tc main_v1) = _
  simp only [hostOps0, List.flatten_cons, List.flatten_nil, List.append_nil, List.cons_append, List.nil_append]
  after_results
  rfl

theorem V3_eq : V m c main_v3 = shapeCast S60x128x16384 (transpose S3x20x128x16384 [0, 2, 3, 1] (m ((c : Thread nD τ).loc main_arg4))
    transposes_S3x16384x20x128_S3x20x128x16384_0_2_3_1) shapeCasts_S3x20x128x16384_S60x128x16384 := by
  show StableHlo.after (List.flatten [hostOps0]) (fun b => m (c, b)) (Proc.devRef .tc main_v3) = _
  simp only [hostOps0, List.flatten_cons, List.flatten_nil, List.append_nil, List.cons_append, List.nil_append]
  after_results
  rfl

theorem V5_eq : V m c main_v5 = shapeCast S60x1x16384 (transpose S3x20x16384 [0, 2, 1] (m ((c : Thread nD τ).loc main_arg2))
    transposes_S3x16384x20_S3x20x16384_0_2_1) shapeCasts_S3x20x16384_S60x1x16384 := by
  show StableHlo.after (List.flatten [hostOps0]) (fun b => m (c, b)) (Proc.devRef .tc main_v5) = _
  simp only [hostOps0, List.flatten_cons, List.flatten_nil, List.append_nil, List.cons_append, List.nil_append]
  after_results
  rfl

theorem V7_eq : V m c main_v7 = shapeCast S60x1x16384 (transpose S3x20x16384 [0, 2, 1] (m ((c : Thread nD τ).loc main_arg5))
    transposes_S3x16384x20_S3x20x16384_0_2_1) shapeCasts_S3x20x16384_S60x1x16384 := by
  show StableHlo.after (List.flatten [hostOps0]) (fun b => m (c, b)) (Proc.devRef .tc main_v7) = _
  simp only [hostOps0, List.flatten_cons, List.flatten_nil, List.append_nil, List.cons_append, List.nil_append]
  after_results
  rfl

theorem V9_eq : V m c main_v9 = shapeCast S60x32 (transpose S3x20x32 [0, 2, 1] (m ((c : Thread nD τ).loc main_arg1))
    transposes_S3x32x20_S3x20x32_0_2_1) shapeCasts_S3x20x32_S60x32 := by
  show StableHlo.after (List.flatten [hostOps0]) (fun b => m (c, b)) (Proc.devRef .tc main_v9) = _
  simp only [hostOps0, List.flatten_cons, List.flatten_nil, List.append_nil, List.cons_append, List.nil_append]
  after_results
  rfl

theorem V10_eq : V m c main_v10 = extf (F := Ideal) .f32 (m ((c : Thread nD τ).loc main_arg3) : FVec Ideal S20x1024x128 .bf16) bitsLt_bf16_f32 := by
  show StableHlo.after (List.flatten [hostOps0]) (fun b => m (c, b)) (Proc.devRef .tc main_v10) = _
  simp only [hostOps0, List.flatten_cons, List.flatten_nil, List.append_nil, List.cons_append, List.nil_append]
  after_results

theorem V11_eq : V m c main_v11 = shapeCast S60x1024x128 (m ((c : Thread nD τ).loc main_arg6)) shapeCasts_S3x20x1024x128_S60x1024x128 := by
  show StableHlo.after (List.flatten [hostOps0]) (fun b => m (c, b)) (Proc.devRef .tc main_v11) = _
  simp only [hostOps0, List.flatten_cons, List.flatten_nil, List.append_nil, List.cons_append, List.nil_append]
  after_results
  rfl

theorem V12_eq : V m c main_v12 = shapeCast S60x1x1024 (m ((c : Thread nD τ).loc main_arg7)) shapeCasts_S3x20x1024_S60x1x1024 := by
  show StableHlo.after (List.flatten [hostOps0]) (fun b => m (c, b)) (Proc.devRef .tc main_v12) = _
  simp only [hostOps0, List.flatten_cons, List.flatten_nil, List.append_nil, List.cons_append, List.nil_append]
  after_results
  rfl

/-! and read at an index. -/

theorem V1_at (i : Fin 60) (j : Fin 128) (s : Fin 16384) : (V m c main_v1 : S60x128x16384.Idx → EReal) (ix3 i j s)
    = (m ((c : Thread nD τ).loc main_arg0) : S3x16384x20x128.Idx → EReal) (ix4 ⟨i.val / 20, by omega⟩ s ⟨i.val % 20, by omega⟩ j) := by
  rw [V1_eq]; pointwise

theorem V3_at (i : Fin 60) (j : Fin 128) (s : Fin 16384) : (V m c main_v3 : S60x128x16384.Idx → EReal) (ix3 i j s)
    = (m ((c : Thread nD τ).loc main_arg4) : S3x16384x20x128.Idx → EReal) (ix4 ⟨i.val / 20, by omega⟩ s ⟨i.val % 20, by omega⟩ j) := by
  rw [V3_eq]; pointwise

theorem V5_at (i : Fin 60) (s : Fin 16384) : (V m c main_v5 : S60x1x16384.Idx → BitVec 32) (ix3 i 0 s)
    = (m ((c : Thread nD τ).loc main_arg2) : S3x16384x20.Idx → BitVec 32) (ix3 ⟨i.val / 20, by omega⟩ s ⟨i.val % 20, by omega⟩) := by
  rw [V5_eq]; pointwise

theorem V7_at (i : Fin 60) (s : Fin 16384) : (V m c main_v7 : S60x1x16384.Idx → EReal) (ix3 i 0 s)
    = (m ((c : Thread nD τ).loc main_arg5) : S3x16384x20.Idx → EReal) (ix3 ⟨i.val / 20, by omega⟩ s ⟨i.val % 20, by omega⟩) := by
  rw [V7_eq]; pointwise

theorem V9_at (i : Fin 60) (n : Fin 32) : (V m c main_v9 : S60x32.Idx → EReal) (ix2 i n)
    = (m ((c : Thread nD τ).loc main_arg1) : S3x32x20.Idx → EReal) (ix3 ⟨i.val / 20, by omega⟩ n ⟨i.val % 20, by omega⟩) := by
  rw [V9_eq]; pointwise

theorem V10_at (i : Fin 20) (a : Fin 1024) (b : Fin 128) : (V m c main_v10 : S20x1024x128.Idx → EReal) (ix3 i a b)
    = (m ((c : Thread nD τ).loc main_arg3) : S20x1024x128.Idx → EReal) (ix3 i a b) := by
  rw [V10_eq]; pointwise

theorem V11_at (i : Fin 60) (a : Fin 1024) (b : Fin 128) : (V m c main_v11 : S60x1024x128.Idx → EReal) (ix3 i a b)
    = (m ((c : Thread nD τ).loc main_arg6) : S3x20x1024x128.Idx → EReal) (ix4 ⟨i.val / 20, by omega⟩ ⟨i.val % 20, by omega⟩ a b) := by
  rw [V11_eq]
  refine cast_at (s := S3x20x1024x128) _ _ ?_
  rw [Shape.rowMajor_val_three, Shape.rowMajor_val_four]
  show ((i.val / 20 * 20 + i.val % 20) * 1024 + a.val) * 128 + b.val = (i.val * 1024 + a.val) * 128 + b.val
  omega

theorem V12_at (i : Fin 60) (a : Fin 1024) : (V m c main_v12 : S60x1x1024.Idx → EReal) (ix3 i 0 a)
    = (m ((c : Thread nD τ).loc main_arg7) : S3x20x1024.Idx → EReal) (ix3 ⟨i.val / 20, by omega⟩ ⟨i.val % 20, by omega⟩ a) := by
  rw [V12_eq]
  refine cast_at (s := S3x20x1024) _ _ ?_
  rw [Shape.rowMajor_val_three, Shape.rowMajor_val_three]
  show (i.val / 20 * 20 + i.val % 20) * 1024 + a.val = (i.val * 1 + 0) * 1024 + a.val
  omega

end Cert.KernelIdeal.Val
-- ==== Proof.KernelIdealHead.lean ====
/- `KernelIdeal`'s blocks at point `t` are block `t % 32` of head `t / 32`, and its state there is the head's prefix sums. -/
module

public import proofs.«01_k».proof.Proof.KernelIdealReads

@[expose] public section

set_option maxRecDepth 16384

noncomputable section

namespace Cert.KernelIdeal.Val

open Idealize.ShloMosaic Idealize.ShloMosaic.TcCoe Idealize.ShloMosaic.Tactic
open Cert.KernelIdeal.Gen Cert.Body Cert.NatAt Cert.Spec

variable (m : (ℓ : Loc nD τ sig) → Buf (Elt Ideal) ℓ) (c : Dev nD)

/-- Head `i` of the arguments. -/
def hd (i : ℕ) : Head := headOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (i / 20) (i % 20)

variable (t : Fin cfg0.N)

/-- The query block of a step, at an entry. -/
theorem aQ_at {j q : ℕ} (hj : j < 128) (hq : q < 512) : aQ (Xat m c t.val) j q = (hd m c (t.val / 32)).Q (512 * (t.val % 32) + q) j := by
  have := lt_N t
  rw [Xat_val]
  refine (g3_of (L := 1) (N := 128) (M := 512) _ (by omega) hj hq).trans ((blk2 m c t ⟨j, hj⟩ ⟨q, hq⟩).trans ((V1_at m c _ _ _).trans ?_))
  exact (g4_of _ (by omega) (by omega) (by omega) hj).symm

/-- The value block of a step, at an entry. -/
theorem aV_at {j q : ℕ} (hj : j < 128) (hq : q < 512) : aV (Xat m c t.val) j q = (hd m c (t.val / 32)).V (512 * (t.val % 32) + q) j := by
  have := lt_N t
  rw [Xat_val]
  refine (g3_of (L := 1) (N := 128) (M := 512) _ (by omega) hj hq).trans ((blk3 m c t ⟨j, hj⟩ ⟨q, hq⟩).trans ((V3_at m c _ _ _).trans ?_))
  exact (g4_of _ (by omega) (by omega) (by omega) hj).symm

/-- The value scales of a step, at an entry. -/
theorem aVs_at {q : ℕ} (hq : q < 512) : aVs (Xat m c t.val) q = (hd m c (t.val / 32)).vs (512 * (t.val % 32) + q) := by
  have := lt_N t
  rw [Xat_val]
  refine (g3_of (L := 1) (N := 1) (M := 512) _ (by omega) (by omega) hq).trans ((blk5 m c t ⟨q, hq⟩).trans ((V7_at m c _ _).trans ?_))
  exact (g3_of _ (by omega) (by omega) (by omega)).symm

/-- The codes of a step, at an entry. -/
theorem aK_at {q : ℕ} (hq : q < 512) : (aK (Xat m c t.val) q).toNat = (hd m c (t.val / 32)).kk (512 * (t.val % 32) + q) := by
  have := lt_N t
  rw [Xat_val]
  refine (congrArg BitVec.toNat ((gk_of (M := 512) _ hq).trans ((blk4 m c t ⟨q, hq⟩).trans (V5_at m c _ _)))).trans ?_
  exact (k3_of _ (by omega) (by omega) (by omega)).symm

/-- The codes of a step, as scalars. -/
theorem aKsm_at {q : ℕ} (hq : q < 512) : (aKsm (Xat m c t.val) q).toNat = (hd m c (t.val / 32)).kk (512 * (t.val % 32) + q) := by
  have := lt_N t
  rw [Xat_val]
  refine (congrArg BitVec.toNat ((gk_of (M := 512) _ hq).trans ((blk0 m c t ⟨q, hq⟩).trans (V5_at m c _ _)))).trans ?_
  exact (k3_of _ (by omega) (by omega) (by omega)).symm

/-- The codebook of a step, at an entry. -/
theorem aCb_at {r j : ℕ} (hr : r < 1024) (hj : j < 128) : aCb (Xat m c t.val) r j = (hd m c (t.val / 32)).cb r j := by
  have := lt_N t
  rw [Xat_val]
  refine (g3_of (L := 1) (N := 1024) (M := 128) _ (by omega) hr hj).trans ((blk6 m c t ⟨r, hr⟩ ⟨j, hj⟩).trans ?_)
  rw [V_main_arg3]
  exact (g3_of _ (by omega) hr hj).symm

/-- The widened codebook of a step, at an entry. -/
theorem aCbf_at {r j : ℕ} (hr : r < 1024) (hj : j < 128) : aCbf (Xat m c t.val) r j = (hd m c (t.val / 32)).cb r j := by
  have := lt_N t
  rw [Xat_val]
  refine (g3_of (L := 1) (N := 1024) (M := 128) _ (by omega) hr hj).trans ((blk7 m c t ⟨r, hr⟩ ⟨j, hj⟩).trans ((V10_at m c _ _ _).trans ?_))
  exact (g3_of _ (by omega) hr hj).symm

/-- The first value sums of a step's head. -/
theorem aU0_at {r j : ℕ} (hr : r < 1024) (hj : j < 128) : aU0 (Xat m c t.val) r j = (hd m c (t.val / 32)).U0 r j := by
  have := lt_N t
  rw [Xat_val]
  refine (g3_of (L := 1) (N := 1024) (M := 128) _ (by omega) hr hj).trans ((blk8 m c t ⟨r, hr⟩ ⟨j, hj⟩).trans ((V11_at m c _ _ _).trans ?_))
  exact (g4_of _ (by omega) (by omega) hr hj).symm

/-- The first counts of a step's head. -/
theorem aC0_at {r : ℕ} (hr : r < 1024) : aC0 (Xat m c t.val) r = (hd m c (t.val / 32)).K0 r := by
  have := lt_N t
  rw [Xat_val]
  refine (g3_of (L := 1) (N := 1) (M := 1024) _ (by omega) (by omega) hr).trans ((blk9 m c t ⟨r, hr⟩).trans ((V12_at m c _ _).trans ?_))
  exact (g3_of _ (by omega) (by omega) hr).symm

/-- The factor of the scores of a step. -/
theorem cOf_at : cOf scale (grid0.coords t) (Xat m c t.val) = (hd m c (t.val / 32)).sc (t.val % 32) * scale := by
  have := lt_N t
  rw [Xat_val]
  unfold cOf
  rw [coord0, coord1]
  refine congrArg (· * scale) ((g2_of (N := 60) (M := 32) _ (by omega) (by omega)).trans ((blk1 m c t _ _).trans ((V9_at m c _ _).trans ?_)))
  exact (g3_of _ (by omega) (by omega) (by omega)).symm

/-- A block's keys add to the state what the head's block adds. -/
theorem outU_at {W : ℕ → ℕ → EReal} {r j : ℕ} (hj : j < 128)
    (h : W r j = U (hd m c (t.val / 32)) (t.val % 32) r j) :
    outU (Xat m c t.val) W r j = U (hd m c (t.val / 32)) (t.val % 32 + 1) r j := by
  rw [U_succ]
  unfold outU nextU dU
  rw [h]
  congr 1
  refine Finset.sum_congr rfl fun q hq => ?_
  have hq := Finset.mem_range.1 hq
  unfold vOf
  beta_reduce
  rw [aV_at m c t hj hq, aVs_at m c t hq, aK_at m c t hq]

/-- The counts written, at an entry. -/
theorem outK_at {W : ℕ → EReal} {r : ℕ} (h : W r = K (hd m c (t.val / 32)) (t.val % 32) r) :
    outK (Xat m c t.val) W r = K (hd m c (t.val / 32)) (t.val % 32 + 1) r := by
  rw [K_succ]
  unfold outK nextK dK
  rw [h]
  congr 1
  refine Finset.sum_congr rfl fun q hq => ?_
  beta_reduce
  rw [aK_at m c t (Finset.mem_range.1 hq), one_mul]

/-- The state before point `t`. -/
theorem st_at : ∀ t : ℕ, t < cfg0.N → ∀ r, r < 1024 →
    (∀ j, j < 128 → (st (Xat m c) t).1 r j = U (hd m c (t / 32)) (t % 32) r j) ∧ (st (Xat m c) t).2 r = K (hd m c (t / 32)) (t % 32) r := by
  have first : ∀ t : ℕ, t < cfg0.N → t % 32 = 0 → ∀ r, r < 1024 →
      (∀ j, j < 128 → (st (Xat m c) t).1 r j = U (hd m c (t / 32)) (t % 32) r j) ∧ (st (Xat m c) t).2 r = K (hd m c (t / 32)) (t % 32) r := by
    intro t ht h0 r hr
    rw [st_first _ h0, h0]
    refine ⟨fun j hj => ?_, ?_⟩
    · exact (aU0_at m c ⟨t, ht⟩ hr hj).trans (by simp [U])
    · exact (aC0_at m c ⟨t, ht⟩ hr).trans (by simp [K])
  intro t
  induction t with
  | zero => exact fun h => first 0 h rfl
  | succ t ih =>
    intro ht r hr
    by_cases h0 : (t + 1) % 32 = 0
    · exact first _ ht h0 r hr
    · rw [st_next _ h0, show (t + 1) / 32 = t / 32 by omega, show (t + 1) % 32 = t % 32 + 1 by omega]
      have ht' : t < cfg0.N := by omega
      refine ⟨fun j hj => outU_at m c ⟨t, ht'⟩ hj ((ih ht' r hr).1 j hj), outK_at m c ⟨t, ht'⟩ (ih ht' r hr).2⟩

/-- Codes below 1024 are below 1024 in every block. -/
theorem codesLt (h : ∀ (c : Dev nD) y, (m ((c : Thread nD τ).loc main_arg2) y : BitVec 32).toNat < 1024) : CodesLt m := fun c t r => by
  rw [blk0, blk4, V5_at]
  exact ⟨h c _, h c _⟩

end Cert.KernelIdeal.Val
-- ==== Proof.AttEq.lean ====
/-
  The kernel's attention formula is the head's: scaling the scores by a positive finite temperature commutes with taking the greatest,
  `2 ^ (x / log 2)` is `exp x`, and the rows past the query's block have weight 0.
-/
module

public import proofs.«01_k».proof.Proof.Block
public import proofs.«01_k».proof.Proof.Spec

@[expose] public section

noncomputable section

namespace Cert.AttEq

open Idealize.ShloMosaic Cert.Body Cert.NatAt Cert.Spec

/-- `2 ^ (x · s · (log 2)⁻¹ · d) = exp (x · (s · d))`. -/
theorem exp2_eq (x s : EReal) (hs : 0 < s) (hs' : s < ⊤) {d : ℝ} (hd : 0 < d) :
    Ideal.exp2 (x * (s * (((Real.log 2)⁻¹ * d : ℝ) : EReal))) = Ideal.exp (x * (s * (d : EReal))) := by
  lift s to ℝ using ⟨hs'.ne, (bot_lt_of_lt hs).ne'⟩
  have hs : 0 < s := EReal.coe_pos.1 hs
  have hl : 0 < Real.log 2 := Real.log_pos (by norm_num)
  rw [← EReal.coe_mul, ← EReal.coe_mul]
  have h1 : 0 < s * ((Real.log 2)⁻¹ * d) := by positivity
  have h2 : 0 < s * d := by positivity
  induction x using EReal.rec with
  | bot => rw [EReal.bot_mul_coe_of_pos h1, EReal.bot_mul_coe_of_pos h2]; simp
  | top => rw [EReal.top_mul_coe_of_pos h1, EReal.top_mul_coe_of_pos h2]; simp
  | coe x =>
    rw [← EReal.coe_mul, ← EReal.coe_mul, Ideal.exp2_coe, Ideal.exp_coe]
    congr 1
    show (2 : ℝ) ^ (x * (s * ((Real.log 2)⁻¹ * d))) = Real.exp (x * (s * d))
    rw [Real.rpow_def_of_pos (by norm_num)]
    congr 1
    field_simp

variable (H : Head) (n : ℕ)

/-- The rows' scores: the codebook's, then the block's keys'. -/
theorem scr_code {cb : ℕ → ℕ → EReal} {K' : ℕ → EReal} {kg Q : ℕ → ℕ → EReal} {q r : ℕ} (hr : r < 1024)
    (hcb : ∀ j, j < 128 → cb r j = H.cb r j) (hQ : ∀ j, j < 128 → Q j q = H.Q (512 * n + q) j) (hK : K' r = K H n r) :
    scr ⊥ (rowsL ⊥ cb K' kg) Q r q = gScore H n r q := by
  have e0 : rowsL ⊥ cb K' kg r 128 = maskOf ⊥ (K H n r) := by
    unfold rowsL; rw [if_pos hr, if_neg (by omega), hK]
  have e : ∑ j ∈ Finset.range 128, rowsL ⊥ cb K' kg r j * Q j q = dot H r (512 * n + q) :=
    Finset.sum_congr rfl fun j hj => by
      have hj := Finset.mem_range.1 hj
      unfold rowsL
      rw [if_pos hr, if_pos hj, hcb j hj, hQ j hj]
  unfold scr score gScore
  rw [if_pos (Or.inl hr), e0, e]
  unfold maskOf
  by_cases h : 0 < K H n r
  · rw [if_pos h, if_pos h, add_zero]
  · rw [if_neg h, if_neg h, EReal.add_bot]

/-- The kernel's score of a key is the key's score. -/
theorem scr_key {cb : ℕ → ℕ → EReal} {K' : ℕ → EReal} {kg Q : ℕ → ℕ → EReal} {q t : ℕ}
    (hkg : ∀ j, j < 128 → kg t j = H.cb (H.kk (512 * n + t)) j) (hQ : ∀ j, j < 128 → Q j q = H.Q (512 * n + q) j) :
    scr ⊥ (rowsL ⊥ cb K' kg) Q (1024 + t) q = kScore H n t q := by
  unfold scr score rowsL kScore dot
  by_cases h : t ≤ q
  · rw [if_pos (Or.inr (by omega)), if_pos h, if_neg (by omega), if_neg (by omega), add_zero]
    refine Finset.sum_congr rfl fun j hj => ?_
    have hj := Finset.mem_range.1 hj
    rw [if_neg (by omega), if_pos hj, Nat.add_sub_cancel_left, hkg j hj, hQ j hj]
  · rw [if_neg (by omega), if_neg h]

/-- A key after the query scores minus infinity. -/
theorem kScore_past {t q : ℕ} (h : q < t) : kScore H n t q = ⊥ := if_neg (by omega)

/-- The greatest score over the rows scored. -/
theorem sup_rows (f : ℕ → EReal) {q : ℕ} (hq : q < 512) (g k : ℕ → EReal) (hg : ∀ r, r < 1024 → f r = g r) (hk : ∀ t, t < 512 → f (1024 + t) = k t)
    (hp : ∀ t, q < t → k t = ⊥) : (Finset.range (rowsOf q)).sup f = (Finset.range 1024).sup g ⊔ (Finset.range 512).sup k := by
  have h1 : 1024 ≤ rowsOf q ∧ rowsOf q ≤ 1536 ∧ q < rowsOf q - 1024 := by unfold rowsOf; split_ifs <;> omega
  apply le_antisymm
  · refine Finset.sup_le fun r hr => ?_
    have hr := Finset.mem_range.1 hr
    by_cases h : r < 1024
    · rw [hg r h]; exact le_sup_of_le_left (Finset.le_sup (f := g) (Finset.mem_range.2 h))
    · rw [show r = 1024 + (r - 1024) by omega, hk _ (by omega)]
      exact le_sup_of_le_right (Finset.le_sup (f := k) (Finset.mem_range.2 (by omega)))
  · refine sup_le (Finset.sup_le fun r hr => ?_) (Finset.sup_le fun t ht => ?_)
    · have hr := Finset.mem_range.1 hr
      rw [← hg r hr]; exact Finset.le_sup (f := f) (Finset.mem_range.2 (by omega))
    · have ht := Finset.mem_range.1 ht
      by_cases h : q < t
      · rw [hp t h]; exact bot_le
      · rw [← hk t ht]; exact Finset.le_sup (f := f) (Finset.mem_range.2 (by omega))

/-- A sum over the keys scored is over all the block's, the others adding 0. -/
theorem sum_keys (f : ℕ → EReal) {q : ℕ} (hq : q < 512) (hp : ∀ t, t < 512 → q < t → f t = 0) :
    ∑ t ∈ Finset.range (rowsOf q - 1024), f t = ∑ t ∈ Finset.range 512, f t := by
  have h1 : rowsOf q - 1024 ≤ 512 ∧ q < rowsOf q - 1024 := by unfold rowsOf; split_ifs <;> omega
  refine Finset.sum_subset (fun t ht => Finset.mem_range.2 (by have := Finset.mem_range.1 ht; omega)) fun t ht hn => ?_
  have := Finset.mem_range.1 ht
  have := mt Finset.mem_range.2 hn
  exact hp t (by omega) (by omega)

/-- A positive finite scale gives a positive finite factor of the scores. -/
theorem temp_pos (hs : 0 < H.sc n) : 0 < temp H n :=
  EReal.mul_pos hs (EReal.coe_pos.2 invSqrtD_pos)

/-- A key after the query has weight 0. -/
theorem weight_bot (hs : 0 < H.sc n) (q : ℕ) : weight H n q ⊥ = 0 := by
  unfold weight
  rw [sub_eq_add_neg, EReal.bot_add, EReal.bot_mul_of_pos (temp_pos H n hs)]
  exact Ideal.exp_bot

/-- The kernel's attention, from any rows, queries, state and values that read as the head's. -/
theorem attOut_eq (hs : 0 < H.sc n) (hs' : H.sc n < ⊤) {cb : ℕ → ℕ → EReal} {K' : ℕ → EReal} {kg Q U' V' : ℕ → ℕ → EReal} {q j : ℕ} (hq : q < 512)
    (hcb : ∀ r j, r < 1024 → j < 128 → cb r j = H.cb r j) (hQ : ∀ j, j < 128 → Q j q = H.Q (512 * n + q) j)
    (hK : ∀ r, r < 1024 → K' r = K H n r) (hkg : ∀ t j, t < 512 → j < 128 → kg t j = H.cb (H.kk (512 * n + t)) j)
    (hU : ∀ r, r < 1024 → U' j r = U H n r j) (hV : ∀ t, t < 512 → V' j t = H.V (512 * n + t) j * H.vs (512 * n + t)) :
    attOut ⊥ (H.sc n * (((Real.log 2)⁻¹ * invSqrtD : ℝ) : EReal)) (rowsL ⊥ cb K' kg) Q K' U' V' q j = att H n q j := by
  have hg : ∀ r, r < 1024 → scr ⊥ (rowsL ⊥ cb K' kg) Q r q = gScore H n r q := fun r hr => scr_code H n hr (fun j hj => hcb r j hr hj) hQ (hK r hr)
  have hk : ∀ t, t < 512 → scr ⊥ (rowsL ⊥ cb K' kg) Q (1024 + t) q = kScore H n t q := fun t ht => scr_key H n (fun j hj => hkg t j ht hj) hQ
  have hm : mx ⊥ (rowsL ⊥ cb K' kg) Q q = top H n q := sup_rows _ hq _ _ hg hk fun t ht => kScore_past H n ht
  have hw : ∀ r, wr ⊥ (H.sc n * (((Real.log 2)⁻¹ * invSqrtD : ℝ) : EReal)) (rowsL ⊥ cb K' kg) Q r q
      = weight H n q (scr ⊥ (rowsL ⊥ cb K' kg) Q r q) := fun r => by
    unfold wr wt weight temp
    rw [hm]
    exact exp2_eq _ _ hs hs' invSqrtD_pos
  have h0 : ∀ t, q < t → weight H n q (kScore H n t q) = 0 := fun t ht => by rw [kScore_past H n ht, weight_bot H n hs]
  have h1 : rowsOf q - 1024 ≤ 512 := by unfold rowsOf; split_ifs <;> omega
  unfold attOut att
  refine congrArg₂ Ideal.div (congrArg₂ (· + ·) ?_ ?_) (congrArg₂ (· + ·) ?_ ?_)
  · refine Finset.sum_congr rfl fun r hr => ?_
    have hr := Finset.mem_range.1 hr
    rw [hw, hg r hr, hU r hr]
  · refine Eq.trans (Finset.sum_congr rfl fun t ht => ?_)
      (sum_keys (fun t => H.V (512 * n + t) j * H.vs (512 * n + t) * weight H n q (kScore H n t q)) hq fun t _ ht => by beta_reduce; rw [h0 t ht, mul_zero])
    have ht : t < 512 := by have := Finset.mem_range.1 ht; omega
    rw [hw, hk t ht, hV t ht]
  · refine Finset.sum_congr rfl fun r hr => ?_
    have hr := Finset.mem_range.1 hr
    rw [hw, hg r hr, hK r hr]
  · refine Eq.trans (Finset.sum_congr rfl fun t ht => ?_) (sum_keys (fun t => weight H n q (kScore H n t q)) hq fun t _ ht => h0 t ht)
    have ht : t < 512 := by have := Finset.mem_range.1 ht; omega
    rw [hw, hk t ht]

end Cert.AttEq
-- ==== Proof.KernelIdealResults.lean ====
/- `KernelIdeal`'s results in its arguments: the three results of the heads. -/
module

public import proofs.«01_k».proof.Proof.KernelIdealHead
public import proofs.«01_k».proof.Proof.AttEq
public import Idealize.ShloMosaic.Lib.Pipeline.Covers
public import Idealize.ShloMosaic.Lib.Claim

@[expose] public section

set_option maxRecDepth 16384

noncomputable section

namespace Cert.KernelIdeal.Val

open Idealize.ShloMosaic Idealize.ShloMosaic.TcCoe Idealize.ShloMosaic.Tactic
open Cert.KernelIdeal.Gen Cert.Body Cert.NatAt Cert.Spec

variable (m : (ℓ : Loc nD τ sig) → Buf (Elt Ideal) ℓ) (c : Dev nD)

/-- The named mask is minus infinity. -/
theorem neg_eq : neg = ⊥ := rfl

/-- The named factor, as a real. -/
theorem scale_eq : scale = (((Real.log 2)⁻¹ * invSqrtD : ℝ) : EReal) := rfl

/-- The query scales. -/
def scalesOf : S3x32x20.Idx → EReal := m ((c : Thread nD τ).loc main_arg1)

/-- Every scale is positive and finite. -/
def Scales : Prop := ∀ (c : Dev nD) (y : S3x32x20.Idx), 0 < scalesOf m c y ∧ scalesOf m c y < ⊤

/-- Every code is below 1024. -/
def Codes : Prop := ∀ (c : Dev nD) y, (m ((c : Thread nD τ).loc main_arg2) y : BitVec 32).toNat < 1024

/-- Every code is below 1024. -/
theorem kk_lt (h : Codes m) (i s : ℕ) : (hd m c i).kk s < 1024 := by
  show k3 _ _ _ _ < 1024
  unfold k3
  split_ifs
  · exact h c _
  · omega

/-- The attention block of point `t`. -/
theorem outBlk_at (hC : Codes m) (hS : Scales m) (t : Fin cfg0.N) (x : S1x512x128.Idx) :
    outBlk m c t x = att (hd m c (t.val / 32)) (t.val % 32) (x 1).val (x 2).val := by
  have hq : (x 1).val < 512 := (x 1).isLt
  have hj : (x 2).val < 128 := (x 2).isLt
  have ht := lt_N t
  have hs : 0 < (hd m c (t.val / 32)).sc (t.val % 32) ∧ (hd m c (t.val / 32)).sc (t.val % 32) < ⊤ := by
    have e : (hd m c (t.val / 32)).sc (t.val % 32) = scalesOf m c _ :=
      g3_of (L := 3) (N := 32) (M := 20) _ (by omega) (by omega) (by omega)
    rw [e]
    exact hS c _
  unfold outBlk outA
  rw [cOf_at, neg_eq, scale_eq]
  refine AttEq.attOut_eq _ _ hs.1 hs.2 hq (fun r j hr hj => aCb_at m c t hr hj) (fun j hj => aQ_at m c t hj hq)
    (fun r hr => (st_at m c t.val t.isLt r hr).2) (fun s j hs hj => ?_) (fun r hr => (st_at m c t.val t.isLt r hr).1 _ hj) (fun s hs => ?_)
  · beta_reduce
    rw [aKsm_at m c t hs]
    exact aCbf_at m c t (kk_lt m c hC _ _) hj
  · unfold vOf
    rw [aV_at m c t hj hs, aVs_at m c t hs]

/-- The blocks of the attention cover its array. -/
theorem covers10 : win0_10.Covers := win0_10.covers_of_index_surj rfl (by decide) fun β =>
  ⟨⟨32 * (20 * (β 0).val + (β 2).val) + (β 1).val, by
      have h0 : (β 0).val < 3 := (β 0).isLt
      have h1 : (β 1).val < 32 := (β 1).isLt
      have h2 : (β 2).val < 20 := (β 2).isLt
      exact Nat.lt_of_lt_of_eq (by omega : _ < 1920) N0.symm⟩, fun a => by
    have h0 : (β 0).val < 3 := (β 0).isLt
    have h1 : (β 1).val < 32 := (β 1).isLt
    have h2 : (β 2).val < 20 := (β 2).isLt
    rw [idx10]
    fin_cases a
    · show (32 * (20 * (β 0).val + (β 2).val) + (β 1).val) / 32 / 20 = (β 0).val; omega
    · show (32 * (20 * (β 0).val + (β 2).val) + (β 1).val) % 32 = (β 1).val; omega
    · show (32 * (20 * (β 0).val + (β 2).val) + (β 1).val) / 32 % 20 = (β 2).val; omega⟩

/-- The blocks of the value sums cover their array. -/
theorem covers11 : win0_11.Covers := win0_11.covers_of_index_surj rfl (by decide) fun β =>
  ⟨⟨32 * (β 0).val, by
      have h0 : (β 0).val < 60 := (β 0).isLt
      exact Nat.lt_of_lt_of_eq (by omega : _ < 1920) N0.symm⟩, fun a => by
    have h1 : (β 1).val < 1 := (β 1).isLt
    have h2 : (β 2).val < 1 := (β 2).isLt
    rw [idx11]
    fin_cases a
    · show 32 * (β 0).val / 32 = (β 0).val; omega
    · show 0 = (β 1).val; omega
    · show 0 = (β 2).val; omega⟩

/-- The blocks of the counts cover their array. -/
theorem covers12 : win0_12.Covers := win0_12.covers_of_index_surj rfl (by decide) fun β =>
  ⟨⟨32 * (β 0).val, by
      have h0 : (β 0).val < 60 := (β 0).isLt
      exact Nat.lt_of_lt_of_eq (by omega : _ < 1920) N0.symm⟩, fun a => by
    have h1 : (β 1).val < 1 := (β 1).isLt
    have h2 : (β 2).val < 1 := (β 2).isLt
    rw [idx12]
    fin_cases a
    · show 32 * (β 0).val / 32 = (β 0).val; omega
    · show 0 = (β 1).val; omega
    · show 0 = (β 2).val; omega⟩

/-- The call leaves the attention of the heads. -/
theorem arr10 (hC : Codes m) (hS : Scales m) : (dats m 0 c).arrAt 10 cfg0.N = fun y : S3x16384x2560.Idx =>
    att (hd m c (20 * (y 0).val + (y 2).val / 128)) ((y 1).val / 512) ((y 1).val % 512) ((y 2).val % 128) := by
  refine (dats m 0 c).arrAt_eq_of_covers 10 _ covers10 fun t hf y => ?_
  have h1 : (y 1).val < 512 := (y 1).isLt
  have h2 : (y 2).val < 128 := (y 2).isLt
  have ht := lt_N t
  blk_simp [idx10 t]
  rw [after0_10]
  refine (outBlk_at m c hC hS t _).trans ?_
  rw [show 20 * (t.val / 32 / 20) + (t.val / 32 % 20 * 128 + (y 2).val) / 128 = t.val / 32 by omega,
    show (t.val % 32 * 512 + (y 1).val) / 512 = t.val % 32 by omega, show (t.val % 32 * 512 + (y 1).val) % 512 = (y 1).val by omega,
    show (t.val / 32 % 20 * 128 + (y 2).val) % 128 = (y 2).val by omega]

/-- The call leaves the value sums after all blocks. -/
theorem arr11 : (dats m 0 c).arrAt 11 cfg0.N = fun y : S60x1024x128.Idx => U (hd m c (y 0).val) 32 (y 1).val (y 2).val := by
  refine (dats m 0 c).arrAt_eq_of_covers 11 _ covers11 fun t hf y => ?_
  have h1 : (y 1).val < 1024 := (y 1).isLt
  have h2 : (y 2).val < 128 := (y 2).isLt
  have h31 : t.val % 32 = 31 := (flush0_11 t).1 hf
  blk_simp [idx11 t]
  rw [after0_11]
  refine (outU_at m c t h2 ((st_at m c t.val t.isLt _ h1).1 _ h2)).trans ?_
  rw [h31]

/-- The call leaves the counts after all blocks. -/
theorem arr12 : (dats m 0 c).arrAt 12 cfg0.N = fun y : S60x1x1024.Idx => K (hd m c (y 0).val) 32 (y 2).val := by
  refine (dats m 0 c).arrAt_eq_of_covers 12 _ covers12 fun t hf y => ?_
  have h2 : (y 2).val < 1024 := (y 2).isLt
  have h31 : t.val % 32 = 31 := (flush0_12 t).1 hf
  blk_simp [idx12 t]
  rw [after0_12]
  refine (outK_at m c t (st_at m c t.val t.isLt _ h2).2).trans ?_
  rw [h31]

/-- A window that alone has its array leaves it as its own. -/
theorem withArrays_own {gr W : ℕ} (win : Fin W → Pipeline.WinSpec sig gr) (V : Valuation τ sig (Elt Ideal))
    (A : (w : Fin W) → Buf (Elt Ideal) ((win w).arr.view.loc (c.tc : Thread nD τ))) (w : Fin W)
    (hw : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt Ideal)) e) (A w') = A w from this _ h.choose_spec
  intro w' e
  obtain rfl := hw w' (Proc.devRef_injective _ e)
  rfl

/-- The second result is the value sums after all blocks. -/
theorem tail14 : Pipeline.afterTail₀ cfgs (dats m) 0 (V0 m) [hostOps1] c main_v14 = (res2 (hd m c) : S3x20x1024x128.Idx → EReal) := by
  have e : Pipeline.afterTail₀ cfgs (dats m) 0 (V0 m) [hostOps1] c main_v14
      = shapeCast S3x20x1024x128 ((dats m 0 c).arrAt 11 cfg0.N : S60x1024x128.Idx → EReal) shapeCasts_S60x1024x128_S3x20x1024x128 := by
    show StableHlo.after (List.flatten [hostOps1]) (Pipeline.withArrays cfg0.spec c (V0 m c) fun w => (dats m 0 c).arrAt w cfg0.N) (Proc.devRef .tc main_v14) = _
    simp only [hostOps1, List.flatten_cons, List.flatten_nil, List.append_nil, List.cons_append, List.nil_append]
    after_results
    exact congrArg (fun x : S60x1024x128.Idx → EReal => shapeCast S3x20x1024x128 x shapeCasts_S60x1024x128_S3x20x1024x128)
      (withArrays_own c spec0 (V0 m c) (fun w => (dats m 0 c).arrAt w cfg0.N) 11 (by decide))
  rw [e, arr11]
  funext y
  obtain ⟨y0, y1, y2, y3, rfl⟩ : ∃ a b r d, y = ix4 a b r d := ⟨y 0, y 1, y 2, y 3, by funext a; fin_cases a <;> rfl⟩
  refine (cast_at (s := S60x1024x128) _ _ (i := ix3 ⟨20 * y0.val + y1.val, by omega⟩ y2 y3) ?_).trans rfl
  rw [Shape.rowMajor_val_three, Shape.rowMajor_val_four]
  show ((20 * y0.val + y1.val) * 1024 + y2.val) * 128 + y3.val = ((y0.val * 20 + y1.val) * 1024 + y2.val) * 128 + y3.val
  omega

/-- The third result is the counts after all blocks. -/
theorem tail15 : Pipeline.afterTail₀ cfgs (dats m) 0 (V0 m) [hostOps1] c main_v15 = (res3 (hd m c) : S3x20x1024.Idx → EReal) := by
  have e : Pipeline.afterTail₀ cfgs (dats m) 0 (V0 m) [hostOps1] c main_v15
      = shapeCast S3x20x1024 ((dats m 0 c).arrAt 12 cfg0.N : S60x1x1024.Idx → EReal) shapeCasts_S60x1x1024_S3x20x1024 := by
    show StableHlo.after (List.flatten [hostOps1]) (Pipeline.withArrays cfg0.spec c (V0 m c) fun w => (dats m 0 c).arrAt w cfg0.N) (Proc.devRef .tc main_v15) = _
    simp only [hostOps1, List.flatten_cons, List.flatten_nil, List.append_nil, List.cons_append, List.nil_append]
    after_results
    exact congrArg (fun x : S60x1x1024.Idx → EReal => shapeCast S3x20x1024 x shapeCasts_S60x1x1024_S3x20x1024)
      (withArrays_own c spec0 (V0 m c) (fun w => (dats m 0 c).arrAt w cfg0.N) 12 (by decide))
  rw [e, arr12]
  funext y
  obtain ⟨y0, y1, y2, rfl⟩ : ∃ a b r, y = ix3 a b r := ⟨y 0, y 1, y 2, by funext a; fin_cases a <;> rfl⟩
  refine (cast_at (s := S60x1x1024) _ _ (i := ix3 ⟨20 * y0.val + y1.val, by omega⟩ 0 y2) ?_).trans rfl
  rw [Shape.rowMajor_val_three, Shape.rowMajor_val_three]
  show ((20 * y0.val + y1.val) * 1 + 0) * 1024 + y2.val = (y0.val * 20 + y1.val) * 1024 + y2.val
  omega

variable (ρ : Dev nD → PrngReg)

/-- `KernelIdeal` ends with the three results of the heads, its arguments unchanged and every semaphore counter at zero. -/
theorem results (hC : Codes m) (hS : Scales m) : θ_run defs (onTc (τ := τ) (main (F := Ideal))) ⟨m, fun _ => 0, ρ⟩ (fun r => (∀ c : Dev nD,
      r.2.mem ((c.tc : Thread nD τ).loc main_v13_0) = (res1 (hd m c) : S3x16384x2560.Idx → EReal)
      ∧ r.2.mem ((c.tc : Thread nD τ).loc main_v14) = (res2 (hd m c) : S3x20x1024x128.Idx → EReal)
      ∧ r.2.mem ((c.tc : Thread nD τ).loc main_v15) = (res3 (hd m c) : S3x20x1024.Idx → EReal))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have h := (θ_run defs _ _).mono (fun _ h => h.1) (run_main m ρ (codesLt m hC))
  θ_run_and ((θ_run defs _ _).mono (fun r h c => ⟨((h c).1 10).trans (arr10 m c hC hS),
      ((h c).2 main_v14 (Pipeline.mem_restRefs_of main_v14 (by decide) (by decide))).trans (tail14 m c),
      ((h c).2 main_v15 (Pipeline.mem_restRefs_of main_v15 (by decide) (by decide))).trans (tail15 m c)⟩) h)
    (Gen.frame_of m ρ (dats m) (A_eq m) h)

end Cert.KernelIdeal.Val
-- ==== Proof.ReferenceIdealTerms.lean ====
/-
  The reference's three results as terms of the arrays it works on, one definition per array that the proof speaks about: the composition
  of the printed operations.
-/
module

public import proofs.«01_k».proof.Proof.Gen.ReferenceIdeal.Launch
public import Idealize.ShloMosaic.PureOps.Ideal

@[expose] public section

noncomputable section

namespace Cert.ReferenceIdeal.Val

open Idealize.ShloMosaic Idealize.ShloMosaic.TcCoe
open Cert.ReferenceIdeal.Gen

local instance : ReferenceIdeal.Facts := Gen.facts

/-- The arrays: the widened queries and values, and the arguments used as they are. -/
structure Arrs where
  q : FVec Ideal S3x16384x20x128 .bf16
  v : FVec Ideal S3x16384x20x128 .bf16
  sc : FVec Ideal S3x32x20 .f32
  k : IVec S3x16384x20 32
  cb : FVec Ideal S20x1024x128 .bf16
  vs : FVec Ideal S3x16384x20 .f32
  u0 : FVec Ideal S3x20x1024x128 .f32
  k0 : FVec Ideal S3x20x1024 .f32

/-- Key at or before the query. -/
def tri (X : Arrs) : IVec S512x512 1 :=
  select ((cmpi .sge) (addi ((iotaInDim S512x512 32 0) : IVec S512x512 32) ((broadcastInDim S512x512 ![] bcast_S_S512x512) ((constantI
    S_ 32 0#32) : IVec S_ 32))) ((iotaInDim S512x512 32 1) : IVec S512x512 32)) ((broadcastInDim S512x512 ![] bcast_S_S512x512 : IVec S_ 1
    → IVec S512x512 1) ((constantI S_ 1 1#1) : IVec S_ 1)) ((broadcastInDim S512x512 ![] bcast_S_S512x512) ((constantI S_ 1 0#1) : IVec S_
    1))

/-- Codes, one-hot. -/
def hot (X : Arrs) : FVec Ideal S3x32x512x20x1024 .bf16 :=
  (uitofp .bf16) ((cmpi .eq) ((broadcastInDim S3x32x512x20x1024 ![0, 1, 2, 3, 4] bcast_S3x32x512x20x1_S3x32x512x20x1024_0_1_2_3_4)
    ((broadcastInDim S3x32x512x20x1 ![0, 1, 2, 3] bcast_S3x32x512x20_S3x32x512x20x1_0_1_2_3) (shapeCast S3x32x512x20 X.k
    shapeCasts_S3x16384x20_S3x32x512x20))) ((broadcastInDim S3x32x512x20x1024 ![0, 1, 2, 3, 4]
    bcast_S1x1x1x1x1024_S3x32x512x20x1024_0_1_2_3_4) ((iotaInDim S1x1x1x1x1024 32 4) : IVec S1x1x1x1x1024 32)))

/-- One block's contribution to the value sums. -/
def du (X : Arrs) : FVec Ideal S3x32x20x1024x128 .f32 :=
  ((fun l r => Host.dotGeneral dot_S3x32x512x20x1024_S3x32x512x20x128_S3x32x20x1024x128_2_2_4_4_013_013 none l r) : FVec Ideal
    S3x32x512x20x1024 .bf16 → FVec Ideal S3x32x512x20x128 .bf16 → FVec Ideal S3x32x20x1024x128 .f32) ((mulf : FVec Ideal S3x32x512x20x1024
    .bf16 → FVec Ideal S3x32x512x20x1024 .bf16 → FVec Ideal S3x32x512x20x1024 .bf16) (hot X) ((broadcastInDim S3x32x512x20x1024 ![0, 1, 2,
    3, 4] bcast_S3x32x512x20x1_S3x32x512x20x1024_0_1_2_3_4 : FVec Ideal S3x32x512x20x1 .bf16 → FVec Ideal S3x32x512x20x1024 .bf16)
    ((broadcastInDim S3x32x512x20x1 ![0, 1, 2, 3] bcast_S3x32x512x20_S3x32x512x20x1_0_1_2_3 : FVec Ideal S3x32x512x20 .bf16 → FVec Ideal
    S3x32x512x20x1 .bf16) (((truncf .bf16 · bitsLt_bf16_f32) : FVec Ideal S3x32x512x20 .f32 → FVec Ideal S3x32x512x20 .bf16) (shapeCast
    S3x32x512x20 X.vs shapeCasts_S3x16384x20_S3x32x512x20))))) (shapeCast S3x32x512x20x128 X.v
    shapeCasts_S3x16384x20x128_S3x32x512x20x128)

/-- One block's counts. -/
def dk (X : Arrs) : FVec Ideal S3x32x20x1024 .f32 :=
  ((fun x v => Host.reduceAdd x v reducesTo_S3x32x512x20x1024_S3x32x20x1024_d2 h_S_) : FVec Ideal S3x32x512x20x1024 .f32 → FVec Ideal S_
    .f32 → FVec Ideal S3x32x20x1024 .f32) (((extf .f32 · bitsLt_bf16_f32) : FVec Ideal S3x32x512x20x1024 .bf16 → FVec Ideal
    S3x32x512x20x1024 .f32) (hot X)) ((constant S_ .f32 0x00000000#32) : FVec Ideal S_ .f32)

/-- 1 where the block is later. -/
def lower (X : Arrs) : FVec Ideal S32x32 .f32 :=
  select ((cmpi .sgt : IVec S32x32 32 → IVec S32x32 32 → IVec S32x32 1) ((broadcastInDim S32x32 ![0, 1] bcast_S32x1_S32x32_0_1 : IVec
    S32x1 32 → IVec S32x32 32) ((broadcastInDim S32x1 ![0] bcast_S32_S32x1_0 : IVec S32 32 → IVec S32x1 32) ((iotaInDim S32 32 0) : IVec
    S32 32))) ((broadcastInDim S32x32 ![0, 1] bcast_S1x32_S32x32_0_1 : IVec S1x32 32 → IVec S32x32 32) ((broadcastInDim S1x32 ![1]
    bcast_S32_S1x32_1 : IVec S32 32 → IVec S1x32 32) ((iotaInDim S32 32 0) : IVec S32 32)))) ((broadcastInDim S32x32 ![] bcast_S_S32x32)
    ((constant S_ .f32 0x3F800000#32) : FVec Ideal S_ .f32)) ((broadcastInDim S32x32 ![] bcast_S_S32x32) ((constant S_ .f32 0x00000000#32)
    : FVec Ideal S_ .f32))

/-- Value sums before each block. -/
def bigU (X : Arrs) : FVec Ideal S3x32x20x1024x128 .f32 :=
  (addf : FVec Ideal S3x32x20x1024x128 .f32 → FVec Ideal S3x32x20x1024x128 .f32 → FVec Ideal S3x32x20x1024x128 .f32) ((broadcastInDim
    S3x32x20x1024x128 ![0, 1, 2, 3, 4] bcast_S3x1x20x1024x128_S3x32x20x1024x128_0_1_2_3_4 : FVec Ideal S3x1x20x1024x128 .f32 → FVec Ideal
    S3x32x20x1024x128 .f32) ((broadcastInDim S3x1x20x1024x128 ![0, 2, 3, 4] bcast_S3x20x1024x128_S3x1x20x1024x128_0_2_3_4 : FVec Ideal
    S3x20x1024x128 .f32 → FVec Ideal S3x1x20x1024x128 .f32) X.u0)) (((transpose S3x32x20x1024x128 [0, 4, 1, 2, 3] ·
    transposes_S3x20x1024x128x32_S3x32x20x1024x128_0_4_1_2_3) : FVec Ideal S3x20x1024x128x32 .f32 → FVec Ideal S3x32x20x1024x128 .f32)
    (((fun l r => Host.dotGeneral dot_S3x32x20x1024x128_S32x32_S3x20x1024x128x32_1_1_0234_0_n_n (some .fp32) l r) : FVec Ideal
    S3x32x20x1024x128 .f32 → FVec Ideal S32x32 .f32 → FVec Ideal S3x20x1024x128x32 .f32) (du X) (lower X)))

/-- Counters before each block. -/
def bigK (X : Arrs) : FVec Ideal S3x32x20x1024 .f32 :=
  (addf : FVec Ideal S3x32x20x1024 .f32 → FVec Ideal S3x32x20x1024 .f32 → FVec Ideal S3x32x20x1024 .f32) ((broadcastInDim S3x32x20x1024
    ![0, 1, 2, 3] bcast_S3x1x20x1024_S3x32x20x1024_0_1_2_3 : FVec Ideal S3x1x20x1024 .f32 → FVec Ideal S3x32x20x1024 .f32)
    ((broadcastInDim S3x1x20x1024 ![0, 2, 3] bcast_S3x20x1024_S3x1x20x1024_0_2_3 : FVec Ideal S3x20x1024 .f32 → FVec Ideal S3x1x20x1024
    .f32) X.k0)) (((transpose S3x32x20x1024 [0, 3, 1, 2] · transposes_S3x20x1024x32_S3x32x20x1024_0_3_1_2) : FVec Ideal S3x20x1024x32 .f32
    → FVec Ideal S3x32x20x1024 .f32) (((fun l r => Host.dotGeneral dot_S3x32x20x1024_S32x32_S3x20x1024x32_1_1_023_0_n_n (some .fp32) l r)
    : FVec Ideal S3x32x20x1024 .f32 → FVec Ideal S32x32 .f32 → FVec Ideal S3x20x1024x32 .f32) (dk X) (lower X)))

/-- Products of queries and codebook rows. -/
def dots (X : Arrs) : FVec Ideal S3x32x20x512x1024 .f32 :=
  ((transpose S3x32x20x512x1024 [2, 3, 0, 4, 1] · transposes_S20x1024x3x32x512_S3x32x20x512x1024_2_3_0_4_1) : FVec Ideal
    S20x1024x3x32x512 .f32 → FVec Ideal S3x32x20x512x1024 .f32) (((fun l r => Host.dotGeneral
    dot_S20x1024x128_S3x32x512x20x128_S20x1024x3x32x512_2_4_1_012_0_3 none l r) : FVec Ideal S20x1024x128 .bf16 → FVec Ideal
    S3x32x512x20x128 .bf16 → FVec Ideal S20x1024x3x32x512 .f32) X.cb (shapeCast S3x32x512x20x128 X.q
    shapeCasts_S3x16384x20x128_S3x32x512x20x128))

/-- Temperatures, spread out. -/
def temps (X : Arrs) : FVec Ideal S3x32x20x512x1024 .f32 :=
  (broadcastInDim S3x32x20x512x1024 ![0, 1, 2, 3, 4] bcast_S3x32x20x1x1_S3x32x20x512x1024_0_1_2_3_4 : FVec Ideal S3x32x20x1x1 .f32 →
    FVec Ideal S3x32x20x512x1024 .f32) ((broadcastInDim S3x32x20x1x1 ![0, 1, 2] bcast_S3x32x20_S3x32x20x1x1_0_1_2 : FVec Ideal S3x32x20
    .f32 → FVec Ideal S3x32x20x1x1 .f32) ((mulf : FVec Ideal S3x32x20 .f32 → FVec Ideal S3x32x20 .f32 → FVec Ideal S3x32x20 .f32) X.sc
    ((broadcastInDim S3x32x20 ![] bcast_S_S3x32x20 : FVec Ideal S_ .f32 → FVec Ideal S3x32x20 .f32) ((constant S_ .f32 0x3DB504F3#32) :
    FVec Ideal S_ .f32))))

/-- Scores of the codebook rows. -/
def scaled (X : Arrs) : FVec Ideal S3x32x20x512x1024 .f32 :=
  (mulf : FVec Ideal S3x32x20x512x1024 .f32 → FVec Ideal S3x32x20x512x1024 .f32 → FVec Ideal S3x32x20x512x1024 .f32) (dots X) (temps X)

/-- Gather indices. -/
def codes (X : Arrs) : IVec S3x32x20x512x1 32 :=
  shapeCast S3x32x20x512x1 (select ((cmpi .slt) ((broadcastInDim S3x32x20x1x512 ![0, 1, 2, 4] bcast_S3x32x20x512_S3x32x20x1x512_0_1_2_4
    : IVec S3x32x20x512 32 → IVec S3x32x20x1x512 32) (((transpose S3x32x20x512 [0, 1, 3, 2] ·
    transposes_S3x32x512x20_S3x32x20x512_0_1_3_2) : IVec S3x32x512x20 32 → IVec S3x32x20x512 32) (shapeCast S3x32x512x20 X.k
    shapeCasts_S3x16384x20_S3x32x512x20))) ((broadcastInDim S3x32x20x1x512 ![] bcast_S_S3x32x20x1x512) ((constantI S_ 32 0#32) : IVec S_
    32))) (addi ((broadcastInDim S3x32x20x1x512 ![0, 1, 2, 4] bcast_S3x32x20x512_S3x32x20x1x512_0_1_2_4 : IVec S3x32x20x512 32 → IVec
    S3x32x20x1x512 32) (((transpose S3x32x20x512 [0, 1, 3, 2] · transposes_S3x32x512x20_S3x32x20x512_0_1_3_2) : IVec S3x32x512x20 32 →
    IVec S3x32x20x512 32) (shapeCast S3x32x512x20 X.k shapeCasts_S3x16384x20_S3x32x512x20))) ((broadcastInDim S3x32x20x1x512 ![]
    bcast_S_S3x32x20x1x512) ((constantI S_ 32 1024#32) : IVec S_ 32))) ((broadcastInDim S3x32x20x1x512 ![0, 1, 2, 4]
    bcast_S3x32x20x512_S3x32x20x1x512_0_1_2_4 : IVec S3x32x20x512 32 → IVec S3x32x20x1x512 32) (((transpose S3x32x20x512 [0, 1, 3, 2] ·
    transposes_S3x32x512x20_S3x32x20x512_0_1_3_2) : IVec S3x32x512x20 32 → IVec S3x32x20x512 32) (shapeCast S3x32x512x20 X.k
    shapeCasts_S3x16384x20_S3x32x512x20)))) shapeCasts_S3x32x20x1x512_S3x32x20x512x1

/-- Whether a gather index is in range. -/
def okCode (X : Arrs) : IVec S3x32x20x512x1 1 :=
  andi ((cmpi .sge) (codes X) ((broadcastInDim S3x32x20x512x1 ![] bcast_S_S3x32x20x512x1) ((constantI S_ 32 0#32) : IVec S_ 32))) ((cmpi
    .sle) (codes X) ((broadcastInDim S3x32x20x512x1 ![0, 1, 2, 3, 4] bcast_S1x1x1x1x1_S3x32x20x512x1_0_1_2_3_4) ((broadcastInDim
    S1x1x1x1x1 ![4] bcast_S1_S1x1x1x1x1_4) ((constantI S1 32 1023#32) : IVec S1 32))))

/-- Scores of the block's keys. -/
def picked (X : Arrs) : FVec Ideal S3x32x20x512x512 .f32 :=
  select ((broadcastInDim S3x32x20x512x512 ![0, 1, 2, 4] bcast_S3x32x20x512_S3x32x20x512x512_0_1_2_4) ((fun x v => Host.reduce
    IntOp.andi x v reducesTo_S3x32x20x512x1_S3x32x20x512_d4 h_S_) (okCode X) ((constantI S_ 1 1#1) : IVec S_ 1))) ((fun x i => Host.gather
    gather_S3x32x20x512x1024_S3x32x20x512x1_S3x32x20x512x512_3_4_012_012_4_4_1115121 x i) (scaled X) (codes X)) ((broadcastInDim
    S3x32x20x512x512 ![] bcast_S_S3x32x20x512x512) ((constant S_ .f32 0x7FC00000#32) : FVec Ideal S_ .f32))

/-- The same, masked. -/
def kSc (X : Arrs) : FVec Ideal S3x32x20x512x512 .f32 :=
  select ((broadcastInDim S3x32x20x512x512 ![3, 4] bcast_S512x512_S3x32x20x512x512_3_4) (tri X)) (picked X) ((broadcastInDim
    S3x32x20x512x512 ![] bcast_S_S3x32x20x512x512) (id ((constant S_ .f32 0xFF800000#32) : FVec Ideal S_ .f32)))

/-- Scores of the codebook rows, masked. -/
def gSc (X : Arrs) : FVec Ideal S3x32x20x512x1024 .f32 :=
  select ((broadcastInDim S3x32x20x512x1024 ![0, 1, 2, 3, 4] bcast_S3x32x20x1x1024_S3x32x20x512x1024_0_1_2_3_4) ((broadcastInDim
    S3x32x20x1x1024 ![0, 1, 2, 4] bcast_S3x32x20x1024_S3x32x20x1x1024_0_1_2_4 : IVec S3x32x20x1024 1 → IVec S3x32x20x1x1024 1) ((cmpf .ogt
    : FVec Ideal S3x32x20x1024 .f32 → FVec Ideal S3x32x20x1024 .f32 → IVec S3x32x20x1024 1) (bigK X) ((broadcastInDim S3x32x20x1024 ![]
    bcast_S_S3x32x20x1024 : FVec Ideal S_ .f32 → FVec Ideal S3x32x20x1024 .f32) ((constant S_ .f32 0x00000000#32) : FVec Ideal S_
    .f32))))) (scaled X) ((broadcastInDim S3x32x20x512x1024 ![] bcast_S_S3x32x20x512x1024) (id ((constant S_ .f32 0xFF800000#32) : FVec
    Ideal S_ .f32)))

/-- Greatest scores. -/
def tops (X : Arrs) : FVec Ideal S3x32x20x512 .f32 :=
  (maximumf : FVec Ideal S3x32x20x512 .f32 → FVec Ideal S3x32x20x512 .f32 → FVec Ideal S3x32x20x512 .f32) (((fun x v => Host.reduce
    FloatOps.maximumf x v reducesTo_S3x32x20x512x512_S3x32x20x512_d4 h_S_) : FVec Ideal S3x32x20x512x512 .f32 → FVec Ideal S_ .f32 → FVec
    Ideal S3x32x20x512 .f32) (kSc X) ((constant S_ .f32 0xFF800000#32) : FVec Ideal S_ .f32)) (((fun x v => Host.reduce FloatOps.maximumf
    x v reducesTo_S3x32x20x512x1024_S3x32x20x512_d4 h_S_) : FVec Ideal S3x32x20x512x1024 .f32 → FVec Ideal S_ .f32 → FVec Ideal
    S3x32x20x512 .f32) (gSc X) ((constant S_ .f32 0xFF800000#32) : FVec Ideal S_ .f32))

/-- Weights of the block's keys. -/
def kW (X : Arrs) : FVec Ideal S3x32x20x512x512 .f32 :=
  (Host.exp : FVec Ideal S3x32x20x512x512 .f32 → FVec Ideal S3x32x20x512x512 .f32) ((subf : FVec Ideal S3x32x20x512x512 .f32 → FVec
    Ideal S3x32x20x512x512 .f32 → FVec Ideal S3x32x20x512x512 .f32) (kSc X) ((broadcastInDim S3x32x20x512x512 ![0, 1, 2, 3, 4]
    bcast_S3x32x20x512x1_S3x32x20x512x512_0_1_2_3_4 : FVec Ideal S3x32x20x512x1 .f32 → FVec Ideal S3x32x20x512x512 .f32) ((broadcastInDim
    S3x32x20x512x1 ![0, 1, 2, 3] bcast_S3x32x20x512_S3x32x20x512x1_0_1_2_3 : FVec Ideal S3x32x20x512 .f32 → FVec Ideal S3x32x20x512x1
    .f32) (tops X))))

/-- Weights of the codebook rows. -/
def gW (X : Arrs) : FVec Ideal S3x32x20x512x1024 .f32 :=
  (Host.exp : FVec Ideal S3x32x20x512x1024 .f32 → FVec Ideal S3x32x20x512x1024 .f32) ((subf : FVec Ideal S3x32x20x512x1024 .f32 → FVec
    Ideal S3x32x20x512x1024 .f32 → FVec Ideal S3x32x20x512x1024 .f32) (gSc X) ((broadcastInDim S3x32x20x512x1024 ![0, 1, 2, 3, 4]
    bcast_S3x32x20x512x1_S3x32x20x512x1024_0_1_2_3_4 : FVec Ideal S3x32x20x512x1 .f32 → FVec Ideal S3x32x20x512x1024 .f32)
    ((broadcastInDim S3x32x20x512x1 ![0, 1, 2, 3] bcast_S3x32x20x512_S3x32x20x512x1_0_1_2_3 : FVec Ideal S3x32x20x512 .f32 → FVec Ideal
    S3x32x20x512x1 .f32) (tops X))))

/-- Sum of the weights. -/
def denom (X : Arrs) : FVec Ideal S3x32x20x512x1 .f32 :=
  (addf : FVec Ideal S3x32x20x512x1 .f32 → FVec Ideal S3x32x20x512x1 .f32 → FVec Ideal S3x32x20x512x1 .f32) ((broadcastInDim
    S3x32x20x512x1 ![0, 1, 2, 3] bcast_S3x32x20x512_S3x32x20x512x1_0_1_2_3 : FVec Ideal S3x32x20x512 .f32 → FVec Ideal S3x32x20x512x1
    .f32) (((fun x v => Host.reduceAdd x v reducesTo_S3x32x20x512x512_S3x32x20x512_d4 h_S_) : FVec Ideal S3x32x20x512x512 .f32 → FVec
    Ideal S_ .f32 → FVec Ideal S3x32x20x512 .f32) (kW X) ((constant S_ .f32 0x00000000#32) : FVec Ideal S_ .f32))) ((broadcastInDim
    S3x32x20x512x1 ![0, 1, 2, 3] bcast_S3x32x20x512_S3x32x20x512x1_0_1_2_3 : FVec Ideal S3x32x20x512 .f32 → FVec Ideal S3x32x20x512x1
    .f32) (((fun l r => Host.dotGeneral dot_S3x32x20x512x1024_S3x32x20x1024_S3x32x20x512_4_3_3_n_012_012 (some .fp32) l r) : FVec Ideal
    S3x32x20x512x1024 .f32 → FVec Ideal S3x32x20x1024 .f32 → FVec Ideal S3x32x20x512 .f32) (gW X) (bigK X)))

/-- Weights times value scales. -/
def kWv (X : Arrs) : FVec Ideal S3x32x20x512x512 .bf16 :=
  ((truncf .bf16 · bitsLt_bf16_f32) : FVec Ideal S3x32x20x512x512 .f32 → FVec Ideal S3x32x20x512x512 .bf16) ((mulf : FVec Ideal
    S3x32x20x512x512 .f32 → FVec Ideal S3x32x20x512x512 .f32 → FVec Ideal S3x32x20x512x512 .f32) (kW X) ((broadcastInDim S3x32x20x512x512
    ![0, 1, 2, 3, 4] bcast_S3x32x20x1x512_S3x32x20x512x512_0_1_2_3_4 : FVec Ideal S3x32x20x1x512 .f32 → FVec Ideal S3x32x20x512x512 .f32)
    ((broadcastInDim S3x32x20x1x512 ![0, 1, 2, 4] bcast_S3x32x20x512_S3x32x20x1x512_0_1_2_4 : FVec Ideal S3x32x20x512 .f32 → FVec Ideal
    S3x32x20x1x512 .f32) (((transpose S3x32x20x512 [0, 1, 3, 2] · transposes_S3x32x512x20_S3x32x20x512_0_1_3_2) : FVec Ideal S3x32x512x20
    .f32 → FVec Ideal S3x32x20x512 .f32) (shapeCast S3x32x512x20 X.vs shapeCasts_S3x16384x20_S3x32x512x20)))))

/-- Weighted sum. -/
def numer (X : Arrs) : FVec Ideal S3x32x20x512x128 .f32 :=
  (addf : FVec Ideal S3x32x20x512x128 .f32 → FVec Ideal S3x32x20x512x128 .f32 → FVec Ideal S3x32x20x512x128 .f32) (((fun l r =>
    Host.dotGeneral dot_S3x32x20x512x512_S3x32x512x20x128_S3x32x20x512x128_4_2_3_4_012_013 none l r) : FVec Ideal S3x32x20x512x512 .bf16 →
    FVec Ideal S3x32x512x20x128 .bf16 → FVec Ideal S3x32x20x512x128 .f32) (kWv X) (shapeCast S3x32x512x20x128 X.v
    shapeCasts_S3x16384x20x128_S3x32x512x20x128)) (((fun l r => Host.dotGeneral
    dot_S3x32x20x512x1024_S3x32x20x1024x128_S3x32x20x512x128_4_3_3_4_012_012 none l r) : FVec Ideal S3x32x20x512x1024 .bf16 → FVec Ideal
    S3x32x20x1024x128 .bf16 → FVec Ideal S3x32x20x512x128 .f32) (((truncf .bf16 · bitsLt_bf16_f32) : FVec Ideal S3x32x20x512x1024 .f32 →
    FVec Ideal S3x32x20x512x1024 .bf16) (gW X)) (((truncf .bf16 · bitsLt_bf16_f32) : FVec Ideal S3x32x20x1024x128 .f32 → FVec Ideal
    S3x32x20x1024x128 .bf16) (bigU X)))

/-- First result. -/
def res1 (X : Arrs) : FVec Ideal S3x16384x2560 .bf16 :=
  shapeCast S3x16384x2560 (((transpose S3x32x512x20x128 [0, 1, 3, 2, 4] · transposes_S3x32x20x512x128_S3x32x512x20x128_0_1_3_2_4) : FVec
    Ideal S3x32x20x512x128 .bf16 → FVec Ideal S3x32x512x20x128 .bf16) (((truncf .bf16 · bitsLt_bf16_f32) : FVec Ideal S3x32x20x512x128
    .f32 → FVec Ideal S3x32x20x512x128 .bf16) ((Host.divf : FVec Ideal S3x32x20x512x128 .f32 → FVec Ideal S3x32x20x512x128 .f32 → FVec
    Ideal S3x32x20x512x128 .f32) (numer X) ((broadcastInDim S3x32x20x512x128 ![0, 1, 2, 3, 4]
    bcast_S3x32x20x512x1_S3x32x20x512x128_0_1_2_3_4 : FVec Ideal S3x32x20x512x1 .f32 → FVec Ideal S3x32x20x512x128 .f32) (denom X)))))
    shapeCasts_S3x32x512x20x128_S3x16384x2560

/-- Second result. -/
def res2 (X : Arrs) : FVec Ideal S3x20x1024x128 .f32 :=
  (addf : FVec Ideal S3x20x1024x128 .f32 → FVec Ideal S3x20x1024x128 .f32 → FVec Ideal S3x20x1024x128 .f32) X.u0 (((fun x v =>
    Host.reduceAdd x v reducesTo_S3x32x20x1024x128_S3x20x1024x128_d1 h_S_) : FVec Ideal S3x32x20x1024x128 .f32 → FVec Ideal S_ .f32 → FVec
    Ideal S3x20x1024x128 .f32) (du X) ((constant S_ .f32 0x00000000#32) : FVec Ideal S_ .f32))

/-- Third result. -/
def res3 (X : Arrs) : FVec Ideal S3x20x1024 .f32 :=
  (addf : FVec Ideal S3x20x1024 .f32 → FVec Ideal S3x20x1024 .f32 → FVec Ideal S3x20x1024 .f32) X.k0 (((fun x v => Host.reduceAdd x v
    reducesTo_S3x32x20x1024_S3x20x1024_d1 h_S_) : FVec Ideal S3x32x20x1024 .f32 → FVec Ideal S_ .f32 → FVec Ideal S3x20x1024 .f32) (dk X)
    ((constant S_ .f32 0x00000000#32) : FVec Ideal S_ .f32))

end Cert.ReferenceIdeal.Val
-- ==== Proof.ReferenceIdealRun.lean ====
/- The reference's results after its lines of host operations are the terms of `ReferenceIdealTerms`. -/
module

public import proofs.«01_k».proof.Proof.ReferenceIdealTerms
public import Idealize.ShloMosaic.Lib.StableHlo.RunRead

@[expose] public section

set_option maxRecDepth 1000000

noncomputable section

namespace Cert.ReferenceIdeal.Val

open Idealize.ShloMosaic Idealize.ShloMosaic.TcCoe Idealize.ShloMosaic.Tactic
open Cert.ReferenceIdeal.Gen

local instance : ReferenceIdeal.Facts := Gen.facts

/-- The lines after the call. -/
abbrev lines : List (HloOp τ sig (Elt Ideal)) :=
  List.flatten [hostOps1, hostOps1_1, hostOps1_2, hostOps1_3, hostOps1_4, hostOps1_5, hostOps1_6, hostOps1_7, hostOps1_8, hostOps1_9,
    hostOps1_10, hostOps1_11]

/-- The arrays of a valuation. -/
def arrs (W : Valuation τ sig (Elt Ideal)) : Arrs where
  q := W (Proc.devRef .tc main_v0_0)
  v := W (Proc.devRef .tc main_v0_1)
  sc := W (Proc.devRef .tc main_arg1)
  k := W (Proc.devRef .tc main_arg2)
  cb := W (Proc.devRef .tc main_arg3)
  vs := W (Proc.devRef .tc main_arg5)
  u0 := W (Proc.devRef .tc main_arg6)
  k0 := W (Proc.devRef .tc main_arg7)

variable (W : Valuation τ sig (Elt Ideal))

set_option maxHeartbeats 4000000 in
/-- The third result as a term in the arrays. -/
theorem read3 : StableHlo.after lines W (Proc.devRef .tc main_v81) = res3 (arrs W) := by
  simp only [lines, List.flatten_cons, List.flatten_nil, List.append_nil, List.cons_append, List.nil_append]
  after_reads_simp
  rfl

set_option maxHeartbeats 4000000 in
/-- The second result as a term in the arrays. -/
theorem read2 : StableHlo.after lines W (Proc.devRef .tc main_v79) = res2 (arrs W) := by
  simp only [lines, List.flatten_cons, List.flatten_nil, List.append_nil, List.cons_append, List.nil_append]
  after_reads_simp
  rfl

set_option maxHeartbeats 4000000 in
/-- The first result as a term in the arrays. -/
theorem read1 : StableHlo.after lines W (Proc.devRef .tc main_v77) = res1 (arrs W) := by
  simp only [lines, List.flatten_cons, List.flatten_nil, List.append_nil, List.cons_append, List.nil_append]
  after_reads_simp
  rfl

end Cert.ReferenceIdeal.Val
-- ==== Proof.ReferenceIdealSums.lean ====
/- The reference's one-hot codes, value sums and counters, entry by entry. -/
module

public import proofs.«01_k».proof.Proof.ReferenceIdealTerms
public import proofs.«01_k».proof.Proof.Spec
public import Idealize.ShloMosaic.Lib.Pointwise

@[expose] public section

set_option maxRecDepth 16384

noncomputable section

namespace Cert.ReferenceIdeal.Val

open Idealize.ShloMosaic Idealize.ShloMosaic.TcCoe
open Cert.ReferenceIdeal.Gen Cert.NatAt Cert.Spec

local instance : ReferenceIdeal.Facts := Gen.facts

variable (X : Arrs) (b : Fin 3) (n : Fin 32) (t q : Fin 512) (h : Fin 20) (r : Fin 1024) (j : Fin 128)

/-- Head `h` of sequence `b` in the arrays. -/
def headAt (b h : ℕ) : Head := headOf X.q X.sc X.k X.cb X.v X.vs X.u0 X.k0 b h

/-- Position `t` of block `n`. -/
def pos (n : Fin 32) (t : Fin 512) : Fin 16384 := ⟨n.val * 512 + t.val, by omega⟩

/-- Position `t` of block `n` is `512 n + t`. -/
theorem pos_val : (pos n t).val = 512 * n.val + t.val := congrArg (· + t.val) (Nat.mul_comm _ _)

/-- The queries by blocks. -/
theorem q_at : (headAt X b h).Q (512 * n.val + t.val) j = X.q (ix4 b (pos n t) h j) := by
  rw [← pos_val]; exact g4_of _ b.isLt (pos n t).isLt h.isLt j.isLt

/-- The values by blocks. -/
theorem v_at : (headAt X b h).V (512 * n.val + t.val) j = X.v (ix4 b (pos n t) h j) := by
  rw [← pos_val]; exact g4_of _ b.isLt (pos n t).isLt h.isLt j.isLt

/-- The value scales by blocks. -/
theorem vs_at : (headAt X b h).vs (512 * n.val + t.val) = X.vs (ix3 b (pos n t) h) := by
  rw [← pos_val]; exact g3_of _ b.isLt (pos n t).isLt h.isLt

/-- The codes by blocks. -/
theorem kk_at : (headAt X b h).kk (512 * n.val + t.val) = (X.k (ix3 b (pos n t) h)).toNat := by
  rw [← pos_val]; exact k3_of _ b.isLt (pos n t).isLt h.isLt

/-- The codebook at an index. -/
theorem cb_at : (headAt X b h).cb r j = X.cb (ix3 h r j) := g3_of _ h.isLt r.isLt j.isLt

/-- The query scales at an index. -/
theorem sc_at : (headAt X b h).sc n = X.sc (ix3 b n h) := g3_of _ b.isLt n.isLt h.isLt

/-- The first value sums at an index. -/
theorem u0_at : (headAt X b h).U0 r j = X.u0 (ix4 b h r j) := g4_of _ b.isLt h.isLt r.isLt j.isLt

/-- The first counts at an index. -/
theorem k0_at : (headAt X b h).K0 r = X.k0 (ix3 b h r) := g3_of _ b.isLt h.isLt r.isLt

/-- Words of small numbers are equal as the numbers are. -/
theorem ofNat_eq_iff (x : BitVec 32) {a : ℕ} (ha : a < 2 ^ 32) : x = BitVec.ofNat 32 a ↔ x.toNat = a := by
  rw [← BitVec.toNat_inj, BitVec.toNat_ofNat, Nat.mod_eq_of_lt ha]

/-- The bit 1 as a real. -/
theorem bit_one : FloatOps.uitofp (F := Ideal) FTy.bf16 (1#1) = (1 : EReal) := by
  show (((1#1 : BitVec 1).toNat : ℝ) : EReal) = 1
  simp

/-- The bit 0 as a real. -/
theorem bit_zero : FloatOps.uitofp (F := Ideal) FTy.bf16 (0#1) = (0 : EReal) := by
  show (((0#1 : BitVec 1).toNat : ℝ) : EReal) = 0
  simp

/-- The one-hot codes: 1 at a key's code, else 0. -/
theorem hot_at : hot X (ix5 b n t h r) = if (headAt X b h).kk (512 * n.val + t.val) = r.val then 1 else 0 := by
  rw [kk_at]
  pointwise [hot]
  have e := ofNat_eq_iff (X.k (ix3 b (pos n t) h)) (a := r.val) (by omega)
  by_cases hk : (X.k (ix3 b (pos n t) h)).toNat = r.val
  · rw [if_pos hk]
    have e2 : X.k (ix3 b ⟨n.val * 512 + t.val, (pos n t).isLt⟩ h) = BitVec.ofNat 32 r.val := e.2 hk
    rw [e2, show IntOp.cmpi CmpIPredicate.eq (BitVec.ofNat 32 r.val) (BitVec.ofNat 32 r.val) = 1#1 by simp [IntOp.cmpi]]
    exact bit_one
  · rw [if_neg hk]
    have e2 : X.k (ix3 b ⟨n.val * 512 + t.val, (pos n t).isLt⟩ h) ≠ BitVec.ofNat 32 r.val := fun e' => hk (e.1 e')
    rw [show IntOp.cmpi CmpIPredicate.eq (X.k (ix3 b ⟨n.val * 512 + t.val, (pos n t).isLt⟩ h)) (BitVec.ofNat 32 r.val) = 0#1 by
      simp only [IntOp.cmpi, beq_eq_false_iff_ne.2 e2]; rfl]
    exact bit_zero

/-- The mask of earlier blocks. -/
theorem lower_at (m : Fin 32) : lower X (ix2 n m) = if m.val < n.val then 1 else 0 := by
  pointwise [lower]
  revert n m
  have key : ∀ n m : Fin 32, IntOp.cmpi CmpIPredicate.sgt (BitVec.ofNat 32 n.val) (BitVec.ofNat 32 m.val) = if m.val < n.val then 1#1 else 0#1 := by decide
  intro n m
  rw [key]
  by_cases hm : m.val < n.val
  · rw [if_pos hm, if_pos hm]; rfl
  · rw [if_neg hm, if_neg hm]; rfl

/-- A product of three, read backwards. -/
theorem swap_mul (x y z : EReal) : x * y * z = z * y * x := by
  rw [mul_comm z y, mul_assoc, mul_comm]

/-- What a block adds to the value sums. -/
theorem du_at : du X (ix5 b n h r j) = dU (headAt X b h) n r j := by
  pointwise [du]
  refine Eq.trans ?_ (Finset.sum_range (n := 512) _).symm
  refine Finset.sum_congr rfl fun t _ => ?_
  rw [hot_at, v_at, vs_at]
  exact swap_mul _ _ _

/-- What a block adds to the counts. -/
theorem dk_at : dk X (ix4 b n h r) = dK (headAt X b h) n r := by
  pointwise [dk]
  refine Eq.trans ?_ (Finset.sum_range (n := 512) _).symm
  exact Finset.sum_congr rfl fun t _ => hot_at X b n t h r

/-- The entries before `n` of 32, summed: the rest are multiplied by 0. -/
theorem sum_before (f : ℕ → EReal) : ∑ m : Fin 32, f m.val * (if m.val < n.val then 1 else 0) = ∑ m ∈ Finset.range n.val, f m := by
  have e : ∀ m : ℕ, f m * (if m < n.val then 1 else 0) = if m < n.val then f m else 0 := fun m => by
    by_cases hm : m < n.val
    · rw [if_pos hm, if_pos hm, mul_one]
    · rw [if_neg hm, if_neg hm, mul_zero]
  refine (Finset.sum_range (fun m => f m * (if m < n.val then 1 else 0))).symm.trans ?_
  rw [Finset.sum_congr rfl fun m _ => e m, ← Finset.sum_filter]
  refine Finset.sum_congr (Finset.ext fun m => ?_) fun _ _ => rfl
  have := n.isLt
  rw [Finset.mem_filter, Finset.mem_range, Finset.mem_range]
  omega

/-- The value sums before a block. -/
theorem bigU_at : bigU X (ix5 b n h r j) = U (headAt X b h) n r j := by
  pointwise [bigU]
  unfold U
  rw [u0_at, ← sum_before]
  refine congrArg (X.u0 (ix4 b h r j) + ·) (Finset.sum_congr rfl fun m _ => ?_)
  rw [du_at, lower_at]

/-- The counts before a block. -/
theorem bigK_at : bigK X (ix4 b n h r) = K (headAt X b h) n r := by
  pointwise [bigK]
  unfold K
  rw [k0_at, ← sum_before]
  refine congrArg (X.k0 (ix3 b h r) + ·) (Finset.sum_congr rfl fun m _ => ?_)
  rw [dk_at, lower_at]

/-- The second result at an index is the value sum after all blocks. -/
theorem res2_at : res2 X (ix4 b h r j) = U (headAt X b h) 32 r j := by
  pointwise [res2]
  unfold U
  rw [u0_at, Finset.sum_range]
  exact congrArg (X.u0 (ix4 b h r j) + ·) (Finset.sum_congr rfl fun m _ => du_at X b m h r j)

/-- The third result at an index is the count after all blocks. -/
theorem res3_at : res3 X (ix3 b h r) = K (headAt X b h) 32 r := by
  pointwise [res3]
  unfold K
  rw [k0_at, Finset.sum_range]
  exact congrArg (X.k0 (ix3 b h r) + ·) (Finset.sum_congr rfl fun m _ => dk_at X b m h r)

end Cert.ReferenceIdeal.Val
-- ==== Proof.RowMax.lean ====
/- The reference's two row maxima, of any scores. -/
module

public import proofs.«01_k».proof.Proof.ReferenceIdealTerms
public import Idealize.ShloMosaic.Lib.Pointwise

@[expose] public section

set_option maxRecDepth 16384

noncomputable section

namespace Cert.ReferenceIdeal.Val

open Idealize.ShloMosaic Idealize.ShloMosaic.TcCoe
open Cert.ReferenceIdeal.Gen

local instance : ReferenceIdeal.Facts := Gen.facts

/-- The word of minus infinity reads as it. -/
theorem bot_const : Ideal.ofBits .f32 0xFF800000#32 = ⊥ := by simp [Ideal.ofBits, Ideal.ieee]

/-- The greatest of a row, over naturals. -/
theorem sup_fin (N : ℕ) (f : ℕ → EReal) : Finset.fold max ⊥ (fun t : Fin N => f t.val) Finset.univ = (Finset.range N).sup f := by
  show (Finset.univ : Finset (Fin N)).sup (fun t => f t.val) = _
  apply le_antisymm
  · exact Finset.sup_le fun t _ => Finset.le_sup (f := f) (Finset.mem_range.2 t.isLt)
  · exact Finset.sup_le fun t ht => Finset.le_sup (f := fun t : Fin N => f t.val) (Finset.mem_univ ⟨t, Finset.mem_range.1 ht⟩)

variable (b : Fin 3) (n : Fin 32) (h : Fin 20) (q : Fin 512)

/-- The greatest key score of a query is the supremum over the keys. -/
theorem rowMax_k (x : FVec Ideal S3x32x20x512x512 .f32) :
    Host.reduce FloatOps.maximumf x ((constant S_ .f32 0xFF800000#32) : FVec Ideal S_ .f32) reducesTo_S3x32x20x512x512_S3x32x20x512_d4 h_S_ (ix4 b n h q)
      = Finset.fold max (⊥ : EReal) (fun t : Fin 512 => (x (ix5 b n h q t) : EReal)) Finset.univ := by
  pointwise
  rw [bot_const]

/-- The greatest code score of a query is the supremum over the codes. -/
theorem rowMax_g (x : FVec Ideal S3x32x20x512x1024 .f32) :
    Host.reduce FloatOps.maximumf x ((constant S_ .f32 0xFF800000#32) : FVec Ideal S_ .f32) reducesTo_S3x32x20x512x1024_S3x32x20x512_d4 h_S_ (ix4 b n h q)
      = Finset.fold max (⊥ : EReal) (fun t : Fin 1024 => (x (ix5 b n h q t) : EReal)) Finset.univ := by
  pointwise
  rw [bot_const]

/-- The maximum of two arrays, at an index. -/
theorem max_at {s : Shape} (x y : FVec Ideal s .f32) (i : s.Idx) : maximumf x y i = max (x i : EReal) (y i : EReal) := rfl

/-- The maximum of two rows. -/
theorem rowMax_both (x : FVec Ideal S3x32x20x512x512 .f32) (y : FVec Ideal S3x32x20x512x1024 .f32) (f g : ℕ → EReal)
    (hx : ∀ t : Fin 512, x (ix5 b n h q t) = f t.val) (hy : ∀ t : Fin 1024, y (ix5 b n h q t) = g t.val) :
    (maximumf (Host.reduce FloatOps.maximumf x ((constant S_ .f32 0xFF800000#32) : FVec Ideal S_ .f32) reducesTo_S3x32x20x512x512_S3x32x20x512_d4 h_S_ : FVec Ideal S3x32x20x512 .f32)
      (Host.reduce FloatOps.maximumf y ((constant S_ .f32 0xFF800000#32) : FVec Ideal S_ .f32) reducesTo_S3x32x20x512x1024_S3x32x20x512_d4 h_S_ : FVec Ideal S3x32x20x512 .f32)) (ix4 b n h q)
      = (Finset.range 1024).sup g ⊔ (Finset.range 512).sup f := by
  have e1 := (rowMax_k b n h q x).trans ((congrArg (fun z : Fin 512 → EReal => Finset.fold max ⊥ z Finset.univ) (funext hx)).trans (sup_fin 512 f))
  have e2 := (rowMax_g b n h q y).trans ((congrArg (fun z : Fin 1024 → EReal => Finset.fold max ⊥ z Finset.univ) (funext hy)).trans (sup_fin 1024 g))
  exact (max_at _ _ _).trans ((congrArg₂ max e1 e2).trans (max_comm _ _))

end Cert.ReferenceIdeal.Val
-- ==== Proof.ReferenceIdealScores.lean ====
/- The reference's scores, entry by entry: the head's, times the temperature. -/
module

public import proofs.«01_k».proof.Proof.ReferenceIdealSums
public import proofs.«01_k».proof.Proof.AttEq
public import proofs.«01_k».proof.Proof.RowMax

@[expose] public section

set_option maxRecDepth 16384

noncomputable section

namespace Cert.ReferenceIdeal.Val

open Idealize.ShloMosaic Idealize.ShloMosaic.TcCoe
open Cert.ReferenceIdeal.Gen Cert.NatAt Cert.Spec

local instance : ReferenceIdeal.Facts := Gen.facts

/-- The comparisons of a code below 1024 with 0 and 1023. -/
theorem word_bits (v : BitVec 32) (hv : v.toNat < 1024) :
    IntOp.cmpi .slt v 0#32 = 0#1 ∧ IntOp.cmpi .sge v 0#32 = 1#1 ∧ IntOp.cmpi .sle v 1023#32 = 1#1 := by
  have e : v.toInt = v.toNat := by rw [BitVec.toInt_eq_toNat_cond, if_pos (by omega)]
  have h1 : BitVec.slt v 0#32 = false := by
    rw [BitVec.slt, e]; exact decide_eq_false (by simp)
  have h2 : BitVec.sle 0#32 v = true := by
    rw [BitVec.sle, e]; exact decide_eq_true (by simp)
  have h3 : BitVec.sle v 1023#32 = true := by
    rw [BitVec.sle, e]; exact decide_eq_true (by show (v.toNat : ℤ) ≤ 1023; omega)
  simp only [IntOp.cmpi, h1, h2, h3]
  decide

/-- The comparison of two positions of a block. -/
theorem le_bit (q t : Fin 512) : IntOp.cmpi .sge (IntOp.addi (BitVec.ofNat 32 q.val) 0#32) (BitVec.ofNat 32 t.val) = if t.val ≤ q.val then 1#1 else 0#1 := by
  have e : ∀ a : Fin 512, (BitVec.ofNat 32 a.val).toInt = a.val := fun a => by
    have := a.isLt
    rw [BitVec.toInt_eq_toNat_cond, BitVec.toNat_ofNat, Nat.mod_eq_of_lt (by omega), if_pos (by omega)]
  have e0 : IntOp.addi (BitVec.ofNat 32 q.val) 0#32 = BitVec.ofNat 32 q.val := BitVec.add_zero _
  rw [e0]
  simp only [IntOp.cmpi, BitVec.sle, e]
  by_cases h : t.val ≤ q.val
  · rw [if_pos h, decide_eq_true (by omega)]; rfl
  · rw [if_neg h, decide_eq_false (by omega)]; rfl

/-- The constant word of the score scale, as a real. -/
theorem scale_const : Ideal.ofBits .f32 0x3DB504F3#32 = (invSqrtD : EReal) := by
  simp [Ideal.ofBits, Ideal.ieee, invSqrtD]
  rw [← EReal.coe_mul]
  norm_num

/-- A choice by the bit 1 takes the first. -/
theorem select_one (x y : EReal) : Scalar.select 1#1 x y = x := rfl
/-- A choice by the bit 0 takes the second. -/
theorem select_zero (x y : EReal) : Scalar.select 0#1 x y = y := rfl

/-- The gather along the last axis, the first three being batches and the fourth whole. -/
theorem gather_at (x : S3x32x20x512x1024.Idx → EReal) (idx : IVec S3x32x20x512x1 32) (b : Fin 3) (n : Fin 32) (h : Fin 20) (q t : Fin 512) :
    Host.gather gather_S3x32x20x512x1024_S3x32x20x512x1_S3x32x20x512x512_3_4_012_012_4_4_1115121 x idx (ix5 b n h q t)
      = x (ix5 b n h q ⟨min (idx (ix5 b n h t 0)).toInt.toNat 1023, by omega⟩) := by
  generalize hd : gather_S3x32x20x512x1024_S3x32x20x512x1_S3x32x20x512x512_3_4_012_012_4_4_1115121 = d
  have hb : ∀ a : Fin 5, a ∈ d.operandBatchingDims ↔ a.val < 3 := by subst hd; decide
  have hc : ∀ a : Fin 5, a ∈ d.collapsedSliceDims ↔ a.val = 4 := by subst hd; decide
  have hm : ∀ a : Fin 5, a ∈ d.startIndexMap ↔ a.val = 4 := by subst hd; decide
  unfold Host.gather
  congr 1
  funext a
  refine Fin.ext ?_
  show d.start (ix5 b n h q t) idx a + d.batchCoord (ix5 b n h q t) a + d.offCoord (ix5 b n h q t) a = _
  have batch : ∀ a : Fin 5, a.val < 3 → d.start (ix5 b n h q t) idx a + d.batchCoord (ix5 b n h q t) a + d.offCoord (ix5 b n h q t) a
      = d.batchCoord (ix5 b n h q t) a := fun a ha => by
    have ha := (hb a).2 ha
    rw [GatherDims.start_batching _ _ _ _ ha, GatherDims.offCoord_eq_zero _ _ _ (fun h' => ((GatherDims.mem_sKept _ _).1 h').2 ha), Nat.zero_add, Nat.add_zero]
  have whole : ∀ a : Fin 5, a.val = 3 → d.start (ix5 b n h q t) idx a + d.batchCoord (ix5 b n h q t) a + d.offCoord (ix5 b n h q t) a
      = d.offCoord (ix5 b n h q t) a := fun a ha => by
    have h1 : d.start (ix5 b n h q t) idx a = 0 := dif_neg fun h' => absurd ((hm a).1 h') (by omega)
    rw [h1, GatherDims.batchCoord_eq_zero _ _ _ (fun h' => absurd ((hb a).1 h') (by omega)), Nat.zero_add]
  have picks : ∀ a : Fin 5, a.val = 4 → d.start (ix5 b n h q t) idx a + d.batchCoord (ix5 b n h q t) a + d.offCoord (ix5 b n h q t) a
      = d.start (ix5 b n h q t) idx a := fun a ha => by
    rw [GatherDims.batchCoord_eq_zero _ _ _ (fun h' => absurd ((hb a).1 h') (by omega)),
      GatherDims.offCoord_eq_zero _ _ _ (fun h' => ((GatherDims.mem_sKept _ _).1 h').1 ((hc a).2 ha)), Nat.add_zero]
  match a with
  | ⟨0, _⟩ => exact (batch 0 (by decide)).trans (by subst hd; rfl)
  | ⟨1, _⟩ => exact (batch 1 (by decide)).trans (by subst hd; rfl)
  | ⟨2, _⟩ => exact (batch 2 (by decide)).trans (by subst hd; rfl)
  | ⟨3, _⟩ => exact (whole 3 (by decide)).trans (by subst hd; rfl)
  | ⟨4, _⟩ =>
    refine (picks 4 (by decide)).trans ?_
    have hsi : d.siIdx (ix5 b n h q t) ⟨List.idxOf (4 : Fin 5) d.startIndexMap, List.idxOf_lt_length_iff.2 ((hm 4).2 rfl)⟩ = ix5 b n h t 0 := by
      subst hd
      funext k; refine Fin.ext ?_
      match k with
      | ⟨0, _⟩ => rfl
      | ⟨1, _⟩ => rfl
      | ⟨2, _⟩ => rfl
      | ⟨3, _⟩ => rfl
      | ⟨4, _⟩ => rfl
    unfold GatherDims.start
    refine (dif_pos ((hm 4).2 rfl)).trans ((congrArg (fun w => min (idx w).toInt.toNat _) hsi).trans ?_)
    subst hd; rfl

variable (X : Arrs) (b : Fin 3) (n : Fin 32) (t q : Fin 512) (h : Fin 20) (r : Fin 1024) (j : Fin 128)

/-- The causal mask: the key is at or before the query. -/
theorem tri_at : tri X (ix2 q t) = if t.val ≤ q.val then 1#1 else 0#1 := by
  pointwise [tri]
  rw [le_bit]
  by_cases hq : t.val ≤ q.val
  · rw [if_pos hq]; rfl
  · rw [if_neg hq]; rfl

/-- The product of a query with a code. -/
theorem dots_at : dots X (ix5 b n h q r) = dot (headAt X b h) r (512 * n.val + q.val) := by
  pointwise [dots]
  refine Eq.trans ?_ (Finset.sum_range (n := 128) _).symm
  refine Finset.sum_congr rfl fun x _ => ?_
  rw [q_at, cb_at]
  rfl

/-- The factor of the scores of a block and head. -/
theorem temps_at : temps X (ix5 b n h q r) = temp (headAt X b h) n := by
  pointwise [temps]
  unfold temp
  rw [sc_at, scale_const]

/-- The scaled score of a code. -/
theorem scaled_at : scaled X (ix5 b n h q r) = dot (headAt X b h) r (512 * n.val + q.val) * temp (headAt X b h) n := by
  rw [← dots_at, ← temps_at X b n q h r]
  rfl

/-- Every code names a row of the codebook. -/
def CodesIn : Prop := ∀ y, (X.k y).toNat < 1024

/-- Every scale is positive and finite. -/
def ScalesIn : Prop := ∀ y, (0 : EReal) < X.sc y ∧ (X.sc y : EReal) < ⊤

variable {X} (hk : CodesIn X) (hs : ScalesIn X)

include hk in
/-- The row picked for a key is its code. -/
theorem codes_at : codes X (ix5 b n h t 0) = X.k (ix3 b (pos n t) h) := by
  pointwise [codes]
  have e : (X.k (ix3 b ⟨n.val * 512 + t.val, (pos n t).isLt⟩ h)).toNat < 1024 := hk _
  rw [(word_bits _ e).1]
  rfl

include hk in
/-- Every code passes the range test of the gather. -/
theorem okCode_at : okCode X (ix5 b n h t 0) = 1#1 := by
  pointwise [okCode]
  rw [codes_at b n t h hk, (word_bits _ (hk _)).2.1, (word_bits _ (hk _)).2.2]
  rfl

include hk in
/-- The scaled score picked for a key is its code's. -/
theorem picked_at : picked X (ix5 b n h q t) = scaled X (ix5 b n h q ⟨(X.k (ix3 b (pos n t) h)).toNat, hk _⟩) := by
  pointwise [picked]
  have e : (X.k (ix3 b (pos n t) h)).toInt.toNat = (X.k (ix3 b (pos n t) h)).toNat := by
    have := hk (ix3 b (pos n t) h)
    rw [BitVec.toInt_eq_toNat_cond, if_pos (by omega)]; rfl
  have hok : Finset.fold IntOp.andi (1#1) (fun x => okCode X (ix5 b n h t x)) (Finset.univ : Finset (Fin 1)) = 1#1 := by
    rw [show (Finset.univ : Finset (Fin 1)) = {0} from rfl, Finset.fold_singleton, okCode_at b n t h hk]
    rfl
  rw [hok, gather_at]
  refine congrArg (scaled X) (congrArg (ix5 b n h q) (Fin.ext ?_))
  show min (codes X (ix5 b n h t 0)).toInt.toNat 1023 = (X.k (ix3 b (pos n t) h)).toNat
  have := hk (ix3 b (pos n t) h)
  rw [codes_at b n t h hk, e]
  omega

include hs in
/-- The factor of the scores is positive and finite. -/
theorem temp_in : 0 < temp (headAt X b h) n ∧ temp (headAt X b h) n < ⊤ := by
  have e := hs (ix3 b n h)
  rw [← sc_at] at e
  refine ⟨AttEq.temp_pos _ _ e.1, ?_⟩
  unfold temp
  generalize (headAt X b h).sc n = s at e
  lift s to ℝ using ⟨e.2.ne, (bot_lt_of_lt e.1).ne'⟩
  rw [← EReal.coe_mul]
  exact EReal.coe_lt_top _

include hk hs in
/-- The scaled key score, minus infinity after the query. -/
theorem kSc_at : kSc X (ix5 b n h q t) = kScore (headAt X b h) n t q * temp (headAt X b h) n := by
  pointwise [kSc]
  rw [tri_at]
  unfold kScore
  by_cases hq : t.val ≤ q.val
  · rw [if_pos hq, if_pos hq, kk_at]
    exact (select_one _ _).trans ((picked_at b n t q h hk).trans (scaled_at X b n q h _))
  · rw [if_neg hq, if_neg hq, EReal.bot_mul_of_pos (temp_in b n h hs).1]
    exact (select_zero _ _).trans bot_const

include hs in
/-- The scaled code score, minus infinity for a code not yet counted. -/
theorem gSc_at : gSc X (ix5 b n h q r) = gScore (headAt X b h) n r q * temp (headAt X b h) n := by
  pointwise [gSc]
  rw [bigK_at]
  unfold gScore
  by_cases hq : 0 < K (headAt X b h) n r
  · rw [if_pos hq, if_pos hq]
    exact scaled_at X b n q h r
  · rw [if_neg hq, if_neg hq, EReal.bot_mul_of_pos (temp_in b n h hs).1]
    exact bot_const

end Cert.ReferenceIdeal.Val
-- ==== Proof.ReferenceIdealAtt.lean ====
/- The reference's weights and attention, entry by entry: the head's. -/
module

public import proofs.«01_k».proof.Proof.ReferenceIdealScores
public import proofs.«01_k».proof.Proof.RowMax

@[expose] public section

set_option maxRecDepth 16384

noncomputable section

namespace Cert.ReferenceIdeal.Val

open Idealize.ShloMosaic Idealize.ShloMosaic.TcCoe
open Cert.ReferenceIdeal.Gen Cert.NatAt Cert.Spec

local instance : ReferenceIdeal.Facts := Gen.facts

/-- A positive factor passes through the greatest of a row. -/
theorem sup_mul {a : EReal} (ha : 0 < a) (N : ℕ) (f : ℕ → EReal) : (Finset.range N).sup (fun t => f t * a) = (Finset.range N).sup f * a :=
  (Finset.comp_sup_eq_sup_comp_of_is_total (fun x : EReal => x * a) (fun _ _ hxy => mul_le_mul_of_nonneg_right hxy ha.le) (EReal.bot_mul_of_pos ha)).symm

/-- A positive finite factor passes through a difference. -/
theorem sub_mul_pos {a : EReal} (ha : 0 < a) (ha' : a < ⊤) (x y : EReal) : x * a - y * a = (x - y) * a := by
  rw [sub_eq_add_neg, sub_eq_add_neg, EReal.right_distrib_of_nonneg_of_ne_top ha.le ha'.ne, EReal.neg_mul]

variable {X : Arrs} (b : Fin 3) (n : Fin 32) (t q : Fin 512) (h : Fin 20) (r : Fin 1024) (j : Fin 128) (hk : CodesIn X) (hs : ScalesIn X)

include hk hs in
/-- The greatest scaled score of a query is its greatest score times the factor. -/
theorem tops_at : tops X (ix4 b n h q) = top (headAt X b h) n q * temp (headAt X b h) n := by
  have ht := (temp_in b n h hs).1
  refine (rowMax_both b n h q (kSc X) (gSc X) (fun t => kScore (headAt X b h) n t q * temp (headAt X b h) n)
    (fun r => gScore (headAt X b h) n r q * temp (headAt X b h) n) (fun t => kSc_at b n t q h hk hs) (fun r => gSc_at b n q h r hs)).trans ?_
  rw [sup_mul ht, sup_mul ht]
  have hm : Monotone fun x : EReal => x * temp (headAt X b h) n := fun x y hxy => mul_le_mul_of_nonneg_right hxy ht.le
  exact (Monotone.map_sup hm _ _).symm

include hk hs in
/-- The weight of a key. -/
theorem kW_at : kW X (ix5 b n h q t) = weight (headAt X b h) n q (kScore (headAt X b h) n t q) := by
  pointwise [kW]
  rw [kSc_at b n t q h hk hs, tops_at b n q h hk hs, sub_mul_pos (temp_in b n h hs).1 (temp_in b n h hs).2]
  rfl

include hk hs in
/-- The weight of a code. -/
theorem gW_at : gW X (ix5 b n h q r) = weight (headAt X b h) n q (gScore (headAt X b h) n r q) := by
  pointwise [gW]
  rw [gSc_at b n q h r hs, tops_at b n q h hk hs, sub_mul_pos (temp_in b n h hs).1 (temp_in b n h hs).2]
  rfl

include hk hs in
/-- The divisor: the sum of all weights, the codes' each as often as counted. -/
theorem denom_at : denom X (ix5 b n h q 0)
    = (∑ r ∈ Finset.range 1024, weight (headAt X b h) n q (gScore (headAt X b h) n r q) * K (headAt X b h) n r)
      + ∑ t ∈ Finset.range 512, weight (headAt X b h) n q (kScore (headAt X b h) n t q) := by
  pointwise [denom]
  refine (add_comm _ _).trans (congrArg₂ (· + ·) ?_ ?_)
  · refine Eq.trans (Finset.sum_congr rfl fun r _ => ?_) (Finset.sum_range (n := 1024) _).symm
    rw [gW_at b n q h r hk hs, bigK_at]
  · exact Eq.trans (Finset.sum_congr rfl fun t _ => kW_at b n t q h hk hs)
      (Finset.sum_range (n := 512) fun t => weight (headAt X b h) n q (kScore (headAt X b h) n t q)).symm

include hk hs in
/-- The weight of a key times the scale of its value. -/
theorem kWv_at : kWv X (ix5 b n h q t) = weight (headAt X b h) n q (kScore (headAt X b h) n t q) * (headAt X b h).vs (512 * n.val + t.val) := by
  pointwise [kWv]
  rw [kW_at b n t q h hk hs, vs_at]
  rfl

include hk hs in
/-- The weighted sum of the values and the codes' value sums. -/
theorem numer_at : numer X (ix5 b n h q j)
    = (∑ r ∈ Finset.range 1024, U (headAt X b h) n r j * weight (headAt X b h) n q (gScore (headAt X b h) n r q))
      + ∑ t ∈ Finset.range 512, (headAt X b h).V (512 * n.val + t) j * (headAt X b h).vs (512 * n.val + t)
          * weight (headAt X b h) n q (kScore (headAt X b h) n t q) := by
  pointwise [numer]
  refine (add_comm _ _).trans (congrArg₂ (· + ·) ?_ ?_)
  · refine Eq.trans (Finset.sum_congr rfl fun r _ => ?_) (Finset.sum_range (n := 1024) _).symm
    rw [gW_at b n q h r hk hs, bigU_at, mul_comm]
  · refine Eq.trans (Finset.sum_congr rfl fun t _ => ?_) (Finset.sum_range (n := 512) _).symm
    rw [kWv_at b n t q h hk hs, v_at]
    exact swap_mul _ _ _

include hk hs in
/-- The first result at an index is the attention of its head there. -/
theorem res1_at (s : Fin 16384) (f : Fin 2560) :
    res1 X (ix3 b s f) = att (headAt X b (f.val / 128)) (s.val / 512) (s.val % 512) (f.val % 128) := by
  pointwise [Val.res1]
  refine congrArg₂ Ideal.div ?_ ?_
  · exact numer_at b ⟨s.val / 512, by omega⟩ ⟨s.val % 512, by omega⟩ ⟨f.val / 128, by omega⟩ ⟨f.val % 128, by omega⟩ hk hs
  · exact denom_at b ⟨s.val / 512, by omega⟩ ⟨s.val % 512, by omega⟩ ⟨f.val / 128, by omega⟩ hk hs

end Cert.ReferenceIdeal.Val
-- ==== Proof.ReferenceIdealCall.lean ====
/- The reference's call leaves the two arrays of codes as they were given, widened. -/
module

public import proofs.«01_k».proof.Proof.Gen.ReferenceIdeal.Frame
public import Idealize.ShloMosaic.Lib.Tactic
public import Idealize.ShloMosaic.Lib.Pipeline.ValueKit
public import Idealize.ShloMosaic.Lib.Pipeline.Covers
public import Idealize.ShloMosaic.PureOps.Ideal

@[expose] public section

set_option maxRecDepth 16384

noncomputable section

namespace Cert.ReferenceIdeal.Val

open Idealize.ShloMosaic Idealize.ShloMosaic.TcCoe Idealize.ShloMosaic.Tactic
open Cert.ReferenceIdeal.Gen

local instance : ReferenceIdeal.Facts := Gen.facts

variable (m : (ℓ : Loc nD τ sig) → Buf (Elt Ideal) ℓ) (c : Dev nD)

/-- The one block of the first output is its whole array. -/
theorem covers2 : win0_2.Covers := win0_2.covers_of_index_surj rfl (by decide) fun β => ⟨t0_0, fun a => by
  have h0 : (β a).val < 1 := by
    have := (β a).isLt
    revert this
    fin_cases a <;> exact id
  show 0 = (β a).val
  omega⟩

/-- The one block of the second output is its whole array. -/
theorem covers3 : win0_3.Covers := win0_3.covers_of_index_surj rfl (by decide) fun β => ⟨t0_0, fun a => by
  have h0 : (β a).val < 1 := by
    have := (β a).isLt
    revert this
    fin_cases a <;> exact id
  show 0 = (β a).val
  omega⟩

/-- The load and the stores begin at the corner. -/
theorem off0 (a : Fin 4) : (![0, 0, 0, 0] : Fin 4 → ℕ) a = 0 := by fin_cases a <;> rfl

/-- The call leaves the queries, widened. -/
theorem arr2 : (dats m 0 c).arrAt 2 cfg0.N = (fun y => m ((c : Thread nD τ).loc main_arg0) y : S3x16384x20x128.Idx → EReal) := by
  refine (dats m 0 c).arrAt_eq_of_covers 2 _ covers2 fun t hf y => ?_
  blk_simp []
  rw [after0_2]
  unfold out0_2
  rw [View.canon_cons_unit_lit _ _ _ off0]
  show m ((c : Thread nD τ).loc main_arg0) ((win0_0.blk t).view.emb (r0_0.emb y)) = _
  refine congrArg (m ((c : Thread nD τ).loc main_arg0)) ?_
  funext a
  refine Fin.ext ?_
  blk_simp []
  rw [show win0_0.index t a = 0 from rfl, show win0_2.index t a = 0 from rfl, off0, Nat.zero_mul, Nat.zero_mul, Nat.zero_add]

/-- The call leaves the values, widened. -/
theorem arr3 : (dats m 0 c).arrAt 3 cfg0.N = (fun y => m ((c : Thread nD τ).loc main_arg4) y : S3x16384x20x128.Idx → EReal) := by
  refine (dats m 0 c).arrAt_eq_of_covers 3 _ covers3 fun t hf y => ?_
  blk_simp []
  rw [after0_3]
  unfold out0_3
  rw [View.canon_cons_unit_lit _ _ _ off0]
  show m ((c : Thread nD τ).loc main_arg4) ((win0_1.blk t).view.emb (r0_0.emb y)) = _
  refine congrArg (m ((c : Thread nD τ).loc main_arg4)) ?_
  funext a
  refine Fin.ext ?_
  blk_simp []
  rw [show win0_1.index t a = 0 from rfl, show win0_3.index t a = 0 from rfl, off0, Nat.zero_mul, Nat.zero_mul, Nat.zero_add]

end Cert.ReferenceIdeal.Val
-- ==== Proof.ReferenceIdealResults.lean ====
/- The reference ends with the three results of the heads of its arguments. -/
module

public import proofs.«01_k».proof.Proof.ReferenceIdealRun
public import proofs.«01_k».proof.Proof.ReferenceIdealAtt
public import proofs.«01_k».proof.Proof.ReferenceIdealCall
public import Idealize.ShloMosaic.Lib.Tactic
public import Idealize.ShloMosaic.Lib.Claim

@[expose] public section

set_option maxRecDepth 16384

noncomputable section

namespace Cert.ReferenceIdeal.Val

open Idealize.ShloMosaic Idealize.ShloMosaic.TcCoe Idealize.ShloMosaic.Tactic
open Cert.ReferenceIdeal.Gen Cert.NatAt Cert.Spec

local instance : ReferenceIdeal.Facts := Gen.facts

variable (m : (ℓ : Loc nD τ sig) → Buf (Elt Ideal) ℓ) (c : Dev nD)

/-- The arrays of a memory. -/
def argArrs : Arrs where
  q := m ((c : Thread nD τ).loc main_arg0)
  v := m ((c : Thread nD τ).loc main_arg4)
  sc := m ((c : Thread nD τ).loc main_arg1)
  k := m ((c : Thread nD τ).loc main_arg2)
  cb := m ((c : Thread nD τ).loc main_arg3)
  vs := m ((c : Thread nD τ).loc main_arg5)
  u0 := m ((c : Thread nD τ).loc main_arg6)
  k0 := m ((c : Thread nD τ).loc main_arg7)

/-- Head `i` of the arguments. -/
def hd (i : ℕ) : Head := headAt (argArrs m c) (i / 20) (i % 20)

/-- The device's buffers after the call. -/
abbrev W : Valuation τ sig (Elt Ideal) := Pipeline.withArrays cfg0.spec c (V0 m c) fun w => (dats m 0 c).arrAt w cfg0.N

/-- An argument that the call does not write is as launched. -/
theorem W_arg (b : Ref sig .tc) (hb : ∀ w, Pipeline.arrRef spec0 w ≠ b) : W m c (Proc.devRef .tc b) = m ((c : Thread nD τ).loc b) :=
  Pipeline.withArrays_of_ne spec0 c (V0 m c) _ b hb

/-- What the lines after the call read are the arguments. -/
theorem arrs_eq : arrs (W m c) = argArrs m c := by
  have h2 : W m c (Proc.devRef .tc main_v0_0) = _ :=
    (Pipeline.withArrays_arr spec0 launch0.win.arr_inj c (V0 m c) (fun w => (dats m 0 c).arrAt w cfg0.N) 2).trans (arr2 m c)
  have h3 : W m c (Proc.devRef .tc main_v0_1) = _ :=
    (Pipeline.withArrays_arr spec0 launch0.win.arr_inj c (V0 m c) (fun w => (dats m 0 c).arrAt w cfg0.N) 3).trans (arr3 m c)
  unfold arrs argArrs
  rw [h2, h3, W_arg m c main_arg1 (by decide), W_arg m c main_arg2 (by decide), W_arg m c main_arg3 (by decide),
    W_arg m c main_arg5 (by decide), W_arg m c main_arg6 (by decide), W_arg m c main_arg7 (by decide)]

variable (hk : CodesIn (argArrs m c)) (hs : ScalesIn (argArrs m c))

include hk hs in
/-- The first result is the attention of the heads. -/
theorem tail1 : Pipeline.afterTail₀ cfgs (dats m) 0 (V0 m) [hostOps1, hostOps1_1, hostOps1_2, hostOps1_3, hostOps1_4, hostOps1_5, hostOps1_6,
      hostOps1_7, hostOps1_8, hostOps1_9, hostOps1_10, hostOps1_11] c main_v77 = (Spec.res1 (hd m c) : S3x16384x2560.Idx → EReal) := by
  refine (read1 (W m c)).trans ?_
  rw [arrs_eq]
  funext y
  obtain ⟨b, s, f, rfl⟩ : ∃ a b d, y = ix3 a b d := ⟨y 0, y 1, y 2, eq_ix3 y⟩
  refine (res1_at b hk hs s f).trans ?_
  show att (headAt (argArrs m c) b.val (f.val / 128)) _ _ _
    = att (headAt (argArrs m c) ((20 * b.val + f.val / 128) / 20) ((20 * b.val + f.val / 128) % 20)) (s.val / 512) (s.val % 512) (f.val % 128)
  rw [show (20 * b.val + f.val / 128) / 20 = b.val by omega, show (20 * b.val + f.val / 128) % 20 = f.val / 128 by omega]

/-- The second result is the value sums after all blocks. -/
theorem tail2 : Pipeline.afterTail₀ cfgs (dats m) 0 (V0 m) [hostOps1, hostOps1_1, hostOps1_2, hostOps1_3, hostOps1_4, hostOps1_5, hostOps1_6,
      hostOps1_7, hostOps1_8, hostOps1_9, hostOps1_10, hostOps1_11] c main_v79 = (Spec.res2 (hd m c) : S3x20x1024x128.Idx → EReal) := by
  refine (read2 (W m c)).trans ?_
  rw [arrs_eq]
  funext y
  obtain ⟨b, h, r, j, rfl⟩ : ∃ a b d e, y = ix4 a b d e := ⟨y 0, y 1, y 2, y 3, eq_ix4 y⟩
  refine (res2_at (argArrs m c) b h r j).trans ?_
  show U (headAt (argArrs m c) b.val h.val) 32 r.val j.val
    = U (headAt (argArrs m c) ((20 * b.val + h.val) / 20) ((20 * b.val + h.val) % 20)) 32 r.val j.val
  rw [show (20 * b.val + h.val) / 20 = b.val by omega, show (20 * b.val + h.val) % 20 = h.val by omega]

/-- The third result is the counts after all blocks. -/
theorem tail3 : Pipeline.afterTail₀ cfgs (dats m) 0 (V0 m) [hostOps1, hostOps1_1, hostOps1_2, hostOps1_3, hostOps1_4, hostOps1_5, hostOps1_6,
      hostOps1_7, hostOps1_8, hostOps1_9, hostOps1_10, hostOps1_11] c main_v81 = (Spec.res3 (hd m c) : S3x20x1024.Idx → EReal) := by
  refine (read3 (W m c)).trans ?_
  rw [arrs_eq]
  funext y
  obtain ⟨b, h, r, rfl⟩ : ∃ a b d, y = ix3 a b d := ⟨y 0, y 1, y 2, eq_ix3 y⟩
  refine (res3_at (argArrs m c) b h r).trans ?_
  show K (headAt (argArrs m c) b.val h.val) 32 r.val
    = K (headAt (argArrs m c) ((20 * b.val + h.val) / 20) ((20 * b.val + h.val) % 20)) 32 r.val
  rw [show (20 * b.val + h.val) / 20 = b.val by omega, show (20 * b.val + h.val) % 20 = h.val by omega]

variable (ρ : Dev nD → PrngReg)

/-- The reference ends with the three results of the heads, its arguments unchanged. -/
theorem results (hk : ∀ c, CodesIn (argArrs m c)) (hs : ∀ c, ScalesIn (argArrs m c)) :
    θ_run defs (onTc (τ := τ) (main (F := Ideal))) ⟨m, fun _ => 0, ρ⟩ (fun r => (∀ c : Dev nD,
      r.2.mem ((c.tc : Thread nD τ).loc main_v77) = (Spec.res1 (hd m c) : S3x16384x2560.Idx → EReal)
      ∧ r.2.mem ((c.tc : Thread nD τ).loc main_v79) = (Spec.res2 (hd m c) : S3x20x1024x128.Idx → EReal)
      ∧ r.2.mem ((c.tc : Thread nD τ).loc main_v81) = (Spec.res3 (hd m c) : S3x20x1024.Idx → EReal))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun r h c =>
      ⟨((h c).2 main_v77 (Pipeline.mem_restRefs_of main_v77 (by decide) (by decide))).trans (tail1 m c (hk c) (hs c)),
      ((h c).2 main_v79 (Pipeline.mem_restRefs_of main_v79 (by decide) (by decide))).trans (tail2 m c),
      ((h c).2 main_v81 (Pipeline.mem_restRefs_of main_v81 (by decide) (by decide))).trans (tail3 m c)⟩) (run_main m ρ))
    (unchanged m ρ)

end Cert.ReferenceIdeal.Val
-- ==== Proof.Scales.lean ====
/- What the precondition of the value claim says: key codes are below 1024, and query scales are positive and finite. -/
module

public import proofs.«01_k».proof.Proof.Codes
public import proofs.«01_k».proof.Pre_codes_and_scales
public import Idealize.ShloMosaic.PureOps.Ideal

@[expose] public section

noncomputable section

namespace Cert.Body

open Idealize.ShloMosaic

/-- The precondition says that every code is below 1024. -/
theorem code_lt' [Pre_codes_and_scales.Facts] {F : FTy → Type} [FloatOps F] {a0 a1 a2 a3 a4 a5 a6 a7}
    (h : (Pre_codes_and_scales.fn (F := F) a0 a1 a2 a3 a4 a5 a6 a7).1 = fun _ => 1#1) (y) : (a2 y).toNat < 1024 :=
  lt_of_bits y rfl rfl (congrFun h y)

/-- Both bits of a conjunction are 1. -/
theorem ofBool_and {p q : Bool} (h : IntOp.andi (BitVec.ofBool p) (BitVec.ofBool q) = 1#1) : p = true ∧ q = true := by
  revert h; cases p <;> cases q <;> decide

/-- The precondition says that every scale is positive and finite. -/
theorem scale_pos [Pre_codes_and_scales.Facts] {a0 a1 a2 a3 a4 a5 a6 a7}
    (h : (Pre_codes_and_scales.fn (F := Ideal) a0 a1 a2 a3 a4 a5 a6 a7).2 = fun _ => 1#1) (y) : (0 : EReal) < a1 y ∧ (a1 y : EReal) < ⊤ := by
  have e : IntOp.andi (BitVec.ofBool (decide (Ideal.ofBits .f32 0x00000000#32 < (a1 y : EReal))))
      (BitVec.ofBool (decide ((a1 y : EReal) < Ideal.ofBits .f32 0x7F800000#32))) = 1#1 := congrFun h y
  have ht : Ideal.ofBits .f32 0x7F800000#32 = ⊤ := by simp [Ideal.ofBits, Ideal.ieee]
  have hz : Ideal.ofBits .f32 0x00000000#32 = 0 := by simp [Ideal.ofBits, Ideal.ieee]
  rw [ht, hz] at e
  obtain ⟨h1, h2⟩ := ofBool_and e
  exact ⟨of_decide_eq_true h1, of_decide_eq_true h2⟩

end Cert.Body
-- ==== Proof.lean ====
module

public import proofs.«01_k».proof.Defs
public import proofs.«01_k».proof.Proof.KernelPre
public import proofs.«01_k».proof.Proof.KernelIdealPre
public import proofs.«01_k».proof.Proof.KernelIdealResults
public import proofs.«01_k».proof.Proof.ReferenceIdealResults
public import proofs.«01_k».proof.Proof.Scales
public import proofs.«01_k».proof.Proof.Gen.ReferenceIdeal.Frame

@[expose] public section

noncomputable section

namespace Cert.Proof

open Idealize.ShloMosaic Idealize.SL.Sem

/-- The first precondition's one fact of shapes. -/
theorem preFacts : Cert.Pre_codes_in_range.Facts where
  bcast_S_S3x16384x20 := by decide

/-- The second precondition's facts of shapes. -/
theorem preFacts' : Cert.Pre_codes_and_scales.Facts where
  bcast_S_S3x16384x20 := by decide
  bcast_S_S3x32x20 := by decide

local instance : Cert.KernelIdeal.Facts := Cert.KernelIdeal.Gen.facts
local instance : Cert.ReferenceIdeal.Facts := Cert.ReferenceIdeal.Gen.facts
local instance : Cert.Pre_codes_and_scales.Facts := preFacts'

/-- From codes in range and scales positive and finite, the ideal form and the reference leave the same three results. -/
theorem equal : Cert.algebraic_KernelIdeal_ReferenceIdeal_pre_codes_and_scales := by
  intro m g m' g' hpre hargs
  have hC : Cert.KernelIdeal.Val.Codes m := fun c y => Cert.Body.code_lt' (hpre c).1 y
  have hS : Cert.KernelIdeal.Val.Scales m := fun c y => Cert.Body.scale_pos (hpre c).2 y
  have hX : ∀ c, Cert.ReferenceIdeal.Val.argArrs m' c
      = { q := m ((c.tc : Thread Cert.KernelIdeal.nD Cert.KernelIdeal.τ).loc Cert.KernelIdeal.main_arg0)
          v := m ((c.tc : Thread Cert.KernelIdeal.nD Cert.KernelIdeal.τ).loc Cert.KernelIdeal.main_arg4)
          sc := m ((c.tc : Thread Cert.KernelIdeal.nD Cert.KernelIdeal.τ).loc Cert.KernelIdeal.main_arg1)
          k := m ((c.tc : Thread Cert.KernelIdeal.nD Cert.KernelIdeal.τ).loc Cert.KernelIdeal.main_arg2)
          cb := m ((c.tc : Thread Cert.KernelIdeal.nD Cert.KernelIdeal.τ).loc Cert.KernelIdeal.main_arg3)
          vs := m ((c.tc : Thread Cert.KernelIdeal.nD Cert.KernelIdeal.τ).loc Cert.KernelIdeal.main_arg5)
          u0 := m ((c.tc : Thread Cert.KernelIdeal.nD Cert.KernelIdeal.τ).loc Cert.KernelIdeal.main_arg6)
          k0 := m ((c.tc : Thread Cert.KernelIdeal.nD Cert.KernelIdeal.τ).loc Cert.KernelIdeal.main_arg7) } := by
    intro c
    obtain ⟨h0, h1, h2, h3, h4, h5, h6, h7⟩ := hargs c
    unfold Cert.ReferenceIdeal.Val.argArrs
    rw [h0, h1, h2, h3, h4, h5, h6, h7]
  have hH : ∀ c, Cert.ReferenceIdeal.Val.hd m' c = Cert.KernelIdeal.Val.hd m c := by
    intro c
    funext i
    unfold Cert.ReferenceIdeal.Val.hd
    rw [hX c]
    rfl
  have hk : ∀ c, Cert.ReferenceIdeal.Val.CodesIn (Cert.ReferenceIdeal.Val.argArrs m' c) := fun c => by rw [hX c]; exact hC c
  have hs : ∀ c, Cert.ReferenceIdeal.Val.ScalesIn (Cert.ReferenceIdeal.Val.argArrs m' c) := fun c => by rw [hX c]; exact hS c
  refine ⟨fun c => Cert.Spec.res1 (Cert.KernelIdeal.Val.hd m c), fun c => Cert.Spec.res2 (Cert.KernelIdeal.Val.hd m c),
    fun c => Cert.Spec.res3 (Cert.KernelIdeal.Val.hd m c),
    (θ_run _ _ _).mono (fun r h c => ⟨(h.1 c).1, (h.1 c).2.1, (h.1 c).2.2, h.2 c⟩) (Cert.KernelIdeal.Val.results m g hC hS),
    (θ_run _ _ _).mono (fun r h c => ⟨?_, ?_, ?_, h.2 c⟩) (Cert.ReferenceIdeal.Val.results m' g' hk hs)⟩
  · exact (h.1 c).1.trans (congrArg Cert.Spec.res1 (hH c))
  · exact (h.1 c).2.1.trans (congrArg Cert.Spec.res2 (hH c))
  · exact (h.1 c).2.2.trans (congrArg Cert.Spec.res3 (hH c))

/-- From codes in range the kernel ends, its arguments unchanged; so does its ideal form; so does the reference from any memory; the
    ideal form differs from the kernel by the two named constants; and the ideal form's results are the reference's. -/
theorem claim : Cert.Claim :=
  ⟨Cert.Kernel.Gen.facts, Cert.KernelIdeal.Gen.facts, Cert.ReferenceIdeal.Gen.facts, preFacts, preFacts',
    fun m ρ h => Cert.Kernel.Run.frame m ρ (Cert.Kernel.Run.codesIn m fun c y => letI := preFacts; Cert.Body.code_lt (h c) y),
    fun m ρ h => Cert.KernelIdeal.Run.frame m ρ (Cert.KernelIdeal.Run.codesIn m fun c y => letI := preFacts; Cert.Body.code_lt (h c) y),
    fun m ρ h => Cert.KernelIdeal.Run.frame m ρ (Cert.KernelIdeal.Run.codesIn m fun c y => Cert.Body.code_lt' (h c).1 y),
    fun m ρ _ => Cert.ReferenceIdeal.Gen.frame m ρ,
    fun m ρ _ => Cert.ReferenceIdeal.Gen.frame m ρ,
    ⟨IdealRules.named_const.statement Cert.KernelIdeal.κ "masked" .f32 0xFF61B1E6#32 _ rfl,
    IdealRules.named_const.statement Cert.KernelIdeal.κ "log2e_inv_sqrt_d" .f32 0x3E0293EE#32 _ rfl⟩,
    equal⟩

end Cert.Proof

end
